-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x4096x1024 : Shape := ⟨3, ![1, 4096, 1024]⟩
abbrev S1024x1024 : Shape := ⟨2, ![1024, 1024]⟩
abbrev S1x128 : Shape := ⟨2, ![1, 128]⟩
abbrev S128x6144 : Shape := ⟨2, ![128, 6144]⟩
abbrev S1024x512 : Shape := ⟨2, ![1024, 512]⟩
abbrev S512x1024 : Shape := ⟨2, ![512, 1024]⟩
abbrev S_ : Shape := ⟨0, ![]⟩
abbrev S128x2048 : Shape := ⟨2, ![128, 2048]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  slices_S128x6144_S128x2048_0_0 : S128x6144.Slices ![0, 0] S128x2048
  bcast_S_S128x2048 : S_.BroadcastsInDim S128x2048 (![] : Fin 0 → Fin S128x2048.rank)
  reducesTo_S128x2048_S_d0_1 : S128x2048.ReducesTo [0, 1] S_

variable [Facts]

def fn_part1 {F : FTy → Type} [FloatOps F] (main_v13 : IVec S_ 1) (main_v15 : FVec F S128x2048 .f32) (main_v16 : FVec F S128x2048 .f32) : IVec S_ 1 :=
  let main_v17 : IVec S128x2048 1 := cmpf .olt main_v15 main_v16
  let main_c_5 : IVec S_ 1 := constantI S_ 1 1#1
  let main_v18 : IVec S_ 1 := (fun x v => Host.reduce IntOp.andi x v reducesTo_S128x2048_S_d0_1 h_S_) main_v17 main_c_5
  let main_v19 : IVec S_ 1 := andi main_v13 main_v18
  main_v19

def fn {F : FTy → Type} [FloatOps F] (main_arg0 : FVec F S1x4096x1024 .f32) (main_arg1 : FVec F S1024x1024 .f32) (main_arg2 : FVec F S1024x1024 .f32) (main_arg3 : FVec F S1024x1024 .f32) (main_arg4 : FVec F S1024x1024 .f32) (main_arg5 : FVec F S1x128 .f32) (main_arg6 : FVec F S128x6144 .f32) (main_arg7 : FVec F S1024x512 .f32) (main_arg8 : FVec F S512x1024 .f32) : IVec S_ 1 :=
  let main_v0 : FVec F S1024x1024 .f32 := Host.absf main_arg1
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x128 .f32 := Host.absf main_arg5
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x2048 .f32 := (extractStridedSlice S128x2048 ![0, 0] · slices_S128x6144_S128x2048_0_0) main_arg6
  let main_v15 : FVec F S128x2048 .f32 := Host.absf main_v14
  let main_cst_4 : FVec F S_ .f32 := constant S_ .f32 0x7F800000#32
  let main_v16 : FVec F S128x2048 .f32 := broadcastInDim S128x2048 ![] bcast_S_S128x2048 main_cst_4
  fn_part1 (F := F) main_v13 main_v15 main_v16
-- ==== Pre_scores_finite_ReferenceIdeal.lean ====
abbrev S1x4096x1024 : Shape := ⟨3, ![1, 4096, 1024]⟩
abbrev S1024x8192 : Shape := ⟨2, ![1024, 8192]⟩
abbrev S8192x1024 : Shape := ⟨2, ![8192, 1024]⟩
abbrev S1x128 : Shape := ⟨2, ![1, 128]⟩
abbrev S128x6144 : Shape := ⟨2, ![128, 6144]⟩
abbrev S1024x4096 : Shape := ⟨2, ![1024, 4096]⟩
abbrev S4096x1024 : Shape := ⟨2, ![4096, 1024]⟩
abbrev S_ : Shape := ⟨0, ![]⟩
abbrev S128x2048 : Shape := ⟨2, ![128, 2048]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  slices_S128x6144_S128x2048_0_0 : S128x6144.Slices ![0, 0] S128x2048
  bcast_S_S128x2048 : S_.BroadcastsInDim S128x2048 (![] : Fin 0 → Fin S128x2048.rank)
  reducesTo_S128x2048_S_d0_1 : S128x2048.ReducesTo [0, 1] S_

variable [Facts]

def fn_part1 {F : FTy → Type} [FloatOps F] (main_v13 : IVec S_ 1) (main_v15 : FVec F S128x2048 .f32) (main_v16 : FVec F S128x2048 .f32) : IVec S_ 1 :=
  let main_v17 : IVec S128x2048 1 := cmpf .olt main_v15 main_v16
  let main_c_5 : IVec S_ 1 := constantI S_ 1 1#1
  let main_v18 : IVec S_ 1 := (fun x v => Host.reduce IntOp.andi x v reducesTo_S128x2048_S_d0_1 h_S_) main_v17 main_c_5
  let main_v19 : IVec S_ 1 := andi main_v13 main_v18
  main_v19

def fn {F : FTy → Type} [FloatOps F] (main_arg0 : FVec F S1x4096x1024 .f32) (main_arg1 : FVec F S1024x8192 .f32) (main_arg2 : FVec F S1024x8192 .f32) (main_arg3 : FVec F S1024x8192 .f32) (main_arg4 : FVec F S8192x1024 .f32) (main_arg5 : FVec F S1x128 .f32) (main_arg6 : FVec F S128x6144 .f32) (main_arg7 : FVec F S1024x4096 .f32) (main_arg8 : FVec F S4096x1024 .f32) : IVec S_ 1 :=
  let main_v0 : FVec F S1024x8192 .f32 := Host.absf main_arg1
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S1024x8192 .f32 := Host.absf main_arg2
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x128 .f32 := Host.absf main_arg5
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x2048 .f32 := (extractStridedSlice S128x2048 ![0, 0] · slices_S128x6144_S128x2048_0_0) main_arg6
  let main_v15 : FVec F S128x2048 .f32 := Host.absf main_v14
  let main_cst_4 : FVec F S_ .f32 := constant S_ .f32 0x7F800000#32
  let main_v16 : FVec F S128x2048 .f32 := broadcastInDim S128x2048 ![] bcast_S_S128x2048 main_cst_4
  fn_part1 (F := F) main_v13 main_v15 main_v16
-- ==== Kernel.lean ====
abbrev S1x4096x1024 : Shape := ⟨3, ![1, 4096, 1024]⟩
abbrev S1024x1024 : Shape := ⟨2, ![1024, 1024]⟩
abbrev S1x128 : Shape := ⟨2, ![1, 128]⟩
abbrev S128x6144 : Shape := ⟨2, ![128, 6144]⟩
abbrev S1024x512 : Shape := ⟨2, ![1024, 512]⟩
abbrev S512x1024 : Shape := ⟨2, ![512, 1024]⟩
abbrev S4096x1024 : Shape := ⟨2, ![4096, 1024]⟩
abbrev S1x6144 : Shape := ⟨2, ![1, 6144]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S7x512x1024 : Shape := ⟨3, ![7, 512, 1024]⟩
abbrev S7 : Shape := ⟨1, ![7]⟩
abbrev S512x128 : Shape := ⟨2, ![512, 128]⟩
abbrev S4096x128 : Shape := ⟨2, ![4096, 128]⟩
abbrev S512x4096 : Shape := ⟨2, ![512, 4096]⟩
abbrev S1 : Shape := ⟨1, ![1]⟩
abbrev S1x512x1024 : Shape := ⟨3, ![1, 512, 1024]⟩
abbrev S512x512 : Shape := ⟨2, ![512, 512]⟩
abbrev S7x512x512 : Shape := ⟨3, ![7, 512, 512]⟩
abbrev S1x512x512 : Shape := ⟨3, ![1, 512, 512]⟩

abbrev nBuf : Space → Nat
  | .hbm => 42
  | .vmem => 39
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x128, .f32⟩
  | .hbm, ⟨6, _⟩ => ⟨S128x6144, .f32⟩
  | .hbm, ⟨7, _⟩ => ⟨S1024x512, .f32⟩
  | .hbm, ⟨8, _⟩ => ⟨S512x1024, .f32⟩
  | .hbm, ⟨9, _⟩ => ⟨S4096x1024, .f32⟩
  | .hbm, ⟨10, _⟩ => ⟨S1x6144, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S1024x1024, .bf16⟩
  | .hbm, ⟨27, _⟩ => ⟨S4096x1024, .bf16⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1024x512, .bf16⟩
  | .hbm, ⟨34, _⟩ => ⟨S512x1024, .bf16⟩
  | .hbm, ⟨35, _⟩ => ⟨S4096x1024, .bf16⟩
  | .hbm, ⟨36, _⟩ => ⟨S4096x1024, .bf16⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S4096x1024, .bf16⟩
  | .local _ .vmem, ⟨14, _⟩ => ⟨S4096x1024, .bf16⟩
  | .local _ .vmem, ⟨15, _⟩ => ⟨S4096x1024, .bf16⟩
  | .local _ .vmem, ⟨16, _⟩ => ⟨S1024x1024, .bf16⟩
  | .local _ .vmem, ⟨17, _⟩ => ⟨S4096x1024, .bf16⟩
  | .local _ .vmem, ⟨18, _⟩ => ⟨S512x1024, .bf16⟩
  | .local _ .vmem, ⟨19, _⟩ => ⟨S7x512x1024, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | .local _ .vmem, ⟨30, _⟩ => ⟨S1x1024, .f32⟩
  | .local _ .vmem, ⟨31, _⟩ => ⟨S1024x512, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S4096x1024, .bf16⟩
  | .local _ .vmem, ⟨36, _⟩ => ⟨S4096x1024, .bf16⟩
  | .local _ .vmem, ⟨37, _⟩ => ⟨S7x512x512, .bf16⟩
  | .local _ .vmem, ⟨38, _⟩ => ⟨S7x512x512, .bf16⟩
  | _, _ => ⟨S1x4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 2 → Bool
  | ⟨0, _⟩ => false
  | ⟨1, _⟩ => false
  | _ => false

abbrev dmaSemScoped : Fin 133 → Bool
  | ⟨i, _⟩ => dmaSemScopedAt i

abbrev sig : RefSig :=
  (ofTc nBuf bufTy 2 133 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg1_0 : Ref sig .tc := ⟨.vmem, 36, rfl⟩
abbrev cc4_scratch0 : Ref sig .tc := ⟨.vmem, 37, rfl⟩
abbrev cc4_scratch1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc2_sem0_0 : DmaSem sig := 60
abbrev cc2_sem0_1 : DmaSem sig := 61
abbrev cc2_sem1_0 : DmaSem sig := 62
abbrev cc2_sem2_0 : DmaSem sig := 63
abbrev cc2_sem2_1 : DmaSem sig := 64
abbrev cc2_sem3_0 : DmaSem sig := 65
abbrev cc2_sem3_1 : DmaSem sig := 66
abbrev cc3_sem0_0 : DmaSem sig := 67
abbrev cc3_sem0_1 : DmaSem sig := 68
abbrev cc3_sem1_0 : DmaSem sig := 69
abbrev cc3_sem2_0 : DmaSem sig := 70
abbrev cc3_sem3_0 : DmaSem sig := 71
abbrev cc3_sem4_0 : DmaSem sig := 72
abbrev cc3_sem5_0 : DmaSem sig := 73
abbrev cc3_sem5_1 : DmaSem sig := 74
abbrev cc4_sem0_0 : DmaSem sig := 75
abbrev cc4_sem1_0 : DmaSem sig := 76
abbrev barrier0 : Sem sig := 0
abbrev barrier1 : Sem sig := 1

abbrev nD : Nat := 8
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k1_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
@[reducible] def k1_t1_loop : Scf.Loop 32 :=
  let c0_i32_11 : BitVec 32 := 0#32
  let c8_i32_12 : BitVec 32 := 8#32
  let v15 : BitVec 32 := Scalar.addi c0_i32_11 c8_i32_12
  let c1_i32_13 : BitVec 32 := 1#32
  ⟨c0_i32_11, v15, c1_i32_13⟩
def k1_off1 (d0 : Dev nD) (k1_t1 : Fin k1_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.remsi v2 c8_i32_10
  let c512_i32 : BitVec 32 := 512#32
  let v14 : BitVec 32 := Scalar.muli v13 c512_i32
  let v696 : Index := Scalar.indexCast v14
  let c0_i32_11 : BitVec 32 := 0#32
  let c1_i32_13 : BitVec 32 := 1#32
  let arg13 : BitVec 32 := Scf.iv c0_i32_11 c1_i32_13 k1_t1
  let c128_i32 : BitVec 32 := 128#32
  let v695 : BitVec 32 := Scalar.muli arg13 c128_i32
  let v697 : Index := Scalar.indexCast v695
  ![v696.toNat, v697.toNat]
def k1_off2 (k1_t1 : Fin k1_t1_loop.trips) : Fin 2 → Nat :=
  let c0_673 : Index := 0#32
  let c0_i32_11 : BitVec 32 := 0#32
  let c1_i32_13 : BitVec 32 := 1#32
  let arg13 : BitVec 32 := Scf.iv c0_i32_11 c1_i32_13 k1_t1
  let c128_i32 : BitVec 32 := 128#32
  let v695 : BitVec 32 := Scalar.muli arg13 c128_i32
  let v700 : Index := Scalar.indexCast v695
  ![0, v700.toNat]
def k1_off3 (k1_t1 : Fin k1_t1_loop.trips) : Fin 2 → Nat :=
  let c0_678 : Index := 0#32
  let c0_i32_11 : BitVec 32 := 0#32
  let c1_i32_13 : BitVec 32 := 1#32
  let arg13 : BitVec 32 := Scf.iv c0_i32_11 c1_i32_13 k1_t1
  let c128_i32 : BitVec 32 := 128#32
  let v695 : BitVec 32 := Scalar.muli arg13 c128_i32
  let v716 : Index := Scalar.indexCast v695
  ![0, v716.toNat]
def k1_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.remsi v2 c8_i32_10
  let c512_i32 : BitVec 32 := 512#32
  let v14 : BitVec 32 := Scalar.muli v13 c512_i32
  let v21 : Index := Scalar.indexCast v14
  let c0_18 : Index := 0#32
  ![v21.toNat, 0]
def k1_off5 (d0 : Dev nD) (c0_i32_19 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v23 : BitVec 32 := Scalar.subi v2 c0_i32_19
  let c8_i32_20 : BitVec 32 := 8#32
  let v24 : BitVec 32 := Scalar.addi v23 c8_i32_20
  let c8_i32_21 : BitVec 32 := 8#32
  let v25 : BitVec 32 := Scalar.remsi v24 c8_i32_21
  let c512_i32_22 : BitVec 32 := 512#32
  let v26 : BitVec 32 := Scalar.muli v25 c512_i32_22
  let c0_i32_30 : BitVec 32 := 0#32
  ![v26.toNat, 0]
def k1_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_26 : BitVec 32 := 1#32
  let v27 : BitVec 32 := Scalar.muli v7 c1_i32_26
  let v28 : BitVec 32 := Scalar.addi c0_i32_27 v27
  v28.toNat
@[reducible] def k1_t2_loop : Scf.Loop 32 :=
  let c0_i32_35 : BitVec 32 := 0#32
  let c8_i32_36 : BitVec 32 := 8#32
  let v41 : BitVec 32 := Scalar.addi c0_i32_35 c8_i32_36
  let c1_i32_37 : BitVec 32 := 1#32
  ⟨c0_i32_35, v41, c1_i32_37⟩
def k1_off6 (d0 : Dev nD) (k1_t2 : Fin k1_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_31 : BitVec 32 := 0#32
  let v36 : BitVec 32 := Scalar.subi v2 c0_i32_31
  let c1_i32_32 : BitVec 32 := 1#32
  let v37 : BitVec 32 := Scalar.subi v36 c1_i32_32
  let c16_i32 : BitVec 32 := 16#32
  let v38 : BitVec 32 := Scalar.addi v37 c16_i32
  let c8_i32_33 : BitVec 32 := 8#32
  let v39 : BitVec 32 := Scalar.remsi v38 c8_i32_33
  let c512_i32_34 : BitVec 32 := 512#32
  let v40 : BitVec 32 := Scalar.muli v39 c512_i32_34
  let v696 : Index := Scalar.indexCast v40
  let c0_i32_35 : BitVec 32 := 0#32
  let c1_i32_37 : BitVec 32 := 1#32
  let arg13 : BitVec 32 := Scf.iv c0_i32_35 c1_i32_37 k1_t2
  let c128_i32 : BitVec 32 := 128#32
  let v695 : BitVec 32 := Scalar.muli arg13 c128_i32
  let v697 : Index := Scalar.indexCast v695
  ![v696.toNat, v697.toNat]
def k1_off7 (k1_t2 : Fin k1_t2_loop.trips) : Fin 2 → Nat :=
  let c0_673 : Index := 0#32
  let c0_i32_35 : BitVec 32 := 0#32
  let c1_i32_37 : BitVec 32 := 1#32
  let arg13 : BitVec 32 := Scf.iv c0_i32_35 c1_i32_37 k1_t2
  let c128_i32 : BitVec 32 := 128#32
  let v695 : BitVec 32 := Scalar.muli arg13 c128_i32
  let v700 : Index := Scalar.indexCast v695
  ![0, v700.toNat]
def k1_off8 (k1_t2 : Fin k1_t2_loop.trips) : Fin 2 → Nat :=
  let c0_678 : Index := 0#32
  let c0_i32_35 : BitVec 32 := 0#32
  let c1_i32_37 : BitVec 32 := 1#32
  let arg13 : BitVec 32 := Scf.iv c0_i32_35 c1_i32_37 k1_t2
  let c128_i32 : BitVec 32 := 128#32
  let v695 : BitVec 32 := Scalar.muli arg13 c128_i32
  let v716 : Index := Scalar.indexCast v695
  ![0, v716.toNat]
def k1_off9 (d0 : Dev nD) (c0_i32_31 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : BitVec 32 := Scalar.subi v2 c0_i32_31
  let c1_i32_32 : BitVec 32 := 1#32
  let v37 : BitVec 32 := Scalar.subi v36 c1_i32_32
  let c16_i32 : BitVec 32 := 16#32
  let v38 : BitVec 32 := Scalar.addi v37 c16_i32
  let c8_i32_33 : BitVec 32 := 8#32
  let v39 : BitVec 32 := Scalar.remsi v38 c8_i32_33
  let c512_i32_34 : BitVec 32 := 512#32
  let v40 : BitVec 32 := Scalar.muli v39 c512_i32_34
  let v47 : Index := Scalar.indexCast v40
  let c0_44 : Index := 0#32
  ![v47.toNat, 0]
def k1_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_77 : BitVec 32 := 1#32
  let v78 : BitVec 32 := Scalar.muli v7 c1_i32_77
  let v79 : BitVec 32 := Scalar.addi c0_i32_78 v78
  v79.toNat
@[reducible] def k1_t3_loop : Scf.Loop 32 :=
  let c0_i32_87 : BitVec 32 := 0#32
  let c8_i32_88 : BitVec 32 := 8#32
  let v92 : BitVec 32 := Scalar.addi c0_i32_87 c8_i32_88
  let c1_i32_89 : BitVec 32 := 1#32
  ⟨c0_i32_87, v92, c1_i32_89⟩
def k1_off10 (d0 : Dev nD) (k1_t3 : Fin k1_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_82 : BitVec 32 := 1#32
  let v87 : BitVec 32 := Scalar.subi v2 c1_i32_82
  let c1_i32_83 : BitVec 32 := 1#32
  let v88 : BitVec 32 := Scalar.subi v87 c1_i32_83
  let c16_i32_84 : BitVec 32 := 16#32
  let v89 : BitVec 32 := Scalar.addi v88 c16_i32_84
  let c8_i32_85 : BitVec 32 := 8#32
  let v90 : BitVec 32 := Scalar.remsi v89 c8_i32_85
  let c512_i32_86 : BitVec 32 := 512#32
  let v91 : BitVec 32 := Scalar.muli v90 c512_i32_86
  let v696 : Index := Scalar.indexCast v91
  let c0_i32_87 : BitVec 32 := 0#32
  let c1_i32_89 : BitVec 32 := 1#32
  let arg13 : BitVec 32 := Scf.iv c0_i32_87 c1_i32_89 k1_t3
  let c128_i32 : BitVec 32 := 128#32
  let v695 : BitVec 32 := Scalar.muli arg13 c128_i32
  let v697 : Index := Scalar.indexCast v695
  ![v696.toNat, v697.toNat]
def k1_off11 (k1_t3 : Fin k1_t3_loop.trips) : Fin 2 → Nat :=
  let c0_673 : Index := 0#32
  let c0_i32_87 : BitVec 32 := 0#32
  let c1_i32_89 : BitVec 32 := 1#32
  let arg13 : BitVec 32 := Scf.iv c0_i32_87 c1_i32_89 k1_t3
  let c128_i32 : BitVec 32 := 128#32
  let v695 : BitVec 32 := Scalar.muli arg13 c128_i32
  let v700 : Index := Scalar.indexCast v695
  ![0, v700.toNat]
def k1_off12 (k1_t3 : Fin k1_t3_loop.trips) : Fin 2 → Nat :=
  let c0_678 : Index := 0#32
  let c0_i32_87 : BitVec 32 := 0#32
  let c1_i32_89 : BitVec 32 := 1#32
  let arg13 : BitVec 32 := Scf.iv c0_i32_87 c1_i32_89 k1_t3
  let c128_i32 : BitVec 32 := 128#32
  let v695 : BitVec 32 := Scalar.muli arg13 c128_i32
  let v716 : Index := Scalar.indexCast v695
  ![0, v716.toNat]
def k1_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_128 : BitVec 32 := 1#32
  let v129 : BitVec 32 := Scalar.muli v7 c1_i32_128
  let v130 : BitVec 32 := Scalar.addi c0_i32_129 v129
  v130.toNat
@[reducible] def k1_t4_loop : Scf.Loop 32 :=
  let c0_i32_138 : BitVec 32 := 0#32
  let c8_i32_139 : BitVec 32 := 8#32
  let v143 : BitVec 32 := Scalar.addi c0_i32_138 c8_i32_139
  let c1_i32_140 : BitVec 32 := 1#32
  ⟨c0_i32_138, v143, c1_i32_140⟩
def k1_off13 (d0 : Dev nD) (k1_t4 : Fin k1_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_133 : BitVec 32 := 2#32
  let v138 : BitVec 32 := Scalar.subi v2 c2_i32_133
  let c1_i32_134 : BitVec 32 := 1#32
  let v139 : BitVec 32 := Scalar.subi v138 c1_i32_134
  let c16_i32_135 : BitVec 32 := 16#32
  let v140 : BitVec 32 := Scalar.addi v139 c16_i32_135
  let c8_i32_136 : BitVec 32 := 8#32
  let v141 : BitVec 32 := Scalar.remsi v140 c8_i32_136
  let c512_i32_137 : BitVec 32 := 512#32
  let v142 : BitVec 32 := Scalar.muli v141 c512_i32_137
  let v696 : Index := Scalar.indexCast v142
  let c0_i32_138 : BitVec 32 := 0#32
  let c1_i32_140 : BitVec 32 := 1#32
  let arg13 : BitVec 32 := Scf.iv c0_i32_138 c1_i32_140 k1_t4
  let c128_i32 : BitVec 32 := 128#32
  let v695 : BitVec 32 := Scalar.muli arg13 c128_i32
  let v697 : Index := Scalar.indexCast v695
  ![v696.toNat, v697.toNat]
def k1_off14 (k1_t4 : Fin k1_t4_loop.trips) : Fin 2 → Nat :=
  let c0_673 : Index := 0#32
  let c0_i32_138 : BitVec 32 := 0#32
  let c1_i32_140 : BitVec 32 := 1#32
  let arg13 : BitVec 32 := Scf.iv c0_i32_138 c1_i32_140 k1_t4
  let c128_i32 : BitVec 32 := 128#32
  let v695 : BitVec 32 := Scalar.muli arg13 c128_i32
  let v700 : Index := Scalar.indexCast v695
  ![0, v700.toNat]
def k1_off15 (k1_t4 : Fin k1_t4_loop.trips) : Fin 2 → Nat :=
  let c0_678 : Index := 0#32
  let c0_i32_138 : BitVec 32 := 0#32
  let c1_i32_140 : BitVec 32 := 1#32
  let arg13 : BitVec 32 := Scf.iv c0_i32_138 c1_i32_140 k1_t4
  let c128_i32 : BitVec 32 := 128#32
  let v695 : BitVec 32 := Scalar.muli arg13 c128_i32
  let v716 : Index := Scalar.indexCast v695
  ![0, v716.toNat]
def k1_dev6 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_178 : BitVec 32 := 1#32
  let v180 : BitVec 32 := Scalar.muli v7 c1_i32_178
  let v181 : BitVec 32 := Scalar.addi c0_i32_179 v180
  v181.toNat
@[reducible] def k1_t5_loop : Scf.Loop 32 :=
  let c0_i32_188 : BitVec 32 := 0#32
  let c8_i32_189 : BitVec 32 := 8#32
  let v194 : BitVec 32 := Scalar.addi c0_i32_188 c8_i32_189
  let c1_i32_190 : BitVec 32 := 1#32
  ⟨c0_i32_188, v194, c1_i32_190⟩
def k1_off16 (d0 : Dev nD) (k1_t5 : Fin k1_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_183 : BitVec 32 := 3#32
  let v189 : BitVec 32 := Scalar.subi v2 c3_i32_183
  let c1_i32_184 : BitVec 32 := 1#32
  let v190 : BitVec 32 := Scalar.subi v189 c1_i32_184
  let c16_i32_185 : BitVec 32 := 16#32
  let v191 : BitVec 32 := Scalar.addi v190 c16_i32_185
  let c8_i32_186 : BitVec 32 := 8#32
  let v192 : BitVec 32 := Scalar.remsi v191 c8_i32_186
  let c512_i32_187 : BitVec 32 := 512#32
  let v193 : BitVec 32 := Scalar.muli v192 c512_i32_187
  let v696 : Index := Scalar.indexCast v193
  let c0_i32_188 : BitVec 32 := 0#32
  let c1_i32_190 : BitVec 32 := 1#32
  let arg13 : BitVec 32 := Scf.iv c0_i32_188 c1_i32_190 k1_t5
  let c128_i32 : BitVec 32 := 128#32
  let v695 : BitVec 32 := Scalar.muli arg13 c128_i32
  let v697 : Index := Scalar.indexCast v695
  ![v696.toNat, v697.toNat]
def k1_off17 (k1_t5 : Fin k1_t5_loop.trips) : Fin 2 → Nat :=
  let c0_673 : Index := 0#32
  let c0_i32_188 : BitVec 32 := 0#32
  let c1_i32_190 : BitVec 32 := 1#32
  let arg13 : BitVec 32 := Scf.iv c0_i32_188 c1_i32_190 k1_t5
  let c128_i32 : BitVec 32 := 128#32
  let v695 : BitVec 32 := Scalar.muli arg13 c128_i32
  let v700 : Index := Scalar.indexCast v695
  ![0, v700.toNat]
def k1_off18 (k1_t5 : Fin k1_t5_loop.trips) : Fin 2 → Nat :=
  let c0_678 : Index := 0#32
  let c0_i32_188 : BitVec 32 := 0#32
  let c1_i32_190 : BitVec 32 := 1#32
  let arg13 : BitVec 32 := Scf.iv c0_i32_188 c1_i32_190 k1_t5
  let c128_i32 : BitVec 32 := 128#32
  let v695 : BitVec 32 := Scalar.muli arg13 c128_i32
  let v716 : Index := Scalar.indexCast v695
  ![0, v716.toNat]
def k1_dev7 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_228 : BitVec 32 := 1#32
  let v231 : BitVec 32 := Scalar.muli v7 c1_i32_228
  let v232 : BitVec 32 := Scalar.addi c0_i32_229 v231
  v232.toNat
@[reducible] def k1_t6_loop : Scf.Loop 32 :=
  let c0_i32_238 : BitVec 32 := 0#32
  let c8_i32_239 : BitVec 32 := 8#32
  let v245 : BitVec 32 := Scalar.addi c0_i32_238 c8_i32_239
  let c1_i32_240 : BitVec 32 := 1#32
  ⟨c0_i32_238, v245, c1_i32_240⟩
def k1_off19 (d0 : Dev nD) (k1_t6 : Fin k1_t6_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_233 : BitVec 32 := 4#32
  let v240 : BitVec 32 := Scalar.subi v2 c4_i32_233
  let c1_i32_234 : BitVec 32 := 1#32
  let v241 : BitVec 32 := Scalar.subi v240 c1_i32_234
  let c16_i32_235 : BitVec 32 := 16#32
  let v242 : BitVec 32 := Scalar.addi v241 c16_i32_235
  let c8_i32_236 : BitVec 32 := 8#32
  let v243 : BitVec 32 := Scalar.remsi v242 c8_i32_236
  let c512_i32_237 : BitVec 32 := 512#32
  let v244 : BitVec 32 := Scalar.muli v243 c512_i32_237
  let v696 : Index := Scalar.indexCast v244
  let c0_i32_238 : BitVec 32 := 0#32
  let c1_i32_240 : BitVec 32 := 1#32
  let arg13 : BitVec 32 := Scf.iv c0_i32_238 c1_i32_240 k1_t6
  let c128_i32 : BitVec 32 := 128#32
  let v695 : BitVec 32 := Scalar.muli arg13 c128_i32
  let v697 : Index := Scalar.indexCast v695
  ![v696.toNat, v697.toNat]
def k1_off20 (k1_t6 : Fin k1_t6_loop.trips) : Fin 2 → Nat :=
  let c0_673 : Index := 0#32
  let c0_i32_238 : BitVec 32 := 0#32
  let c1_i32_240 : BitVec 32 := 1#32
  let arg13 : BitVec 32 := Scf.iv c0_i32_238 c1_i32_240 k1_t6
  let c128_i32 : BitVec 32 := 128#32
  let v695 : BitVec 32 := Scalar.muli arg13 c128_i32
  let v700 : Index := Scalar.indexCast v695
  ![0, v700.toNat]
def k1_off21 (k1_t6 : Fin k1_t6_loop.trips) : Fin 2 → Nat :=
  let c0_678 : Index := 0#32
  let c0_i32_238 : BitVec 32 := 0#32
  let c1_i32_240 : BitVec 32 := 1#32
  let arg13 : BitVec 32 := Scf.iv c0_i32_238 c1_i32_240 k1_t6
  let c128_i32 : BitVec 32 := 128#32
  let v695 : BitVec 32 := Scalar.muli arg13 c128_i32
  let v716 : Index := Scalar.indexCast v695
  ![0, v716.toNat]
def k1_dev8 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_278 : BitVec 32 := 1#32
  let v282 : BitVec 32 := Scalar.muli v7 c1_i32_278
  let v283 : BitVec 32 := Scalar.addi c0_i32_279 v282
  v283.toNat
@[reducible] def k1_t7_loop : Scf.Loop 32 :=
  let c0_i32_288 : BitVec 32 := 0#32
  let c8_i32_289 : BitVec 32 := 8#32
  let v296 : BitVec 32 := Scalar.addi c0_i32_288 c8_i32_289
  let c1_i32_290 : BitVec 32 := 1#32
  ⟨c0_i32_288, v296, c1_i32_290⟩
def k1_off22 (d0 : Dev nD) (k1_t7 : Fin k1_t7_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_283 : BitVec 32 := 5#32
  let v291 : BitVec 32 := Scalar.subi v2 c5_i32_283
  let c1_i32_284 : BitVec 32 := 1#32
  let v292 : BitVec 32 := Scalar.subi v291 c1_i32_284
  let c16_i32_285 : BitVec 32 := 16#32
  let v293 : BitVec 32 := Scalar.addi v292 c16_i32_285
  let c8_i32_286 : BitVec 32 := 8#32
  let v294 : BitVec 32 := Scalar.remsi v293 c8_i32_286
  let c512_i32_287 : BitVec 32 := 512#32
  let v295 : BitVec 32 := Scalar.muli v294 c512_i32_287
  let v696 : Index := Scalar.indexCast v295
  let c0_i32_288 : BitVec 32 := 0#32
  let c1_i32_290 : BitVec 32 := 1#32
  let arg13 : BitVec 32 := Scf.iv c0_i32_288 c1_i32_290 k1_t7
  let c128_i32 : BitVec 32 := 128#32
  let v695 : BitVec 32 := Scalar.muli arg13 c128_i32
  let v697 : Index := Scalar.indexCast v695
  ![v696.toNat, v697.toNat]
def k1_off23 (k1_t7 : Fin k1_t7_loop.trips) : Fin 2 → Nat :=
  let c0_673 : Index := 0#32
  let c0_i32_288 : BitVec 32 := 0#32
  let c1_i32_290 : BitVec 32 := 1#32
  let arg13 : BitVec 32 := Scf.iv c0_i32_288 c1_i32_290 k1_t7
  let c128_i32 : BitVec 32 := 128#32
  let v695 : BitVec 32 := Scalar.muli arg13 c128_i32
  let v700 : Index := Scalar.indexCast v695
  ![0, v700.toNat]
def k1_off24 (k1_t7 : Fin k1_t7_loop.trips) : Fin 2 → Nat :=
  let c0_678 : Index := 0#32
  let c0_i32_288 : BitVec 32 := 0#32
  let c1_i32_290 : BitVec 32 := 1#32
  let arg13 : BitVec 32 := Scf.iv c0_i32_288 c1_i32_290 k1_t7
  let c128_i32 : BitVec 32 := 128#32
  let v695 : BitVec 32 := Scalar.muli arg13 c128_i32
  let v716 : Index := Scalar.indexCast v695
  ![0, v716.toNat]
def k1_dev9 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_328 : BitVec 32 := 1#32
  let v333 : BitVec 32 := Scalar.muli v7 c1_i32_328
  let v334 : BitVec 32 := Scalar.addi c0_i32_329 v333
  v334.toNat
@[reducible] def k1_t8_loop : Scf.Loop 32 :=
  let c0_i32_338 : BitVec 32 := 0#32
  let c8_i32_339 : BitVec 32 := 8#32
  let v347 : BitVec 32 := Scalar.addi c0_i32_338 c8_i32_339
  let c1_i32_340 : BitVec 32 := 1#32
  ⟨c0_i32_338, v347, c1_i32_340⟩
def k1_off25 (d0 : Dev nD) (k1_t8 : Fin k1_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_333 : BitVec 32 := 6#32
  let v342 : BitVec 32 := Scalar.subi v2 c6_i32_333
  let c1_i32_334 : BitVec 32 := 1#32
  let v343 : BitVec 32 := Scalar.subi v342 c1_i32_334
  let c16_i32_335 : BitVec 32 := 16#32
  let v344 : BitVec 32 := Scalar.addi v343 c16_i32_335
  let c8_i32_336 : BitVec 32 := 8#32
  let v345 : BitVec 32 := Scalar.remsi v344 c8_i32_336
  let c512_i32_337 : BitVec 32 := 512#32
  let v346 : BitVec 32 := Scalar.muli v345 c512_i32_337
  let v696 : Index := Scalar.indexCast v346
  let c0_i32_338 : BitVec 32 := 0#32
  let c1_i32_340 : BitVec 32 := 1#32
  let arg13 : BitVec 32 := Scf.iv c0_i32_338 c1_i32_340 k1_t8
  let c128_i32 : BitVec 32 := 128#32
  let v695 : BitVec 32 := Scalar.muli arg13 c128_i32
  let v697 : Index := Scalar.indexCast v695
  ![v696.toNat, v697.toNat]
def k1_off26 (k1_t8 : Fin k1_t8_loop.trips) : Fin 2 → Nat :=
  let c0_673 : Index := 0#32
  let c0_i32_338 : BitVec 32 := 0#32
  let c1_i32_340 : BitVec 32 := 1#32
  let arg13 : BitVec 32 := Scf.iv c0_i32_338 c1_i32_340 k1_t8
  let c128_i32 : BitVec 32 := 128#32
  let v695 : BitVec 32 := Scalar.muli arg13 c128_i32
  let v700 : Index := Scalar.indexCast v695
  ![0, v700.toNat]
def k1_off27 (k1_t8 : Fin k1_t8_loop.trips) : Fin 2 → Nat :=
  let c0_678 : Index := 0#32
  let c0_i32_338 : BitVec 32 := 0#32
  let c1_i32_340 : BitVec 32 := 1#32
  let arg13 : BitVec 32 := Scf.iv c0_i32_338 c1_i32_340 k1_t8
  let c128_i32 : BitVec 32 := 128#32
  let v695 : BitVec 32 := Scalar.muli arg13 c128_i32
  let v716 : Index := Scalar.indexCast v695
  ![0, v716.toNat]
def k1_off28 (d0 : Dev nD) (c0_i32_373 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_372 : BitVec 32 := 1#32
  let v380 : BitVec 32 := Scalar.addi v2 c1_i32_372
  let v381 : BitVec 32 := Scalar.subi v380 c0_i32_373
  let c8_i32_374 : BitVec 32 := 8#32
  let v382 : BitVec 32 := Scalar.addi v381 c8_i32_374
  let c8_i32_375 : BitVec 32 := 8#32
  let v383 : BitVec 32 := Scalar.remsi v382 c8_i32_375
  let c512_i32_376 : BitVec 32 := 512#32
  let v384 : BitVec 32 := Scalar.muli v383 c512_i32_376
  let c0_i32_385 : BitVec 32 := 0#32
  ![v384.toNat, 0]
def k1_dev10 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_383 : BitVec 32 := 1#32
  let v389 : BitVec 32 := Scalar.muli v7 c1_i32_383
  let v390 : BitVec 32 := Scalar.addi c0_i32_384 v389
  v390.toNat
def k1_off29 (d0 : Dev nD) (c0_i32_378 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_377 : BitVec 32 := 1#32
  let v385 : BitVec 32 := Scalar.addi v2 c1_i32_377
  let v386 : BitVec 32 := Scalar.addi v385 c0_i32_378
  let c8_i32_379 : BitVec 32 := 8#32
  let v387 : BitVec 32 := Scalar.remsi v386 c8_i32_379
  let c512_i32_380 : BitVec 32 := 512#32
  let v388 : BitVec 32 := Scalar.muli v387 c512_i32_380
  let c512_i32_391 : BitVec 32 := 512#32
  ![v388.toNat, 512]
def k1_dev11 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_389 : BitVec 32 := 1#32
  let v397 : BitVec 32 := Scalar.muli v5 c1_i32_389
  let v398 : BitVec 32 := Scalar.addi c0_i32_390 v397
  v398.toNat
def k1_dev12 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_426 : BitVec 32 := 1#32
  let v434 : BitVec 32 := Scalar.muli v7 c1_i32_426
  let v435 : BitVec 32 := Scalar.addi c0_i32_427 v434
  v435.toNat
def k1_dev13 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_432 : BitVec 32 := 1#32
  let v442 : BitVec 32 := Scalar.muli v5 c1_i32_432
  let v443 : BitVec 32 := Scalar.addi c0_i32_433 v442
  v443.toNat
def k1_dev14 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_469 : BitVec 32 := 1#32
  let v479 : BitVec 32 := Scalar.muli v7 c1_i32_469
  let v480 : BitVec 32 := Scalar.addi c0_i32_470 v479
  v480.toNat
def k1_dev15 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_475 : BitVec 32 := 1#32
  let v487 : BitVec 32 := Scalar.muli v5 c1_i32_475
  let v488 : BitVec 32 := Scalar.addi c0_i32_476 v487
  v488.toNat
def k1_dev16 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_512 : BitVec 32 := 1#32
  let v524 : BitVec 32 := Scalar.muli v7 c1_i32_512
  let v525 : BitVec 32 := Scalar.addi c0_i32_513 v524
  v525.toNat
def k1_dev17 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_518 : BitVec 32 := 1#32
  let v532 : BitVec 32 := Scalar.muli v5 c1_i32_518
  let v533 : BitVec 32 := Scalar.addi c0_i32_519 v532
  v533.toNat
def k1_dev18 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_555 : BitVec 32 := 1#32
  let v569 : BitVec 32 := Scalar.muli v7 c1_i32_555
  let v570 : BitVec 32 := Scalar.addi c0_i32_556 v569
  v570.toNat
def k1_dev19 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_561 : BitVec 32 := 1#32
  let v577 : BitVec 32 := Scalar.muli v5 c1_i32_561
  let v578 : BitVec 32 := Scalar.addi c0_i32_562 v577
  v578.toNat
def k1_dev20 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_598 : BitVec 32 := 1#32
  let v614 : BitVec 32 := Scalar.muli v7 c1_i32_598
  let v615 : BitVec 32 := Scalar.addi c0_i32_599 v614
  v615.toNat
def k1_dev21 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_604 : BitVec 32 := 1#32
  let v622 : BitVec 32 := Scalar.muli v5 c1_i32_604
  let v623 : BitVec 32 := Scalar.addi c0_i32_605 v622
  v623.toNat
def k1_dev22 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_641 : BitVec 32 := 1#32
  let v659 : BitVec 32 := Scalar.muli v7 c1_i32_641
  let v660 : BitVec 32 := Scalar.addi c0_i32_642 v659
  v660.toNat
def k1_dev23 (d0 : Dev nD) : Nat :=
  let c0_i32_648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_647 : BitVec 32 := 1#32
  let v667 : BitVec 32 := Scalar.muli v5 c1_i32_647
  let v668 : BitVec 32 := Scalar.addi c0_i32_648 v667
  v668.toNat
abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := .none

def k4_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k4_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k4_off1 (d0 : Dev nD) (c0_i32_13 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.subi v2 c0_i32_13
  let c8_i32_14 : BitVec 32 := 8#32
  let v17 : BitVec 32 := Scalar.addi v16 c8_i32_14
  let c8_i32_15 : BitVec 32 := 8#32
  let v18 : BitVec 32 := Scalar.remsi v17 c8_i32_15
  let c512_i32 : BitVec 32 := 512#32
  let v19 : BitVec 32 := Scalar.muli v18 c512_i32
  let c0_i32_26 : BitVec 32 := 0#32
  ![v19.toNat, 0]
def k4_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_22 : BitVec 32 := 1#32
  let v23 : BitVec 32 := Scalar.muli v7 c1_i32_22
  let v24 : BitVec 32 := Scalar.addi c0_i32_23 v23
  v24.toNat
def k4_off2 (d0 : Dev nD) (c0_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v20 : BitVec 32 := Scalar.addi v2 c0_i32_16
  let c8_i32_17 : BitVec 32 := 8#32
  let v21 : BitVec 32 := Scalar.remsi v20 c8_i32_17
  let c512_i32_18 : BitVec 32 := 512#32
  let v22 : BitVec 32 := Scalar.muli v21 c512_i32_18
  let c512_i32_34 : BitVec 32 := 512#32
  ![v22.toNat, 512]
def k4_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_30 : BitVec 32 := 1#32
  let v32 : BitVec 32 := Scalar.muli v5 c1_i32_30
  let v33 : BitVec 32 := Scalar.addi c0_i32_31 v32
  v33.toNat
def k4_off3 (d0 : Dev nD) (c0_i32_50 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v53 : BitVec 32 := Scalar.subi v2 c0_i32_50
  let c1_i32_51 : BitVec 32 := 1#32
  let v54 : BitVec 32 := Scalar.subi v53 c1_i32_51
  let c16_i32 : BitVec 32 := 16#32
  let v55 : BitVec 32 := Scalar.addi v54 c16_i32
  let c8_i32_52 : BitVec 32 := 8#32
  let v56 : BitVec 32 := Scalar.remsi v55 c8_i32_52
  let c512_i32_53 : BitVec 32 := 512#32
  let v57 : BitVec 32 := Scalar.muli v56 c512_i32_53
  let v58 : Index := Scalar.indexCast v57
  let c0_54 : Index := 0#32
  ![v58.toNat, 0]
def k4_off4 (d0 : Dev nD) (c0_i32_74 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v78 : BitVec 32 := Scalar.addi v2 c0_i32_74
  let c1_i32_75 : BitVec 32 := 1#32
  let v79 : BitVec 32 := Scalar.addi v78 c1_i32_75
  let c8_i32_76 : BitVec 32 := 8#32
  let v80 : BitVec 32 := Scalar.remsi v79 c8_i32_76
  let c512_i32_77 : BitVec 32 := 512#32
  let v81 : BitVec 32 := Scalar.muli v80 c512_i32_77
  let v82 : Index := Scalar.indexCast v81
  let c512 : Index := 512#32
  ![v82.toNat, 512]
def k4_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_92 : BitVec 32 := 1#32
  let v97 : BitVec 32 := Scalar.muli v7 c1_i32_92
  let v98 : BitVec 32 := Scalar.addi c0_i32_93 v97
  v98.toNat
def k4_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_100 : BitVec 32 := 1#32
  let v106 : BitVec 32 := Scalar.muli v5 c1_i32_100
  let v107 : BitVec 32 := Scalar.addi c0_i32_101 v106
  v107.toNat
def k4_dev7 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_163 : BitVec 32 := 1#32
  let v171 : BitVec 32 := Scalar.muli v7 c1_i32_163
  let v172 : BitVec 32 := Scalar.addi c0_i32_164 v171
  v172.toNat
def k4_dev8 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_171 : BitVec 32 := 1#32
  let v180 : BitVec 32 := Scalar.muli v5 c1_i32_171
  let v181 : BitVec 32 := Scalar.addi c0_i32_172 v180
  v181.toNat
def k4_dev9 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_233 : BitVec 32 := 1#32
  let v245 : BitVec 32 := Scalar.muli v7 c1_i32_233
  let v246 : BitVec 32 := Scalar.addi c0_i32_234 v245
  v246.toNat
def k4_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_241 : BitVec 32 := 1#32
  let v254 : BitVec 32 := Scalar.muli v5 c1_i32_241
  let v255 : BitVec 32 := Scalar.addi c0_i32_242 v254
  v255.toNat
def k4_dev11 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_303 : BitVec 32 := 1#32
  let v319 : BitVec 32 := Scalar.muli v7 c1_i32_303
  let v320 : BitVec 32 := Scalar.addi c0_i32_304 v319
  v320.toNat
def k4_dev12 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_311 : BitVec 32 := 1#32
  let v328 : BitVec 32 := Scalar.muli v5 c1_i32_311
  let v329 : BitVec 32 := Scalar.addi c0_i32_312 v328
  v329.toNat
def k4_dev13 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_373 : BitVec 32 := 1#32
  let v393 : BitVec 32 := Scalar.muli v7 c1_i32_373
  let v394 : BitVec 32 := Scalar.addi c0_i32_374 v393
  v394.toNat
def k4_dev14 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_381 : BitVec 32 := 1#32
  let v402 : BitVec 32 := Scalar.muli v5 c1_i32_381
  let v403 : BitVec 32 := Scalar.addi c0_i32_382 v402
  v403.toNat
def k4_dev15 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_443 : BitVec 32 := 1#32
  let v467 : BitVec 32 := Scalar.muli v7 c1_i32_443
  let v468 : BitVec 32 := Scalar.addi c0_i32_444 v467
  v468.toNat
def k4_dev16 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_451 : BitVec 32 := 1#32
  let v476 : BitVec 32 := Scalar.muli v5 c1_i32_451
  let v477 : BitVec 32 := Scalar.addi c0_i32_452 v476
  v477.toNat
def k4_off5 (d0 : Dev nD) (c0_i32_505 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_504 : BitVec 32 := 1#32
  let v534 : BitVec 32 := Scalar.addi v2 c1_i32_504
  let v535 : BitVec 32 := Scalar.subi v534 c0_i32_505
  let c8_i32_506 : BitVec 32 := 8#32
  let v536 : BitVec 32 := Scalar.addi v535 c8_i32_506
  let c8_i32_507 : BitVec 32 := 8#32
  let v537 : BitVec 32 := Scalar.remsi v536 c8_i32_507
  let c512_i32_508 : BitVec 32 := 512#32
  let v538 : BitVec 32 := Scalar.muli v537 c512_i32_508
  let c0_i32_518 : BitVec 32 := 0#32
  ![v538.toNat, 0]
def k4_dev17 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_516 : BitVec 32 := 1#32
  let v544 : BitVec 32 := Scalar.muli v7 c1_i32_516
  let v545 : BitVec 32 := Scalar.addi c0_i32_517 v544
  v545.toNat
def k4_off6 (d0 : Dev nD) (c0_i32_510 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_509 : BitVec 32 := 1#32
  let v539 : BitVec 32 := Scalar.subi v2 c1_i32_509
  let v540 : BitVec 32 := Scalar.addi v539 c0_i32_510
  let c8_i32_511 : BitVec 32 := 8#32
  let v541 : BitVec 32 := Scalar.addi v540 c8_i32_511
  let c8_i32_512 : BitVec 32 := 8#32
  let v542 : BitVec 32 := Scalar.remsi v541 c8_i32_512
  let c512_i32_513 : BitVec 32 := 512#32
  let v543 : BitVec 32 := Scalar.muli v542 c512_i32_513
  let c512_i32_524 : BitVec 32 := 512#32
  ![v543.toNat, 512]
def k4_dev18 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_522 : BitVec 32 := 1#32
  let v552 : BitVec 32 := Scalar.muli v5 c1_i32_522
  let v553 : BitVec 32 := Scalar.addi c0_i32_523 v552
  v553.toNat
def k4_dev19 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_560 : BitVec 32 := 1#32
  let v590 : BitVec 32 := Scalar.muli v7 c1_i32_560
  let v591 : BitVec 32 := Scalar.addi c0_i32_561 v590
  v591.toNat
def k4_dev20 (d0 : Dev nD) : Nat :=
  let c0_i32_567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_566 : BitVec 32 := 1#32
  let v598 : BitVec 32 := Scalar.muli v5 c1_i32_566
  let v599 : BitVec 32 := Scalar.addi c0_i32_567 v598
  v599.toNat
def k4_dev21 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_604 : BitVec 32 := 1#32
  let v636 : BitVec 32 := Scalar.muli v7 c1_i32_604
  let v637 : BitVec 32 := Scalar.addi c0_i32_605 v636
  v637.toNat
def k4_dev22 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_610 : BitVec 32 := 1#32
  let v644 : BitVec 32 := Scalar.muli v5 c1_i32_610
  let v645 : BitVec 32 := Scalar.addi c0_i32_611 v644
  v645.toNat
def k4_dev23 (d0 : Dev nD) : Nat :=
  let c0_i32_649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_648 : BitVec 32 := 1#32
  let v682 : BitVec 32 := Scalar.muli v7 c1_i32_648
  let v683 : BitVec 32 := Scalar.addi c0_i32_649 v682
  v683.toNat
def k4_dev24 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_654 : BitVec 32 := 1#32
  let v690 : BitVec 32 := Scalar.muli v5 c1_i32_654
  let v691 : BitVec 32 := Scalar.addi c0_i32_655 v690
  v691.toNat
def k4_dev25 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_692 : BitVec 32 := 1#32
  let v728 : BitVec 32 := Scalar.muli v7 c1_i32_692
  let v729 : BitVec 32 := Scalar.addi c0_i32_693 v728
  v729.toNat
def k4_dev26 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_698 : BitVec 32 := 1#32
  let v736 : BitVec 32 := Scalar.muli v5 c1_i32_698
  let v737 : BitVec 32 := Scalar.addi c0_i32_699 v736
  v737.toNat
def k4_dev27 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_736 : BitVec 32 := 1#32
  let v774 : BitVec 32 := Scalar.muli v7 c1_i32_736
  let v775 : BitVec 32 := Scalar.addi c0_i32_737 v774
  v775.toNat
def k4_dev28 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_742 : BitVec 32 := 1#32
  let v782 : BitVec 32 := Scalar.muli v5 c1_i32_742
  let v783 : BitVec 32 := Scalar.addi c0_i32_743 v782
  v783.toNat
def k4_dev29 (d0 : Dev nD) : Nat :=
  let c0_i32_781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_780 : BitVec 32 := 1#32
  let v820 : BitVec 32 := Scalar.muli v7 c1_i32_780
  let v821 : BitVec 32 := Scalar.addi c0_i32_781 v820
  v821.toNat
def k4_dev30 (d0 : Dev nD) : Nat :=
  let c0_i32_787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_786 : BitVec 32 := 1#32
  let v828 : BitVec 32 := Scalar.muli v5 c1_i32_786
  let v829 : BitVec 32 := Scalar.addi c0_i32_787 v828
  v829.toNat
abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
-- ==== ReferenceIdeal.lean ====
abbrev S1x4096x1024 : Shape := ⟨3, ![1, 4096, 1024]⟩
abbrev S1024x8192 : Shape := ⟨2, ![1024, 8192]⟩
abbrev S8192x1024 : Shape := ⟨2, ![8192, 1024]⟩
abbrev S1x128 : Shape := ⟨2, ![1, 128]⟩
abbrev S128x6144 : Shape := ⟨2, ![128, 6144]⟩
abbrev S1024x4096 : Shape := ⟨2, ![1024, 4096]⟩
abbrev S4096x1024 : Shape := ⟨2, ![4096, 1024]⟩
abbrev S1x6144 : Shape := ⟨2, ![1, 6144]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩
abbrev S4096x64x128 : Shape := ⟨3, ![4096, 64, 128]⟩
abbrev S64x4096x4096 : Shape := ⟨3, ![64, 4096, 4096]⟩
abbrev S64x4096 : Shape := ⟨2, ![64, 4096]⟩
abbrev S64x4096x1 : Shape := ⟨3, ![64, 4096, 1]⟩
abbrev S64x128x4096 : Shape := ⟨3, ![64, 128, 4096]⟩
abbrev S4096x64x1 : Shape := ⟨3, ![4096, 64, 1]⟩
abbrev S4096x4096 : Shape := ⟨2, ![4096, 4096]⟩

abbrev nBuf : Space → Nat
  | .hbm => 148
  | .vmem => 0
  | .smem => 0
  | _ => 0

abbrev hbmTy0_0 (i : Nat) : BufTy := match i % 128 with
  | 0 => ⟨S1x4096x1024, .f32⟩
  | 1 => ⟨S1024x8192, .f32⟩
  | 2 => ⟨S1024x8192, .f32⟩
  | 3 => ⟨S1024x8192, .f32⟩
  | 4 => ⟨S8192x1024, .f32⟩
  | 5 => ⟨S1x128, .f32⟩
  | 6 => ⟨S128x6144, .f32⟩
  | 7 => ⟨S1024x4096, .f32⟩
  | 8 => ⟨S4096x1024, .f32⟩
  | 9 => ⟨S1x6144, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .i32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S_, .f32⟩
  | 34 => ⟨S_, .f32⟩
  | 35 => ⟨S_, .f32⟩
  | 36 => ⟨S_, .f32⟩
  | 37 => ⟨S4096, .f32⟩
  | 38 => ⟨S4096x1, .f32⟩
  | 39 => ⟨S4096x1, .f32⟩
  | 40 => ⟨S4096x1, .f32⟩
  | 41 => ⟨S_, .f32⟩
  | 42 => ⟨S_, .i1⟩
  | 43 => ⟨S_, .f32⟩
  | 44 => ⟨S_, .f32⟩
  | 45 => ⟨S4096x1, .f32⟩
  | 46 => ⟨S4096x1, .f32⟩
  | 47 => ⟨S4096x1024, .f32⟩
  | 48 => ⟨S4096x1024, .f32⟩
  | 49 => ⟨S_, .f32⟩
  | 50 => ⟨S4096x1, .f32⟩
  | 51 => ⟨S4096x1, .f32⟩
  | 52 => ⟨S4096x1, .f32⟩
  | 53 => ⟨S4096x1024, .f32⟩
  | 54 => ⟨S4096x1024, .f32⟩
  | 55 => ⟨S_, .f32⟩
  | 56 => ⟨S1x1024, .f32⟩
  | 57 => ⟨S1x1024, .f32⟩
  | 58 => ⟨S4096x1024, .f32⟩
  | 59 => ⟨S4096x1024, .f32⟩
  | 60 => ⟨S4096x1024, .f32⟩
  | 61 => ⟨S4096x1024, .f32⟩
  | 62 => ⟨S4096x8192, .f32⟩
  | 63 => ⟨S4096x64x128, .f32⟩
  | 64 => ⟨S4096x8192, .f32⟩
  | 65 => ⟨S4096x64x128, .f32⟩
  | 66 => ⟨S4096x8192, .f32⟩
  | 67 => ⟨S4096x64x128, .f32⟩
  | 68 => ⟨S64x4096x4096, .f32⟩
  | 69 => ⟨S_, .f32⟩
  | 70 => ⟨S64x4096x4096, .f32⟩
  | 71 => ⟨S64x4096x4096, .f32⟩
  | 72 => ⟨S_, .f32⟩
  | 73 => ⟨S64x4096, .f32⟩
  | 74 => ⟨S64x4096x1, .f32⟩
  | 75 => ⟨S64x4096x4096, .f32⟩
  | 76 => ⟨S64x4096x4096, .f32⟩
  | 77 => ⟨S64x4096x4096, .f32⟩
  | 78 => ⟨S_, .f32⟩
  | 79 => ⟨S64x4096, .f32⟩
  | 80 => ⟨S64x4096x1, .f32⟩
  | 81 => ⟨S64x128x4096, .f32⟩
  | 82 => ⟨S4096x64x128, .f32⟩
  | 83 => ⟨S4096x64x1, .f32⟩
  | 84 => ⟨S4096x64x128, .f32⟩
  | 85 => ⟨S4096x64x128, .f32⟩
  | 86 => ⟨S4096x8192, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .i32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S4096x1024, .f32⟩
  | 105 => ⟨S4096x1024, .f32⟩
  | 106 => ⟨S4096x1024, .f32⟩
  | 107 => ⟨S_, .f32⟩
  | 108 => ⟨S_, .f32⟩
  | 109 => ⟨S_, .f32⟩
  | 110 => ⟨S_, .f32⟩
  | 111 => ⟨S4096, .f32⟩
  | 112 => ⟨S4096x1, .f32⟩
  | 113 => ⟨S4096x1, .f32⟩
  | 114 => ⟨S4096x1, .f32⟩
  | 115 => ⟨S_, .f32⟩
  | 116 => ⟨S_, .i1⟩
  | 117 => ⟨S_, .f32⟩
  | 118 => ⟨S_, .f32⟩
  | 119 => ⟨S4096x1, .f32⟩
  | 120 => ⟨S4096x1, .f32⟩
  | 121 => ⟨S4096x1024, .f32⟩
  | 122 => ⟨S4096x1024, .f32⟩
  | 123 => ⟨S_, .f32⟩
  | 124 => ⟨S4096x1, .f32⟩
  | 125 => ⟨S4096x1, .f32⟩
  | 126 => ⟨S4096x1, .f32⟩
  | 127 => ⟨S4096x1024, .f32⟩
  | _ => ⟨S1x4096x1024, .f32⟩

abbrev hbmTy0_1 (i : Nat) : BufTy := match i % 128 with
  | 0 => ⟨S4096x1024, .f32⟩
  | 1 => ⟨S_, .f32⟩
  | 2 => ⟨S1x1024, .f32⟩
  | 3 => ⟨S1x1024, .f32⟩
  | 4 => ⟨S4096x1024, .f32⟩
  | 5 => ⟨S4096x1024, .f32⟩
  | 6 => ⟨S4096x1024, .f32⟩
  | 7 => ⟨S4096x1024, .f32⟩
  | 8 => ⟨S4096x4096, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S4096x4096, .f32⟩
  | 15 => ⟨S4096x1024, .f32⟩
  | 16 => ⟨S4096x1024, .f32⟩
  | 17 => ⟨S4096x1024, .f32⟩
  | 18 => ⟨S4096x1024, .f32⟩
  | 19 => ⟨S1x4096x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_3 : Ref sig .tc := ⟨.hbm, 69, rfl⟩
abbrev main_v33 : Ref sig .tc := ⟨.hbm, 70, rfl⟩
abbrev main_v34 : Ref sig .tc := ⟨.hbm, 71, rfl⟩
abbrev main_cst_4 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_5 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_6 : Ref sig .tc := ⟨.hbm, 91, rfl⟩
abbrev main_v52 : Ref sig .tc := ⟨.hbm, 92, rfl⟩
abbrev main_v53 : Ref sig .tc := ⟨.hbm, 93, rfl⟩
abbrev main_cst_7 : Ref sig .tc := ⟨.hbm, 94, rfl⟩
abbrev main_v54 : Ref sig .tc := ⟨.hbm, 95, rfl⟩
abbrev main_v55 : Ref sig .tc := ⟨.hbm, 96, rfl⟩
abbrev main_c_8 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_cst_1 : Ref sig .tc := ⟨.hbm, 108, rfl⟩
abbrev main_call1_v8 : Ref sig .tc := ⟨.hbm, 109, rfl⟩
abbrev main_call1_cst_2 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_v12 : Ref sig .tc := ⟨.hbm, 114, rfl⟩
abbrev main_call1_cst_3 : Ref sig .tc := ⟨.hbm, 115, rfl⟩
abbrev main_call1_v13 : Ref sig .tc := ⟨.hbm, 116, rfl⟩
abbrev main_call1_cst_4 : Ref sig .tc := ⟨.hbm, 117, rfl⟩
abbrev main_call1_call0_v0 : Ref sig .tc := ⟨.hbm, 118, rfl⟩
abbrev main_call1_call0_v1 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_9 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_cst_10 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_cst_11 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩

abbrev nD : Nat := 1
abbrev τ : Topo := Topo.v7x

variable {F : FTy → Type} [FloatOps F]
-- ==== Proof.Program.lean ====
/-
  The kernel body as a program of NAMED PIECES: the greeting on the barrier, the product of one
  row chunk, one step of the ring reduce-scatter, one step of the ring all-gather in both
  directions. Each piece is written once, over the offsets and the devices it is given, so that the
  proof can be done once for every step; `body_eq` says that the printed body is these pieces in
  order.
-/
module

public import proofs.«01_k».proof.Proof.Gen.KernelIdeal.Skeleton
public import Idealize.ShloMosaic.Lib.Tactic
public import Idealize.ShloMosaic.Lib.Pipeline.Regions

@[expose] public section

noncomputable section

namespace Cert.RingProof

open Idealize.ShloMosaic Idealize.SL.Sem Cert.KernelIdeal Cert.KernelIdeal.Gen

variable {F : FTy → Type} [FloatOps F]

/-! ## The buffers -/

/-- The staged queries, keys, values and output weights of a device. -/
abbrev qM : Memref sig .tc .vmem S4096x1024 .bf16 := Memref.whole cc1_stg0_0
abbrev kM : Memref sig .tc .vmem S4096x1024 .bf16 := Memref.whole cc1_stg1_0
abbrev vM : Memref sig .tc .vmem S4096x1024 .bf16 := Memref.whole cc1_stg2_0
abbrev wM : Memref sig .tc .vmem S1024x1024 .bf16 := Memref.whole cc1_stg3_0
/-- The staged result: eight chunks of 512 rows. -/
abbrev oM : Memref sig .tc .vmem S4096x1024 .bf16 := Memref.whole cc1_stg4_0
/-- One chunk of attention rows, before the output product. -/
abbrev aM : Memref sig .tc .vmem S512x1024 .bf16 := Memref.whole cc1_scratch0
/-- The seven slots in which the partial sums arrive from the left neighbour. -/
abbrev cM : Memref sig .tc .vmem S7x512x1024 .bf16 := Memref.whole cc1_scratch1

theorem slot_inb : ∀ t : Fin 7, ∀ a, (![t.val, 0, 0] : Fin 3 → ℕ) a + S1x512x1024.size a ≤ S7x512x1024.size a := by decide +kernel
theorem slot_words : ∀ t : Fin 7, (Rect.unit (s := S7x512x1024) ![t.val, 0, 0] S1x512x1024.size (slot_inb t)).WholeWords (EltTy.packing .bf16) := by
  decide +kernel
theorem sem_inb : ∀ t : Fin 7, ∀ a, (![t.val] : Fin 1 → ℕ) a + S1.size a ≤ S7.size a := by decide +kernel

/-- 512 rows of the result, from given offsets. -/
abbrev rowAt (o : Fin 2 → ℕ) (h : ∀ a, o a + S512x1024.size a ≤ S4096x1024.size a) : Memref sig .tc .vmem S512x1024 .bf16 :=
  oM.slice (Rect.unit (s := S4096x1024) o S512x1024.size h) (fun _ => rfl)

/-- A 512 × 512 tile of the result, from given offsets. -/
abbrev halfAt (o : Fin 2 → ℕ) (h : ∀ a, o a + S512x512.size a ≤ S4096x1024.size a) : Memref sig .tc .vmem S512x512 .bf16 :=
  oM.slice (Rect.unit (s := S4096x1024) o S512x512.size h) (fun _ => rfl)

/-- Arrival slot `t`, as 512 rows. -/
abbrev slotM (t : Fin 7) : Memref sig .tc .vmem S512x1024 .bf16 :=
  (cM.slice (Rect.unit (s := S7x512x1024) ![t.val, 0, 0] S1x512x1024.size (slot_inb t)) (fun _ => rfl)).squeeze S512x1024 squeezes_S1x512x1024_S512x1024

/-- The six arrays of seven semaphores: reduce-scatter send and receive; all-gather send and receive towards the
    right (left halves of the rows); all-gather send and receive towards the left (right halves). -/
def semArr : Fin 6 → DmaSems sig S7 :=
  ![cc1_scratch2, cc1_scratch3, cc1_scratch4, cc1_scratch5, cc1_scratch6, cc1_scratch7]

/-- Semaphore `t` of array `κ`. -/
abbrev dsem (κ : Fin 6) (t : Fin 7) : DmaSem sig :=
  (((semArr κ).slice (Rect.unit (s := S7) ![t.val] S1.size (sem_inb t))).squeeze S_ squeezes_S1_S_).sem

/-- The barrier semaphore. -/
abbrev bsem : Sem sig := (SemArray.scalar (sig.barrier 0 rfl) : Sems sig S_).sem

/-! ## The pieces -/

abbrev P (α : Type) := Prog (TpuEff nD τ sig (Elt F) Λ₀ .tc) α

/-- Tell both neighbours that this device is in the kernel, and wait to be told by both. -/
def hello (n₁ n₂ : Dev nD) : P (F := F) PUnit := do
  semSignalWord n₁ bsem 1#32
  semSignalWord n₂ bsem 1#32
  semWaitWord bsem 2#32

/-- One head of one chunk: 512 query rows against all keys and values, into the chunk's columns. -/
def trip (oq : Fin 2 → ℕ) (hq : ∀ a, oq a + S512x128.size a ≤ S4096x1024.size a)
    (ok : Fin 2 → ℕ) (hk : ∀ a, ok a + S4096x128.size a ≤ S4096x1024.size a)
    (oa : Fin 2 → ℕ) (ha : ∀ a, oa a + S512x128.size a ≤ S512x1024.size a)
    (hp : (Rect.unit (s := S512x1024) oa S512x128.size ha).PackedRows (EltTy.packing .bf16)) : P (F := F) Unit := do
  let q : Vec F S512x128 .bf16 ← Prog.lift (.load qM (Rect.unit (s := S4096x1024) oq S512x128.size hq).toLoadRect (View.loadsAt_vmem h_S512x128))
  let k : Vec F S4096x128 .bf16 ← Prog.lift (.load kM (Rect.unit (s := S4096x1024) ok S4096x128.size hk).toLoadRect (View.loadsAt_vmem h_S4096x128))
  let v : Vec F S4096x128 .bf16 ← Prog.lift (.load vM (Rect.unit (s := S4096x1024) ok S4096x128.size hk).toLoadRect (View.loadsAt_vmem h_S4096x128))
  let _x : Vec F S512x128 .bf16 ← Prog.lift (.load aM (Rect.unit (s := S512x1024) oa S512x128.size ha).toLoadRect (View.loadsAt_vmem h_S512x128))
  Prog.lift (.store aM (Rect.unit (s := S512x1024) oa S512x128.size ha) (k1_pay1 q k v) Finset.univ
    (View.stores_vmem h_S512x128 ((Memref.isWhole_whole cc1_scratch0).storeExact_slice rfl _ hp) (fun _ => rfl)) (.inl rfl))
  pure ⟨⟩

/-- The attention chunk and the output weights, read whole. -/
def loadA : P (F := F) (Vec F S512x1024 .bf16) :=
  Prog.lift (.load aM (Rect.unit (s := S512x1024) ![0, 0] S512x1024.size inb_S512x1024_S512x1024_0_0).toLoadRect (View.loadsAt_vmem h_S512x1024))
def loadW : P (F := F) (Vec F S1024x1024 .bf16) :=
  Prog.lift (.load wM (Rect.unit (s := S1024x1024) ![0, 0] S1024x1024.size inb_S1024x1024_S1024x1024_0_0).toLoadRect (View.loadsAt_vmem h_S1024x1024))

/-- 512 rows of the result, read; and the partial sum that arrived in slot `t`, read. -/
def loadRow (o : Fin 2 → ℕ) (h : ∀ a, o a + S512x1024.size a ≤ S4096x1024.size a) : P (F := F) (Vec F S512x1024 .bf16) :=
  Prog.lift (.load oM (Rect.unit (s := S4096x1024) o S512x1024.size h).toLoadRect (View.loadsAt_vmem h_S512x1024))
def loadSlot (t : Fin 7) : P (F := F) (Vec F S1x512x1024 .bf16) :=
  Prog.lift (.load cM (Rect.unit (s := S7x512x1024) ![t.val, 0, 0] S1x512x1024.size (slot_inb t)).toLoadRect (View.loadsAt_vmem h_S1x512x1024))

/-- 512 rows of the result, written. -/
def storeRow (o : Fin 2 → ℕ) (h : ∀ a, o a + S512x1024.size a ≤ S4096x1024.size a)
    (hp : (Rect.unit (s := S4096x1024) o S512x1024.size h).PackedRows (EltTy.packing .bf16)) (x : Vec F S512x1024 .bf16) : P (F := F) PUnit :=
  Prog.lift (.store oM (Rect.unit (s := S4096x1024) o S512x1024.size h) x Finset.univ
    (View.stores_vmem h_S512x1024 ((Memref.isWhole_whole cc1_stg4_0).storeExact_slice rfl _ hp) (fun _ => rfl)) (.inl rfl))

/-- The product of the attention chunk with the output weights, into 512 rows of the result. -/
def prodRow (o : Fin 2 → ℕ) (h : ∀ a, o a + S512x1024.size a ≤ S4096x1024.size a)
    (hp : (Rect.unit (s := S4096x1024) o S512x1024.size h).PackedRows (EltTy.packing .bf16)) : P (F := F) PUnit := do
  let a ← loadA
  let w ← loadW
  let _ ← loadRow o h
  storeRow o h hp (k1_pay2 a w)

/-- The partial sum that arrived in slot `t`, added onto 512 rows of the result. -/
def addRow (o : Fin 2 → ℕ) (h : ∀ a, o a + S512x1024.size a ≤ S4096x1024.size a)
    (hp : (Rect.unit (s := S4096x1024) o S512x1024.size h).PackedRows (EltTy.packing .bf16)) (t : Fin 7) : P (F := F) PUnit := do
  let a ← loadRow o h
  let b ← loadSlot t
  let _ ← loadRow o h
  storeRow o h hp (k1_pay5 a b)

theorem slot_exact (t : Fin 7) : (slotM t).view.WordExact :=
  ((Memref.isWhole_whole cc1_scratch1).wordExact_slice rfl _ (slot_words t)).reshape _ _

/-- Send 512 rows of the result into slot `t` of device `n`. -/
def sendRow (n : Dev nD) (o : Fin 2 → ℕ) (h : ∀ a, o a + S512x1024.size a ≤ S4096x1024.size a)
    (hw : (Rect.unit (s := S4096x1024) o S512x1024.size h).WholeWords (EltTy.packing .bf16)) (t : Fin 7) : P (F := F) PUnit :=
  Prog.lift (.enqueueDma (rowAt o h) (.remote (Dev.tc n) (slotM t) (.dma (dsem 0 t))) (.dma (dsem 1 t))
    ((Memref.isWhole_whole cc1_stg4_0).wordExact_slice rfl _ hw) (slot_exact t) ⟨⟨rfl, Or.inl rfl⟩, trivial⟩)

/-- Wait until that copy has left. -/
def waitRowOut (o : Fin 2 → ℕ) (h : ∀ a, o a + S512x1024.size a ≤ S4096x1024.size a)
    (hw : (Rect.unit (s := S4096x1024) o S512x1024.size h).WholeWords (EltTy.packing .bf16)) (t : Fin 7) : P (F := F) PUnit :=
  Prog.lift (.waitDma2 (dsem 0 t) (slotM t) (rowAt o h) (slot_exact t) ((Memref.isWhole_whole cc1_stg4_0).wordExact_slice rfl _ hw))

/-- Wait until the left neighbour's copy is in slot `t`. -/
def waitRowIn (o : Fin 2 → ℕ) (h : ∀ a, o a + S512x1024.size a ≤ S4096x1024.size a)
    (hw : (Rect.unit (s := S4096x1024) o S512x1024.size h).WholeWords (EltTy.packing .bf16)) (t : Fin 7) : P (F := F) PUnit :=
  Prog.lift (.waitDma2 (dsem 1 t) (rowAt o h) (slotM t) ((Memref.isWhole_whole cc1_stg4_0).wordExact_slice rfl _ hw) (slot_exact t))

/-- Send one half of 512 rows of the result to the same place of device `n`, on the semaphores of arrays `κ`, `κ'`. -/
def sendHalf (κ κ' : Fin 6) (n : Dev nD) (o : Fin 2 → ℕ) (h : ∀ a, o a + S512x512.size a ≤ S4096x1024.size a)
    (hw : (Rect.unit (s := S4096x1024) o S512x512.size h).WholeWords (EltTy.packing .bf16)) (s : Fin 7) : P (F := F) PUnit :=
  Prog.lift (.enqueueDma (halfAt o h) (.remote (Dev.tc n) (halfAt o h) (.dma (dsem κ s))) (.dma (dsem κ' s))
    ((Memref.isWhole_whole cc1_stg4_0).wordExact_slice rfl _ hw) ((Memref.isWhole_whole cc1_stg4_0).wordExact_slice rfl _ hw) ⟨⟨rfl, Or.inl rfl⟩, trivial⟩)

/-- Wait for a half on a semaphore of array `κ`. -/
def waitHalf (κ : Fin 6) (o : Fin 2 → ℕ) (h : ∀ a, o a + S512x512.size a ≤ S4096x1024.size a)
    (hw : (Rect.unit (s := S4096x1024) o S512x512.size h).WholeWords (EltTy.packing .bf16)) (s : Fin 7) : P (F := F) PUnit :=
  Prog.lift (.waitDma2 (dsem κ s) (halfAt o h) (halfAt o h) ((Memref.isWhole_whole cc1_stg4_0).wordExact_slice rfl _ hw)
    ((Memref.isWhole_whole cc1_stg4_0).wordExact_slice rfl _ hw))

/-- One step of the reduce-scatter: send the running sum on, make the next chunk's product meanwhile (`loop` is its
    attention), and add what arrived. -/
def rsStep (d n : Dev nD) (t : Fin 7) (loop : P (F := F) Unit) : P (F := F) PUnit := do
  sendRow n (k1_off5 d (BitVec.ofNat 32 t.val)) (k1_off5_inb d t) (k1_off5_wordsbf16 d t) t
  let _ ← loop
  prodRow (k1_off9 d (BitVec.ofNat 32 t.val)) (k1_off9_inb d t) (k1_off9_packedbf16 d t)
  waitRowOut (k1_off5 d (BitVec.ofNat 32 t.val)) (k1_off5_inb d t) (k1_off5_wordsbf16 d t) t
  waitRowIn (k1_off5 d (BitVec.ofNat 32 t.val)) (k1_off5_inb d t) (k1_off5_wordsbf16 d t) t
  addRow (k1_off9 d (BitVec.ofNat 32 t.val)) (k1_off9_inb d t) (k1_off9_packedbf16 d t) t

/-- One step of the all-gather: a left half to the right neighbour, a right half to the left neighbour, and both
    waited for. -/
def agStep (d n₁ n₂ : Dev nD) (s : Fin 7) : P (F := F) PUnit := do
  sendHalf 2 3 n₁ (k1_off28 d (BitVec.ofNat 32 s.val)) (k1_off28_inb d s) (k1_off28_wordsbf16 d s) s
  sendHalf 4 5 n₂ (k1_off29 d (BitVec.ofNat 32 s.val)) (k1_off29_inb d s) (k1_off29_wordsbf16 d s) s
  waitHalf 2 (k1_off28 d (BitVec.ofNat 32 s.val)) (k1_off28_inb d s) (k1_off28_wordsbf16 d s) s
  waitHalf 3 (k1_off28 d (BitVec.ofNat 32 s.val)) (k1_off28_inb d s) (k1_off28_wordsbf16 d s) s
  waitHalf 4 (k1_off29 d (BitVec.ofNat 32 s.val)) (k1_off29_inb d s) (k1_off29_wordsbf16 d s) s
  waitHalf 5 (k1_off29 d (BitVec.ofNat 32 s.val)) (k1_off29_inb d s) (k1_off29_wordsbf16 d s) s

/-- The eight attention loops, one per chunk a device makes. -/
def loop1 (d : Dev nD) : P (F := F) Unit := Scf.Loop.for k1_t1_loop k1_t1_ok ⟨⟩ fun i _ =>
  trip (k1_off1 d i) (k1_off1_inb d i) (k1_off2 i) (k1_off2_inb i) (k1_off3 i) (k1_off3_inb i) (k1_off3_packedbf16 i)
def loop2 (d : Dev nD) : P (F := F) Unit := Scf.Loop.for k1_t2_loop k1_t2_ok ⟨⟩ fun i _ =>
  trip (k1_off6 d i) (k1_off6_inb d i) (k1_off7 i) (k1_off7_inb i) (k1_off8 i) (k1_off8_inb i) (k1_off8_packedbf16 i)
def loop3 (d : Dev nD) : P (F := F) Unit := Scf.Loop.for k1_t3_loop k1_t3_ok ⟨⟩ fun i _ =>
  trip (k1_off10 d i) (k1_off10_inb d i) (k1_off11 i) (k1_off11_inb i) (k1_off12 i) (k1_off12_inb i) (k1_off12_packedbf16 i)
def loop4 (d : Dev nD) : P (F := F) Unit := Scf.Loop.for k1_t4_loop k1_t4_ok ⟨⟩ fun i _ =>
  trip (k1_off13 d i) (k1_off13_inb d i) (k1_off14 i) (k1_off14_inb i) (k1_off15 i) (k1_off15_inb i) (k1_off15_packedbf16 i)
def loop5 (d : Dev nD) : P (F := F) Unit := Scf.Loop.for k1_t5_loop k1_t5_ok ⟨⟩ fun i _ =>
  trip (k1_off16 d i) (k1_off16_inb d i) (k1_off17 i) (k1_off17_inb i) (k1_off18 i) (k1_off18_inb i) (k1_off18_packedbf16 i)
def loop6 (d : Dev nD) : P (F := F) Unit := Scf.Loop.for k1_t6_loop k1_t6_ok ⟨⟩ fun i _ =>
  trip (k1_off19 d i) (k1_off19_inb d i) (k1_off20 i) (k1_off20_inb i) (k1_off21 i) (k1_off21_inb i) (k1_off21_packedbf16 i)
def loop7 (d : Dev nD) : P (F := F) Unit := Scf.Loop.for k1_t7_loop k1_t7_ok ⟨⟩ fun i _ =>
  trip (k1_off22 d i) (k1_off22_inb d i) (k1_off23 i) (k1_off23_inb i) (k1_off24 i) (k1_off24_inb i) (k1_off24_packedbf16 i)
def loop8 (d : Dev nD) : P (F := F) Unit := Scf.Loop.for k1_t8_loop k1_t8_ok ⟨⟩ fun i _ =>
  trip (k1_off25 d i) (k1_off25_inb d i) (k1_off26 i) (k1_off26_inb i) (k1_off27 i) (k1_off27_inb i) (k1_off27_packedbf16 i)

/-- The reduce-scatter of device `d`. -/
def rsPart (d : Dev nD) : P (F := F) PUnit := do
  rsStep d ⟨k1_dev3 d, k1_dev3_lt d⟩ 0 (loop2 d)
  rsStep d ⟨k1_dev4 d, k1_dev4_lt d⟩ 1 (loop3 d)
  rsStep d ⟨k1_dev5 d, k1_dev5_lt d⟩ 2 (loop4 d)
  rsStep d ⟨k1_dev6 d, k1_dev6_lt d⟩ 3 (loop5 d)
  rsStep d ⟨k1_dev7 d, k1_dev7_lt d⟩ 4 (loop6 d)
  rsStep d ⟨k1_dev8 d, k1_dev8_lt d⟩ 5 (loop7 d)
  rsStep d ⟨k1_dev9 d, k1_dev9_lt d⟩ 6 (loop8 d)

/-- The all-gather of device `d`. -/
def agPart (d : Dev nD) : P (F := F) PUnit := do
  agStep d ⟨k1_dev10 d, k1_dev10_lt d⟩ ⟨k1_dev11 d, k1_dev11_lt d⟩ 0
  agStep d ⟨k1_dev12 d, k1_dev12_lt d⟩ ⟨k1_dev13 d, k1_dev13_lt d⟩ 1
  agStep d ⟨k1_dev14 d, k1_dev14_lt d⟩ ⟨k1_dev15 d, k1_dev15_lt d⟩ 2
  agStep d ⟨k1_dev16 d, k1_dev16_lt d⟩ ⟨k1_dev17 d, k1_dev17_lt d⟩ 3
  agStep d ⟨k1_dev18 d, k1_dev18_lt d⟩ ⟨k1_dev19 d, k1_dev19_lt d⟩ 4
  agStep d ⟨k1_dev20 d, k1_dev20_lt d⟩ ⟨k1_dev21 d, k1_dev21_lt d⟩ 5
  agStep d ⟨k1_dev22 d, k1_dev22_lt d⟩ ⟨k1_dev23 d, k1_dev23_lt d⟩ 6

/-- The whole body of device `d`. -/
def body (d : Dev nD) : P (F := F) PUnit := do
  hello ⟨k1_dev1 d, k1_dev1_lt d⟩ ⟨k1_dev2 d, k1_dev2_lt d⟩
  let _ ← loop1 d
  prodRow (k1_off4 d) (k1_off4_inb d) (k1_off4_packedbf16 d)
  rsPart d
  agPart d

end Cert.RingProof

end
-- ==== Proof.Views.lean ====
/-
  The PLACES of the buffers the devices exchange: the eight chunks of 512 rows of the result, their left and right
  halves, the seven arrival slots. For each: which elements it has, how the places split the buffer, and what a load
  reads and a store leaves there.
-/
module

public import proofs.«01_k».proof.Proof.Program
public import Idealize.ShloMosaic.Lib.ValueIdxCore
public import Idealize.ShloMosaic.Lib.ViewIndex

@[expose] public section

noncomputable section

namespace Cert.RingProof

open Idealize.ShloMosaic Idealize.ShloMosaic.ValueIdx Cert.KernelIdeal Cert.KernelIdeal.Gen

variable {F : FTy → Type} [FloatOps F]

/-! ## Places -/

theorem row_inb : ∀ k : Fin 8, ∀ a, (![512 * k.val, 0] : Fin 2 → ℕ) a + S512x1024.size a ≤ S4096x1024.size a := by decide +kernel
theorem half_inb : ∀ (h : Fin 2) (k : Fin 8), ∀ a, (![512 * k.val, 512 * h.val] : Fin 2 → ℕ) a + S512x512.size a ≤ S4096x1024.size a := by decide +kernel

/-- Chunk `k` of the result: rows `512 k` to `512 k + 511`. -/
abbrev rowM (k : Fin 8) : Memref sig .tc .vmem S512x1024 .bf16 := rowAt ![512 * k.val, 0] (row_inb k)
/-- Its left (`h = 0`) or right (`h = 1`) half of the columns. -/
abbrev halfM (h : Fin 2) (k : Fin 8) : Memref sig .tc .vmem S512x512 .bf16 := halfAt ![512 * k.val, 512 * h.val] (half_inb h k)

/-- The elements of a chunk, of a half of a chunk, of an arrival slot. -/
def rowS (k : Fin 8) : Finset S4096x1024.Idx := (Rect.unit (s := S4096x1024) ![512 * k.val, 0] S512x1024.size (row_inb k)).set
def halfS (h : Fin 2) (k : Fin 8) : Finset S4096x1024.Idx := (Rect.unit (s := S4096x1024) ![512 * k.val, 512 * h.val] S512x512.size (half_inb h k)).set
def slotS (t : Fin 7) : Finset S7x512x1024.Idx := (Rect.unit (s := S7x512x1024) ![t.val, 0, 0] S1x512x1024.size (slot_inb t)).set

theorem rowM_set (k : Fin 8) : (rowM k).view.set = rowS k := View.set_slice_whole cc1_stg4_0 _
theorem halfM_set (h : Fin 2) (k : Fin 8) : (halfM h k).view.set = halfS h k := View.set_slice_whole cc1_stg4_0 _
theorem slotM_set (t : Fin 7) : (slotM t).view.set = slotS t :=
  (View.set_reshape _ _).trans (View.set_slice_whole cc1_scratch1 _)

theorem mem_rowS {k : Fin 8} {i : S4096x1024.Idx} : i ∈ rowS k ↔ 512 * k.val ≤ (i 0).val ∧ (i 0).val < 512 * k.val + 512 := by
  unfold rowS
  rw [Rect.mem_set_unit, Fin.forall_fin_two]
  have h1 : (i 1).val < 1024 := (i 1).isLt
  constructor
  · intro h; exact h.1
  · intro h; exact ⟨h, Nat.zero_le _, by simpa using h1⟩

theorem mem_halfS {h : Fin 2} {k : Fin 8} {i : S4096x1024.Idx} :
    i ∈ halfS h k ↔ (512 * k.val ≤ (i 0).val ∧ (i 0).val < 512 * k.val + 512) ∧ (512 * h.val ≤ (i 1).val ∧ (i 1).val < 512 * h.val + 512) := by
  unfold halfS
  rw [Rect.mem_set_unit, Fin.forall_fin_two]
  exact Iff.rfl

theorem mem_slotS {t : Fin 7} {i : S7x512x1024.Idx} : i ∈ slotS t ↔ (i 0).val = t.val := by
  unfold slotS
  rw [Rect.mem_set_unit, Fin.forall_fin_succ, Fin.forall_fin_two]
  have h1 : (i 1).val < 512 := (i 1).isLt
  have h2 : (i 2).val < 1024 := (i 2).isLt
  constructor
  · rintro ⟨⟨ha, hb⟩, -⟩
    have ha' : t.val ≤ (i 0).val := ha
    have hb' : (i 0).val < t.val + 1 := hb
    omega
  · intro h
    refine ⟨⟨?_, ?_⟩, ⟨Nat.zero_le _, ?_⟩, ⟨Nat.zero_le _, ?_⟩⟩
    · show t.val ≤ (i 0).val; omega
    · show (i 0).val < t.val + 1; omega
    · show (i 1).val < 0 + 512; omega
    · show (i 2).val < 0 + 1024; omega

theorem row_eq_halves (k : Fin 8) : rowS k = halfS 0 k ∪ halfS 1 k := by
  ext i
  rw [Finset.mem_union, mem_rowS, mem_halfS, mem_halfS]
  have h1 : (i 1).val < 1024 := (i 1).isLt
  simp only [Fin.val_zero, Fin.val_one]
  omega

theorem halves_disjoint (k : Fin 8) : Disjoint (halfS 0 k) (halfS 1 k) := by
  rw [Finset.disjoint_left]
  intro i h h'
  rw [mem_halfS] at h h'
  simp only [Fin.val_zero, Fin.val_one] at h h'
  omega

theorem rows_disjoint {k k' : Fin 8} (hk : k ≠ k') : Disjoint (rowS k) (rowS k') := by
  rw [Finset.disjoint_left]
  intro i h h'
  rw [mem_rowS] at h h'
  exact hk (Fin.ext (by omega))

theorem rows_cover : (Finset.univ : Finset (Fin 8)).biUnion rowS = Finset.univ := by
  ext i
  have h0 : (i 0).val < 4096 := (i 0).isLt
  simp only [Finset.mem_biUnion, Finset.mem_univ, true_and, iff_true]
  exact ⟨⟨(i 0).val / 512, by omega⟩, mem_rowS.mpr (by show 512 * ((i 0).val / 512) ≤ (i 0).val ∧ (i 0).val < 512 * ((i 0).val / 512) + 512; omega)⟩

theorem slots_disjoint {t t' : Fin 7} (h : t ≠ t') : Disjoint (slotS t) (slotS t') := by
  rw [Finset.disjoint_left]
  intro i hi hi'
  rw [mem_slotS] at hi hi'
  exact h (Fin.ext (by omega))

theorem slots_cover : (Finset.univ : Finset (Fin 7)).biUnion slotS = Finset.univ := by
  ext i
  simp only [Finset.mem_biUnion, Finset.mem_univ, true_and, iff_true]
  exact ⟨i 0, mem_slotS.mpr rfl⟩

/-! ## Contents of the places, as contents of the whole buffers -/

/-- Contents of the whole result whose every chunk is `X`. -/
def spread (X : Vec F S512x1024 .bf16) : Vec F S4096x1024 .bf16 :=
  fun i => X (ix2 ⟨(i 0).val % 512, Nat.mod_lt _ (by decide)⟩ ⟨(i 1).val, (i 1).isLt⟩)

/-- Contents of the whole result whose chunk `k` is `V k`. -/
def gather (V : Fin 8 → Vec F S512x1024 .bf16) : Vec F S4096x1024 .bf16 :=
  fun i => V ⟨(i 0).val / 512, Nat.div_lt_of_lt_mul (show (i 0).val < 512 * 8 from (i 0).isLt)⟩
    (ix2 ⟨(i 0).val % 512, Nat.mod_lt _ (by decide)⟩ ⟨(i 1).val, (i 1).isLt⟩)

theorem gather_eq_spread (V : Fin 8 → Vec F S512x1024 .bf16) (k : Fin 8) {i : S4096x1024.Idx} (hi : i ∈ rowS k) :
    gather V i = spread (V k) i := by
  rw [mem_rowS] at hi
  unfold gather spread
  have hk : (⟨(i 0).val / 512, Nat.div_lt_of_lt_mul (show (i 0).val < 512 * 8 from (i 0).isLt)⟩ : Fin 8) = k :=
    Fin.ext (by show (i 0).val / 512 = k.val; omega)
  rw [hk]

/-- A chunk of the result, read and written. -/
theorem read_row (k : Fin 8) (X : Vec F S512x1024 .bf16) : (rowM k).view.read (Elt F) (spread X) = X := by
  funext x
  show X _ = X x
  congr 1
  have h0 : (x 0).val < 512 := (x 0).isLt
  refine funext fun a => ?_
  fin_cases a
  · refine Fin.ext ?_
    show (512 * k.val + 1 * (x 0).val) % 512 = (x 0).val
    omega
  · refine Fin.ext ?_
    show 0 + 1 * (x 1).val = (x 1).val
    omega

theorem write_row (k : Fin 8) (f : Vec F S4096x1024 .bf16) (X : Vec F S512x1024 .bf16) {i : S4096x1024.Idx} (hi : i ∈ rowS k) :
    (rowM k).view.write (Elt F) f X Finset.univ i = spread X i := by
  rw [← rowM_set] at hi
  obtain ⟨x, -, rfl⟩ := Finset.mem_map.mp hi
  rw [View.write_emb_of_mem _ _ (Finset.mem_univ x)]
  exact (congrFun (read_row k X) x).symm

/-- A half of a chunk copied onto the same half of another copy of the result carries the contents with it. -/
theorem copy_half (h : Fin 2) (k : Fin 8) (fd fs : Vec F S4096x1024 .bf16) {i : S4096x1024.Idx} (hi : i ∈ halfS h k) :
    (halfM h k).view.write (Elt F) fd ((halfM h k).view.read (Elt F) fs) Finset.univ i = fs i := by
  rw [← halfM_set] at hi
  obtain ⟨x, -, rfl⟩ := Finset.mem_map.mp hi
  rw [View.write_emb_of_mem _ _ (Finset.mem_univ x)]
  rfl

/-- The sum of a chunk and what arrived in a slot. -/
def addP (a X : Vec F S512x1024 .bf16) : Vec F S512x1024 .bf16 :=
  addf (shapeCast S512x1024 a shapeCasts_S512x1024_S512x1024 : FVec F S512x1024 .bf16) (X : FVec F S512x1024 .bf16)

/-- A slot read as 1 × 512 × 1024 and added is the slot read as 512 × 1024 and added. -/
theorem pay5_slot (t : Fin 7) (a : Vec F S512x1024 .bf16) (f : Vec F S7x512x1024 .bf16) :
    k1_pay5 a (cM.view.readAt (Elt F) (Rect.unit (s := S7x512x1024) ![t.val, 0, 0] S1x512x1024.size (slot_inb t)).toLoadRect f)
      = addP a ((slotM t).view.read (Elt F) f) := rfl

/-! ## One chunk of attention, head by head -/

/-- The queries of chunk `k` at head `h`; the keys (or values) at head `h`. -/
def cutQ (x : Vec F S4096x1024 .bf16) (k h : Fin 8) : Vec F S512x128 .bf16 :=
  fun i => x (ix2 ⟨512 * k.val + (i 0).val, by have h0 : (i 0).val < 512 := (i 0).isLt; have := k.isLt; omega⟩
    ⟨128 * h.val + (i 1).val, by have h1 : (i 1).val < 128 := (i 1).isLt; have := h.isLt; omega⟩)
def cutK (x : Vec F S4096x1024 .bf16) (h : Fin 8) : Vec F S4096x128 .bf16 :=
  fun i => x (ix2 ⟨(i 0).val, (i 0).isLt⟩ ⟨128 * h.val + (i 1).val, by have h1 : (i 1).val < 128 := (i 1).isLt; have := h.isLt; omega⟩)

/-- Attention of chunk `k`: column `j` is column `j mod 128` of head `j / 128`. -/
def attn (q kk v : Vec F S4096x1024 .bf16) (k : Fin 8) : Vec F S512x1024 .bf16 :=
  fun x => k1_pay1 (cutQ q k ⟨(x 1).val / 128, Nat.div_lt_of_lt_mul (show (x 1).val < 128 * 8 from (x 1).isLt)⟩)
    (cutK kk ⟨(x 1).val / 128, Nat.div_lt_of_lt_mul (show (x 1).val < 128 * 8 from (x 1).isLt)⟩)
    (cutK v ⟨(x 1).val / 128, Nat.div_lt_of_lt_mul (show (x 1).val < 128 * 8 from (x 1).isLt)⟩)
    (ix2 ⟨(x 0).val, (x 0).isLt⟩ ⟨(x 1).val % 128, Nat.mod_lt _ (by decide)⟩)

theorem read_cutQ {o : Fin 2 → ℕ} (ho : ∀ a, o a + S512x128.size a ≤ S4096x1024.size a) {k h : Fin 8} (e : o = ![512 * k.val, 128 * h.val])
    (f : Vec F S4096x1024 .bf16) : qM.view.readAt (Elt F) (Rect.unit (s := S4096x1024) o S512x128.size ho).toLoadRect f = cutQ f k h := by
  subst e
  funext x
  show f _ = f _
  congr 1
  refine funext fun a => ?_
  fin_cases a
  · exact Fin.ext (by show 512 * k.val + 1 * (x 0).val = _; rw [Nat.one_mul])
  · exact Fin.ext (by show 128 * h.val + 1 * (x 1).val = _; rw [Nat.one_mul])

theorem read_cutK {o : Fin 2 → ℕ} (ho : ∀ a, o a + S4096x128.size a ≤ S4096x1024.size a) {h : Fin 8} (e : o = ![0, 128 * h.val])
    (f : Vec F S4096x1024 .bf16) : kM.view.readAt (Elt F) (Rect.unit (s := S4096x1024) o S4096x128.size ho).toLoadRect f = cutK f h := by
  subst e
  funext x
  show f _ = f _
  congr 1
  refine funext fun a => ?_
  fin_cases a
  · exact Fin.ext (by show 0 + 1 * (x 0).val = _; rw [Nat.one_mul, Nat.zero_add])
  · exact Fin.ext (by show 128 * h.val + 1 * (x 1).val = _; rw [Nat.one_mul])

theorem read_cutV {o : Fin 2 → ℕ} (ho : ∀ a, o a + S4096x128.size a ≤ S4096x1024.size a) {h : Fin 8} (e : o = ![0, 128 * h.val])
    (f : Vec F S4096x1024 .bf16) : vM.view.readAt (Elt F) (Rect.unit (s := S4096x1024) o S4096x128.size ho).toLoadRect f = cutK f h :=
  read_cutK ho e f

/-- Storing head `h` extends the heads done so far by one. -/
theorem write_head {o : Fin 2 → ℕ} (ho : ∀ a, o a + S512x128.size a ≤ S512x1024.size a) {h : Fin 8} (e : o = ![0, 128 * h.val])
    (q kk v : Vec F S4096x1024 .bf16) (k : Fin 8) (f : Vec F S512x1024 .bf16)
    (hf : ∀ x : S512x1024.Idx, (x 1).val < 128 * h.val → f x = attn q kk v k x) (x : S512x1024.Idx) (hx : (x 1).val < 128 * (h.val + 1)) :
    (aM.access (Rect.unit (s := S512x1024) o S512x128.size ho)).write (Elt F) f (k1_pay1 (cutQ q k h) (cutK kk h) (cutK v h)) Finset.univ x
      = attn q kk v k x := by
  subst e
  by_cases hlt : (x 1).val < 128 * h.val
  · rw [View.write_of_not_mem, hf x hlt]
    intro hm
    obtain ⟨y, -, hy⟩ := Finset.mem_map.mp hm
    have h1 : ((aM.access (Rect.unit (s := S512x1024) ![0, 128 * h.val] S512x128.size ho)).emb y 1 : ℕ) = 128 * h.val + 1 * (y 1).val := rfl
    rw [hy] at h1
    omega
  · have hx0 : (x 0).val < 512 := (x 0).isLt
    have hxe : x = (aM.access (Rect.unit (s := S512x1024) ![0, 128 * h.val] S512x128.size ho)).emb
        (ix2 (n0 := 512) (n1 := 128) ⟨(x 0).val, hx0⟩ ⟨(x 1).val - 128 * h.val, by omega⟩) := by
      refine funext fun a => ?_
      fin_cases a
      · exact Fin.ext (by show (x 0).val = 0 + 1 * (x 0).val; omega)
      · exact Fin.ext (by show (x 1).val = 128 * h.val + 1 * ((x 1).val - 128 * h.val); omega)
    have hh : (⟨(x 1).val / 128, Nat.div_lt_of_lt_mul (show (x 1).val < 128 * 8 from (x 1).isLt)⟩ : Fin 8) = h :=
      Fin.ext (by show (x 1).val / 128 = h.val; omega)
    have hmod : (⟨(x 1).val % 128, Nat.mod_lt _ (by decide)⟩ : Fin 128) = ⟨(x 1).val - 128 * h.val, by omega⟩ :=
      Fin.ext (by show (x 1).val % 128 = (x 1).val - 128 * h.val; omega)
    conv_lhs => rw [hxe]
    rw [View.write_emb_of_mem _ _ (Finset.mem_univ _)]
    unfold attn
    rw [hh, hmod]
    rfl

theorem attn_done (q kk v : Vec F S4096x1024 .bf16) (k : Fin 8) (f : Vec F S512x1024 .bf16)
    (hf : ∀ x : S512x1024.Idx, (x 1).val < 128 * 8 → f x = attn q kk v k x) : f = attn q kk v k :=
  funext fun x => hf x (x 1).isLt

end Cert.RingProof

end
-- ==== Proof.SumProgram.lean ====
/-
  The body of the all-reduce call as a program of NAMED PIECES: the greeting on the barrier, the copy of the operand into
  the result, one step of the two opposite ring reduce-scatters, one step of the two opposite ring all-gathers. The left
  half of the columns goes round to the right (direction 0), the right half to the left (direction 1); each piece is
  written once for both directions.
-/
module

public import proofs.«01_k».proof.Proof.Gen.KernelIdeal.Skeleton
public import Idealize.ShloMosaic.Lib.Tactic
public import Idealize.ShloMosaic.Lib.Pipeline.Regions

@[expose] public section

noncomputable section

namespace Cert.SumProof

open Idealize.ShloMosaic Idealize.SL.Sem Cert.KernelIdeal Cert.KernelIdeal.Gen

variable {F : FTy → Type} [FloatOps F]

/-! ## The buffers -/

/-- The staged operand and the staged result. -/
abbrev iM : Memref sig .tc .vmem S4096x1024 .bf16 := Memref.whole cc4_stg0_0
abbrev oM : Memref sig .tc .vmem S4096x1024 .bf16 := Memref.whole cc4_stg1_0
/-- The seven slots in which the partial sums arrive, for each direction. -/
def cM : Fin 2 → Memref sig .tc .vmem S7x512x512 .bf16 := ![Memref.whole cc4_scratch0, Memref.whole cc4_scratch1]
theorem cM_whole : ∀ δ : Fin 2, (cM δ).IsWhole
  | 0 => Memref.isWhole_whole cc4_scratch0
  | 1 => Memref.isWhole_whole cc4_scratch1

theorem slot_inb : ∀ t : Fin 7, ∀ a, (![t.val, 0, 0] : Fin 3 → ℕ) a + S1x512x512.size a ≤ S7x512x512.size a := by decide +kernel
theorem slot_words : ∀ t : Fin 7, (Rect.unit (s := S7x512x512) ![t.val, 0, 0] S1x512x512.size (slot_inb t)).WholeWords (EltTy.packing .bf16) := by
  decide +kernel
theorem sem_inb : ∀ t : Fin 7, ∀ a, (![t.val] : Fin 1 → ℕ) a + S1.size a ≤ S7.size a := by decide +kernel

/-- The offsets of a 512 × 512 tile of the result that lies inside it. -/
abbrev Inb (o : Fin 2 → ℕ) : Prop := ∀ a, o a + S512x512.size a ≤ S4096x1024.size a
abbrev tile (o : Fin 2 → ℕ) (h : Inb o) : Rect S4096x1024 := Rect.unit (s := S4096x1024) o S512x512.size h
abbrev Words (o : Fin 2 → ℕ) (h : Inb o) : Prop := (tile o h).WholeWords (EltTy.packing .bf16)
abbrev Packed (o : Fin 2 → ℕ) (h : Inb o) : Prop := (tile o h).PackedRows (EltTy.packing .bf16)

/-- A tile of the result. -/
abbrev halfAt (o : Fin 2 → ℕ) (h : Inb o) : Memref sig .tc .vmem S512x512 .bf16 := oM.slice (tile o h) (fun _ => rfl)

/-- Arrival slot `t` of direction `δ`. -/
abbrev slotM (δ : Fin 2) (t : Fin 7) : Memref sig .tc .vmem S512x512 .bf16 :=
  ((cM δ).slice (Rect.unit (s := S7x512x512) ![t.val, 0, 0] S1x512x512.size (slot_inb t)) (fun _ => rfl)).squeeze S512x512 squeezes_S1x512x512_S512x512

/-- The arrays of seven semaphores of each direction: reduce-scatter send and receive, all-gather send and receive. -/
def semArr : Fin 2 → Fin 4 → DmaSems sig S7 :=
  ![![cc4_scratch2, cc4_scratch3, cc4_scratch4, cc4_scratch5], ![cc4_scratch6, cc4_scratch7, cc4_scratch8, cc4_scratch9]]

/-- Semaphore `t` of array `j` of direction `δ`. -/
abbrev dsem (δ : Fin 2) (j : Fin 4) (t : Fin 7) : DmaSem sig :=
  (((semArr δ j).slice (Rect.unit (s := S7) ![t.val] S1.size (sem_inb t))).squeeze S_ squeezes_S1_S_).sem

/-- The barrier semaphore. -/
abbrev bsem : Sem sig := (SemArray.scalar (sig.barrier 1 rfl) : Sems sig S_).sem

/-! ## The pieces -/

abbrev P (α : Type) := Prog (TpuEff nD τ sig (Elt F) Λ₀ .tc) α

/-- Tell both neighbours that this device is in the kernel, and wait to be told by both. -/
def hello (n₁ n₂ : Dev nD) : P (F := F) PUnit := do
  semSignalWord n₁ bsem 1#32
  semSignalWord n₂ bsem 1#32
  semWaitWord bsem 2#32

/-- The operand, copied into the result. -/
def copyIn : P (F := F) PUnit := do
  let x : Vec F S4096x1024 .bf16 ← Prog.lift (.load iM (Rect.unit (s := S4096x1024) ![0, 0] S4096x1024.size inb_S4096x1024_S4096x1024_0_0).toLoadRect (View.loadsAt_vmem h_S4096x1024))
  let _x : Vec F S4096x1024 .bf16 ← Prog.lift (.load oM (Rect.unit (s := S4096x1024) ![0, 0] S4096x1024.size inb_S4096x1024_S4096x1024_0_0).toLoadRect (View.loadsAt_vmem h_S4096x1024))
  Prog.lift (.store oM (Rect.unit (s := S4096x1024) ![0, 0] S4096x1024.size inb_S4096x1024_S4096x1024_0_0) (k4_pay1 x) Finset.univ
    (View.stores_vmem h_S4096x1024 ((Memref.isWhole_whole cc4_stg1_0).storeExact_slice rfl _ packedbf16_S4096x1024_S4096x1024_0_0) (fun _ => rfl)) (.inl rfl))

/-- A tile of the result, read; what arrived in a slot, read; a tile of the result, written. -/
def loadHalf (o : Fin 2 → ℕ) (h : Inb o) : P (F := F) (Vec F S512x512 .bf16) :=
  Prog.lift (.load oM (tile o h).toLoadRect (View.loadsAt_vmem h_S512x512))
def loadSlot (δ : Fin 2) (t : Fin 7) : P (F := F) (Vec F S1x512x512 .bf16) :=
  Prog.lift (.load (cM δ) (Rect.unit (s := S7x512x512) ![t.val, 0, 0] S1x512x512.size (slot_inb t)).toLoadRect (View.loadsAt_vmem h_S1x512x512))
def storeHalf (o : Fin 2 → ℕ) (h : Inb o) (hp : Packed o h) (x : Vec F S512x512 .bf16) : P (F := F) PUnit :=
  Prog.lift (.store oM (tile o h) x Finset.univ
    (View.stores_vmem h_S512x512 ((Memref.isWhole_whole cc4_stg1_0).storeExact_slice rfl _ hp) (fun _ => rfl)) (.inl rfl))

/-- What arrived in slot `t`, added onto a tile of the result. -/
def addHalf (δ : Fin 2) (o : Fin 2 → ℕ) (h : Inb o) (hp : Packed o h) (t : Fin 7) : P (F := F) PUnit := do
  let a ← loadHalf o h
  let b ← loadSlot δ t
  let _ ← loadHalf o h
  storeHalf o h hp (k4_pay2 a b)

theorem slot_exact (δ : Fin 2) (t : Fin 7) : (slotM δ t).view.WordExact :=
  ((cM_whole δ).wordExact_slice rfl _ (slot_words t)).reshape _ _
theorem half_exact (o : Fin 2 → ℕ) (h : Inb o) (hw : Words o h) : (halfAt o h).view.WordExact :=
  (Memref.isWhole_whole cc4_stg1_0).wordExact_slice rfl _ hw

/-- Send a tile of the result into slot `t` of device `n`; wait until it has left; wait until the neighbour's is in. -/
def sendSlot (δ : Fin 2) (n : Dev nD) (o : Fin 2 → ℕ) (h : Inb o) (hw : Words o h) (t : Fin 7) : P (F := F) PUnit :=
  Prog.lift (.enqueueDma (halfAt o h) (.remote (Dev.tc n) (slotM δ t) (.dma (dsem δ 0 t))) (.dma (dsem δ 1 t))
    (half_exact o h hw) (slot_exact δ t) ⟨⟨rfl, Or.inl rfl⟩, trivial⟩)
def waitSlotOut (δ : Fin 2) (o : Fin 2 → ℕ) (h : Inb o) (hw : Words o h) (t : Fin 7) : P (F := F) PUnit :=
  Prog.lift (.waitDma2 (dsem δ 0 t) (slotM δ t) (halfAt o h) (slot_exact δ t) (half_exact o h hw))
def waitSlotIn (δ : Fin 2) (o : Fin 2 → ℕ) (h : Inb o) (hw : Words o h) (t : Fin 7) : P (F := F) PUnit :=
  Prog.lift (.waitDma2 (dsem δ 1 t) (halfAt o h) (slotM δ t) (half_exact o h hw) (slot_exact δ t))

/-- Send a tile of the result to the same place of device `n`; wait for a tile on a semaphore of array `j`. -/
def sendHalf (δ : Fin 2) (n : Dev nD) (o : Fin 2 → ℕ) (h : Inb o) (hw : Words o h) (s : Fin 7) : P (F := F) PUnit :=
  Prog.lift (.enqueueDma (halfAt o h) (.remote (Dev.tc n) (halfAt o h) (.dma (dsem δ 2 s))) (.dma (dsem δ 3 s))
    (half_exact o h hw) (half_exact o h hw) ⟨⟨rfl, Or.inl rfl⟩, trivial⟩)
def waitHalf (δ : Fin 2) (j : Fin 4) (o : Fin 2 → ℕ) (h : Inb o) (hw : Words o h) (s : Fin 7) : P (F := F) PUnit :=
  Prog.lift (.waitDma2 (dsem δ j s) (halfAt o h) (halfAt o h) (half_exact o h hw) (half_exact o h hw))

/-- The second half of a step in one direction: both waits, and in the reduce-scatter the addition. -/
def rsEnd (δ : Fin 2) (o : Fin 2 → ℕ) (h : Inb o) (hw : Words o h) (o' : Fin 2 → ℕ) (h' : Inb o') (hp : Packed o' h') (t : Fin 7) : P (F := F) PUnit := do
  waitSlotOut δ o h hw t
  waitSlotIn δ o h hw t
  addHalf δ o' h' hp t
def agEnd (δ : Fin 2) (o : Fin 2 → ℕ) (h : Inb o) (hw : Words o h) (s : Fin 7) : P (F := F) PUnit := do
  waitHalf δ 2 o h hw s
  waitHalf δ 3 o h hw s

/-- One step of the reduce-scatter, of the all-gather, in both directions. -/
def rsStep (d n₀ n₁ : Dev nD) (t : Fin 7) : P (F := F) PUnit := do
  sendSlot 0 n₀ (k4_off1 d (BitVec.ofNat 32 t.val)) (k4_off1_inb d t) (k4_off1_wordsbf16 d t) t
  sendSlot 1 n₁ (k4_off2 d (BitVec.ofNat 32 t.val)) (k4_off2_inb d t) (k4_off2_wordsbf16 d t) t
  rsEnd 0 (k4_off1 d (BitVec.ofNat 32 t.val)) (k4_off1_inb d t) (k4_off1_wordsbf16 d t) (k4_off3 d (BitVec.ofNat 32 t.val)) (k4_off3_inb d t) (k4_off3_packedbf16 d t) t
  rsEnd 1 (k4_off2 d (BitVec.ofNat 32 t.val)) (k4_off2_inb d t) (k4_off2_wordsbf16 d t) (k4_off4 d (BitVec.ofNat 32 t.val)) (k4_off4_inb d t) (k4_off4_packedbf16 d t) t
def agStep (d n₀ n₁ : Dev nD) (s : Fin 7) : P (F := F) PUnit := do
  sendHalf 0 n₀ (k4_off5 d (BitVec.ofNat 32 s.val)) (k4_off5_inb d s) (k4_off5_wordsbf16 d s) s
  sendHalf 1 n₁ (k4_off6 d (BitVec.ofNat 32 s.val)) (k4_off6_inb d s) (k4_off6_wordsbf16 d s) s
  agEnd 0 (k4_off5 d (BitVec.ofNat 32 s.val)) (k4_off5_inb d s) (k4_off5_wordsbf16 d s) s
  agEnd 1 (k4_off6 d (BitVec.ofNat 32 s.val)) (k4_off6_inb d s) (k4_off6_wordsbf16 d s) s

/-- Seven steps in order. -/
def seven (p : Fin 7 → P (F := F) PUnit) : P (F := F) PUnit := do
  p 0
  p 1
  p 2
  p 3
  p 4
  p 5
  p 6

/-- The devices the steps send to, as the program computes them. -/
def rsTo (d : Dev nD) : Fin 7 → Dev nD × Dev nD :=
  ![(⟨k4_dev3 d, k4_dev3_lt d⟩, ⟨k4_dev4 d, k4_dev4_lt d⟩), (⟨k4_dev5 d, k4_dev5_lt d⟩, ⟨k4_dev6 d, k4_dev6_lt d⟩),
    (⟨k4_dev7 d, k4_dev7_lt d⟩, ⟨k4_dev8 d, k4_dev8_lt d⟩), (⟨k4_dev9 d, k4_dev9_lt d⟩, ⟨k4_dev10 d, k4_dev10_lt d⟩),
    (⟨k4_dev11 d, k4_dev11_lt d⟩, ⟨k4_dev12 d, k4_dev12_lt d⟩), (⟨k4_dev13 d, k4_dev13_lt d⟩, ⟨k4_dev14 d, k4_dev14_lt d⟩),
    (⟨k4_dev15 d, k4_dev15_lt d⟩, ⟨k4_dev16 d, k4_dev16_lt d⟩)]
def agTo (d : Dev nD) : Fin 7 → Dev nD × Dev nD :=
  ![(⟨k4_dev17 d, k4_dev17_lt d⟩, ⟨k4_dev18 d, k4_dev18_lt d⟩), (⟨k4_dev19 d, k4_dev19_lt d⟩, ⟨k4_dev20 d, k4_dev20_lt d⟩),
    (⟨k4_dev21 d, k4_dev21_lt d⟩, ⟨k4_dev22 d, k4_dev22_lt d⟩), (⟨k4_dev23 d, k4_dev23_lt d⟩, ⟨k4_dev24 d, k4_dev24_lt d⟩),
    (⟨k4_dev25 d, k4_dev25_lt d⟩, ⟨k4_dev26 d, k4_dev26_lt d⟩), (⟨k4_dev27 d, k4_dev27_lt d⟩, ⟨k4_dev28 d, k4_dev28_lt d⟩),
    (⟨k4_dev29 d, k4_dev29_lt d⟩, ⟨k4_dev30 d, k4_dev30_lt d⟩)]

/-- The whole body of device `d`. -/
def body (d : Dev nD) : P (F := F) PUnit := do
  hello ⟨k4_dev1 d, k4_dev1_lt d⟩ ⟨k4_dev2 d, k4_dev2_lt d⟩
  copyIn
  seven fun t => rsStep d (rsTo d t).1 (rsTo d t).2 t
  seven fun s => agStep d (agTo d s).1 (agTo d s).2 s

end Cert.SumProof

end
-- ==== Proof.SumViews.lean ====
/-
  The PLACES of the buffers of the all-reduce: the result in sixteen tiles — eight chunks of 512 rows, a left and a right
  half each — and the arrival slots of each direction. For each: which elements it has, and how the places make up the
  buffer.
-/
module

public import proofs.«01_k».proof.Proof.SumProgram
public import Idealize.ShloMosaic.Lib.ValueIdxCore
public import Idealize.ShloMosaic.Lib.ViewIndex

@[expose] public section

noncomputable section

namespace Cert.SumProof

open Idealize.ShloMosaic Idealize.ShloMosaic.ValueIdx Cert.KernelIdeal Cert.KernelIdeal.Gen

variable {F : FTy → Type} [FloatOps F]

/-- A 512 × 512 place of a buffer. -/
abbrev Place : Type := Memref sig .tc .vmem S512x512 .bf16

theorem half_inb : ∀ (δ : Fin 2) (k : Fin 8), Inb ![512 * k.val, 512 * δ.val] := by decide +kernel

/-- Tile `k` of direction `δ`: rows `512 k` to `512 k + 511` of the left (`δ = 0`) or right (`δ = 1`) half of the columns. -/
abbrev halfM (δ : Fin 2) (k : Fin 8) : Place := halfAt ![512 * k.val, 512 * δ.val] (half_inb δ k)

/-- The elements of a half of the columns, of a tile, of an arrival slot. -/
def sideS (δ : Fin 2) : Finset S4096x1024.Idx := Finset.univ.filter fun i => 512 * δ.val ≤ (i 1).val ∧ (i 1).val < 512 * δ.val + 512
def halfS (δ : Fin 2) (k : Fin 8) : Finset S4096x1024.Idx := (tile ![512 * k.val, 512 * δ.val] (half_inb δ k)).set
def slotS (t : Fin 7) : Finset S7x512x512.Idx := (Rect.unit (s := S7x512x512) ![t.val, 0, 0] S1x512x512.size (slot_inb t)).set

theorem halfM_set (δ : Fin 2) (k : Fin 8) : (halfM δ k).view.set = halfS δ k := View.set_slice_whole cc4_stg1_0 _
theorem slotM_set₀ (t : Fin 7) : (slotM 0 t).view.set = slotS t := (View.set_reshape _ _).trans (View.set_slice_whole cc4_scratch0 _)
theorem slotM_set₁ (t : Fin 7) : (slotM 1 t).view.set = slotS t := (View.set_reshape _ _).trans (View.set_slice_whole cc4_scratch1 _)

theorem mem_halfS {δ : Fin 2} {k : Fin 8} {i : S4096x1024.Idx} :
    i ∈ halfS δ k ↔ (512 * k.val ≤ (i 0).val ∧ (i 0).val < 512 * k.val + 512) ∧ (512 * δ.val ≤ (i 1).val ∧ (i 1).val < 512 * δ.val + 512) := by
  unfold halfS
  rw [Rect.mem_set_unit, Fin.forall_fin_two]
  exact Iff.rfl

theorem mem_sideS {δ : Fin 2} {i : S4096x1024.Idx} : i ∈ sideS δ ↔ 512 * δ.val ≤ (i 1).val ∧ (i 1).val < 512 * δ.val + 512 := by
  unfold sideS; rw [Finset.mem_filter]; exact and_iff_right (Finset.mem_univ i)

theorem mem_slotS {t : Fin 7} {i : S7x512x512.Idx} : i ∈ slotS t ↔ (i 0).val = t.val := by
  unfold slotS
  rw [Rect.mem_set_unit, Fin.forall_fin_succ, Fin.forall_fin_two]
  have h1 : (i 1).val < 512 := (i 1).isLt
  have h2 : (i 2).val < 512 := (i 2).isLt
  constructor
  · rintro ⟨⟨ha, hb⟩, -⟩
    have ha' : t.val ≤ (i 0).val := ha
    have hb' : (i 0).val < t.val + 1 := hb
    omega
  · intro h
    refine ⟨⟨?_, ?_⟩, ⟨Nat.zero_le _, ?_⟩, ⟨Nat.zero_le _, ?_⟩⟩
    · show t.val ≤ (i 0).val; omega
    · show (i 0).val < t.val + 1; omega
    · show (i 1).val < 0 + 512; omega
    · show (i 2).val < 0 + 512; omega

theorem sides_disjoint {δ δ' : Fin 2} (h : δ ≠ δ') : Disjoint (sideS δ) (sideS δ') := by
  rw [Finset.disjoint_left]
  intro i hi hi'
  rw [mem_sideS] at hi hi'
  exact h (Fin.ext (by omega))

theorem sides_cover : (Finset.univ : Finset (Fin 2)).biUnion sideS = Finset.univ := by
  ext i
  have h1 : (i 1).val < 1024 := (i 1).isLt
  simp only [Finset.mem_biUnion, Finset.mem_univ, true_and, iff_true]
  exact ⟨⟨(i 1).val / 512, by omega⟩, mem_sideS.mpr (by show 512 * ((i 1).val / 512) ≤ (i 1).val ∧ (i 1).val < 512 * ((i 1).val / 512) + 512; omega)⟩

theorem halves_disjoint (δ : Fin 2) {k k' : Fin 8} (h : k ≠ k') : Disjoint (halfS δ k) (halfS δ k') := by
  rw [Finset.disjoint_left]
  intro i hi hi'
  rw [mem_halfS] at hi hi'
  exact h (Fin.ext (by omega))

theorem halves_cover (δ : Fin 2) : (Finset.univ : Finset (Fin 8)).biUnion (halfS δ) = sideS δ := by
  ext i
  have h0 : (i 0).val < 4096 := (i 0).isLt
  simp only [Finset.mem_biUnion, Finset.mem_univ, true_and, mem_halfS, mem_sideS]
  constructor
  · rintro ⟨k, -, h⟩; exact h
  · intro h
    exact ⟨⟨(i 0).val / 512, by omega⟩, by show 512 * ((i 0).val / 512) ≤ (i 0).val ∧ (i 0).val < 512 * ((i 0).val / 512) + 512; omega, h⟩

theorem slots_disjoint {t t' : Fin 7} (h : t ≠ t') : Disjoint (slotS t) (slotS t') := by
  rw [Finset.disjoint_left]
  intro i hi hi'
  rw [mem_slotS] at hi hi'
  exact h (Fin.ext (by omega))

theorem slots_cover : (Finset.univ : Finset (Fin 7)).biUnion slotS = Finset.univ := by
  ext i
  simp only [Finset.mem_biUnion, Finset.mem_univ, true_and, iff_true]
  exact ⟨i 0, mem_slotS.mpr rfl⟩

/-! ## Contents -/

/-- Contents of the whole result whose tile `k` of direction `δ` is `V δ k`. -/
def gather (V : Fin 2 → Fin 8 → Vec F S512x512 .bf16) : Vec F S4096x1024 .bf16 :=
  fun i => V ⟨(i 1).val / 512, Nat.div_lt_of_lt_mul (show (i 1).val < 512 * 2 from (i 1).isLt)⟩
    ⟨(i 0).val / 512, Nat.div_lt_of_lt_mul (show (i 0).val < 512 * 8 from (i 0).isLt)⟩
    (ix2 ⟨(i 0).val % 512, Nat.mod_lt _ (by decide)⟩ ⟨(i 1).val % 512, Nat.mod_lt _ (by decide)⟩)

theorem read_gather (V : Fin 2 → Fin 8 → Vec F S512x512 .bf16) (δ : Fin 2) (k : Fin 8) : (halfM δ k).view.read (Elt F) (gather V) = V δ k := by
  funext x
  have h0 : (x 0).val < 512 := (x 0).isLt
  have h1 : (x 1).val < 512 := (x 1).isLt
  have e0 : ((halfM δ k).view.emb x 0).val = 512 * k.val + 1 * (x 0).val := rfl
  have e1 : ((halfM δ k).view.emb x 1).val = 512 * δ.val + 1 * (x 1).val := rfl
  show gather V ((halfM δ k).view.emb x) = V δ k x
  unfold gather
  congr 1
  · exact Fin.ext (by show ((halfM δ k).view.emb x 1).val / 512 = δ.val; omega)
  · exact Fin.ext (by show ((halfM δ k).view.emb x 0).val / 512 = k.val; omega)
  · refine funext fun a => ?_
    fin_cases a
    · exact Fin.ext (by show ((halfM δ k).view.emb x 0).val % 512 = (x 0).val; omega)
    · exact Fin.ext (by show ((halfM δ k).view.emb x 1).val % 512 = (x 1).val; omega)

/-- Two contents of the result that read the same at a tile are the same there. -/
theorem read_ext (δ : Fin 2) (k : Fin 8) (f g : Vec F S4096x1024 .bf16) (h : (halfM δ k).view.read (Elt F) f = (halfM δ k).view.read (Elt F) g)
    {i : S4096x1024.Idx} (hi : i ∈ halfS δ k) : f i = g i := by
  rw [← halfM_set] at hi
  obtain ⟨x, -, rfl⟩ := Finset.mem_map.mp hi
  exact congrFun h x

/-- The sum of a tile and what arrived in a slot. -/
def addP (a X : Vec F S512x512 .bf16) : Vec F S512x512 .bf16 :=
  addf (shapeCast S512x512 a shapeCasts_S512x512_S512x512 : FVec F S512x512 .bf16) (X : FVec F S512x512 .bf16)

/-- A slot read as 1 × 512 × 512 and added is the slot read as 512 × 512 and added. -/
theorem pay_slot (δ : Fin 2) (t : Fin 7) (a : Vec F S512x512 .bf16) (f : (slotM δ t).view.ty.Contents (Elt F)) :
    k4_pay2 a ((cM δ).view.readAt (Elt F) (Rect.unit (s := S7x512x512) ![t.val, 0, 0] S1x512x512.size (slot_inb t)).toLoadRect f)
      = addP a ((slotM δ t).view.read (Elt F) f) := rfl

end Cert.SumProof

end
-- ==== Proof.Cells.lean ====
/-
  The CELLS of both rings of the kernel and their LEVELS. The attention ring comes first and the all-reduce after it, so
  that every level of the all-reduce lies above all levels of the attention ring: a device may wait in the first ring
  while it owes what it will send in the second.
-/
module

public import proofs.«01_k».proof.Proof.Views
public import proofs.«01_k».proof.Proof.SumViews
public import Idealize.ShloMosaic.Lib.Pipeline.Launch
public import Idealize.ShloMosaic.Lib.Pipeline.Kit

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.Sem
open Idealize.ShloMosaic.Rounds

/-! ## The attention ring -/

/-- A device's cells: the barrier, and the six arrays of seven. -/
abbrev CI : Type := Option (Fin 6 × Fin 7)

def csem : CI → SemLoc sig
  | none => .reg bsem
  | some (κ, t) => .dma (dsem κ t)

/-- Which of these a semaphore is. -/
def dec : SemLoc sig → Option CI
  | .reg s => if s = bsem then some none else none
  | .dma q => if h : 18 ≤ q.val ∧ q.val < 60 then some (some (⟨(q.val - 18) / 7, by omega⟩, ⟨(q.val - 18) % 7, by omega⟩)) else none

theorem dsem_val : ∀ (κ : Fin 6) (t : Fin 7), (dsem κ t).val = 18 + 7 * κ.val + t.val := by decide +kernel

theorem dec_csem (i : CI) : dec (csem i) = some i := by
  rcases i with _ | ⟨κ, t⟩
  · show (if bsem = bsem then some none else none) = some none
    exact if_pos rfl
  · have hv := dsem_val κ t
    have hκ := κ.isLt
    have ht := t.isLt
    show (if h : 18 ≤ (dsem κ t).val ∧ (dsem κ t).val < 60 then some (some (⟨((dsem κ t).val - 18) / 7, by omega⟩, ⟨((dsem κ t).val - 18) % 7, by omega⟩)) else none) = some (some (κ, t))
    rw [dif_pos (by omega)]
    refine congrArg (fun p => some (some p)) (Prod.ext (Fin.ext ?_) (Fin.ext ?_))
    · show ((dsem κ t).val - 18) / 7 = κ.val; omega
    · show ((dsem κ t).val - 18) % 7 = t.val; omega

theorem csem_injective : Function.Injective csem := fun i j h => by
  have := congrArg dec h
  rw [dec_csem, dec_csem] at this
  exact Option.some.inj this

abbrev cell (c : Dev nD) (i : CI) : GSem nD τ sig := ((c : Thread nD τ), csem i)
abbrev bar (c : Dev nD) : GSem nD τ sig := cell c none
abbrev dcell (c : Dev nD) (κ : Fin 6) (t : Fin 7) : GSem nD τ sig := cell c (some (κ, t))

theorem cell_inj {c c' : Dev nD} {i j : CI} (h : cell c i = cell c' j) : c = c' ∧ i = j :=
  ⟨by have := congrArg (fun g : GSem nD τ sig => g.1.1) h; exact this, csem_injective (congrArg Prod.snd h)⟩

def lvOf : Option CI → ℕ
  | none => 0
  | some none => 1
  | some (some (κ, t)) => if κ = 1 then 2 + t.val else if κ = 3 ∨ κ = 5 then 9 + t.val else 0

end Cert.RingProof

namespace Cert.SumProof

open Cert.KernelIdeal Cert.KernelIdeal.Gen
open Idealize.ShloMosaic
open Idealize.ShloMosaic.TcCoe
open Idealize.SL Idealize.SL.RA Idealize.SL.BI
open scoped Idealize.SL.BI
open Idealize.SL.Sem
open Idealize.ShloMosaic.Rounds

/-! ## The all-reduce -/

/-- A device's cells: the barrier, and for each direction the four arrays of seven. -/
abbrev CI : Type := Option (Fin 2 × Fin 4 × Fin 7)

def csem : CI → SemLoc sig
  | none => .reg bsem
  | some (δ, j, t) => .dma (dsem δ j t)

/-- Which of these a semaphore is. -/
def dec : SemLoc sig → Option CI
  | .reg s => if s = bsem then some none else none
  | .dma q => if h : 77 ≤ q.val ∧ q.val < 133 then
      some (some (⟨(q.val - 77) / 28, by omega⟩, ⟨(q.val - 77) % 28 / 7, by omega⟩, ⟨(q.val - 77) % 7, by omega⟩)) else none

theorem dsem_val : ∀ (δ : Fin 2) (j : Fin 4) (t : Fin 7), (dsem δ j t).val = 77 + 28 * δ.val + 7 * j.val + t.val := by decide +kernel

theorem dec_csem (i : CI) : dec (csem i) = some i := by
  rcases i with _ | ⟨δ, j, t⟩
  · show (if bsem = bsem then some none else none) = some none
    exact if_pos rfl
  · have hv := dsem_val δ j t
    have hδ := δ.isLt
    have hj := j.isLt
    have ht := t.isLt
    show (if h : 77 ≤ (dsem δ j t).val ∧ (dsem δ j t).val < 133 then some (some (⟨((dsem δ j t).val - 77) / 28, by omega⟩,
      ⟨((dsem δ j t).val - 77) % 28 / 7, by omega⟩, ⟨((dsem δ j t).val - 77) % 7, by omega⟩)) else none) = some (some (δ, j, t))
    rw [dif_pos (by omega)]
    refine congrArg (fun p => some (some p)) (Prod.ext (Fin.ext ?_) (Prod.ext (Fin.ext ?_) (Fin.ext ?_)))
    · show ((dsem δ j t).val - 77) / 28 = δ.val; omega
    · show ((dsem δ j t).val - 77) % 28 / 7 = j.val; omega
    · show ((dsem δ j t).val - 77) % 7 = t.val; omega

theorem csem_injective : Function.Injective csem := fun i j h => by
  have := congrArg dec h
  rw [dec_csem, dec_csem] at this
  exact Option.some.inj this

abbrev cell (c : Dev nD) (i : CI) : GSem nD τ sig := ((c : Thread nD τ), csem i)
abbrev bar (c : Dev nD) : GSem nD τ sig := cell c none
abbrev dcell (c : Dev nD) (δ : Fin 2) (j : Fin 4) (t : Fin 7) : GSem nD τ sig := cell c (some (δ, j, t))

theorem cell_inj {c c' : Dev nD} {i j : CI} (h : cell c i = cell c' j) : c = c' ∧ i = j :=
  ⟨by have := congrArg (fun g : GSem nD τ sig => g.1.1) h; exact this, csem_injective (congrArg Prod.snd h)⟩

def lvOf : Option CI → ℕ
  | none => 0
  | some none => 1
  | some (some (_, j, t)) => if j = 1 then 2 + t.val else if j = 3 then 9 + t.val else 0

end Cert.SumProof

namespace Cert.Whole

open Cert.KernelIdeal Cert.KernelIdeal.Gen
open Idealize.ShloMosaic
open Idealize.ShloMosaic.TcCoe
open Idealize.SL Idealize.SL.RA Idealize.SL.BI
open scoped Idealize.SL.BI
open Idealize.SL.Sem
open Idealize.ShloMosaic.Rounds

/-! ## Both -/

/-- What the two rings keep in common ghost state, beside the pipelines' own. -/
abbrev U₁ : Type := URounds (GSem nD τ sig) Bool
abbrev U₂ : Type := URounds (GSem nD τ sig) (Fin 2)
abbrev UU : Type := UR sig nD τ × (U₁ × U₂)

variable {F : FTy → Type}

abbrev EP : Emb (UR sig nD τ) (MT nD τ sig Unit (Elt F) ℕ UU ℕ) := embL
abbrev E₁ : Emb U₁ (MT nD τ sig Unit (Elt F) ℕ UU ℕ) := Emb.inl.trans embR
abbrev E₂ : Emb U₂ (MT nD τ sig Unit (Elt F) ℕ UU ℕ) := Emb.inr.trans embR

def L (g : GSem nD τ sig) : Finset Unit := if g.1.2 = .tc then {()} else ∅

/-- The level of a semaphore: of the attention ring as there, of the all-reduce 15 higher, any other 0. -/
def lvl (sm : SemLoc sig) : ℕ :=
  match RingProof.dec sm with
  | some i => RingProof.lvOf (some i)
  | none => match SumProof.dec sm with
    | some i => 15 + SumProof.lvOf (some i)
    | none => 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem lvl_ring (i : RingProof.CI) : lvl (RingProof.csem i) = RingProof.lvOf (some i) := by unfold lvl; rw [RingProof.dec_csem]

/-- A semaphore of the all-reduce is none of the attention ring. -/
theorem dec_sum (i : SumProof.CI) : RingProof.dec (SumProof.csem i) = none := by
  rcases i with _ | ⟨δ, j, t⟩
  · show (if SumProof.bsem = RingProof.bsem then some none else none) = none
    exact if_neg (by decide)
  · have hv := SumProof.dsem_val δ j t
    exact dif_neg (by omega)
theorem lvl_sum (i : SumProof.CI) : lvl (SumProof.csem i) = 15 + SumProof.lvOf (some i) := by
  unfold lvl; rw [dec_sum, SumProof.dec_csem]

end Cert.Whole

end
-- ==== Proof.SumProto.lean ====
/-
  The PROTOCOL of the all-reduce: who hands what to whom, on which semaphore. In direction `δ` device `c` sends to
  `nx δ c` and is sent to by `pr δ c`; the two directions are opposite, so `nx` of the one is `pr` of the other.
  * Entering, `c` tells both neighbours; with the signal to `pr δ c` it hands over its arrival slots of direction `δ`.
  * Reduce-scatter step `t`: tile `ch δ c t` goes into slot `t` of `nx δ c`. The tile of the OTHER direction that `c` has
    sent before (`pend`) goes along: it is a place `nx δ c` will write into when the sums go round.
  * All-gather step `s`: tile `ch δ c (7 + s)` goes to the same place of `nx δ c`. In the first step the last tile sent
    of the other direction goes along (`bag`).
-/
module

public import proofs.«01_k».proof.Proof.Cells
public import proofs.«01_k».proof.Proof.Gen.KernelIdeal.Launch
public import Idealize.ShloMosaic.Lib.Pipeline.Launch
public import Idealize.ShloMosaic.Lib.Pipeline.Kit

@[expose] public section

noncomputable section

namespace Cert.SumProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev ER : Emb (URounds (GSem nD τ sig) (Fin 2)) (MT nD τ sig Unit (Elt F) ℕ UU ℕ) := E₂

/-! ## The two rings -/

/-- The other direction. -/
def flip (δ : Fin 2) : Fin 2 := 1 - δ
theorem flip_flip (δ : Fin 2) : flip (flip δ) = δ := by fin_cases δ <;> rfl

/-- `n` places against direction `δ` on the ring of eight: back for direction 0, forward for direction 1. -/
def ch (δ : Fin 2) (c : Fin 8) (n : ℕ) : Fin 8 := ⟨(c.val + (7 - 6 * δ.val) * n) % 8, Nat.mod_lt _ (by decide)⟩
theorem ch_val₀ (c : Fin 8) (n : ℕ) : (ch 0 c n).val = (c.val + 7 * n) % 8 := rfl
theorem ch_val₁ (c : Fin 8) (n : ℕ) : (ch 1 c n).val = (c.val + 1 * n) % 8 := rfl

/-- Whom device `c` sends to in direction `δ`, and who sends to it. -/
abbrev nx (δ : Fin 2) (c : Fin 8) : Fin 8 := ch δ c 7
abbrev pr (δ : Fin 2) (c : Fin 8) : Fin 8 := ch δ c 1

theorem ch_ch (δ : Fin 2) (c : Fin 8) (a b : ℕ) : ch δ (ch δ c a) b = ch δ c (a + b) := by
  refine Fin.ext ?_
  fin_cases δ
  · show ((c.val + 7 * a) % 8 + 7 * b) % 8 = (c.val + 7 * (a + b)) % 8; omega
  · show ((c.val + 1 * a) % 8 + 1 * b) % 8 = (c.val + 1 * (a + b)) % 8; omega
theorem ch_add8 (δ : Fin 2) (c : Fin 8) (n : ℕ) : ch δ c (8 + n) = ch δ c n := by
  refine Fin.ext ?_
  fin_cases δ
  · show (c.val + 7 * (8 + n)) % 8 = (c.val + 7 * n) % 8; omega
  · show (c.val + 1 * (8 + n)) % 8 = (c.val + 1 * n) % 8; omega
theorem ch_zero (δ : Fin 2) (c : Fin 8) : ch δ c 0 = c := Fin.ext (by
  have := c.isLt
  show (c.val + (7 - 6 * δ.val) * 0) % 8 = c.val; omega)
theorem pr_nx (δ : Fin 2) (c : Fin 8) : pr δ (nx δ c) = c := (ch_ch δ c 7 1).trans ((ch_add8 δ c 0).trans (ch_zero δ c))
theorem nx_pr (δ : Fin 2) (c : Fin 8) : nx δ (pr δ c) = c := (ch_ch δ c 1 7).trans ((ch_add8 δ c 0).trans (ch_zero δ c))
theorem nx_flip (δ : Fin 2) (c : Fin 8) : nx (flip δ) c = pr δ c := by
  refine Fin.ext ?_
  fin_cases δ
  · show (c.val + 1 * 7) % 8 = (c.val + 7 * 1) % 8; rfl
  · show (c.val + 7 * 7) % 8 = (c.val + 1 * 1) % 8; omega
theorem ch_nx (δ : Fin 2) (c : Fin 8) (s : ℕ) : ch δ (nx δ c) s = ch δ c (7 + s) := ch_ch δ c 7 s
theorem ch_nx_succ (δ : Fin 2) (c : Fin 8) (t : ℕ) : ch δ (nx δ c) (t + 1) = ch δ c t := by
  rw [ch_ch, show 7 + (t + 1) = 8 + t by omega, ch_add8]
theorem ch_pr (δ : Fin 2) (c : Fin 8) (s : ℕ) : ch δ (pr δ c) (7 + s) = ch δ c s := by
  rw [ch_ch, show 1 + (7 + s) = 8 + s by omega, ch_add8]

def ring (δ : Fin 2) : Dev nD ≃ Dev nD := ⟨fun c => nx δ c, fun c => pr δ c, pr_nx δ, nx_pr δ⟩

/-- What every copy credits: all are of 512 × 512 elements. -/
def N : ℕ := (halfM 0 0).view.dmaCredit
theorem N_pos : 0 < N := View.dmaCredit_pos _ (by decide)

/-! ## Contents -/

/-- What the devices bring. -/
abbrev Inp (F : FTy → Type) : Type := Dev nD → Vec F S4096x1024 .bf16

namespace Inp

/-- Tile `k` of what device `c` brings. -/
def H (I : Inp F) (δ : Fin 2) (c : Dev nD) (k : Fin 8) : Vec F S512x512 .bf16 := (halfM δ k).view.read (Elt F) (I c)

/-- The running sum device `c` has for tile `ch δ c t` after `t` additions. -/
def R (I : Inp F) (δ : Fin 2) : ℕ → Dev nD → Vec F S512x512 .bf16
  | 0, c => I.H δ c (ch δ c 0)
  | t + 1, c => addP (I.H δ c (ch δ c (t + 1))) (R I δ t (pr δ c))

/-- Tile `k` of the sum over all devices, made on device `ch δ k 1`. -/
def V (I : Inp F) (δ : Fin 2) (k : Fin 8) : Vec F S512x512 .bf16 := I.R δ 7 (ch δ k 1)

/-- The result. -/
def out (I : Inp F) : Vec F S4096x1024 .bf16 := gather I.V

theorem V_done (I : Inp F) (δ : Fin 2) (c : Dev nD) : I.V δ (ch δ c 7) = I.R δ 7 c := by
  unfold V; rw [show ch δ (ch δ c 7) 1 = c from pr_nx δ c]

end Inp

variable (I : Inp F)

/-! ## What is held -/

/-- Elements of device `c`'s result. -/
def oAt (c : Dev nD) (S : Finset S4096x1024.Idx) (f : Vec F S4096x1024 .bf16) : sProp 𝕄 :=
  (oM.view.loc (c : Thread nD τ)) ↦[S]{fullShare} f

/-- A place on device `c` with contents `f` of its buffer; that reads `X`; with any contents. -/
def atP (c : Dev nD) (m : Place) (f : m.view.ty.Contents (Elt F)) : sProp 𝕄 := (m.view.loc (c : Thread nD τ)) ↦[m.view.set]{fullShare} f
def isP (c : Dev nD) (m : Place) (X : Vec F S512x512 .bf16) : sProp 𝕄 :=
  iprop(∃ f : m.view.ty.Contents (Elt F), ⌜m.view.read (Elt F) f = X⌝ ∗ atP c m f)
def anyP (c : Dev nD) (m : Place) : sProp 𝕄 := iprop(∃ f : m.view.ty.Contents (Elt F), atP c m f)
def halfV (c : Dev nD) (δ : Fin 2) (k : Fin 8) : sProp 𝕄 := isP c (halfM δ k) (I.V δ k)

omit [FloatOps F] in
instance atP_storable (c : Dev nD) (m f) : BI.Storable (upEmb : UEmb _ 𝕄) (atP (F := F) c m f) := by unfold atP; infer_instance
omit [FloatOps F] in
instance isP_storable (c : Dev nD) (m X) : BI.Storable (upEmb : UEmb _ 𝕄) (isP (F := F) c m X) := by unfold isP; infer_instance
omit [FloatOps F] in
instance anyP_storable (c : Dev nD) (m) : BI.Storable (upEmb : UEmb _ 𝕄) (anyP (F := F) c m) := by unfold anyP; infer_instance
instance halfV_storable (c : Dev nD) (δ k) : BI.Storable (upEmb : UEmb _ 𝕄) (halfV I c δ k) := by unfold halfV; infer_instance

omit [FloatOps F] in
theorem isP_any (c : Dev nD) (m : Place) (X : Vec F S512x512 .bf16) : (isP c m X : sProp 𝕄) ⊢ anyP c m := by
  unfold isP anyP
  iintro ⟨%f, -, H⟩; iexists f; iexact H

/-! ## What is handed over -/

/-- The tile of direction `δ` that device `c` has sent in the step before step `t` of the reduce-scatter. -/
def pend (c : Dev nD) (δ : Fin 2) (t : ℕ) : sProp 𝕄 := if t = 0 then iprop(emp) else anyP c (halfM δ (ch δ c (t - 1)))
/-- What travels with device `c`'s step-`s` copy of direction `δ` in the all-gather. -/
def bag (c : Dev nD) (δ : Fin 2) (s : ℕ) : sProp 𝕄 := if s = 0 then pend c (flip δ) 7 else iprop(emp)

omit [FloatOps F] in
instance pend_storable (c : Dev nD) (δ t) : BI.Storable (upEmb : UEmb _ 𝕄) (pend (F := F) c δ t) := by
  unfold pend; split <;> infer_instance
omit [FloatOps F] in
instance bag_storable (c : Dev nD) (δ s) : BI.Storable (upEmb : UEmb _ 𝕄) (bag (F := F) c δ s) := by
  unfold bag; split <;> infer_instance

/-- That device `c` is in this call: the first round of each of its copies' cells is open. -/
def here (c : Dev nD) : sProp 𝕄 := bigSep Finset.univ fun k : Fin 2 × Fin 4 × Fin 7 => reached ER (cell c (some k)) 0

omit [FloatOps F] in
instance here_storable (c : Dev nD) : BI.Storable (upEmb : UEmb _ 𝕄) (here (F := F) c) := by unfold here; infer_instance
omit [FloatOps F] in
instance here_persistent (c : Dev nD) : BI.Persistent (here (F := F) c) := by unfold here; infer_instance

/-- What a cell of device `c` gives: the barrier, the slots of direction `d` on `nx d c`, which is in the call. -/
def barPay (c : Dev nD) (d : Fin 2) : sProp 𝕄 := iprop((bigSep Finset.univ fun t : Fin 7 => anyP (nx d c) (slotM d t)) ∗ here (nx d c))
def pay (c : Dev nD) (δ : Fin 2) (j : Fin 4) (t : Fin 7) : sProp 𝕄 :=
  match j with
  | 0 => anyP c (halfM δ (ch δ c t.val))
  | 1 => iprop(isP c (slotM δ t) (I.R δ t.val (pr δ c)) ∗ pend (pr δ c) (flip δ) t.val)
  | 2 => halfV I c δ (ch δ c (7 + t.val))
  | 3 => iprop(halfV I c δ (ch δ c t.val) ∗ bag (pr δ c) δ t.val)

instance pay_storable (c : Dev nD) (δ j t) : BI.Storable (upEmb : UEmb _ 𝕄) (pay I c δ j t) := by
  unfold pay; split <;> infer_instance
omit [FloatOps F] in
instance barPay_storable (c : Dev nD) (d) : BI.Storable (upEmb : UEmb _ 𝕄) (barPay (F := F) c d) := by unfold barPay; infer_instance

/-- One round: a barrier has one unit from each neighbour (duty `d`: the one `c` sends to in direction `d`); every other
    cell one copy. -/
def ringRd : Rounds.Schedule (GSem nD τ sig) (Fin 2) 𝕄 where
  duties g r := if r = 0 ∧ g.1.2 = .tc then (match dec g.2 with | none => ∅ | some none => Finset.univ | some (some _) => {0}) else ∅
  unitless _ := False
  amount g _ _ := match dec g.2 with | none => 1 | some none => 1 | some (some _) => N
  payload g _ d := match dec g.2 with
    | none => iprop(emp)
    | some none => barPay g.1.1 d
    | some (some (δ, j, t)) => pay I g.1.1 δ j t
  amount_pos g _ _ _ := by
    split
    · exact Nat.one_pos
    · exact Nat.one_pos
    · exact N_pos

instance ringRd_payload_storable (g : GSem nD τ sig) (r : ℕ) (d : Fin 2) :
    BI.Storable (upEmb : UEmb _ 𝕄) ((ringRd I).payload g r d) := by
  unfold ringRd; dsimp only
  split <;> infer_instance

section Sched

theorem duties_bar (c : Dev nD) : (ringRd I).duties (bar c) 0 = Finset.univ := by
  dsimp only [ringRd]; rw [if_pos ⟨rfl, rfl⟩, dec_csem]
theorem duties_dma (c : Dev nD) (δ j t) : (ringRd I).duties (dcell c δ j t) 0 = {0} := by
  dsimp only [ringRd]; rw [if_pos ⟨rfl, rfl⟩, dec_csem]
theorem duties_later (g : GSem nD τ sig) : ∀ r, 1 ≤ r → (ringRd I).duties g r = ∅ :=
  fun r hr => by dsimp only [ringRd]; rw [if_neg fun h => by omega]

theorem amount_bar (c : Dev nD) (d : Fin 2) : (ringRd I).amount (bar c) 0 d = 1 := by dsimp only [ringRd]; rw [dec_csem]
theorem amount_dma (c : Dev nD) (δ j t) (d : Fin 2) : (ringRd I).amount (dcell c δ j t) 0 d = N := by dsimp only [ringRd]; rw [dec_csem]

theorem expect_bar (c : Dev nD) : (ringRd I).expect (bar c) 0 = 2 := by
  unfold Schedule.expect Schedule.amountOf
  rw [duties_bar, Finset.sum_congr rfl fun d _ => amount_bar I c d, Finset.sum_const, Finset.card_univ, Fintype.card_fin, smul_eq_mul]
theorem expect_dma (c : Dev nD) (δ j t) : (ringRd I).expect (dcell c δ j t) 0 = N := by
  unfold Schedule.expect Schedule.amountOf; rw [duties_dma, Finset.sum_singleton, amount_dma]

theorem payload_bar (c : Dev nD) (d : Fin 2) : (ringRd I).payload (bar c) 0 d = barPay c d := by dsimp only [ringRd]; rw [dec_csem]
theorem payload_dma (c : Dev nD) (δ j t) (d : Fin 2) : (ringRd I).payload (dcell c δ j t) 0 d = pay I c δ j t := by
  dsimp only [ringRd]; rw [dec_csem]

theorem rest_bar (c : Dev nD) :
    bigSep ((ringRd I).duties (bar c) 0 \ ∅) (fun d => (ringRd I).payload (bar c) 0 d) = iprop(barPay c 0 ∗ barPay c 1) := by
  rw [Finset.sdiff_empty, duties_bar, bigSep_univ_eq_bigSepL [0, 1] (by decide) (by decide), bigSepL_cons_cons, bigSepL_singleton,
    payload_bar, payload_bar]
  rfl
theorem rest_dma (c : Dev nD) (δ j t) :
    bigSep ((ringRd I).duties (dcell c δ j t) 0 \ ∅) (fun d => (ringRd I).payload (dcell c δ j t) 0 d) = pay I c δ j t := by
  rw [Finset.sdiff_empty, duties_dma, bigSep_singleton, payload_dma]

end Sched

/-! ## What a device owes, and the levels -/

/-- Owed on the receiving cells of array `j` with `n` of the seven steps to go, and after them `B`. Each payment is the
    last summand of what is owed when it is due. -/
def due (c : Dev nD) (j : Fin 4) (B : CellTallies nD τ sig Unit) : ℕ → CellTallies nD τ sig Unit
  | 0 => B
  | n + 1 => due c j B n + tallyAt (dcell (nx 1 c) 1 j ⟨(6 - n) % 7, Nat.mod_lt _ (by decide)⟩) () N
      + tallyAt (dcell (nx 0 c) 0 j ⟨(6 - n) % 7, Nat.mod_lt _ (by decide)⟩) () N
def agDue (c : Dev nD) : ℕ → CellTallies nD τ sig Unit := due c 3 0
def rsDue (c : Dev nD) : ℕ → CellTallies nD τ sig Unit := due c 1 (agDue c 7)
/-- Owed before the signal to the right neighbour; at launch. -/
def O₁ (c : Dev nD) : CellTallies nD τ sig Unit := rsDue c 7 + tallyAt (bar (pr 1 c)) () 1
def O₀ (c : Dev nD) : CellTallies nD τ sig Unit := O₁ c + tallyAt (bar (pr 0 c)) () 1

theorem due_step (c : Dev nD) (j : Fin 4) (B : CellTallies nD τ sig Unit) (t : Fin 7) : due c j B (7 - t.val)
    = (due c j B (6 - t.val) + tallyAt (dcell (nx 1 c) 1 j t) () N) + tallyAt (dcell (nx 0 c) 0 j t) () N := by
  fin_cases t <;> rfl

theorem lv_cell (c : Dev nD) (i : CI) (u : Unit) : lv (cell c i) u = 15 + lvOf (some i) := lvl_sum i

/-- Everything owed is a device's cell at a level from `l` on. -/
def Above (l : ℕ) (O : CellTallies nD τ sig Unit) : Prop := ∀ g u, 0 < O g u → ∃ d i, g = cell d i ∧ l ≤ lvOf (some i)

theorem Above.zero (l : ℕ) : Above l 0 := fun g u h => absurd h (Nat.lt_irrefl 0)
theorem Above.add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
theorem Above.tally {l : ℕ} (d : Dev nD) (i : CI) (n : ℕ) (h : l ≤ lvOf (some i)) : Above l (tallyAt (cell d i) () n) := fun g u hg => by
  rw [tallyAt_apply] at hg
  by_cases h' : g = cell d i ∧ u = ()
  · exact ⟨d, i, h'.1, h⟩
  · rw [if_neg h'] at hg; exact absurd hg (Nat.lt_irrefl 0)

theorem Above.ag (c : Dev nD) (l : ℕ) : ∀ n, n ≤ 7 → l + n ≤ 16 → Above l (agDue c n)
  | 0, _, _ => Above.zero l
  | n + 1, hn, h => ((Above.ag c l n (by omega) (by omega)).add (Above.tally _ _ _ (by
      show l ≤ 9 + (6 - n) % 7; omega))).add (Above.tally _ _ _ (by show l ≤ 9 + (6 - n) % 7; omega))
theorem Above.rs (c : Dev nD) (l : ℕ) : ∀ n, n ≤ 7 → l + n ≤ 9 → Above l (rsDue c n)
  | 0, _, _ => Above.ag c l 7 (by omega) (by omega)
  | n + 1, hn, h => ((Above.rs c l n (by omega) (by omega)).add (Above.tally _ _ _ (by
      show l ≤ 2 + (6 - n) % 7; omega))).add (Above.tally _ _ _ (by show l ≤ 2 + (6 - n) % 7; omega))
theorem Above.O₀ (c : Dev nD) : Above 1 (O₀ c) :=
  ((Above.rs c 1 7 (by omega) (by omega)).add (Above.tally _ _ _ (by decide))).add (Above.tally _ _ _ (by decide))

omit [FloatOps F] in
/-- A wait at a level below all that is owed is allowed. -/
theorem mayWait (c : Dev nD) (sm : SemLoc sig) (l : ℕ) (hl : lvl sm ≤ 15 + l) {O : CellTallies nD τ sig Unit} (hO : Above (l + 1) O) :
    (levAts L lv : sProp 𝕄) ⊢ MayWait (c : Thread nD τ) sm () O :=
  MayOwe.of_cut (L := L) (lev := lv) (15 + l)
    (fun p hp => by rw [Finset.mem_singleton.mp hp, L_tc]; exact Finset.mem_singleton_self _)
    (fun g u hg => by obtain ⟨d, i, rfl, _⟩ := hO g u hg; exact Finset.mem_singleton_self _)
    (fun p hp => by rw [Finset.mem_singleton.mp hp]; exact hl)
    (fun g u hg => by obtain ⟨d, i, rfl, h⟩ := hO g u hg; rw [lv_cell]; omega)

omit [FloatOps F] in
theorem mayWait_cell (c : Dev nD) (i : CI) (l : ℕ) (hl : lvOf (some i) ≤ l) {O : CellTallies nD τ sig Unit} (hO : Above (l + 1) O) :
    (levAts L lv : sProp 𝕄) ⊢ MayWait (c : Thread nD τ) (csem i) () O :=
  mayWait c (csem i) l (by rw [lvl_sum]; omega) hO

end Cert.SumProof

end
-- ==== Proof.Proto.lean ====
/-
  The PROTOCOL of the ring: who hands what to whom, on which semaphore.

  Device `c` sends to its right neighbour `fw c 1` in the reduce-scatter, and to both neighbours in the all-gather.
  * Entering, `c` tells its left neighbour `bk c 1`; with that signal it hands over its seven arrival slots.
  * Reduce-scatter step `t`: `c`'s chunk `bk c t` goes into slot `t` of the right neighbour. Some places of the result
    that the receiver will later write into on other devices travel with the copy (`sendBag`); in the first and last
    step the chunk sent itself travels too, in the others it comes back when the copy has left.
  * All-gather step `s`: the left half of chunk `bk c (7 + s)` goes to the right, the right half of chunk
    `fw c (1 + s)` to the left; the place the left neighbour needs next travels with the latter (`agBag`).
-/
module

public import proofs.«01_k».proof.Proof.SumProto
public import proofs.«01_k».proof.Proof.Gen.KernelIdeal.Launch
public import Idealize.ShloMosaic.Lib.Pipeline.Launch
public import Idealize.ShloMosaic.Lib.Pipeline.Kit

@[expose] public section

noncomputable section

namespace Cert.RingProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev ER : Emb (URounds (GSem nD τ sig) Bool) (MT nD τ sig Unit (Elt F) ℕ UU ℕ) := E₁

/-! ## The ring -/

/-- `n` steps back, `n` steps forward on the ring of eight; chunk numbers go round the same way. -/
def bk (c : Fin 8) (n : ℕ) : Fin 8 := ⟨(c.val + 7 * n) % 8, Nat.mod_lt _ (by decide)⟩
def fw (c : Fin 8) (n : ℕ) : Fin 8 := ⟨(c.val + n) % 8, Nat.mod_lt _ (by decide)⟩

theorem bk_val (c : Fin 8) (n : ℕ) : (bk c n).val = (c.val + 7 * n) % 8 := rfl
theorem fw_val (c : Fin 8) (n : ℕ) : (fw c n).val = (c.val + n) % 8 := rfl
theorem bk_zero (c : Fin 8) : bk c 0 = c := Fin.ext (by have := c.isLt; rw [bk_val]; omega)
theorem bk_bk (c : Fin 8) (a b : ℕ) : bk (bk c a) b = bk c (a + b) := Fin.ext (by simp only [bk_val]; omega)
theorem bk_fw (c : Fin 8) : bk (fw c 1) 1 = c := Fin.ext (by have := c.isLt; simp only [bk_val, fw_val]; omega)
theorem fw_bk (c : Fin 8) : fw (bk c 1) 1 = c := Fin.ext (by have := c.isLt; simp only [bk_val, fw_val]; omega)
theorem bk_fw_add (c : Fin 8) (s : ℕ) : bk (fw c 1) s = bk c (7 + s) := Fin.ext (by simp only [bk_val, fw_val]; omega)
theorem fw_bk_add (c : Fin 8) (s : ℕ) : fw (bk c 1) (2 + s) = fw c (1 + s) := Fin.ext (by simp only [bk_val, fw_val]; omega)

def ring : Dev nD ≃ Dev nD := ⟨fun c => fw c 1, fun c => bk c 1, bk_fw, fw_bk⟩

/-- What a copy of a chunk, of a half of a chunk, credits. -/
def NR : ℕ := (rowM 0).view.dmaCredit
def NH : ℕ := (halfM 0 0).view.dmaCredit
theorem NR_pos : 0 < NR := View.dmaCredit_pos _ (by decide)
theorem NH_pos : 0 < NH := View.dmaCredit_pos _ (by decide)

/-! ## Contents -/

/-- What the devices bring: queries, keys, values of their heads, and their rows of the output weights. -/
structure Inp (F : FTy → Type) where
  q : Dev nD → Vec F S4096x1024 .bf16
  k : Dev nD → Vec F S4096x1024 .bf16
  v : Dev nD → Vec F S4096x1024 .bf16
  w : Dev nD → Vec F S1024x1024 .bf16

namespace Inp

/-- Device `c`'s attention with its output weights, chunk `k`. -/
def A (I : Inp F) (c : Dev nD) (k : Fin 8) : Vec F S512x1024 .bf16 := k1_pay2 (attn (I.q c) (I.k c) (I.v c) k) (I.w c)

/-- The running sum device `c` has for chunk `bk c t` after `t` additions. -/
def R (I : Inp F) : ℕ → Dev nD → Vec F S512x1024 .bf16
  | 0, c => I.A c (bk c 0)
  | t + 1, c => addP (I.A c (bk c (t + 1))) (R I t (bk c 1))

/-- Chunk `k` of the sum over all devices, made on device `bk k 1`. -/
def V (I : Inp F) (k : Fin 8) : Vec F S512x1024 .bf16 := I.R 7 (bk k 1)

/-- The result. -/
def out (I : Inp F) : Vec F S4096x1024 .bf16 := gather I.V

end Inp

variable (I : Inp F)

/-! ## What is held -/

/-- Elements of device `c`'s result, of its arrival slots. -/
def oAt (c : Dev nD) (S : Finset S4096x1024.Idx) (f : Vec F S4096x1024 .bf16) : sProp 𝕄 :=
  (oM.view.loc (c : Thread nD τ)) ↦[S]{fullShare} f
def cAt (c : Dev nD) (S : Finset S7x512x1024.Idx) (f : Vec F S7x512x1024 .bf16) : sProp 𝕄 :=
  (cM.view.loc (c : Thread nD τ)) ↦[S]{fullShare} f

def rowAny (c : Dev nD) (k : Fin 8) : sProp 𝕄 := iprop(∃ f : Vec F S4096x1024 .bf16, oAt c (rowS k) f)
def rowV (c : Dev nD) (k : Fin 8) (X : Vec F S512x1024 .bf16) : sProp 𝕄 := oAt c (rowS k) (spread X)
def halfAny (c : Dev nD) (h : Fin 2) (k : Fin 8) : sProp 𝕄 := iprop(∃ f : Vec F S4096x1024 .bf16, oAt c (halfS h k) f)
def halfV (c : Dev nD) (h : Fin 2) (k : Fin 8) : sProp 𝕄 := oAt c (halfS h k) I.out
def slotAny (c : Dev nD) (t : Fin 7) : sProp 𝕄 := iprop(∃ f : Vec F S7x512x1024 .bf16, cAt c (slotS t) f)
def slotV (c : Dev nD) (t : Fin 7) (X : Vec F S512x1024 .bf16) : sProp 𝕄 :=
  iprop(∃ f : Vec F S7x512x1024 .bf16, ⌜(slotM t).view.read (Elt F) f = X⌝ ∗ cAt c (slotS t) f)

omit [FloatOps F] in
instance oAt_storable (c : Dev nD) (S f) : BI.Storable (upEmb : UEmb _ 𝕄) (oAt (F := F) c S f) := by unfold oAt; infer_instance
omit [FloatOps F] in
instance cAt_storable (c : Dev nD) (S f) : BI.Storable (upEmb : UEmb _ 𝕄) (cAt (F := F) c S f) := by unfold cAt; infer_instance
omit [FloatOps F] in
instance rowAny_storable (c : Dev nD) (k) : BI.Storable (upEmb : UEmb _ 𝕄) (rowAny (F := F) c k) := by unfold rowAny; infer_instance
omit [FloatOps F] in
instance halfAny_storable (c : Dev nD) (h k) : BI.Storable (upEmb : UEmb _ 𝕄) (halfAny (F := F) c h k) := by unfold halfAny; infer_instance
instance halfV_storable (c : Dev nD) (h k) : BI.Storable (upEmb : UEmb _ 𝕄) (halfV I c h k) := by unfold halfV; infer_instance
omit [FloatOps F] in
instance slotAny_storable (c : Dev nD) (t) : BI.Storable (upEmb : UEmb _ 𝕄) (slotAny (F := F) c t) := by unfold slotAny; infer_instance
omit [FloatOps F] in
instance slotV_storable (c : Dev nD) (t X) : BI.Storable (upEmb : UEmb _ 𝕄) (slotV (F := F) c t X) := by unfold slotV; infer_instance

/-! ## What is handed over -/

/-- The first and the last step of the reduce-scatter. -/
abbrev edge (t : Fin 7) : Prop := t = 0 ∨ t = 6

/-- What travels with device `c`'s step-`t` copy besides the chunk. -/
def sendBag (c : Dev nD) (t : Fin 7) : sProp 𝕄 :=
  if t = 0 then iprop(emp)
  else iprop(halfAny (bk c t.val) 0 (bk c t.val) ∗ if t = 1 then iprop(emp) else halfAny c 1 (bk c (t.val - 1)))
/-- The chunk sent, where it travels; where it comes back. -/
def sentGoes (c : Dev nD) (t : Fin 7) : sProp 𝕄 := if edge t then rowAny c (bk c t.val) else iprop(emp)
def sentBack (c : Dev nD) (t : Fin 7) : sProp 𝕄 := if edge t then iprop(emp) else rowAny c (bk c t.val)

/-- What travels with device `c`'s step-`s` copy to the left. -/
def agBag (c : Dev nD) (s : Fin 7) : sProp 𝕄 :=
  iprop((if s = 6 then iprop(emp) else halfAny c 0 (bk c (s.val + 1))) ∗ if s = 0 then halfAny (bk c 1) 0 (bk (bk c 1) 6) else iprop(emp))

omit [FloatOps F] in
instance sendBag_storable (c : Dev nD) (t) : BI.Storable (upEmb : UEmb _ 𝕄) (sendBag (F := F) c t) := by
  unfold sendBag; (repeat' split) <;> infer_instance
omit [FloatOps F] in
instance sentGoes_storable (c : Dev nD) (t) : BI.Storable (upEmb : UEmb _ 𝕄) (sentGoes (F := F) c t) := by
  unfold sentGoes; split <;> infer_instance
omit [FloatOps F] in
instance sentBack_storable (c : Dev nD) (t) : BI.Storable (upEmb : UEmb _ 𝕄) (sentBack (F := F) c t) := by
  unfold sentBack; split <;> infer_instance
omit [FloatOps F] in
instance agBag_storable (c : Dev nD) (s) : BI.Storable (upEmb : UEmb _ 𝕄) (agBag (F := F) c s) := by
  unfold agBag; (repeat' split) <;> infer_instance

/-- That device `c` is in this call: the first round of each of its copies' cells is open. -/
def here (c : Dev nD) : sProp 𝕄 := bigSep Finset.univ fun k : Fin 6 × Fin 7 => reached ER (cell c (some k)) 0

omit [FloatOps F] in
instance here_storable (c : Dev nD) : BI.Storable (upEmb : UEmb _ 𝕄) (here (F := F) c) := by unfold here; infer_instance
omit [FloatOps F] in
instance here_persistent (c : Dev nD) : BI.Persistent (here (F := F) c) := by unfold here; infer_instance

/-- What a cell of device `c` gives: the barrier, the right neighbour's slots, and that both neighbours are in the call. -/
def barPay (c : Dev nD) : sProp 𝕄 := iprop((bigSep Finset.univ fun t : Fin 7 => slotAny (fw c 1) t) ∗ here (fw c 1))
def pay (c : Dev nD) (κ : Fin 6) (t : Fin 7) : sProp 𝕄 :=
  match κ with
  | 0 => sentBack c t
  | 1 => iprop(slotV c t (I.R t.val (bk c 1)) ∗ sentGoes (bk c 1) t ∗ sendBag (bk c 1) t)
  | 2 => halfV I c 0 (bk c (7 + t.val))
  | 3 => halfV I c 0 (bk c t.val)
  | 4 => halfV I c 1 (fw c (1 + t.val))
  | 5 => iprop(halfV I c 1 (fw c (2 + t.val)) ∗ agBag (fw c 1) t)

instance pay_storable (c : Dev nD) (κ t) : BI.Storable (upEmb : UEmb _ 𝕄) (pay I c κ t) := by
  unfold pay; split <;> infer_instance
omit [FloatOps F] in
instance barPay_storable (c : Dev nD) : BI.Storable (upEmb : UEmb _ 𝕄) (barPay (F := F) c) := by unfold barPay; infer_instance

/-- One round: a barrier has one unit from each neighbour (`true`: the right one); every other cell one copy. -/
def ringRd : Rounds.Schedule (GSem nD τ sig) Bool 𝕄 where
  duties g r := if r = 0 ∧ g.1.2 = .tc then (match dec g.2 with | none => ∅ | some none => Finset.univ | some (some _) => {false}) else ∅
  unitless _ := False
  amount g _ _ := match dec g.2 with | none => 1 | some none => 1 | some (some (κ, _)) => if κ.val < 2 then NR else NH
  payload g _ d := match dec g.2 with
    | none => iprop(emp)
    | some none => if d then barPay g.1.1 else here (bk g.1.1 1)
    | some (some (κ, t)) => pay I g.1.1 κ t
  amount_pos g _ _ _ := by
    split
    · exact Nat.one_pos
    · exact Nat.one_pos
    · split
      · exact NR_pos
      · exact NH_pos

instance ringRd_payload_storable (g : GSem nD τ sig) (r : ℕ) (d : Bool) :
    BI.Storable (upEmb : UEmb _ 𝕄) ((ringRd I).payload g r d) := by
  unfold ringRd; dsimp only
  split
  · infer_instance
  · split <;> infer_instance
  · infer_instance

section Sched

theorem duties_bar (c : Dev nD) : (ringRd I).duties (bar c) 0 = Finset.univ := by
  dsimp only [ringRd]; rw [if_pos ⟨rfl, rfl⟩, dec_csem]
theorem duties_dma (c : Dev nD) (κ t) : (ringRd I).duties (dcell c κ t) 0 = {false} := by
  dsimp only [ringRd]; rw [if_pos ⟨rfl, rfl⟩, dec_csem]
theorem duties_later (g : GSem nD τ sig) : ∀ r, 1 ≤ r → (ringRd I).duties g r = ∅ :=
  fun r hr => by dsimp only [ringRd]; rw [if_neg fun h => by omega]

theorem amount_bar (c : Dev nD) (d : Bool) : (ringRd I).amount (bar c) 0 d = 1 := by dsimp only [ringRd]; rw [dec_csem]
theorem amount_row (c : Dev nD) (κ t) (h : κ.val < 2) (d : Bool) : (ringRd I).amount (dcell c κ t) 0 d = NR := by
  dsimp only [ringRd]; rw [dec_csem]; exact if_pos h
theorem amount_half (c : Dev nD) (κ t) (h : ¬ κ.val < 2) (d : Bool) : (ringRd I).amount (dcell c κ t) 0 d = NH := by
  dsimp only [ringRd]; rw [dec_csem]; exact if_neg h

theorem expect_bar (c : Dev nD) : (ringRd I).expect (bar c) 0 = 2 := by
  unfold Schedule.expect Schedule.amountOf
  rw [duties_bar, Finset.sum_congr rfl fun d _ => amount_bar I c d, Finset.sum_const, Finset.card_univ, Fintype.card_bool, smul_eq_mul]
theorem expect_row (c : Dev nD) (κ t) (h : κ.val < 2) : (ringRd I).expect (dcell c κ t) 0 = NR := by
  unfold Schedule.expect Schedule.amountOf; rw [duties_dma, Finset.sum_singleton, amount_row I c κ t h]
theorem expect_half (c : Dev nD) (κ t) (h : ¬ κ.val < 2) : (ringRd I).expect (dcell c κ t) 0 = NH := by
  unfold Schedule.expect Schedule.amountOf; rw [duties_dma, Finset.sum_singleton, amount_half I c κ t h]

theorem payload_bar_true (c : Dev nD) : (ringRd I).payload (bar c) 0 true = barPay c := by
  dsimp only [ringRd]; rw [dec_csem]; exact if_pos rfl
theorem payload_bar_false (c : Dev nD) : (ringRd I).payload (bar c) 0 false = here (bk c 1) := by
  dsimp only [ringRd]; rw [dec_csem]; exact if_neg Bool.false_ne_true
theorem payload_dma (c : Dev nD) (κ t) (d : Bool) : (ringRd I).payload (dcell c κ t) 0 d = pay I c κ t := by
  dsimp only [ringRd]; rw [dec_csem]

theorem rest_bar (c : Dev nD) :
    bigSep ((ringRd I).duties (bar c) 0 \ ∅) (fun d => (ringRd I).payload (bar c) 0 d) = iprop(here (bk c 1) ∗ barPay c) := by
  rw [Finset.sdiff_empty, duties_bar, bigSep_univ_eq_bigSepL [false, true] (by decide) (by decide), bigSepL_cons_cons, bigSepL_singleton,
    payload_bar_false, payload_bar_true]
  rfl
theorem rest_dma (c : Dev nD) (κ t) :
    bigSep ((ringRd I).duties (dcell c κ t) 0 \ ∅) (fun d => (ringRd I).payload (dcell c κ t) 0 d) = pay I c κ t := by
  rw [Finset.sdiff_empty, duties_dma, bigSep_singleton, payload_dma]

end Sched

/-! ## What a device owes, and the levels -/

/-- Owed with `n` steps of the all-gather to go, and the all-reduce after it; with `n` steps of the reduce-scatter to go; before the signal to the
    right neighbour; at launch. Each payment is the last summand of what is owed when it is due. -/
def agDue (c : Dev nD) : ℕ → CellTallies nD τ sig Unit
  | 0 => SumProof.O₀ c
  | n + 1 => agDue c n + tallyAt (dcell (bk c 1) 5 ⟨(6 - n) % 7, Nat.mod_lt _ (by decide)⟩) () NH
      + tallyAt (dcell (fw c 1) 3 ⟨(6 - n) % 7, Nat.mod_lt _ (by decide)⟩) () NH
def rsDue (c : Dev nD) : ℕ → CellTallies nD τ sig Unit
  | 0 => agDue c 7
  | n + 1 => rsDue c n + tallyAt (dcell (fw c 1) 1 ⟨(6 - n) % 7, Nat.mod_lt _ (by decide)⟩) () NR
def O₁ (c : Dev nD) : CellTallies nD τ sig Unit := rsDue c 7 + tallyAt (bar (fw c 1)) () 1
def O₀ (c : Dev nD) : CellTallies nD τ sig Unit := O₁ c + tallyAt (bar (bk c 1)) () 1

theorem agDue_step (c : Dev nD) (s : Fin 7) : agDue c (7 - s.val)
    = (agDue c (6 - s.val) + tallyAt (dcell (bk c 1) 5 s) () NH) + tallyAt (dcell (fw c 1) 3 s) () NH := by
  fin_cases s <;> rfl
theorem rsDue_step (c : Dev nD) (t : Fin 7) : rsDue c (7 - t.val) = rsDue c (6 - t.val) + tallyAt (dcell (fw c 1) 1 t) () NR := by
  fin_cases t <;> rfl

theorem lv_cell (c : Dev nD) (i : CI) (u : Unit) : lv (cell c i) u = lvOf (some i) := lvl_ring i

/-- Everything owed is on TensorCores at levels from `l` on. -/
def Above (l : ℕ) (O : CellTallies nD τ sig Unit) : Prop := ∀ g u, 0 < O g u → g.1.2 = .tc ∧ l ≤ lv g u

theorem Above.add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
theorem Above.tally {l : ℕ} (d : Dev nD) (i : CI) (N : ℕ) (h : l ≤ lvOf (some i)) : Above l (tallyAt (cell d i) () N) := fun g u hg => by
  rw [tallyAt_apply] at hg
  by_cases h' : g = cell d i ∧ u = ()
  · rw [h'.1]; exact ⟨rfl, by rw [lv_cell]; exact h⟩
  · rw [if_neg h'] at hg; exact absurd hg (Nat.lt_irrefl 0)

/-- What is owed in the all-reduce lies above all of this ring. -/
theorem Above.later (c : Dev nD) (l : ℕ) (h : l ≤ 16) : Above l (SumProof.O₀ c) := fun g u hg => by
  obtain ⟨d, i, rfl, hi⟩ := SumProof.Above.O₀ c g u hg
  exact ⟨rfl, by rw [SumProof.lv_cell]; omega⟩

theorem Above.ag (c : Dev nD) (l : ℕ) : ∀ n, n ≤ 7 → l + n ≤ 16 → Above l (agDue c n)
  | 0, _, h => Above.later c l (by omega)
  | n + 1, hn, h => ((Above.ag c l n (by omega) (by omega)).add (Above.tally _ _ _ (by
      show l ≤ 9 + (6 - n) % 7; omega))).add (Above.tally _ _ _ (by show l ≤ 9 + (6 - n) % 7; omega))
theorem Above.rs (c : Dev nD) (l : ℕ) : ∀ n, n ≤ 7 → l + n ≤ 9 → Above l (rsDue c n)
  | 0, _, _ => Above.ag c l 7 (by omega) (by omega)
  | n + 1, hn, h => (Above.rs c l n (by omega) (by omega)).add (Above.tally _ _ _ (by show l ≤ 2 + (6 - n) % 7; omega))
theorem Above.O₀ (c : Dev nD) : Above 1 (O₀ c) :=
  ((Above.rs c 1 7 (by omega) (by omega)).add (Above.tally _ _ _ (by decide))).add (Above.tally _ _ _ (by decide))

omit [FloatOps F] in
/-- A wait at a level below all that is owed is allowed. -/
theorem mayWait (c : Dev nD) (sm : SemLoc sig) (l : ℕ) (hl : lvl sm ≤ l) {O : CellTallies nD τ sig Unit} (hO : Above (l + 1) O) :
    (levAts L lv : sProp 𝕄) ⊢ MayWait (c : Thread nD τ) sm () O :=
  MayOwe.of_cut (L := L) (lev := lv) l
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

omit [FloatOps F] in
theorem mayWait_cell (c : Dev nD) (i : CI) (l : ℕ) (hl : lvOf (some i) ≤ l) {O : CellTallies nD τ sig Unit} (hO : Above (l + 1) O) :
    (levAts L lv : sProp 𝕄) ⊢ MayWait (c : Thread nD τ) (csem i) () O :=
  mayWait c (csem i) l (by rw [lvl_ring]; exact hl) hO

end Cert.RingProof

end
-- ==== Proof.Local.lean ====
/-
  What one device does BY ITSELF: a chunk of attention head by head, its product with the output weights into a chunk
  of the result, and the sum of a chunk and what arrived in a slot.
-/
module

public import proofs.«01_k».proof.Proof.Proto
public import Idealize.ShloMosaic.Lib.Tactic

@[expose] public section

noncomputable section

namespace Cert.RingProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What a piece of the body on device `c` needs for `Q` afterwards. -/
abbrev WP (c : Dev nD) {α : Type} (p : P (F := F) α) (Q : α → sProp 𝕄) : sProp 𝕄 :=
  wp frame (wpE (defs₀ (F := F)) 𝒱₀ (c : Thread nD τ) none) Set.univ p Q

variable (I : Inp F)

/-- A device's staged operands, as it brought them. -/
def insAt (c : Dev nD) : sProp 𝕄 :=
  iprop((((c : Thread nD τ).loc cc1_stg0_0) ↦{fullShare} (I.q c : Vec F S4096x1024 .bf16)) ∗ (((c : Thread nD τ).loc cc1_stg1_0) ↦{fullShare} (I.k c : Vec F S4096x1024 .bf16))
    ∗ (((c : Thread nD τ).loc cc1_stg2_0) ↦{fullShare} (I.v c : Vec F S4096x1024 .bf16)) ∗ (((c : Thread nD τ).loc cc1_stg3_0) ↦{fullShare} (I.w c : Vec F S1024x1024 .bf16)))
/-- A device's attention chunk. -/
def aAt (c : Dev nD) (f : Vec F S512x1024 .bf16) : sProp 𝕄 := ((c : Thread nD τ).loc cc1_scratch0) ↦{fullShare} f
def aAny (c : Dev nD) : sProp 𝕄 := iprop(∃ f : Vec F S512x1024 .bf16, aAt c f)

theorem hz2 : (![0, 0] : Fin 2 → ℕ) = fun _ => 0 := funext fun a => by fin_cases a <;> rfl

/-- One head: from the heads before it to the heads up to it. -/
theorem trip_wp (c : Dev nD) (k h : Fin 8) {oq : Fin 2 → ℕ} (hq : ∀ a, oq a + S512x128.size a ≤ S4096x1024.size a)
    {ok : Fin 2 → ℕ} (hk : ∀ a, ok a + S4096x128.size a ≤ S4096x1024.size a)
    {oa : Fin 2 → ℕ} (ha : ∀ a, oa a + S512x128.size a ≤ S512x1024.size a)
    (hp : (Rect.unit (s := S512x1024) oa S512x128.size ha).PackedRows (EltTy.packing .bf16))
    (eq : oq = ![512 * k.val, 128 * h.val]) (ek : ok = ![0, 128 * h.val]) (ea : oa = ![0, 128 * h.val]) (Q : Unit → sProp 𝕄) :
    iprop(insAt I c ∗ (∃ f : Vec F S512x1024 .bf16, ⌜∀ x : S512x1024.Idx, (x 1).val < 128 * h.val → f x = attn (I.q c) (I.k c) (I.v c) k x⌝ ∗ aAt c f)
      ∗ ((insAt I c ∗ (∃ f : Vec F S512x1024 .bf16, ⌜∀ x : S512x1024.Idx, (x 1).val < 128 * (h.val + 1) → f x = attn (I.q c) (I.k c) (I.v c) k x⌝ ∗ aAt c f)) -∗ Q ()))
      ⊢ WP c (trip oq hq ok hk oa ha hp) Q := by
  unfold insAt aAt trip
  simp only [Prog.lift, Prog.bind_op, Prog.bind_ret, Prog.pure_eq_ret]
  iintro ⟨⟨Hq, Hk, Hv, Hw⟩, ⟨%f, %hf, Ha⟩, HQ⟩
  iapply (wp_load 𝒱₀ (c : Thread nD τ) none Set.univ (m := qM) (Finset.subset_univ _)) $$ Hq; iintro Hq
  rw [read_cutQ hq eq]
  iapply (wp_load 𝒱₀ (c : Thread nD τ) none Set.univ (m := kM) (Finset.subset_univ _)) $$ Hk; iintro Hk
  rw [read_cutK hk ek]
  iapply (wp_load 𝒱₀ (c : Thread nD τ) none Set.univ (m := vM) (Finset.subset_univ _)) $$ Hv; iintro Hv
  rw [read_cutV hk ek]
  iapply (wp_load 𝒱₀ (c : Thread nD τ) none Set.univ (m := aM) (Finset.subset_univ _)) $$ Ha; iintro Ha
  iapply (wp_store 𝒱₀ (c : Thread nD τ) none Set.univ (m := aM) (r := Rect.unit (s := S512x1024) oa S512x128.size ha) (Mk := Finset.univ) (Finset.subset_univ _)) $$ Ha; iintro Ha
  rw [wp_ret]; imodintro
  iapply HQ
  isplitl [Hq Hk Hv Hw]
  · isplitl [Hq]; · iexact Hq
    isplitl [Hk]; · iexact Hk
    isplitl [Hv]; · iexact Hv
    iexact Hw
  · iexists _
    isplitr
    · ipureintro
      exact write_head ha ea (I.q c) (I.k c) (I.v c) k f hf
    · iexact Ha

/-- The eight heads of a chunk. -/
theorem loop_wp (c : Dev nD) (k : Fin 8) (lp : Scf.Loop 32) (hok : lp.OK) (htr : lp.trips = 8)
    (oq : Fin lp.trips → Fin 2 → ℕ) (hq : ∀ i, ∀ a, oq i a + S512x128.size a ≤ S4096x1024.size a)
    (ok : Fin lp.trips → Fin 2 → ℕ) (hk : ∀ i, ∀ a, ok i a + S4096x128.size a ≤ S4096x1024.size a)
    (oa : Fin lp.trips → Fin 2 → ℕ) (ha : ∀ i, ∀ a, oa i a + S512x128.size a ≤ S512x1024.size a)
    (hp : ∀ i, (Rect.unit (s := S512x1024) (oa i) S512x128.size (ha i)).PackedRows (EltTy.packing .bf16))
    (eq : ∀ i, oq i = ![512 * k.val, 128 * i.val]) (ek : ∀ i, ok i = ![0, 128 * i.val]) (ea : ∀ i, oa i = ![0, 128 * i.val]) (Q : Unit → sProp 𝕄) :
    iprop(insAt I c ∗ aAny c ∗ ((insAt I c ∗ aAt c (attn (I.q c) (I.k c) (I.v c) k)) -∗ Q ()))
      ⊢ WP c (Scf.Loop.for lp hok ⟨⟩ fun i _ => trip (oq i) (hq i) (ok i) (hk i) (oa i) (ha i) (hp i)) Q := by
  unfold aAny
  iintro ⟨Hin, ⟨%f, Ha⟩, HQ⟩
  iapply (Scf.wp_for frame (wpE (defs₀ (F := F)) 𝒱₀ (c : Thread nD τ) none) Set.univ lp.lb lp.ub lp.st hok ⟨⟩
    (fun i _ => trip (oq i) (hq i) (ok i) (hk i) (oa i) (ha i) (hp i))
    (fun n _ => iprop(insAt I c ∗ (∃ f : Vec F S512x1024 .bf16, ⌜∀ x : S512x1024.Idx, (x 1).val < 128 * n → f x = attn (I.q c) (I.k c) (I.v c) k x⌝ ∗ aAt c f)))
    (fun i _ => by
      have hi : i.val < 8 := lt_of_lt_of_eq i.isLt htr
      iintro ⟨Hin, Ha⟩
      iapply (trip_wp I c k ⟨i.val, hi⟩ (hq i) (hk i) (ha i) (hp i) (eq i) (ek i) (ea i))
      isplitl [Hin]; · iexact Hin
      isplitl [Ha]; · iexact Ha
      iintro H; iexact H))
  isplitl [Hin Ha]
  · isplitl [Hin]; · iexact Hin
    iexists f
    isplitr
    · ipureintro; intro x hx; exact absurd hx (by omega)
    · iexact Ha
  · iintro %_ ⟨Hin, ⟨%g, %hg, Ha⟩⟩
    iapply HQ
    isplitl [Hin]; · iexact Hin
    rw [show Scf.trips lp.lb lp.ub lp.st = 8 from htr] at hg
    rw [attn_done (I.q c) (I.k c) (I.v c) k g hg]
    iexact Ha

/-- The product of the attention chunk with the output weights goes into chunk `k`. -/
theorem prodRow_wp (c : Dev nD) (k : Fin 8) {o : Fin 2 → ℕ} (h : ∀ a, o a + S512x1024.size a ≤ S4096x1024.size a)
    (hp : (Rect.unit (s := S4096x1024) o S512x1024.size h).PackedRows (EltTy.packing .bf16)) (e : o = ![512 * k.val, 0])
    (a : Vec F S512x1024 .bf16) (Q : PUnit → sProp 𝕄) :
    iprop(insAt I c ∗ aAt c a ∗ rowAny c k ∗ ((insAt I c ∗ aAny c ∗ rowV c k (k1_pay2 a (I.w c))) -∗ Q ⟨⟩))
      ⊢ WP c (prodRow o h hp) Q := by
  subst e
  unfold insAt aAny aAt rowAny rowV oAt prodRow loadA loadW loadRow storeRow
  simp only [Prog.lift, Prog.bind_op, Prog.bind_ret, Prog.pure_eq_ret]
  iintro ⟨⟨Hq, Hk, Hv, Hw⟩, Ha, ⟨%f, Ho⟩, HQ⟩
  iapply (wp_load 𝒱₀ (c : Thread nD τ) none Set.univ (m := aM) (Finset.subset_univ _)) $$ Ha; iintro Ha
  rw [show aM.view.readAt (Elt F) (Rect.unit (s := S512x1024) ![0, 0] S512x1024.size inb_S512x1024_S512x1024_0_0).toLoadRect a = a
    from Memref.readAt_unit_zero (Elt F) cc1_scratch0 hz2 _ a]
  iapply (wp_load 𝒱₀ (c : Thread nD τ) none Set.univ (m := wM) (Finset.subset_univ _)) $$ Hw; iintro Hw
  rw [show wM.view.readAt (Elt F) (Rect.unit (s := S1024x1024) ![0, 0] S1024x1024.size inb_S1024x1024_S1024x1024_0_0).toLoadRect (I.w c) = I.w c
    from Memref.readAt_unit_zero (Elt F) cc1_stg3_0 hz2 _ (I.w c)]
  iapply (wp_load_rect 𝒱₀ (c : Thread nD τ) none Set.univ (m := oM) (r := Rect.unit (s := S4096x1024) ![512 * k.val, 0] S512x1024.size h) (S := rowS k)
    (rowM_set k).subset) $$ Ho; iintro Ho
  iapply (wp_store 𝒱₀ (c : Thread nD τ) none Set.univ (m := oM) (r := Rect.unit (s := S4096x1024) ![512 * k.val, 0] S512x1024.size h) (S := rowS k)
    (rowM_set k).subset) $$ Ho; iintro Ho
  rw [wp_ret]; imodintro
  iapply HQ
  isplitl [Hq Hk Hv Hw]
  · isplitl [Hq]; · iexact Hq
    isplitl [Hk]; · iexact Hk
    isplitl [Hv]; · iexact Hv
    iexact Hw
  isplitl [Ha]; · iexists a; iexact Ha
  iapply (Entails.of_eq (pointsTo_congr (fun i hi => write_row k f (k1_pay2 a (I.w c)) hi)))
  iexact Ho

theorem slot_setOn (t : Fin 7) :
    cM.view.setOn (Rect.unit (s := S7x512x1024) ![t.val, 0, 0] S1x512x1024.size (slot_inb t)).toLoadRect.set = slotS t :=
  (View.set_slice (v := cM.view) (Rect.unit (s := S7x512x1024) ![t.val, 0, 0] S1x512x1024.size (slot_inb t))).symm.trans
    (View.set_slice_whole cc1_scratch1 (Rect.unit (s := S7x512x1024) ![t.val, 0, 0] S1x512x1024.size (slot_inb t)))

/-- What arrived in slot `t` is added onto chunk `k`. -/
theorem addRow_wp (c : Dev nD) (k : Fin 8) (t : Fin 7) {o : Fin 2 → ℕ} (h : ∀ a, o a + S512x1024.size a ≤ S4096x1024.size a)
    (hp : (Rect.unit (s := S4096x1024) o S512x1024.size h).PackedRows (EltTy.packing .bf16)) (e : o = ![512 * k.val, 0])
    (a X : Vec F S512x1024 .bf16) (Q : PUnit → sProp 𝕄) :
    iprop(rowV c k a ∗ slotV c t X ∗ ((rowV c k (addP a X) ∗ slotAny c t) -∗ Q ⟨⟩))
      ⊢ WP c (addRow o h hp t) Q := by
  subst e
  unfold slotV slotAny cAt rowV oAt addRow loadSlot loadRow storeRow
  simp only [Prog.lift, Prog.bind_op, Prog.bind_ret, Prog.pure_eq_ret]
  iintro ⟨Ho, ⟨%f, %hf, Hc⟩, HQ⟩
  iapply (wp_load_rect 𝒱₀ (c : Thread nD τ) none Set.univ (m := oM) (r := Rect.unit (s := S4096x1024) ![512 * k.val, 0] S512x1024.size h) (S := rowS k)
    (rowM_set k).subset) $$ Ho; iintro Ho
  rw [show (oM.access (Rect.unit (s := S4096x1024) ![512 * k.val, 0] S512x1024.size h)).read (Elt F) (spread a) = a from read_row k a]
  iapply (wp_load 𝒱₀ (c : Thread nD τ) none Set.univ (m := cM) (r := (Rect.unit (s := S7x512x1024) ![t.val, 0, 0] S1x512x1024.size (slot_inb t)).toLoadRect) (S := slotS t)
    ((slot_setOn t).subset)) $$ Hc; iintro Hc
  rw [pay5_slot t a f, hf]
  iapply (wp_load_rect 𝒱₀ (c : Thread nD τ) none Set.univ (m := oM) (r := Rect.unit (s := S4096x1024) ![512 * k.val, 0] S512x1024.size h) (S := rowS k)
    (rowM_set k).subset) $$ Ho; iintro Ho
  iapply (wp_store 𝒱₀ (c : Thread nD τ) none Set.univ (m := oM) (r := Rect.unit (s := S4096x1024) ![512 * k.val, 0] S512x1024.size h) (S := rowS k)
    (rowM_set k).subset) $$ Ho; iintro Ho
  rw [wp_ret]; imodintro
  iapply HQ
  isplitl [Ho]
  · iapply (Entails.of_eq (pointsTo_congr (fun i hi => write_row k (spread a) (addP a X) hi)))
    iexact Ho
  · iexists f; iexact Hc

end Cert.RingProof

end
-- ==== Proof.Talk.lean ====
/-
  What the devices say TO EACH OTHER: the greeting, the copies and the waits of one step of the ring, each from what it
  needs to what it leaves.
-/
module

public import proofs.«01_k».proof.Proof.Local

@[expose] public section

noncomputable section

namespace Cert.RingProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

/-- One piece, then the rest. -/
theorem wp_then {α β : Type} (c : Dev nD) (p : P (F := F) α) (k : α → P (F := F) β) (Q : β → sProp 𝕄) :
    WP c p (fun a => WP c (k a) Q) ⊢ WP c (p >>= k) Q := Entails.of_eq (wp_bind ..).symm

/-- A neighbour, or the device itself. -/
def Near (c d : Dev nD) : Prop := d = c ∨ d = fw c 1 ∨ d = bk c 1

/-- What a device knows entering: every cell's invariant, that the barriers' first round is open, and that of its own
    cells. -/
def greet (c : Dev nD) : sProp 𝕄 :=
  iprop((bigSep Finset.univ fun ck : Dev nD × CI => cellInv ER (ringRd I) (K ck) (cell ck.1 ck.2))
    ∗ (bigSep Finset.univ fun d : Dev nD => reached ER (bar d) 0) ∗ here c)
/-- After the greeting it knows the latter of its neighbours' cells too. -/
def records (c : Dev nD) : sProp 𝕄 := iprop(greet I K c ∗ here (fw c 1) ∗ here (bk c 1))

instance greet_persistent (c : Dev nD) : BI.Persistent (greet I K c) := by unfold greet; infer_instance
instance records_persistent (c : Dev nD) : BI.Persistent (records I K c) := by unfold records; infer_instance

theorem greet_inv (c d : Dev nD) (i : CI) : greet I K c ⊢ cellInv ER (ringRd I) (K (d, i)) (cell d i) := by
  refine BIBase.Entails.trans ?_ (bigSep_elim (Φ := fun ck : Dev nD × CI => cellInv ER (ringRd I) (K ck) (cell ck.1 ck.2)) (Finset.mem_univ (d, i)))
  unfold greet
  iintro ⟨H, -, -⟩; iexact H
theorem greet_reached (c d : Dev nD) : greet I K c ⊢ reached ER (bar d) 0 := by
  refine BIBase.Entails.trans ?_ (bigSep_elim (Φ := fun d : Dev nD => reached ER (bar d) 0) (Finset.mem_univ d))
  unfold greet
  iintro ⟨-, H, -⟩; iexact H
theorem greet_bar (c d : Dev nD) : greet I K c ⊢ iprop(cellInv ER (ringRd I) (K (d, none)) (bar d) ∗ reached ER (bar d) 0) := by
  iintro #H
  isplitr; · iapply (greet_inv I K c d none); iexact H
  iapply (greet_reached I K c d); iexact H
theorem here_at (d : Dev nD) (k) : (here d : sProp 𝕄) ⊢ reached ER (cell d (some k)) 0 := by
  unfold here
  exact bigSep_elim (Φ := fun k => reached ER (cell d (some k)) 0) (Finset.mem_univ k)
theorem rec_at (c d : Dev nD) (hd : Near c d) (k) : records I K c ⊢ iprop(cellInv ER (ringRd I) (K (d, some k)) (cell d (some k)) ∗ reached ER (cell d (some k)) 0) := by
  unfold records
  iintro ⟨#H, #H₁, #H₂⟩
  isplitr; · iapply (greet_inv I K c d (some k)); iexact H
  iapply (here_at d k)
  unfold greet
  icases H with ⟨-, -, #H⟩
  rcases hd with rfl | rfl | rfl
  · iexact H
  · iexact H₁
  · iexact H₂
theorem rec_inv (c : Dev nD) (i : CI) : records I K c ⊢ cellInv ER (ringRd I) (K (c, i)) (cell c i) := by
  unfold records
  iintro ⟨H, -, -⟩
  iapply (greet_inv I K c c i); iexact H

theorem greet_here (c : Dev nD) : greet I K c ⊢ here c := by
  unfold greet
  iintro ⟨-, -, H⟩; iexact H

/-- What device `c` still owes, whatever it has waited on. -/
def owesE (c : Dev nD) (O : CellTallies nD τ sig Unit) : sProp 𝕄 := iprop(∃ W, owes (c : Thread nD τ) O W)

/-- A device waits on a cell of its own to the end of its round: it has what the cell gives, and the cell at zero. -/
theorem wait_wp (c : Dev nD) (i : CI) (R : sProp 𝕄) [BI.Persistent R] (hR : R ⊢ cellInv ER (ringRd I) (K (c, i)) (cell c i)) (l : ℕ) (hl : lvOf (some i) ≤ l) {O : CellTallies nD τ sig Unit} (hO : Above (l + 1) O)
    {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem i) k' Kt)
    (hk : k' = (ringRd I).expect (cell c i) 0) (Q : PUnit → sProp 𝕄) :
    iprop(R ∗ levAts L lv ∗ cred (tallyAt (cell c i) () k') ∗ owesE c O ∗ atPos ER (cell c i) 0 ∅ 0
      ∗ ((owesE c O ∗ semVal (cell c i) 0 ∗ bigSep ((ringRd I).duties (cell c i) 0 \ ∅) (fun d => (ringRd I).payload (cell c i) 0 d)) -∗ Q ⟨⟩))
      ⊢ WP c (Prog.lift w) Q := by
  unfold owesE
  simp only [Prog.lift]
  iintro ⟨#HR, #Hlev, Hc, ⟨%W, HO⟩, Hat, HQ⟩
  ihave #HI := hR $$ HR
  iapply (Rounds.wp_wait_rest_token 𝒱₀ ER (ringRd I) (c : Thread nD τ) none (κ := K (c, i)) hw (Set.mem_univ _) () (O := O) (W := W) (R := 0) (m := 0) (T := ∅)
      (by rw [Nat.zero_add, hk])) $$ [Hc HO Hat]
  · isplitr; · iexact HI
    isplitl [Hc]; · iexact Hc
    isplitl [HO]; · iexact HO
    isplitr; · iapply (mayWait_cell c i l hl hO); iexact Hlev
    iexact Hat
  iintro ⟨HO, Hat, -, Hpay⟩
  imod (Rounds.cell_close ER (ringRd I) (Set.mem_univ (K (c, i))) (fun h => h) (R := 0 + 1) (duties_later I (cell c i))) $$ [Hat] with Hz
  · isplitr; · iexact HI
    iexact Hat
  rw [wp_ret]; imodintro
  iapply HQ
  isplitl [HO]; · iexists _; iexact HO
  isplitl [Hz]; · iexact Hz
  iexact Hpay

theorem mem_bar (c : Dev nD) (b : Bool) : b ∈ (ringRd I).duties ((c : Thread nD τ), SemLoc.reg bsem) 0 := by
  rw [show ((c : Thread nD τ), SemLoc.reg bsem) = bar c from rfl, duties_bar]; exact Finset.mem_univ _
theorem mem_dma (c : Dev nD) (κ : Fin 6) (t : Fin 7) : false ∈ (ringRd I).duties ((c : Thread nD τ), SemLoc.dma (dsem κ t)) 0 := by
  rw [show ((c : Thread nD τ), SemLoc.dma (dsem κ t)) = dcell c κ t from rfl, duties_dma]; exact Finset.mem_singleton_self _

/-- The greeting. The device's slots go to its left neighbour; the right neighbour's come. -/
theorem hello_wp (c n₁ n₂ : Dev nD) (h₁ : n₁ = bk c 1) (h₂ : n₂ = fw c 1) (Q : PUnit → sProp 𝕄) :
    iprop(greet I K c ∗ levAts L lv ∗ owesE c (O₀ c) ∗ dutyTok ER (bar (bk c 1)) 0 true ∗ dutyTok ER (bar (fw c 1)) 0 false
      ∗ (bigSep Finset.univ fun t : Fin 7 => slotAny c t) ∗ cred (tallyAt (bar c) () 2) ∗ atPos ER (bar c) 0 ∅ 0
      ∗ ((owesE c (rsDue c 7) ∗ semVal (bar c) 0 ∗ records I K c ∗ (bigSep Finset.univ fun t : Fin 7 => slotAny (fw c 1) t)) -∗ Q ⟨⟩))
      ⊢ WP c (hello n₁ n₂) Q := by
  subst h₁ h₂
  unfold hello semSignalWord semWaitWord
  unfold owesE
  simp only [Prog.lift, Prog.bind_op, Prog.bind_ret]
  iintro ⟨#HR, #Hlev, ⟨%W, HO⟩, HtP, HtN, Hs, Hc, Hat, HQ⟩
  ihave Hr := (greet_bar I K c (bk c 1)) $$ HR
  icases Hr with ⟨#HIP, #HrP⟩
  ihave Hr := (greet_bar I K c (fw c 1)) $$ HR
  icases Hr with ⟨#HIN, #HrN⟩
  iapply (Rounds.wp_signal 𝒱₀ ER (ringRd I) (c : Thread nD τ) none (dst := (bk c 1 : Thread nD τ)) (κ := K (bk c 1, none))
      (d := true) (mem_bar I (bk c 1) true) ((amount_bar I (bk c 1) true).trans (by decide)) () (O₁ c) rfl)
    $$ [HO HtP Hs]
  · isplitr; · iexact HIP
    isplitl [HO]; · iexact HO
    isplitl [HtP]; · iexact HtP
    isplitl [Hs]
    · rw [show ((bk c 1 : Thread nD τ), SemLoc.reg bsem) = bar (bk c 1) from rfl, payload_bar_true]; unfold barPay; rw [fw_bk]
      isplitl [Hs]; · iexact Hs
      iapply (greet_here I K c); iexact HR
    iexact HrP
  iintro HO
  iapply (Rounds.wp_signal 𝒱₀ ER (ringRd I) (c : Thread nD τ) none (dst := (fw c 1 : Thread nD τ)) (κ := K (fw c 1, none))
      (d := false) (mem_bar I (fw c 1) false) ((amount_bar I (fw c 1) false).trans (by decide)) () (rsDue c 7) rfl)
    $$ [HO HtN]
  · isplitr; · iexact HIN
    isplitl [HO]; · iexact HO
    isplitl [HtN]; · iexact HtN
    isplitr; · rw [show ((fw c 1 : Thread nD τ), SemLoc.reg bsem) = bar (fw c 1) from rfl, payload_bar_false, bk_fw]; iapply (greet_here I K c); iexact HR
    iexact HrN
  iintro HO
  iapply (wait_wp I K c none (greet I K c) (greet_inv I K c c none) 1 (by decide) (Above.rs c 2 7 (by omega) (by omega)) (wpE_semWait_eq 𝒱₀ (c : Thread nD τ) none Set.univ)
    ((by decide : (2#32 : BitVec 32).toNat = 2).trans (expect_bar I c).symm))
  isplitr; · iexact HR
  isplitr; · iexact Hlev
  isplitl [Hc]; · iexact Hc
  isplitl [HO]; · unfold owesE; iexists W; iexact HO
  isplitl [Hat]; · iexact Hat
  iintro ⟨HO, Hz, Hpay⟩
  ihave Hp := (Entails.of_eq (rest_bar I c)) $$ Hpay
  unfold barPay
  icases Hp with ⟨#HM, Hp, #HP⟩
  iapply HQ
  isplitl [HO]; · unfold owesE; iexact HO
  isplitl [Hz]; · iexact Hz
  isplitr
  · unfold records
    isplitr; · iexact HR
    isplitr; · iexact HP
    iexact HM
  iexact Hp

/-- Step `t`'s copy of a chunk to the right. -/
theorem sendRow_wp (c n : Dev nD) (hn : n = fw c 1) (t : Fin 7) {o : Fin 2 → ℕ} (h : ∀ a, o a + S512x1024.size a ≤ S4096x1024.size a)
    (hw : (Rect.unit (s := S4096x1024) o S512x1024.size h).WholeWords (EltTy.packing .bf16)) (e : o = ![512 * (bk c t.val).val, 0]) (Q : PUnit → sProp 𝕄) :
    iprop(records I K c ∗ rowV c (bk c t.val) (I.R t.val c) ∗ slotAny (fw c 1) t ∗ sendBag c t ∗ owesE c (rsDue c (7 - t.val))
      ∗ dutyTok ER (dcell c 0 t) 0 false ∗ dutyTok ER (dcell (fw c 1) 1 t) 0 false
      ∗ ((cred (tallyAt (dcell c 0 t) () NR) ∗ owesE c (rsDue c (6 - t.val))) -∗ Q ⟨⟩))
      ⊢ WP c (sendRow n o h hw t) Q := by
  subst hn e
  unfold owesE sendRow slotAny cAt rowV oAt
  simp only [Prog.lift]
  iintro ⟨#HR, Hsrc, ⟨%fd, Hdst⟩, Hbag, ⟨%W, HO⟩, HtS, HtV, HQ⟩
  ihave Hr := (rec_at I K c c (.inl rfl) ((0, t))) $$ HR
  icases Hr with ⟨#HIS, #HrS⟩
  ihave Hr := (rec_at I K c (fw c 1) (.inr (.inl rfl)) ((1, t))) $$ HR
  icases Hr with ⟨#HIV, #HrV⟩
  have hland : ∀ G : sProp 𝕄, iprop(((slotM t).view.loc (fw c 1 : Thread nD τ) ↦[(slotM t).view.set]{fullShare}
      ((slotM t).view.write (Elt F) fd ((rowM (bk c t.val)).view.read (Elt F) (spread (I.R t.val c))) Finset.univ)) ∗ G)
      ⊢ iprop(slotV (fw c 1) t (I.R t.val (bk (fw c 1) 1)) ∗ G) := fun G => by
    rw [read_row, bk_fw]
    unfold slotV cAt
    iintro ⟨H, HG⟩
    isplitl [H]
    · iexists _
      isplitr
      · ipureintro; exact View.read_write_univ fd _
      · rw [← slotM_set]; iexact H
    · iexact HG
  by_cases he : edge t
  · iapply (Rounds.wp_send_landing_pointsTo_with 𝒱₀ ER (ringRd I) (c : Thread nD τ) none (c' := (fw c 1 : Thread nD τ))
      (src := rowM (bk c t.val)) (dst := slotM t) (sS := .dma (dsem 0 t)) (sem := .dma (dsem 1 t)) (q := fullShare)
      (κ₁ := K (c, some (0, t))) (κ₂ := K (fw c 1, some (1, t))) (fs := spread (I.R t.val c)) (fd := fd) (F := sendBag c t)
      (r₁ := 0) (r₂ := 0) (d₁ := false) (d₂ := false)
      (mem_dma I c 0 t) (mem_dma I (fw c 1) 1 t)
      () () NR rfl (amount_row I c 0 t (by decide) false) (amount_row I (fw c 1) 1 t (by decide) false) (rsDue c (6 - t.val)) (rsDue_step c t) (W := W)
      (by rw [show ((c : Thread nD τ), SemLoc.dma (dsem 0 t)) = dcell c 0 t from rfl, payload_dma]
          show _ ⊢ sentBack c t
          unfold sentBack; rw [if_pos he])
      (by rw [show ((fw c 1 : Thread nD τ), SemLoc.dma (dsem 1 t)) = dcell (fw c 1) 1 t from rfl, payload_dma]
          show _ ⊢ iprop(slotV (fw c 1) t (I.R t.val (bk (fw c 1) 1)) ∗ sentGoes (bk (fw c 1) 1) t ∗ sendBag (bk (fw c 1) 1) t)
          iintro ⟨H, Hs⟩
          ihave H := (hland (sendBag c t)) $$ H
          icases H with ⟨H, HG⟩
          isplitl [H]; · iexact H
          rw [bk_fw]
          isplitl [Hs]
          · unfold sentGoes rowAny oAt; rw [if_pos he, ← rowM_set]; iexists _; iexact Hs
          · iexact HG)) $$ [Hsrc Hdst Hbag HO HtS HtV]
    · isplitr; · iexact HIS
      isplitr; · iexact HIV
      isplitl [Hsrc]; · rw [rowM_set]; iexact Hsrc
      isplitl [Hdst Hbag]
      · isplitl [Hdst]
        · rw [slotM_set]; iexact Hdst
        · iexact Hbag
      isplitl [HO]; · iexact HO
      isplitl [HtS]; · iexact HtS
      isplitr; · iexact HrS
      isplitl [HtV]; · iexact HtV
      iexact HrV
    iintro ⟨Hc, HO⟩
    rw [wp_ret]; imodintro
    iapply HQ
    isplitl [Hc]; · iexact Hc
    iexists W; iexact HO
  · iapply (Rounds.wp_send_pointsTo_with 𝒱₀ ER (ringRd I) (c : Thread nD τ) none (c' := (fw c 1 : Thread nD τ))
      (src := rowM (bk c t.val)) (dst := slotM t) (sS := .dma (dsem 0 t)) (sem := .dma (dsem 1 t)) (q := fullShare)
      (κ₁ := K (c, some (0, t))) (κ₂ := K (fw c 1, some (1, t))) (fs := spread (I.R t.val c)) (fd := fd) (F := sendBag c t)
      (r₁ := 0) (r₂ := 0) (d₁ := false) (d₂ := false)
      (mem_dma I c 0 t) (mem_dma I (fw c 1) 1 t)
      () () NR rfl (amount_row I c 0 t (by decide) false) (amount_row I (fw c 1) 1 t (by decide) false) (rsDue c (6 - t.val)) (rsDue_step c t) (W := W)
      (by rw [show ((c : Thread nD τ), SemLoc.dma (dsem 0 t)) = dcell c 0 t from rfl, payload_dma]
          show _ ⊢ sentBack c t
          unfold sentBack rowAny oAt; rw [if_neg he, ← rowM_set]
          iintro H; iexists _; iexact H)
      (by rw [show ((fw c 1 : Thread nD τ), SemLoc.dma (dsem 1 t)) = dcell (fw c 1) 1 t from rfl, payload_dma]
          show _ ⊢ iprop(slotV (fw c 1) t (I.R t.val (bk (fw c 1) 1)) ∗ sentGoes (bk (fw c 1) 1) t ∗ sendBag (bk (fw c 1) 1) t)
          iintro H
          ihave H := (hland (sendBag c t)) $$ H
          icases H with ⟨H, HG⟩
          isplitl [H]; · iexact H
          rw [bk_fw]
          isplitr
          · unfold sentGoes; rw [if_neg he]; iempintro
          · iexact HG)) $$ [Hsrc Hdst Hbag HO HtS HtV]
    · isplitr; · iexact HIS
      isplitr; · iexact HIV
      isplitl [Hsrc]; · rw [rowM_set]; iexact Hsrc
      isplitl [Hdst Hbag]
      · isplitl [Hdst]
        · rw [slotM_set]; iexact Hdst
        · iexact Hbag
      isplitl [HO]; · iexact HO
      isplitl [HtS]; · iexact HtS
      isplitr; · iexact HrS
      isplitl [HtV]; · iexact HtV
      iexact HrV
    iintro ⟨Hc, HO⟩
    rw [wp_ret]; imodintro
    iapply HQ
    isplitl [Hc]; · iexact Hc
    iexists W; iexact HO

/-- A copy of half a chunk to device `n`, in place: the half comes back when the copy has left, and `G` goes along. -/
theorem sendHalf_wp (c n : Dev nD) (hn : Near c n) (κ κ' : Fin 6) (hκ : ¬ κ.val < 2) (hκ' : ¬ κ'.val < 2) (s : Fin 7) (hf : Fin 2) (k : Fin 8)
    {o : Fin 2 → ℕ} (h : ∀ a, o a + S512x512.size a ≤ S4096x1024.size a)
    (hw : (Rect.unit (s := S4096x1024) o S512x512.size h).WholeWords (EltTy.packing .bf16)) (e : o = ![512 * k.val, 512 * hf.val])
    {O₀ O : CellTallies nD τ sig Unit} (hO : O₀ = O + tallyAt (dcell n κ' s) () NH) (G : sProp 𝕄)
    (hback : pay I c κ s = halfV I c hf k) (hgo : iprop(halfV I n hf k ∗ G) ⊢ pay I n κ' s) (Q : PUnit → sProp 𝕄) :
    iprop(records I K c ∗ halfV I c hf k ∗ halfAny n hf k ∗ G ∗ owesE c O₀
      ∗ dutyTok ER (dcell c κ s) 0 false ∗ dutyTok ER (dcell n κ' s) 0 false
      ∗ ((cred (tallyAt (dcell c κ s) () NH) ∗ owesE c O) -∗ Q ⟨⟩))
      ⊢ WP c (sendHalf κ κ' n o h hw s) Q := by
  subst e
  unfold owesE sendHalf halfAny
  simp only [Prog.lift]
  iintro ⟨#HR, Hsrc, ⟨%fd, Hdst⟩, Hbag, ⟨%W, HO⟩, HtS, HtV, HQ⟩
  ihave Hr := (rec_at I K c c (.inl rfl) ((κ, s))) $$ HR
  icases Hr with ⟨#HIS, #HrS⟩
  ihave Hr := (rec_at I K c n hn ((κ', s))) $$ HR
  icases Hr with ⟨#HIV, #HrV⟩
  have hland : ((halfM hf k).view.loc (n : Thread nD τ) ↦[(halfM hf k).view.set]{fullShare}
      ((halfM hf k).view.write (Elt F) fd ((halfM hf k).view.read (Elt F) I.out) Finset.univ) : sProp 𝕄) ⊢ halfV I n hf k := by
    unfold halfV oAt
    rw [halfM_set]
    exact Entails.of_eq (pointsTo_congr fun i hi => copy_half hf k fd I.out hi)
  iapply (Rounds.wp_send_pointsTo_with 𝒱₀ ER (ringRd I) (c : Thread nD τ) none (c' := (n : Thread nD τ))
      (src := halfM hf k) (dst := halfM hf k) (sS := .dma (dsem κ s)) (sem := .dma (dsem κ' s)) (q := fullShare)
      (κ₁ := K (c, some (κ, s))) (κ₂ := K (n, some (κ', s))) (fs := I.out) (fd := fd) (F := G)
      (r₁ := 0) (r₂ := 0) (d₁ := false) (d₂ := false)
      (mem_dma I c κ s) (mem_dma I n κ' s)
      () () NH rfl (amount_half I c κ s hκ false) (amount_half I n κ' s hκ' false) O hO (W := W)
      (by rw [show ((c : Thread nD τ), SemLoc.dma (dsem κ s)) = dcell c κ s from rfl, payload_dma, hback]
          unfold halfV oAt
          rw [halfM_set])
      (by rw [show ((n : Thread nD τ), SemLoc.dma (dsem κ' s)) = dcell n κ' s from rfl, payload_dma]
          exact (sep_mono_l hland).trans hgo)) $$ [Hsrc Hdst Hbag HO HtS HtV]
  · isplitr; · iexact HIS
    isplitr; · iexact HIV
    isplitl [Hsrc]; · rw [halfM_set]; unfold halfV oAt; iexact Hsrc
    isplitl [Hdst Hbag]
    · isplitl [Hdst]
      · rw [halfM_set]; unfold oAt; iexact Hdst
      · iexact Hbag
    isplitl [HO]; · iexact HO
    isplitl [HtS]; · iexact HtS
    isplitr; · iexact HrS
    isplitl [HtV]; · iexact HtV
    iexact HrV
  iintro ⟨Hc, HO⟩
  rw [wp_ret]; imodintro
  iapply HQ
  isplitl [Hc]; · iexact Hc
  iexists W; iexact HO

/-- What a wait for copy `κ`, `t` of amount `N` needs, to go on to `X`. -/
def awaits (c : Dev nD) (κ : Fin 6) (t : Fin 7) (N : ℕ) (O : CellTallies nD τ sig Unit) (X : sProp 𝕄) : sProp 𝕄 :=
  iprop(records I K c ∗ levAts L lv ∗ cred (tallyAt (dcell c κ t) () N) ∗ owesE c O ∗ atPos ER (dcell c κ t) 0 ∅ 0
    ∗ ((owesE c O ∗ semVal (dcell c κ t) 0 ∗ pay I c κ t) -∗ X))

/-- A wait on a semaphore of a copy. -/
theorem waitD_wp (c : Dev nD) (κ : Fin 6) (t : Fin 7) (l : ℕ) (hl : lvOf (some (some (κ, t))) ≤ l) {O : CellTallies nD τ sig Unit} (hO : Above (l + 1) O)
    {w : TpuEff nD τ sig (Elt F) Λ₀ .tc PUnit} {N : ℕ}
    (hw : ∀ Kt : PUnit → sProp 𝕄, wpE (defs₀ (F := F)) 𝒱₀ (c : Thread nD τ) none Set.univ w Kt = waitSpec (c : Thread nD τ) Set.univ (.dma (dsem κ t)) N Kt)
    (hN : (ringRd I).expect (dcell c κ t) 0 = N) (Q : PUnit → sProp 𝕄) :
    awaits I K c κ t N O (Q ⟨⟩) ⊢ WP c (Prog.lift w) Q := by
  unfold awaits
  iintro ⟨HR, Hlev, Hc, HO, Hat, HQ⟩
  iapply (wait_wp I K c (some (κ, t)) (records I K c) (rec_inv I K c _) l hl hO hw hN.symm)
  isplitl [HR]; · iexact HR
  isplitl [Hlev]; · iexact Hlev
  isplitl [Hc]; · iexact Hc
  isplitl [HO]; · iexact HO
  isplitl [Hat]; · iexact Hat
  iintro ⟨HO, Hz, Hpay⟩
  iapply HQ
  isplitl [HO]; · iexact HO
  isplitl [Hz]; · iexact Hz
  rw [← rest_dma]; iexact Hpay

theorem waitRowOut_wp (c : Dev nD) (t : Fin 7) (o : Fin 2 → ℕ) (h : ∀ a, o a + S512x1024.size a ≤ S4096x1024.size a)
    (hw : (Rect.unit (s := S4096x1024) o S512x1024.size h).WholeWords (EltTy.packing .bf16)) {O : CellTallies nD τ sig Unit} (hO : Above 1 O)
    (Q : PUnit → sProp 𝕄) : awaits I K c 0 t NR O (Q ⟨⟩) ⊢ WP c (waitRowOut o h hw t) Q := by
  refine waitD_wp I K c 0 t 0 (le_refl 0) hO (fun Kt => ?_) (expect_row I c 0 t (by decide)) Q
  exact wpE_waitDma2_eq 𝒱₀ (c : Thread nD τ) none Set.univ Kt
theorem waitRowIn_wp (c : Dev nD) (t : Fin 7) (o : Fin 2 → ℕ) (h : ∀ a, o a + S512x1024.size a ≤ S4096x1024.size a)
    (hw : (Rect.unit (s := S4096x1024) o S512x1024.size h).WholeWords (EltTy.packing .bf16)) {O : CellTallies nD τ sig Unit} (hO : Above (2 + t.val + 1) O)
    (Q : PUnit → sProp 𝕄) : awaits I K c 1 t NR O (Q ⟨⟩) ⊢ WP c (waitRowIn o h hw t) Q := by
  refine waitD_wp I K c 1 t (2 + t.val) (le_refl _) hO (fun Kt => ?_) (expect_row I c 1 t (by decide)) Q
  exact wpE_waitDma2_eq 𝒱₀ (c : Thread nD τ) none Set.univ Kt
theorem waitHalf_wp (c : Dev nD) (κ : Fin 6) (hκ : ¬ κ.val < 2) (s : Fin 7) (o : Fin 2 → ℕ) (h : ∀ a, o a + S512x512.size a ≤ S4096x1024.size a)
    (hw : (Rect.unit (s := S4096x1024) o S512x512.size h).WholeWords (EltTy.packing .bf16)) {O : CellTallies nD τ sig Unit}
    (hO : Above (lvOf (some (some (κ, s))) + 1) O)
    (Q : PUnit → sProp 𝕄) : awaits I K c κ s NH O (Q ⟨⟩) ⊢ WP c (waitHalf κ o h hw s) Q := by
  refine waitD_wp I K c κ s _ (le_refl _) hO (fun Kt => ?_) (expect_half I c κ s hκ) Q
  exact wpE_waitDma2_eq 𝒱₀ (c : Thread nD τ) none Set.univ Kt

/-! ## A step of the reduce-scatter -/

/-- What a device has for step `t` of the reduce-scatter, of tokens, positions and credit; what is left of it. -/
def rsKit (c : Dev nD) (t : Fin 7) : sProp 𝕄 :=
  iprop(atPos ER (dcell c 0 t) 0 ∅ 0 ∗ atPos ER (dcell c 1 t) 0 ∅ 0 ∗ dutyTok ER (dcell c 0 t) 0 false ∗ dutyTok ER (dcell (fw c 1) 1 t) 0 false
    ∗ cred (tallyAt (dcell c 1 t) () NR))
def rsZero (c : Dev nD) (t : Fin 7) : sProp 𝕄 := iprop(semVal (dcell c 0 t) 0 ∗ semVal (dcell c 1 t) 0)

theorem rsStep_wp (c n : Dev nD) (hn : n = fw c 1) (t : Fin 7) (lp : P (F := F) Unit)
    (hlp : ∀ Q : Unit → sProp 𝕄, iprop(insAt I c ∗ aAny c ∗ ((insAt I c ∗ aAt c (attn (I.q c) (I.k c) (I.v c) (bk c (t.val + 1)))) -∗ Q ⟨⟩)) ⊢ WP c lp Q)
    (Q : PUnit → sProp 𝕄) :
    iprop(records I K c ∗ levAts L lv ∗ rsKit c t ∗ owesE c (rsDue c (7 - t.val)) ∗ insAt I c ∗ aAny c
      ∗ rowV c (bk c t.val) (I.R t.val c) ∗ slotAny (fw c 1) t ∗ sendBag c t ∗ rowAny c (bk c (t.val + 1))
      ∗ ((rsZero c t ∗ owesE c (rsDue c (6 - t.val)) ∗ insAt I c ∗ aAny c ∗ rowV c (bk c (t.val + 1)) (I.R (t.val + 1) c) ∗ slotAny c t
          ∗ sentBack c t ∗ sentGoes (bk c 1) t ∗ sendBag (bk c 1) t) -∗ Q ⟨⟩))
      ⊢ WP c (rsStep c n t lp) Q := by
  have e5 : k1_off5 c (BitVec.ofNat 32 t.val) = ![512 * (bk c t.val).val, 0] := by
    rw [k1_off5_eq, bk_val, show (c.val + 8 - t.val) % 8 = (c.val + 7 * t.val) % 8 by have := t.isLt; omega]
  have e9 : k1_off9 c (BitVec.ofNat 32 t.val) = ![512 * (bk c (t.val + 1)).val, 0] := by
    rw [k1_off9_eq, bk_val, show (c.val + 15 - t.val) % 8 = (c.val + 7 * (t.val + 1)) % 8 by have := t.isLt; omega]
  unfold rsStep rsKit rsZero
  iintro ⟨#HR, #Hlev, ⟨Ha0, Ha1, Ht0, Ht1, Hc1⟩, HO, Hin, Ha, Hrow, Hslot, Hbag, Hnext, HQ⟩
  iapply wp_then
  iapply (sendRow_wp I K c n hn t _ _ e5)
  isplitr; · iexact HR
  isplitl [Hrow]; · iexact Hrow
  isplitl [Hslot]; · iexact Hslot
  isplitl [Hbag]; · iexact Hbag
  isplitl [HO]; · iexact HO
  isplitl [Ht0]; · iexact Ht0
  isplitl [Ht1]; · iexact Ht1
  iintro ⟨Hc0, HO⟩
  iapply wp_then
  iapply hlp
  isplitl [Hin]; · iexact Hin
  isplitl [Ha]; · iexact Ha
  iintro ⟨Hin, Ha⟩
  iapply wp_then
  iapply (prodRow_wp I c (bk c (t.val + 1)) _ _ e9)
  isplitl [Hin]; · iexact Hin
  isplitl [Ha]; · iexact Ha
  isplitl [Hnext]; · iexact Hnext
  iintro ⟨Hin, Ha, Hrow⟩
  iapply wp_then
  iapply (waitRowOut_wp I K c t _ _ _ (Above.rs c 1 (6 - t.val) (by omega) (by omega)))
  unfold awaits
  isplitr; · iexact HR
  isplitr; · iexact Hlev
  isplitl [Hc0]; · iexact Hc0
  isplitl [HO]; · iexact HO
  isplitl [Ha0]; · iexact Ha0
  iintro ⟨HO, Hz0, Hback⟩
  iapply wp_then
  iapply (waitRowIn_wp I K c t _ _ _ (Above.rs c _ (6 - t.val) (by omega) (by have := t.isLt; omega)))
  unfold awaits
  isplitr; · iexact HR
  isplitr; · iexact Hlev
  isplitl [Hc1]; · iexact Hc1
  isplitl [HO]; · iexact HO
  isplitl [Ha1]; · iexact Ha1
  iintro ⟨HO, Hz1, Hgot⟩
  unfold pay
  icases Hgot with ⟨Hs, Hgo, Hbag⟩
  iapply (addRow_wp c (bk c (t.val + 1)) t _ _ e9)
  isplitl [Hrow]; · iexact Hrow
  isplitl [Hs]; · iexact Hs
  iintro ⟨Hrow, Hs⟩
  iapply HQ
  isplitl [Hz0 Hz1]
  · isplitl [Hz0]; · iexact Hz0
    iexact Hz1
  isplitl [HO]; · iexact HO
  isplitl [Hin]; · iexact Hin
  isplitl [Ha]; · iexact Ha
  isplitl [Hrow]; · iexact Hrow
  isplitl [Hs]; · iexact Hs
  isplitl [Hback]; · iexact Hback
  isplitl [Hgo]; · iexact Hgo
  iexact Hbag

/-! ## A step of the all-gather -/

def agKit (c : Dev nD) (s : Fin 7) : sProp 𝕄 :=
  iprop(atPos ER (dcell c 2 s) 0 ∅ 0 ∗ atPos ER (dcell c 3 s) 0 ∅ 0 ∗ atPos ER (dcell c 4 s) 0 ∅ 0 ∗ atPos ER (dcell c 5 s) 0 ∅ 0
    ∗ dutyTok ER (dcell c 2 s) 0 false ∗ dutyTok ER (dcell (fw c 1) 3 s) 0 false ∗ dutyTok ER (dcell c 4 s) 0 false ∗ dutyTok ER (dcell (bk c 1) 5 s) 0 false
    ∗ cred (tallyAt (dcell c 3 s) () NH) ∗ cred (tallyAt (dcell c 5 s) () NH))
def agZero (c : Dev nD) (s : Fin 7) : sProp 𝕄 :=
  iprop(semVal (dcell c 2 s) 0 ∗ semVal (dcell c 3 s) 0 ∗ semVal (dcell c 4 s) 0 ∗ semVal (dcell c 5 s) 0)

theorem agStep_wp (c n₁ n₂ : Dev nD) (h₁ : n₁ = fw c 1) (h₂ : n₂ = bk c 1) (s : Fin 7) (Q : PUnit → sProp 𝕄) :
    iprop(records I K c ∗ levAts L lv ∗ agKit c s ∗ owesE c (agDue c (7 - s.val))
      ∗ halfV I c 0 (bk c (7 + s.val)) ∗ halfAny (fw c 1) 0 (bk c (7 + s.val)) ∗ halfV I c 1 (fw c (1 + s.val)) ∗ halfAny (bk c 1) 1 (fw c (1 + s.val)) ∗ agBag c s
      ∗ ((agZero c s ∗ owesE c (agDue c (6 - s.val)) ∗ halfV I c 0 (bk c (7 + s.val)) ∗ halfV I c 1 (fw c (1 + s.val))
          ∗ halfV I c 0 (bk c s.val) ∗ halfV I c 1 (fw c (2 + s.val)) ∗ agBag (fw c 1) s) -∗ Q ⟨⟩))
      ⊢ WP c (agStep c n₁ n₂ s) Q := by
  have e28 : k1_off28 c (BitVec.ofNat 32 s.val) = ![512 * (bk c (7 + s.val)).val, 512 * (0 : Fin 2).val] := by
    rw [k1_off28_eq, bk_val, show (c.val + 9 - s.val) % 8 = (c.val + 7 * (7 + s.val)) % 8 by have := s.isLt; omega]; rfl
  have e29 : k1_off29 c (BitVec.ofNat 32 s.val) = ![512 * (fw c (1 + s.val)).val, 512 * (1 : Fin 2).val] := by
    rw [k1_off29_eq, fw_val, show (c.val + s.val + 1) % 8 = (c.val + (1 + s.val)) % 8 by omega]; rfl
  subst h₁ h₂
  unfold agStep agKit agZero
  iintro ⟨#HR, #Hlev, ⟨Ha2, Ha3, Ha4, Ha5, Ht2, Ht3, Ht4, Ht5, Hc3, Hc5⟩, HO, HP, HPd, HM, HMd, Hbag, HQ⟩
  iapply wp_then
  iapply (sendHalf_wp I K c (fw c 1) (.inr (.inl rfl)) 2 3 (by decide) (by decide) s 0 (bk c (7 + s.val)) _ _ e28 (agDue_step c s) iprop(emp) rfl
    (by rw [← bk_fw_add]; exact Laws.sep_emp.1))
  isplitr; · iexact HR
  isplitl [HP]; · iexact HP
  isplitl [HPd]; · iexact HPd
  isplitr; · iempintro
  isplitl [HO]; · iexact HO
  isplitl [Ht2]; · iexact Ht2
  isplitl [Ht3]; · iexact Ht3
  iintro ⟨Hc2, HO⟩
  iapply wp_then
  iapply (sendHalf_wp I K c (bk c 1) (.inr (.inr rfl)) 4 5 (by decide) (by decide) s 1 (fw c (1 + s.val)) _ _ e29 rfl (agBag c s) rfl
    (by unfold pay; rw [fw_bk_add, fw_bk]))
  isplitr; · iexact HR
  isplitl [HM]; · iexact HM
  isplitl [HMd]; · iexact HMd
  isplitl [Hbag]; · iexact Hbag
  isplitl [HO]; · iexact HO
  isplitl [Ht4]; · iexact Ht4
  isplitl [Ht5]; · iexact Ht5
  iintro ⟨Hc4, HO⟩
  iapply wp_then
  iapply (waitHalf_wp I K c 2 (by decide) s _ _ _ (Above.ag c 1 (6 - s.val) (by omega) (by omega)))
  unfold awaits
  isplitr; · iexact HR
  isplitr; · iexact Hlev
  isplitl [Hc2]; · iexact Hc2
  isplitl [HO]; · iexact HO
  isplitl [Ha2]; · iexact Ha2
  iintro ⟨HO, Hz2, HP⟩
  iapply wp_then
  iapply (waitHalf_wp I K c 3 (by decide) s _ _ _ (Above.ag c (9 + s.val + 1) (6 - s.val) (by omega) (by have := s.isLt; omega)))
  unfold awaits
  isplitr; · iexact HR
  isplitr; · iexact Hlev
  isplitl [Hc3]; · iexact Hc3
  isplitl [HO]; · iexact HO
  isplitl [Ha3]; · iexact Ha3
  iintro ⟨HO, Hz3, HP'⟩
  iapply wp_then
  iapply (waitHalf_wp I K c 4 (by decide) s _ _ _ (Above.ag c 1 (6 - s.val) (by omega) (by omega)))
  unfold awaits
  isplitr; · iexact HR
  isplitr; · iexact Hlev
  isplitl [Hc4]; · iexact Hc4
  isplitl [HO]; · iexact HO
  isplitl [Ha4]; · iexact Ha4
  iintro ⟨HO, Hz4, HM⟩
  iapply (waitHalf_wp I K c 5 (by decide) s _ _ _ (Above.ag c (9 + s.val + 1) (6 - s.val) (by omega) (by have := s.isLt; omega)))
  unfold awaits
  isplitr; · iexact HR
  isplitr; · iexact Hlev
  isplitl [Hc5]; · iexact Hc5
  isplitl [HO]; · iexact HO
  isplitl [Ha5]; · iexact Ha5
  iintro ⟨HO, Hz5, HM'⟩
  unfold pay
  icases HM' with ⟨HM', Hbag⟩
  iapply HQ
  isplitl [Hz2 Hz3 Hz4 Hz5]
  · isplitl [Hz2]; · iexact Hz2
    isplitl [Hz3]; · iexact Hz3
    isplitl [Hz4]; · iexact Hz4
    iexact Hz5
  isplitl [HO]; · iexact HO
  isplitl [HP]; · iexact HP
  isplitl [HM]; · iexact HM
  isplitl [HP']; · iexact HP'
  isplitl [HM']; · iexact HM'
  iexact Hbag

end Cert.RingProof

end
-- ==== Proof.Mem.lean ====
/-
  The result buffer cut into the pieces that travel — eight chunks of rows, each in a left and a right half — and joined
  again at the end; the arrival buffer cut into its slots and joined.
-/
module

public import proofs.«01_k».proof.Proof.Talk

@[expose] public section

noncomputable section

namespace Cert.RingProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-- The whole result is its eight chunks. -/
theorem rows_eq (c : Dev nD) (f : Vec F S4096x1024 .bf16) : (oAt c Finset.univ f : sProp 𝕄) = bigSep Finset.univ fun k : Fin 8 => oAt c (rowS k) f := by
  unfold oAt
  rw [← rows_cover]
  exact pointsTo_biUnion _ _ fun _ _ _ _ h => rows_disjoint h

theorem rows_split (c : Dev nD) (f : Vec F S4096x1024 .bf16) : (oAt c Finset.univ f : sProp 𝕄) ⊢ bigSep Finset.univ fun k : Fin 8 => rowAny c k := by
  rw [rows_eq]
  refine BI.bigSep_mono fun k _ => ?_
  show oAt c (rowS k) f ⊢ rowAny c k
  unfold rowAny
  iintro H; iexists f; iexact H

/-- A chunk is its two halves. -/
theorem row_halves (c : Dev nD) (k : Fin 8) (f : Vec F S4096x1024 .bf16) :
    (oAt c (rowS k) f : sProp 𝕄) ⊣⊢ iprop(oAt c (halfS 0 k) f ∗ oAt c (halfS 1 k) f) := by
  unfold oAt
  rw [row_eq_halves]
  exact pointsTo_union (halves_disjoint k)

theorem row_split (c : Dev nD) (k : Fin 8) : (rowAny c k : sProp 𝕄) ⊢ iprop(halfAny c 0 k ∗ halfAny c 1 k) := by
  unfold rowAny halfAny
  iintro ⟨%f, H⟩
  ihave H := (row_halves c k f).1 $$ H
  icases H with ⟨H0, H1⟩
  isplitl [H0]
  · iexists f; iexact H0
  · iexists f; iexact H1

/-- The chunk a device has summed up is part of the result. -/
theorem row_final (c : Dev nD) : rowV c (bk c 7) (I.R 7 c) ⊢ iprop(halfV I c 0 (bk c 7) ∗ halfV I c 1 (bk c 7)) := by
  have e : I.V (bk c 7) = I.R 7 c := by unfold Inp.V; rw [bk_bk]; exact congrArg _ (Fin.ext (by
    have : c.val < 8 := c.isLt
    show (c.val + 7 * (7 + 1)) % 8 = c.val; omega))
  have h : (rowV c (bk c 7) (I.R 7 c) : sProp 𝕄) = oAt c (rowS (bk c 7)) I.out := by
    unfold rowV oAt
    rw [← e]
    exact pointsTo_congr fun i hi => (gather_eq_spread I.V (bk c 7) hi).symm
  rw [h]
  unfold halfV
  exact (row_halves c (bk c 7) I.out).1

/-- Eight chunk numbers counted back from `bk c 7`, counted forward from `fw c 1`. -/
def downFrom (c : Fin 8) : Fin 8 ≃ Fin 8 :=
  Equiv.ofBijective (fun s => bk c (7 + s.val)) (Finite.injective_iff_bijective.mp fun s s' h => Fin.ext (by
    have h := congrArg Fin.val h
    have := s.isLt; have := s'.isLt
    simp only [bk_val] at h; omega))
def upFrom (c : Fin 8) : Fin 8 ≃ Fin 8 :=
  Equiv.ofBijective (fun s => fw c (1 + s.val)) (Finite.injective_iff_bijective.mp fun s s' h => Fin.ext (by
    have h := congrArg Fin.val h
    have := s.isLt; have := s'.isLt
    simp only [fw_val] at h; omega))

/-- All left halves and all right halves of the result are the result. -/
theorem out_join (c : Dev nD) :
    iprop((bigSep Finset.univ fun s : Fin 8 => halfV I c 0 (bk c (7 + s.val))) ∗ (bigSep Finset.univ fun s : Fin 8 => halfV I c 1 (fw c (1 + s.val))))
      ⊢ oAt c Finset.univ I.out := by
  rw [rows_eq, show (bigSep Finset.univ fun s : Fin 8 => halfV I c 0 (bk c (7 + s.val)) : sProp 𝕄) = bigSep Finset.univ fun k : Fin 8 => halfV I c 0 k
      from (bigSep_univ_equiv (downFrom c) fun k => halfV I c 0 k).symm,
    show (bigSep Finset.univ fun s : Fin 8 => halfV I c 1 (fw c (1 + s.val)) : sProp 𝕄) = bigSep Finset.univ fun k : Fin 8 => halfV I c 1 k
      from (bigSep_univ_equiv (upFrom c) fun k => halfV I c 1 k).symm, ← bigSep_sep']
  exact BI.bigSep_mono fun k _ => (row_halves c k I.out).2

/-- The arrival buffer is its seven slots. -/
theorem slots_split (c : Dev nD) (f : Vec F S7x512x1024 .bf16) : (cAt c Finset.univ f : sProp 𝕄) ⊢ bigSep Finset.univ fun t : Fin 7 => slotAny c t := by
  have h : (cAt c Finset.univ f : sProp 𝕄) = bigSep Finset.univ fun t : Fin 7 => cAt c (slotS t) f := by
    unfold cAt
    rw [← slots_cover]
    exact pointsTo_biUnion _ _ fun _ _ _ _ h => slots_disjoint h
  rw [h]
  refine BI.bigSep_mono fun k _ => ?_
  show cAt c (slotS k) f ⊢ slotAny c k
  unfold slotAny
  iintro H; iexists f; iexact H

theorem slots_join (c : Dev nD) : (bigSep Finset.univ fun t : Fin 7 => slotAny c t : sProp 𝕄) ⊢ iprop(∃ f, cAt c Finset.univ f) := by
  unfold slotAny
  haveI : Nonempty (Vec F S7x512x1024 .bf16) := ⟨fun _ => (FloatOps.ofBits (F := F) .bf16 0 : F .bf16)⟩
  iintro H
  ihave H := (BI.bigSep_exists_pi Finset.univ (fun (t : Fin 7) (f : Vec F S7x512x1024 .bf16) => (cAt c (slotS t) f : sProp 𝕄))) $$ H
  icases H with ⟨%fs, H⟩
  unfold cAt
  ihave H := (pointsTo_biUnion_join Finset.univ slotS fs (fs 0) fun _ _ _ _ h => slots_disjoint h) $$ H
  icases H with ⟨%g, -, H⟩
  iexists g
  rw [slots_cover]; iexact H

end Cert.RingProof

end
-- ==== Proof.Body.lean ====
/-
  The whole body of one device, from its own operands and what the launch deals it to the result.

  Where the chunks go, on device `c` with left neighbour `e = bk c 1`: the chunk sent first and the chunk sent last
  travel to the right neighbour; the others come back and are cut in halves. Right halves go to the right neighbour one
  step after their chunk was sent; left halves are kept for the all-gather and go to the left neighbour there. One left
  half is passed on all round the reduce-scatter, so that each device has that of its right neighbour's own chunk.
-/
module

public import proofs.«01_k».proof.Proof.Mem

@[expose] public section

noncomputable section

namespace Cert.RingProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

/-! ## The reduce-scatter -/

/-- A device between two steps: `t` steps made. -/
def rsAt (c : Dev nD) (t : ℕ) : sProp 𝕄 :=
  iprop(owesE c (rsDue c (7 - t)) ∗ insAt I c ∗ aAny c ∗ rowV c (bk c t) (I.R t c))

/-- A step, from one state to the next. -/
theorem rs_wp (c n : Dev nD) (hn : n = fw c 1) (t : Fin 7) (lp : P (F := F) Unit)
    (hlp : ∀ Q : Unit → sProp 𝕄, iprop(insAt I c ∗ aAny c ∗ ((insAt I c ∗ aAt c (attn (I.q c) (I.k c) (I.v c) (bk c (t.val + 1)))) -∗ Q ⟨⟩)) ⊢ WP c lp Q)
    (G : sProp 𝕄) (hG : iprop(sentBack c t ∗ sentGoes (bk c 1) t ∗ sendBag (bk c 1) t) ⊢ G) (B : sProp 𝕄) (hB : B ⊢ sendBag c t) (Q : PUnit → sProp 𝕄) :
    iprop(records I K c ∗ levAts L lv ∗ rsKit c t ∗ rsAt I c t.val ∗ slotAny (fw c 1) t ∗ rowAny c (bk c (t.val + 1)) ∗ B
      ∗ ((rsZero c t ∗ slotAny c t ∗ rsAt I c (t.val + 1) ∗ G) -∗ Q ⟨⟩))
      ⊢ WP c (rsStep c n t lp) Q := by
  unfold rsAt
  iintro ⟨#HR, #Hlev, Hk, ⟨HO, Hin, Ha, Hrow⟩, Hslot, Hnext, HB, HQ⟩
  iapply (rsStep_wp I K c n hn t lp hlp)
  isplitr; · iexact HR
  isplitr; · iexact Hlev
  isplitl [Hk]; · iexact Hk
  isplitl [HO]; · iexact HO
  isplitl [Hin]; · iexact Hin
  isplitl [Ha]; · iexact Ha
  isplitl [Hrow]; · iexact Hrow
  isplitl [Hslot]; · iexact Hslot
  isplitl [HB]; · iapply hB; iexact HB
  isplitl [Hnext]; · iexact Hnext
  iintro ⟨Hz, HO, Hin, Ha, Hrow, Hs, HG⟩
  iapply HQ
  isplitl [Hz]; · iexact Hz
  isplitl [Hs]; · iexact Hs
  isplitl [HO Hin Ha Hrow]
  · isplitl [HO]
    · rw [show 7 - (t.val + 1) = 6 - t.val by omega]; iexact HO
    isplitl [Hin]; · iexact Hin
    isplitl [Ha]; · iexact Ha
    iexact Hrow
  iapply hG; iexact HG

/-- What arrives: first, second, in the middle, last. -/
theorem got_first (c : Dev nD) : (iprop(sentBack c 0 ∗ sentGoes (bk c 1) 0 ∗ sendBag (bk c 1) 0) : sProp 𝕄)
    ⊢ iprop(halfAny (bk c 1) 0 (bk c 1) ∗ halfAny (bk c 1) 1 (bk (bk c 1) 0)) := by
  unfold sentBack sentGoes sendBag
  rw [if_pos (show edge 0 by decide), if_pos (show edge 0 by decide), if_pos rfl]
  iintro ⟨-, H, -⟩
  ihave H := (row_split (bk c 1) (bk (bk c 1) ((0 : Fin 7).val))) $$ H
  icases H with ⟨H0, H1⟩
  isplitl [H0]
  · rw [show bk (bk c 1) ((0 : Fin 7).val) = bk c 1 from bk_zero _]; iexact H0
  · iexact H1
theorem got_second (c : Dev nD) : (iprop(sentBack c 1 ∗ sentGoes (bk c 1) 1 ∗ sendBag (bk c 1) 1) : sProp 𝕄)
    ⊢ iprop((halfAny c 0 (bk c 1) ∗ halfAny c 1 (bk c 1)) ∗ halfAny (bk c 2) 0 (bk c 2)) := by
  unfold sentBack sentGoes sendBag
  rw [if_neg (show ¬ edge 1 by decide), if_neg (show ¬ edge 1 by decide), if_neg (show ¬ (1 : Fin 7) = 0 by decide), if_pos rfl]
  iintro ⟨H, -, ⟨HB, -⟩⟩
  isplitl [H]; · iapply (row_split c (bk c 1)); iexact H
  rw [show bk (bk c 1) ((1 : Fin 7).val) = bk c 2 from bk_bk c 1 1]; iexact HB
theorem got_mid (c : Dev nD) (t : Fin 7) (h : 2 ≤ t.val) (h' : t.val ≤ 5) : (iprop(sentBack c t ∗ sentGoes (bk c 1) t ∗ sendBag (bk c 1) t) : sProp 𝕄)
    ⊢ iprop((halfAny c 0 (bk c t.val) ∗ halfAny c 1 (bk c t.val)) ∗ halfAny (bk c (t.val + 1)) 0 (bk c (t.val + 1)) ∗ halfAny (bk c 1) 1 (bk (bk c 1) (t.val - 1))) := by
  have he : ¬ edge t := fun he => by
    rcases he with rfl | rfl
    · exact absurd h (by decide)
    · exact absurd h' (by decide)
  unfold sentBack sentGoes sendBag
  rw [if_neg he, if_neg he, if_neg (fun e => he (Or.inl e)), if_neg (fun e => by rw [e] at h; exact absurd h (by decide)), bk_bk, Nat.add_comm 1 t.val]
  iintro ⟨H, -, ⟨HB, HM⟩⟩
  isplitl [H]; · iapply (row_split c (bk c t.val)); iexact H
  isplitl [HB]; · iexact HB
  iexact HM
theorem got_last (c : Dev nD) : (iprop(sentBack c 6 ∗ sentGoes (bk c 1) 6 ∗ sendBag (bk c 1) 6) : sProp 𝕄)
    ⊢ iprop((halfAny (bk c 1) 0 (bk (bk c 1) 6) ∗ halfAny (bk c 1) 1 (bk (bk c 1) 6)) ∗ halfAny (fw c 1) 0 (bk c 7) ∗ halfAny (bk c 1) 1 (bk (bk c 1) 5)) := by
  have e : fw c 1 = bk c 7 := Fin.ext (by rw [fw_val, bk_val]; omega)
  unfold sentBack sentGoes sendBag
  rw [if_pos (show edge 6 by decide), if_pos (show edge 6 by decide), if_neg (show ¬ (6 : Fin 7) = 0 by decide), if_neg (show ¬ (6 : Fin 7) = 1 by decide), e,
    show bk (bk c 1) ((6 : Fin 7).val) = bk c 7 from bk_bk c 1 6]
  iintro ⟨-, H, ⟨HB, HM⟩⟩
  isplitl [H]
  · rw [show bk (bk c 1) 6 = bk c 7 from bk_bk c 1 6]; iapply (row_split (bk c 1) (bk c 7)); iexact H
  isplitl [HB]; · iexact HB
  iexact HM

/-- What goes along: nothing first; then the left half passed on; then the right half of the chunk sent before too. -/
theorem bag_first (c : Dev nD) : (iprop(emp) : sProp 𝕄) ⊢ sendBag c 0 := by unfold sendBag; rw [if_pos rfl]
theorem bag_second (c : Dev nD) : (halfAny (bk c 1) 0 (bk c 1) : sProp 𝕄) ⊢ sendBag c 1 := by
  unfold sendBag
  rw [if_neg (show ¬ (1 : Fin 7) = 0 by decide), if_pos rfl]
  iintro H
  isplitl; · iexact H
  iempintro
theorem bag_mid (c : Dev nD) (t : Fin 7) (h : 2 ≤ t.val) : (iprop(halfAny (bk c t.val) 0 (bk c t.val) ∗ halfAny c 1 (bk c (t.val - 1))) : sProp 𝕄) ⊢ sendBag c t := by
  unfold sendBag
  rw [if_neg (fun e => by rw [e] at h; exact absurd h (by decide)), if_neg (fun e => by rw [e] at h; exact absurd h (by decide))]

/-- A loop of the body makes chunk `bk c u`, when its query rows start there. -/
theorem loop1_wp (c : Dev nD) (Q : Unit → sProp 𝕄) :
    iprop(insAt I c ∗ aAny c ∗ ((insAt I c ∗ aAt c (attn (I.q c) (I.k c) (I.v c) (bk c 0))) -∗ Q ⟨⟩)) ⊢ WP c (loop1 c) Q :=
  loop_wp I c (bk c 0) k1_t1_loop k1_t1_ok (by decide) _ _ _ _ _ _ _ (fun i => by rw [k1_off1_eq, bk_zero]) (fun i => k1_off2_eq i) (fun i => k1_off3_eq i) Q
theorem loop2_wp (c : Dev nD) (Q : Unit → sProp 𝕄) :
    iprop(insAt I c ∗ aAny c ∗ ((insAt I c ∗ aAt c (attn (I.q c) (I.k c) (I.v c) (bk c ((0 : Fin 7).val + 1)))) -∗ Q ⟨⟩)) ⊢ WP c (loop2 c) Q :=
  loop_wp I c (bk c 1) k1_t2_loop k1_t2_ok (by decide) _ _ _ _ _ _ _
    (fun i => by rw [k1_off6_eq, bk_val, show (c.val + 15) % 8 = (c.val + 7 * 1) % 8 by omega]) (fun i => k1_off7_eq i) (fun i => k1_off8_eq i) Q
theorem loop3_wp (c : Dev nD) (Q : Unit → sProp 𝕄) :
    iprop(insAt I c ∗ aAny c ∗ ((insAt I c ∗ aAt c (attn (I.q c) (I.k c) (I.v c) (bk c ((1 : Fin 7).val + 1)))) -∗ Q ⟨⟩)) ⊢ WP c (loop3 c) Q :=
  loop_wp I c (bk c 2) k1_t3_loop k1_t3_ok (by decide) _ _ _ _ _ _ _
    (fun i => by rw [k1_off10_eq, bk_val, show (c.val + 14) % 8 = (c.val + 7 * 2) % 8 by omega]) (fun i => k1_off11_eq i) (fun i => k1_off12_eq i) Q
theorem loop4_wp (c : Dev nD) (Q : Unit → sProp 𝕄) :
    iprop(insAt I c ∗ aAny c ∗ ((insAt I c ∗ aAt c (attn (I.q c) (I.k c) (I.v c) (bk c ((2 : Fin 7).val + 1)))) -∗ Q ⟨⟩)) ⊢ WP c (loop4 c) Q :=
  loop_wp I c (bk c 3) k1_t4_loop k1_t4_ok (by decide) _ _ _ _ _ _ _
    (fun i => by rw [k1_off13_eq, bk_val, show (c.val + 13) % 8 = (c.val + 7 * 3) % 8 by omega]) (fun i => k1_off14_eq i) (fun i => k1_off15_eq i) Q
theorem loop5_wp (c : Dev nD) (Q : Unit → sProp 𝕄) :
    iprop(insAt I c ∗ aAny c ∗ ((insAt I c ∗ aAt c (attn (I.q c) (I.k c) (I.v c) (bk c ((3 : Fin 7).val + 1)))) -∗ Q ⟨⟩)) ⊢ WP c (loop5 c) Q :=
  loop_wp I c (bk c 4) k1_t5_loop k1_t5_ok (by decide) _ _ _ _ _ _ _
    (fun i => by rw [k1_off16_eq, bk_val, show (c.val + 12) % 8 = (c.val + 7 * 4) % 8 by omega]) (fun i => k1_off17_eq i) (fun i => k1_off18_eq i) Q
theorem loop6_wp (c : Dev nD) (Q : Unit → sProp 𝕄) :
    iprop(insAt I c ∗ aAny c ∗ ((insAt I c ∗ aAt c (attn (I.q c) (I.k c) (I.v c) (bk c ((4 : Fin 7).val + 1)))) -∗ Q ⟨⟩)) ⊢ WP c (loop6 c) Q :=
  loop_wp I c (bk c 5) k1_t6_loop k1_t6_ok (by decide) _ _ _ _ _ _ _
    (fun i => by rw [k1_off19_eq, bk_val, show (c.val + 11) % 8 = (c.val + 7 * 5) % 8 by omega]) (fun i => k1_off20_eq i) (fun i => k1_off21_eq i) Q
theorem loop7_wp (c : Dev nD) (Q : Unit → sProp 𝕄) :
    iprop(insAt I c ∗ aAny c ∗ ((insAt I c ∗ aAt c (attn (I.q c) (I.k c) (I.v c) (bk c ((5 : Fin 7).val + 1)))) -∗ Q ⟨⟩)) ⊢ WP c (loop7 c) Q :=
  loop_wp I c (bk c 6) k1_t7_loop k1_t7_ok (by decide) _ _ _ _ _ _ _
    (fun i => by rw [k1_off22_eq, bk_val, show (c.val + 10) % 8 = (c.val + 7 * 6) % 8 by omega]) (fun i => k1_off23_eq i) (fun i => k1_off24_eq i) Q
theorem loop8_wp (c : Dev nD) (Q : Unit → sProp 𝕄) :
    iprop(insAt I c ∗ aAny c ∗ ((insAt I c ∗ aAt c (attn (I.q c) (I.k c) (I.v c) (bk c ((6 : Fin 7).val + 1)))) -∗ Q ⟨⟩)) ⊢ WP c (loop8 c) Q :=
  loop_wp I c (bk c 7) k1_t8_loop k1_t8_ok (by decide) _ _ _ _ _ _ _
    (fun i => by rw [k1_off25_eq, bk_val, show (c.val + 9) % 8 = (c.val + 7 * 7) % 8 by omega]) (fun i => k1_off26_eq i) (fun i => k1_off27_eq i) Q

theorem bigSep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- After the reduce-scatter, of the result: the chunk summed up; left halves of this device's other chunks; right halves
    of the left neighbour's; and two left halves more, of the right and the left neighbour. -/
def rsLeft (c : Dev nD) : sProp 𝕄 :=
  iprop((halfAny c 0 (bk c 1) ∗ halfAny c 0 (bk c 2) ∗ halfAny c 0 (bk c 3) ∗ halfAny c 0 (bk c 4) ∗ halfAny c 0 (bk c 5))
    ∗ (bigSep Finset.univ fun u : Fin 7 => halfAny (bk c 1) 1 (bk (bk c 1) u.val))
    ∗ halfAny (fw c 1) 0 (bk c 7) ∗ halfAny (bk c 1) 0 (bk (bk c 1) 6))

set_option maxHeartbeats 4000000 in
theorem rsPart_wp (c : Dev nD) (Q : PUnit → sProp 𝕄) :
    iprop(records I K c ∗ levAts L lv ∗ (bigSep Finset.univ fun t : Fin 7 => rsKit c t) ∗ rsAt I c 0 ∗ (bigSep Finset.univ fun t : Fin 7 => slotAny (fw c 1) t)
      ∗ (bigSep Finset.univ fun t : Fin 7 => rowAny c (bk c (t.val + 1)))
      ∗ (((bigSep Finset.univ fun t : Fin 7 => rsZero c t) ∗ (bigSep Finset.univ fun t : Fin 7 => slotAny c t) ∗ rsAt I c 7 ∗ rsLeft c) -∗ Q ⟨⟩))
      ⊢ WP c (rsPart c) Q := by
  have hn : ∀ (d : ℕ) (hd : d < nD), d = (c.val + 1) % 8 → (⟨d, hd⟩ : Dev nD) = fw c 1 := fun d hd h => Fin.ext (by show d = (c.val + 1) % 8; exact h)
  unfold rsLeft
  simp only [bigSep7]
  unfold rsPart
  iintro ⟨#HR, #Hlev, ⟨K0, K1, K2, K3, K4, K5, K6⟩, Hc, ⟨N0, N1, N2, N3, N4, N5, N6⟩, ⟨R1, R2, R3, R4, R5, R6, R7⟩, HQ⟩
  iapply wp_then
  iapply (rs_wp I K c _ (hn _ _ (k1_dev3_eq c)) 0 (loop2 c) (fun Q => loop2_wp I c Q) _ (got_first c) _ (bag_first c))
  isplitr; · iexact HR
  isplitr; · iexact Hlev
  isplitl [K0]; · iexact K0
  isplitl [Hc]; · iexact Hc
  isplitl [N0]; · iexact N0
  isplitl [R1]; · iexact R1
  isplitr; · iempintro
  iintro ⟨Z0, S0, Hc, ⟨W, E0⟩⟩
  iapply wp_then
  iapply (rs_wp I K c _ (hn _ _ (k1_dev4_eq c)) 1 (loop3 c) (fun Q => loop3_wp I c Q) _ (got_second c) _ (bag_second c))
  isplitr; · iexact HR
  isplitr; · iexact Hlev
  isplitl [K1]; · iexact K1
  isplitl [Hc]; · iexact Hc
  isplitl [N1]; · iexact N1
  isplitl [R2]; · iexact R2
  isplitl [W]; · iexact W
  iintro ⟨Z1, S1, Hc, ⟨⟨L1, M1⟩, W⟩⟩
  iapply wp_then
  iapply (rs_wp I K c _ (hn _ _ (k1_dev5_eq c)) 2 (loop4 c) (fun Q => loop4_wp I c Q) _ (got_mid c 2 (by decide) (by decide)) _ (bag_mid c 2 (by decide)))
  isplitr; · iexact HR
  isplitr; · iexact Hlev
  isplitl [K2]; · iexact K2
  isplitl [Hc]; · iexact Hc
  isplitl [N2]; · iexact N2
  isplitl [R3]; · iexact R3
  isplitl [W M1]
  · isplitl [W]; · iexact W
    iexact M1
  iintro ⟨Z2, S2, Hc, ⟨⟨L2, M2⟩, W, E1⟩⟩
  iapply wp_then
  iapply (rs_wp I K c _ (hn _ _ (k1_dev6_eq c)) 3 (loop5 c) (fun Q => loop5_wp I c Q) _ (got_mid c 3 (by decide) (by decide)) _ (bag_mid c 3 (by decide)))
  isplitr; · iexact HR
  isplitr; · iexact Hlev
  isplitl [K3]; · iexact K3
  isplitl [Hc]; · iexact Hc
  isplitl [N3]; · iexact N3
  isplitl [R4]; · iexact R4
  isplitl [W M2]
  · isplitl [W]; · iexact W
    iexact M2
  iintro ⟨Z3, S3, Hc, ⟨⟨L3, M3⟩, W, E2⟩⟩
  iapply wp_then
  iapply (rs_wp I K c _ (hn _ _ (k1_dev7_eq c)) 4 (loop6 c) (fun Q => loop6_wp I c Q) _ (got_mid c 4 (by decide) (by decide)) _ (bag_mid c 4 (by decide)))
  isplitr; · iexact HR
  isplitr; · iexact Hlev
  isplitl [K4]; · iexact K4
  isplitl [Hc]; · iexact Hc
  isplitl [N4]; · iexact N4
  isplitl [R5]; · iexact R5
  isplitl [W M3]
  · isplitl [W]; · iexact W
    iexact M3
  iintro ⟨Z4, S4, Hc, ⟨⟨L4, M4⟩, W, E3⟩⟩
  iapply wp_then
  iapply (rs_wp I K c _ (hn _ _ (k1_dev8_eq c)) 5 (loop7 c) (fun Q => loop7_wp I c Q) _ (got_mid c 5 (by decide) (by decide)) _ (bag_mid c 5 (by decide)))
  isplitr; · iexact HR
  isplitr; · iexact Hlev
  isplitl [K5]; · iexact K5
  isplitl [Hc]; · iexact Hc
  isplitl [N5]; · iexact N5
  isplitl [R6]; · iexact R6
  isplitl [W M4]
  · isplitl [W]; · iexact W
    iexact M4
  iintro ⟨Z5, S5, Hc, ⟨⟨L5, M5⟩, W, E4⟩⟩
  iapply (rs_wp I K c _ (hn _ _ (k1_dev9_eq c)) 6 (loop8 c) (fun Q => loop8_wp I c Q) _ (got_last c) _ (bag_mid c 6 (by decide)))
  isplitr; · iexact HR
  isplitr; · iexact Hlev
  isplitl [K6]; · iexact K6
  isplitl [Hc]; · iexact Hc
  isplitl [N6]; · iexact N6
  isplitl [R7]; · iexact R7
  isplitl [W M5]
  · isplitl [W]; · iexact W
    iexact M5
  iintro ⟨Z6, S6, Hc, ⟨⟨X, E6⟩, Y, E5⟩⟩
  iapply HQ
  isplitl [Z0 Z1 Z2 Z3 Z4 Z5 Z6]
  · isplitl [Z0]; · iexact Z0
    isplitl [Z1]; · iexact Z1
    isplitl [Z2]; · iexact Z2
    isplitl [Z3]; · iexact Z3
    isplitl [Z4]; · iexact Z4
    isplitl [Z5]; · iexact Z5
    iexact Z6
  isplitl [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  isplitl [Hc]; · iexact Hc
  isplitl [L1 L2 L3 L4 L5]
  · isplitl [L1]; · iexact L1
    isplitl [L2]; · iexact L2
    isplitl [L3]; · iexact L3
    isplitl [L4]; · iexact L4
    iexact L5
  isplitl [E0 E1 E2 E3 E4 E5 E6]
  · isplitl [E0]; · iexact E0
    isplitl [E1]; · iexact E1
    isplitl [E2]; · iexact E2
    isplitl [E3]; · iexact E3
    isplitl [E4]; · iexact E4
    isplitl [E5]; · iexact E5
    iexact E6
  isplitl [Y]; · iexact Y
  iexact X

/-! ## The all-gather -/

/-- A device between two steps: `s` steps made. -/
def agAt (c : Dev nD) (s : ℕ) : sProp 𝕄 :=
  iprop(owesE c (agDue c (7 - s)) ∗ halfV I c 0 (bk c (7 + s)) ∗ halfV I c 1 (fw c (1 + s)))

theorem ag_wp (c n₁ n₂ : Dev nD) (h₁ : n₁ = fw c 1) (h₂ : n₂ = bk c 1) (s : Fin 7) (u : ℕ) (hu : u + s.val = 6)
    (B : sProp 𝕄) (hB : B ⊢ agBag c s) (G : sProp 𝕄) (hG : agBag (fw c 1) s ⊢ G) (Q : PUnit → sProp 𝕄) :
    iprop(records I K c ∗ levAts L lv ∗ agKit c s ∗ agAt I c s.val ∗ halfAny (fw c 1) 0 (bk c (7 + s.val)) ∗ halfAny (bk c 1) 1 (bk (bk c 1) u) ∗ B
      ∗ ((agZero c s ∗ agAt I c (s.val + 1) ∗ halfV I c 0 (bk c (7 + s.val)) ∗ halfV I c 1 (fw c (1 + s.val)) ∗ G) -∗ Q ⟨⟩))
      ⊢ WP c (agStep c n₁ n₂ s) Q := by
  have eM : bk (bk c 1) u = fw c (1 + s.val) := Fin.ext (by simp only [bk_val, fw_val]; omega)
  have eP : bk c s.val = bk c (7 + (s.val + 1)) := Fin.ext (by simp only [bk_val]; omega)
  rw [eM]
  unfold agAt
  iintro ⟨#HR, #Hlev, Hk, ⟨HO, HP, HM⟩, Hp, Hm, HB, HQ⟩
  iapply (agStep_wp I K c n₁ n₂ h₁ h₂ s)
  isplitr; · iexact HR
  isplitr; · iexact Hlev
  isplitl [Hk]; · iexact Hk
  isplitl [HO]; · iexact HO
  isplitl [HP]; · iexact HP
  isplitl [Hp]; · iexact Hp
  isplitl [HM]; · iexact HM
  isplitl [Hm]; · iexact Hm
  isplitl [HB]; · iapply hB; iexact HB
  iintro ⟨Hz, HO, HP, HM, HP', HM', HG⟩
  iapply HQ
  isplitl [Hz]; · iexact Hz
  isplitl [HO HP' HM']
  · isplitl [HO]
    · rw [show 7 - (s.val + 1) = 6 - s.val by omega]; iexact HO
    isplitl [HP']
    · rw [← eP]; iexact HP'
    · rw [show 1 + (s.val + 1) = 2 + s.val by omega]; iexact HM'
  isplitl [HP]; · iexact HP
  isplitl [HM]; · iexact HM
  iapply hG; iexact HG

theorem agBag_first (c : Dev nD) : (iprop(halfAny c 0 (bk c 1) ∗ halfAny (bk c 1) 0 (bk (bk c 1) 6)) : sProp 𝕄) ⊢ agBag c 0 := by
  unfold agBag; rw [if_neg (show ¬ (0 : Fin 7) = 6 by decide), if_pos rfl]
  iintro H; iexact H
theorem agBag_mid (c : Dev nD) (s : Fin 7) (h : 1 ≤ s.val) (h' : s.val ≤ 5) : (halfAny c 0 (bk c (s.val + 1)) : sProp 𝕄) ⊢ agBag c s := by
  unfold agBag
  rw [if_neg (fun e => by rw [e] at h'; exact absurd h' (by decide)), if_neg (fun e => by rw [e] at h; exact absurd h (by decide))]
  iintro H
  isplitl; · iexact H
  iempintro
theorem agBag_last (c : Dev nD) : (iprop(emp) : sProp 𝕄) ⊢ agBag c 6 := by
  unfold agBag; rw [if_pos rfl, if_neg (show ¬ (6 : Fin 7) = 0 by decide)]
  iintro -
  isplitl <;> iempintro
theorem agGot_first (c : Dev nD) : (agBag (fw c 1) 0 : sProp 𝕄) ⊢ iprop(halfAny (fw c 1) 0 (bk c 8) ∗ halfAny c 0 (bk c 6)) := by
  unfold agBag
  rw [if_neg (show ¬ (0 : Fin 7) = 6 by decide), if_pos rfl, bk_fw, show bk (fw c 1) ((0 : Fin 7).val + 1) = bk c 8 from bk_fw_add c 1]
theorem agGot_mid (c : Dev nD) (s : Fin 7) (h : 1 ≤ s.val) (h' : s.val ≤ 5) : (agBag (fw c 1) s : sProp 𝕄) ⊢ halfAny (fw c 1) 0 (bk c (7 + (s.val + 1))) := by
  unfold agBag
  rw [if_neg (fun e => by rw [e] at h'; exact absurd h' (by decide)), if_neg (fun e => by rw [e] at h; exact absurd h (by decide)), bk_fw_add]
  iintro ⟨H, -⟩; iexact H
theorem agGot_last (c : Dev nD) : (agBag (fw c 1) 6 : sProp 𝕄) ⊢ iprop(emp) := by
  unfold agBag; rw [if_pos rfl, if_neg (show ¬ (6 : Fin 7) = 0 by decide)]
  iintro -; iempintro

set_option maxHeartbeats 4000000 in
theorem agPart_wp (c : Dev nD) (Q : PUnit → sProp 𝕄) :
    iprop(records I K c ∗ levAts L lv ∗ (bigSep Finset.univ fun s : Fin 7 => agKit c s) ∗ agAt I c 0 ∗ rsLeft c
      ∗ (((bigSep Finset.univ fun s : Fin 7 => agZero c s) ∗ owesE c (SumProof.O₀ c) ∗ oAt c Finset.univ I.out) -∗ Q ⟨⟩))
      ⊢ WP c (agPart c) Q := by
  have h₁ : ∀ (d : ℕ) (hd : d < nD), d = (c.val + 1) % 8 → (⟨d, hd⟩ : Dev nD) = fw c 1 := fun d hd h => Fin.ext (by show d = (c.val + 1) % 8; exact h)
  have h₂ : ∀ (d : ℕ) (hd : d < nD), d = (c.val + 7) % 8 → (⟨d, hd⟩ : Dev nD) = bk c 1 := fun d hd h => Fin.ext (by show d = (c.val + 7 * 1) % 8; exact h)
  unfold rsLeft
  simp only [bigSep7]
  unfold agPart
  iintro ⟨#HR, #Hlev, ⟨K0, K1, K2, K3, K4, K5, K6⟩, Hc, ⟨⟨L1, L2, L3, L4, L5⟩, ⟨E0, E1, E2, E3, E4, E5, E6⟩, Y, X⟩, HQ⟩
  iapply wp_then
  iapply (ag_wp I K c _ _ (h₁ _ _ (k1_dev10_eq c)) (h₂ _ _ (k1_dev11_eq c)) 0 6 (by decide) _ (agBag_first c) _ (agGot_first c))
  isplitr; · iexact HR
  isplitr; · iexact Hlev
  isplitl [K0]; · iexact K0
  isplitl [Hc]; · iexact Hc
  isplitl [Y]; · iexact Y
  isplitl [E6]; · iexact E6
  isplitl [L1 X]
  · isplitl [L1]; · iexact L1
    iexact X
  iintro ⟨Z0, Hc, P0, M0, ⟨Y, L6⟩⟩
  iapply wp_then
  iapply (ag_wp I K c _ _ (h₁ _ _ (k1_dev12_eq c)) (h₂ _ _ (k1_dev13_eq c)) 1 5 (by decide) _ (agBag_mid c 1 (by decide) (by decide)) _ (agGot_mid c 1 (by decide) (by decide)))
  isplitr; · iexact HR
  isplitr; · iexact Hlev
  isplitl [K1]; · iexact K1
  isplitl [Hc]; · iexact Hc
  isplitl [Y]; · iexact Y
  isplitl [E5]; · iexact E5
  isplitl [L2]; · iexact L2
  iintro ⟨Z1, Hc, P1, M1, Y⟩
  iapply wp_then
  iapply (ag_wp I K c _ _ (h₁ _ _ (k1_dev14_eq c)) (h₂ _ _ (k1_dev15_eq c)) 2 4 (by decide) _ (agBag_mid c 2 (by decide) (by decide)) _ (agGot_mid c 2 (by decide) (by decide)))
  isplitr; · iexact HR
  isplitr; · iexact Hlev
  isplitl [K2]; · iexact K2
  isplitl [Hc]; · iexact Hc
  isplitl [Y]; · iexact Y
  isplitl [E4]; · iexact E4
  isplitl [L3]; · iexact L3
  iintro ⟨Z2, Hc, P2, M2, Y⟩
  iapply wp_then
  iapply (ag_wp I K c _ _ (h₁ _ _ (k1_dev16_eq c)) (h₂ _ _ (k1_dev17_eq c)) 3 3 (by decide) _ (agBag_mid c 3 (by decide) (by decide)) _ (agGot_mid c 3 (by decide) (by decide)))
  isplitr; · iexact HR
  isplitr; · iexact Hlev
  isplitl [K3]; · iexact K3
  isplitl [Hc]; · iexact Hc
  isplitl [Y]; · iexact Y
  isplitl [E3]; · iexact E3
  isplitl [L4]; · iexact L4
  iintro ⟨Z3, Hc, P3, M3, Y⟩
  iapply wp_then
  iapply (ag_wp I K c _ _ (h₁ _ _ (k1_dev18_eq c)) (h₂ _ _ (k1_dev19_eq c)) 4 2 (by decide) _ (agBag_mid c 4 (by decide) (by decide)) _ (agGot_mid c 4 (by decide) (by decide)))
  isplitr; · iexact HR
  isplitr; · iexact Hlev
  isplitl [K4]; · iexact K4
  isplitl [Hc]; · iexact Hc
  isplitl [Y]; · iexact Y
  isplitl [E2]; · iexact E2
  isplitl [L5]; · iexact L5
  iintro ⟨Z4, Hc, P4, M4, Y⟩
  iapply wp_then
  iapply (ag_wp I K c _ _ (h₁ _ _ (k1_dev20_eq c)) (h₂ _ _ (k1_dev21_eq c)) 5 1 (by decide) _ (agBag_mid c 5 (by decide) (by decide)) _ (agGot_mid c 5 (by decide) (by decide)))
  isplitr; · iexact HR
  isplitr; · iexact Hlev
  isplitl [K5]; · iexact K5
  isplitl [Hc]; · iexact Hc
  isplitl [Y]; · iexact Y
  isplitl [E1]; · iexact E1
  isplitl [L6]; · iexact L6
  iintro ⟨Z5, Hc, P5, M5, Y⟩
  iapply (ag_wp I K c _ _ (h₁ _ _ (k1_dev22_eq c)) (h₂ _ _ (k1_dev23_eq c)) 6 0 (by decide) _ (agBag_last c) _ (agGot_last c))
  isplitr; · iexact HR
  isplitr; · iexact Hlev
  isplitl [K6]; · iexact K6
  isplitl [Hc]; · iexact Hc
  isplitl [Y]; · iexact Y
  isplitl [E0]; · iexact E0
  isplitr; · iempintro
  iintro ⟨Z6, Hc, P6, M6, -⟩
  unfold agAt
  icases Hc with ⟨HO, P7, M7⟩
  iapply HQ
  isplitl [Z0 Z1 Z2 Z3 Z4 Z5 Z6]
  · isplitl [Z0]; · iexact Z0
    isplitl [Z1]; · iexact Z1
    isplitl [Z2]; · iexact Z2
    isplitl [Z3]; · iexact Z3
    isplitl [Z4]; · iexact Z4
    isplitl [Z5]; · iexact Z5
    iexact Z6
  isplitl [HO]; · iexact HO
  iapply (out_join I c)
  rw [bigSep8, bigSep8]
  isplitl [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  isplitl [M0]; · iexact M0
  isplitl [M1]; · iexact M1
  isplitl [M2]; · iexact M2
  isplitl [M3]; · iexact M3
  isplitl [M4]; · iexact M4
  isplitl [M5]; · iexact M5
  isplitl [M6]; · iexact M6
  iexact M7

/-! ## The body -/

/-- The chunks counted back from `c`. -/
def backFrom (c : Fin 8) : Fin 8 ≃ Fin 8 :=
  Equiv.ofBijective (fun s => bk c s.val) (Finite.injective_iff_bijective.mp fun s s' h => Fin.ext (by
    have h := congrArg Fin.val h
    have := s.isLt; have := s'.isLt
    simp only [bk_val] at h; omega))
theorem rows_around (c : Dev nD) : (bigSep Finset.univ fun k : Fin 8 => rowAny c k : sProp 𝕄)
    = iprop(rowAny c (bk c 0) ∗ bigSep Finset.univ fun t : Fin 7 => rowAny c (bk c (t.val + 1))) := by
  rw [bigSep_univ_equiv (backFrom c) fun k => rowAny c k, bigSep8, bigSep7]
  rfl

/-- What the launch deals device `c` of tokens, positions and credit. -/
def kit (c : Dev nD) : sProp 𝕄 :=
  iprop((dutyTok ER (bar (bk c 1)) 0 true ∗ dutyTok ER (bar (fw c 1)) 0 false ∗ cred (tallyAt (bar c) () 2) ∗ atPos ER (bar c) 0 ∅ 0)
    ∗ (bigSep Finset.univ fun t : Fin 7 => rsKit c t) ∗ (bigSep Finset.univ fun s : Fin 7 => agKit c s))
/-- The semaphores of device `c` at the end. -/
def zeros (c : Dev nD) : sProp 𝕄 :=
  iprop(semVal (bar c) 0 ∗ (bigSep Finset.univ fun t : Fin 7 => rsZero c t) ∗ (bigSep Finset.univ fun s : Fin 7 => agZero c s))

theorem body_wp (c : Dev nD) (f : Vec F S7x512x1024 .bf16) (g : Vec F S4096x1024 .bf16) (Q : PUnit → sProp 𝕄) :
    iprop(greet I K c ∗ levAts L lv ∗ kit c ∗ owesE c (O₀ c) ∗ insAt I c ∗ aAny c ∗ cAt c Finset.univ f ∗ oAt c Finset.univ g
      ∗ ((zeros c ∗ owesE c (SumProof.O₀ c) ∗ insAt I c ∗ aAny c ∗ (∃ f, cAt c Finset.univ f) ∗ oAt c Finset.univ I.out) -∗ Q ⟨⟩))
      ⊢ WP c (body c) Q := by
  unfold kit zeros body
  iintro ⟨#HG, #Hlev, ⟨⟨HtP, HtN, Hcb, Hab⟩, Hrk, Hak⟩, HO, Hin, Ha, Hs, Hout, HQ⟩
  iapply wp_then
  iapply (hello_wp I K c _ _ (Fin.ext (by show k1_dev1 c = (c.val + 7 * 1) % 8; exact k1_dev1_eq c)) (Fin.ext (by show k1_dev2 c = (c.val + 1) % 8; exact k1_dev2_eq c)))
  isplitr; · iexact HG
  isplitr; · iexact Hlev
  isplitl [HO]; · iexact HO
  isplitl [HtP]; · iexact HtP
  isplitl [HtN]; · iexact HtN
  isplitl [Hs]; · iapply (slots_split c f); iexact Hs
  isplitl [Hcb]; · iexact Hcb
  isplitl [Hab]; · iexact Hab
  iintro ⟨HO, Hzb, #HR, HN⟩
  ihave Hrows := (rows_split c g) $$ Hout
  ihave Hrows := (Entails.of_eq (rows_around c)) $$ Hrows
  icases Hrows with ⟨Hown, Hrows⟩
  iapply wp_then
  iapply (loop1_wp I c)
  isplitl [Hin]; · iexact Hin
  isplitl [Ha]; · iexact Ha
  iintro ⟨Hin, Ha⟩
  iapply wp_then
  iapply (prodRow_wp I c (bk c 0) _ _ ((k1_off4_eq c).trans (by rw [bk_zero])))
  isplitl [Hin]; · iexact Hin
  isplitl [Ha]; · iexact Ha
  isplitl [Hown]; · iexact Hown
  iintro ⟨Hin, Ha, Hrow⟩
  iapply wp_then
  iapply (rsPart_wp I K c)
  isplitr; · iexact HR
  isplitr; · iexact Hlev
  isplitl [Hrk]; · iexact Hrk
  isplitl [HO Hin Ha Hrow]
  · unfold rsAt
    isplitl [HO]; · iexact HO
    isplitl [Hin]; · iexact Hin
    isplitl [Ha]; · iexact Ha
    iexact Hrow
  isplitl [HN]; · iexact HN
  isplitl [Hrows]; · iexact Hrows
  iintro ⟨Hrz, Hs, Hc, Hleft⟩
  unfold rsAt
  icases Hc with ⟨HO, Hin, Ha, Hrow⟩
  ihave Hrow := (row_final I c) $$ Hrow
  icases Hrow with ⟨HP, HM⟩
  iapply (agPart_wp I K c)
  isplitr; · iexact HR
  isplitr; · iexact Hlev
  isplitl [Hak]; · iexact Hak
  isplitl [HO HP HM]
  · unfold agAt
    isplitl [HO]; · iexact HO
    isplitl [HP]; · iexact HP
    rw [show fw c (1 + 0) = bk c 7 from Fin.ext (by rw [fw_val, bk_val]; omega)]; iexact HM
  isplitl [Hleft]; · iexact Hleft
  iintro ⟨Haz, HO, Hout⟩
  iapply HQ
  isplitl [Hzb Hrz Haz]
  · isplitl [Hzb]; · iexact Hzb
    isplitl [Hrz]; · iexact Hrz
    iexact Haz
  isplitl [HO]; · iexact HO
  isplitl [Hin]; · iexact Hin
  isplitl [Ha]; · iexact Ha
  isplitl [Hs]; · iapply (slots_join c); iexact Hs
  iexact Hout

end Cert.RingProof

end
-- ==== Proof.SumTalk.lean ====
/-
  What a device of the all-reduce does BY ITSELF — copying its operand, adding what arrived onto a tile — and what the
  devices say TO EACH OTHER: the greeting, the copies and the waits. Each piece is taken from what it needs to what it
  leaves, once for both directions.
-/
module

public import proofs.«01_k».proof.Proof.SumProto
public import Idealize.ShloMosaic.Lib.Tactic
public import Idealize.ShloMosaic.Lib.Pipeline.Value

@[expose] public section

noncomputable section

namespace Cert.SumProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What a piece of the body on device `c` needs for `Q` afterwards. -/
abbrev WP (c : Dev nD) {α : Type} (p : P (F := F) α) (Q : α → sProp 𝕄) : sProp 𝕄 :=
  wp frame (wpE (defs₀ (F := F)) 𝒱₀ (c : Thread nD τ) none) Set.univ p Q

variable (I : Inp F) (K : Dev nD × CI → ℕ)

/-- One piece, then the rest. -/
theorem wp_then {α β : Type} (c : Dev nD) (p : P (F := F) α) (k : α → P (F := F) β) (Q : β → sProp 𝕄) :
    WP c p (fun a => WP c (k a) Q) ⊢ WP c (p >>= k) Q := Entails.of_eq (wp_bind ..).symm

/-! ## By itself -/

/-- A device's staged operand, as it brought it. -/
def insAt (c : Dev nD) : sProp 𝕄 := ((c : Thread nD τ).loc cc4_stg0_0) ↦{fullShare} (I c : Vec F S4096x1024 .bf16)

theorem hz2 : (![0, 0] : Fin 2 → ℕ) = fun _ => 0 := funext fun a => by fin_cases a <;> rfl

/-- The operand is copied into the result. -/
theorem copyIn_wp (c : Dev nD) (g : Vec F S4096x1024 .bf16) (Q : PUnit → sProp 𝕄) :
    iprop(insAt I c ∗ oAt c Finset.univ g ∗ ((insAt I c ∗ oAt c Finset.univ (I c)) -∗ Q ⟨⟩)) ⊢ WP c copyIn Q := by
  unfold insAt oAt copyIn
  simp only [Prog.lift, Prog.bind_op, Prog.bind_ret, Prog.pure_eq_ret]
  iintro ⟨Hi, Ho, HQ⟩
  iapply (wp_load 𝒱₀ (c : Thread nD τ) none Set.univ (m := iM) (Finset.subset_univ _)) $$ Hi; iintro Hi
  rw [show iM.view.readAt (Elt F) (Rect.unit (s := S4096x1024) ![0, 0] S4096x1024.size inb_S4096x1024_S4096x1024_0_0).toLoadRect (I c) = I c
    from Memref.readAt_unit_zero (Elt F) cc4_stg0_0 hz2 _ (I c)]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x1024) ![0, 0] S4096x1024.size inb_S4096x1024_S4096x1024_0_0)
    (Mk := Finset.univ) (Finset.subset_univ _)) $$ Ho; iintro Ho
  rw [show (oM.access (Rect.unit (s := S4096x1024) ![0, 0] S4096x1024.size inb_S4096x1024_S4096x1024_0_0)).write (Elt F) g (k4_pay1 (I c)) Finset.univ = k4_pay1 (I c)
    from Memref.write_access_unit_zero_univ (Elt F) cc4_stg1_0 hz2 _ g _,
    show k4_pay1 (I c) = I c from shapeCast_self (I c : FVec F S4096x1024 .bf16) _]
  rw [wp_ret]; imodintro
  iapply HQ
  isplitl [Hi]; · iexact Hi
  iexact Ho

theorem slot_setOn (δ : Fin 2) (t : Fin 7) :
    (cM δ).view.setOn (Rect.unit (s := S7x512x512) ![t.val, 0, 0] S1x512x512.size (slot_inb t)).toLoadRect.set = (slotM δ t).view.set :=
  (View.set_slice (v := (cM δ).view) (Rect.unit (s := S7x512x512) ![t.val, 0, 0] S1x512x512.size (slot_inb t))).symm.trans (View.set_reshape _ _).symm

/-- What arrived in slot `t` is added onto a tile. -/
theorem addHalf_wp (c : Dev nD) (δ : Fin 2) (k : Fin 8) (t : Fin 7) {o : Fin 2 → ℕ} (h : Inb o) (hp : Packed o h)
    (e : o = ![512 * k.val, 512 * δ.val]) (a X : Vec F S512x512 .bf16) (Q : PUnit → sProp 𝕄) :
    iprop(isP c (halfM δ k) a ∗ isP c (slotM δ t) X ∗ ((isP c (halfM δ k) (addP a X) ∗ anyP c (slotM δ t)) -∗ Q ⟨⟩))
      ⊢ WP c (addHalf δ o h hp t) Q := by
  subst e
  unfold isP anyP atP addHalf loadSlot loadHalf storeHalf
  simp only [Prog.lift, Prog.bind_op, Prog.bind_ret, Prog.pure_eq_ret]
  iintro ⟨⟨%g, %hg, Ho⟩, ⟨%f, %hf, Hc⟩, HQ⟩
  iapply (wp_load_rect 𝒱₀ (c : Thread nD τ) none Set.univ (m := oM) (r := tile ![512 * k.val, 512 * δ.val] h) (S := (halfM δ k).view.set)
    (Finset.Subset.refl _)) $$ Ho; iintro Ho
  rw [show (oM.access (tile ![512 * k.val, 512 * δ.val] h)).read (Elt F) g = a from hg]
  iapply (wp_load 𝒱₀ (c : Thread nD τ) none Set.univ (m := cM δ) (r := (Rect.unit (s := S7x512x512) ![t.val, 0, 0] S1x512x512.size (slot_inb t)).toLoadRect)
    (S := (slotM δ t).view.set) ((slot_setOn δ t).subset)) $$ Hc; iintro Hc
  rw [pay_slot δ t a f, hf]
  iapply (wp_load_rect 𝒱₀ (c : Thread nD τ) none Set.univ (m := oM) (r := tile ![512 * k.val, 512 * δ.val] h) (S := (halfM δ k).view.set)
    (Finset.Subset.refl _)) $$ Ho; iintro Ho
  iapply (wp_store 𝒱₀ (c : Thread nD τ) none Set.univ (m := oM) (r := tile ![512 * k.val, 512 * δ.val] h) (S := (halfM δ k).view.set)
    (Finset.Subset.refl _)) $$ Ho; iintro Ho
  rw [wp_ret]; imodintro
  iapply HQ
  isplitl [Ho]
  · iexists _
    isplitr
    · ipureintro; exact View.read_write_univ (v := (halfM δ k).view) g (addP a X)
    · iexact Ho
  · iexists f; iexact Hc

/-! ## To each other -/

/-- A neighbour, or the device itself. -/
def Near (c d : Dev nD) : Prop := d = c ∨ d = nx 0 c ∨ d = nx 1 c

/-- What a device knows entering: every cell's invariant, that the barriers' first round is open, and that of its own
    cells. -/
def greet (c : Dev nD) : sProp 𝕄 :=
  iprop((bigSep Finset.univ fun ck : Dev nD × CI => cellInv ER (ringRd I) (K ck) (cell ck.1 ck.2))
    ∗ (bigSep Finset.univ fun d : Dev nD => reached ER (bar d) 0) ∗ here c)
/-- After the greeting it knows the latter of its neighbours' cells too. -/
def records (c : Dev nD) : sProp 𝕄 := iprop(greet I K c ∗ here (nx 0 c) ∗ here (nx 1 c))

instance greet_persistent (c : Dev nD) : BI.Persistent (greet I K c) := by unfold greet; infer_instance
instance records_persistent (c : Dev nD) : BI.Persistent (records I K c) := by unfold records; infer_instance

theorem greet_inv (c d : Dev nD) (i : CI) : greet I K c ⊢ cellInv ER (ringRd I) (K (d, i)) (cell d i) := by
  refine BIBase.Entails.trans ?_ (bigSep_elim (Φ := fun ck : Dev nD × CI => cellInv ER (ringRd I) (K ck) (cell ck.1 ck.2)) (Finset.mem_univ (d, i)))
  unfold greet
  iintro ⟨H, -, -⟩; iexact H
theorem greet_reached (c d : Dev nD) : greet I K c ⊢ reached ER (bar d) 0 := by
  refine BIBase.Entails.trans ?_ (bigSep_elim (Φ := fun d : Dev nD => reached ER (bar d) 0) (Finset.mem_univ d))
  unfold greet
  iintro ⟨-, H, -⟩; iexact H
theorem greet_bar (c d : Dev nD) : greet I K c ⊢ iprop(cellInv ER (ringRd I) (K (d, none)) (bar d) ∗ reached ER (bar d) 0) := by
  iintro #H
  isplitr; · iapply (greet_inv I K c d none); iexact H
  iapply (greet_reached I K c d); iexact H
theorem here_at (d : Dev nD) (k) : (here d : sProp 𝕄) ⊢ reached ER (cell d (some k)) 0 := by
  unfold here
  exact bigSep_elim (Φ := fun k => reached ER (cell d (some k)) 0) (Finset.mem_univ k)
theorem rec_at (c d : Dev nD) (hd : Near c d) (k) : records I K c ⊢ iprop(cellInv ER (ringRd I) (K (d, some k)) (cell d (some k)) ∗ reached ER (cell d (some k)) 0) := by
  unfold records
  iintro ⟨#H, #H₁, #H₂⟩
  isplitr; · iapply (greet_inv I K c d (some k)); iexact H
  iapply (here_at d k)
  unfold greet
  icases H with ⟨-, -, #H⟩
  rcases hd with rfl | rfl | rfl
  · iexact H
  · iexact H₁
  · iexact H₂
theorem rec_inv (c : Dev nD) (i : CI) : records I K c ⊢ cellInv ER (ringRd I) (K (c, i)) (cell c i) := by
  unfold records
  iintro ⟨H, -, -⟩
  iapply (greet_inv I K c c i); iexact H

theorem greet_here (c : Dev nD) : greet I K c ⊢ here c := by
  unfold greet
  iintro ⟨-, -, H⟩; iexact H

theorem near_nx (c : Dev nD) (δ : Fin 2) : Near c (nx δ c) := by
  fin_cases δ
  · exact .inr (.inl rfl)
  · exact .inr (.inr rfl)

/-- What device `c` still owes, whatever it has waited on. -/
def owesE (c : Dev nD) (O : CellTallies nD τ sig Unit) : sProp 𝕄 := iprop(∃ W, owes (c : Thread nD τ) O W)

/-- A device waits on a cell of its own to the end of its round: it has what the cell gives, and the cell at zero. -/
theorem wait_wp (c : Dev nD) (i : CI) (R : sProp 𝕄) [BI.Persistent R] (hR : R ⊢ cellInv ER (ringRd I) (K (c, i)) (cell c i)) (l : ℕ) (hl : lvOf (some i) ≤ l) {O : CellTallies nD τ sig Unit} (hO : Above (l + 1) O)
    {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem i) k' Kt)
    (hk : k' = (ringRd I).expect (cell c i) 0) (Q : PUnit → sProp 𝕄) :
    iprop(R ∗ levAts L lv ∗ cred (tallyAt (cell c i) () k') ∗ owesE c O ∗ atPos ER (cell c i) 0 ∅ 0
      ∗ ((owesE c O ∗ semVal (cell c i) 0 ∗ bigSep ((ringRd I).duties (cell c i) 0 \ ∅) (fun d => (ringRd I).payload (cell c i) 0 d)) -∗ Q ⟨⟩))
      ⊢ WP c (Prog.lift w) Q := by
  unfold owesE
  simp only [Prog.lift]
  iintro ⟨#HR, #Hlev, Hc, ⟨%W, HO⟩, Hat, HQ⟩
  ihave #HI := hR $$ HR
  iapply (Rounds.wp_wait_rest_token 𝒱₀ ER (ringRd I) (c : Thread nD τ) none (κ := K (c, i)) hw (Set.mem_univ _) () (O := O) (W := W) (R := 0) (m := 0) (T := ∅)
      (by rw [Nat.zero_add, hk])) $$ [Hc HO Hat]
  · isplitr; · iexact HI
    isplitl [Hc]; · iexact Hc
    isplitl [HO]; · iexact HO
    isplitr; · iapply (mayWait_cell c i l hl hO); iexact Hlev
    iexact Hat
  iintro ⟨HO, Hat, -, Hpay⟩
  imod (Rounds.cell_close ER (ringRd I) (Set.mem_univ (K (c, i))) (fun h => h) (R := 0 + 1) (duties_later I (cell c i))) $$ [Hat] with Hz
  · isplitr; · iexact HI
    iexact Hat
  rw [wp_ret]; imodintro
  iapply HQ
  isplitl [HO]; · iexists _; iexact HO
  isplitl [Hz]; · iexact Hz
  iexact Hpay

theorem mem_bar (c : Dev nD) (d : Fin 2) : d ∈ (ringRd I).duties ((c : Thread nD τ), SemLoc.reg bsem) 0 := by
  rw [show ((c : Thread nD τ), SemLoc.reg bsem) = bar c from rfl, duties_bar]; exact Finset.mem_univ _
theorem mem_dma (c : Dev nD) (δ : Fin 2) (j : Fin 4) (t : Fin 7) : (0 : Fin 2) ∈ (ringRd I).duties ((c : Thread nD τ), SemLoc.dma (dsem δ j t)) 0 := by
  rw [show ((c : Thread nD τ), SemLoc.dma (dsem δ j t)) = dcell c δ j t from rfl, duties_dma]; exact Finset.mem_singleton_self _

/-- A device's arrival slots of direction `δ`. -/
def slots (c : Dev nD) (δ : Fin 2) : sProp 𝕄 := bigSep Finset.univ fun t : Fin 7 => anyP c (slotM δ t)

/-- The greeting. The device's slots go to the neighbours that fill them; those the device fills come. -/
theorem hello_wp (c n₁ n₂ : Dev nD) (h₁ : n₁ = pr 0 c) (h₂ : n₂ = pr 1 c) (Q : PUnit → sProp 𝕄) :
    iprop(greet I K c ∗ levAts L lv ∗ owesE c (O₀ c) ∗ dutyTok ER (bar (pr 0 c)) 0 0 ∗ dutyTok ER (bar (pr 1 c)) 0 1
      ∗ slots c 0 ∗ slots c 1 ∗ cred (tallyAt (bar c) () 2) ∗ atPos ER (bar c) 0 ∅ 0
      ∗ ((owesE c (rsDue c 7) ∗ semVal (bar c) 0 ∗ records I K c ∗ slots (nx 0 c) 0 ∗ slots (nx 1 c) 1) -∗ Q ⟨⟩))
      ⊢ WP c (hello n₁ n₂) Q := by
  subst h₁ h₂
  unfold hello semSignalWord semWaitWord
  unfold owesE
  simp only [Prog.lift, Prog.bind_op, Prog.bind_ret]
  iintro ⟨#HR, #Hlev, ⟨%W, HO⟩, HtP, HtN, Hs0, Hs1, Hc, Hat, HQ⟩
  ihave Hr := (greet_bar I K c (pr 0 c)) $$ HR
  icases Hr with ⟨#HIP, #HrP⟩
  ihave Hr := (greet_bar I K c (pr 1 c)) $$ HR
  icases Hr with ⟨#HIN, #HrN⟩
  iapply (Rounds.wp_signal 𝒱₀ ER (ringRd I) (c : Thread nD τ) none (dst := (pr 0 c : Thread nD τ)) (κ := K (pr 0 c, none))
      (d := 0) (mem_bar I (pr 0 c) 0) ((amount_bar I (pr 0 c) 0).trans (by decide)) () (O₁ c) rfl)
    $$ [HO HtP Hs0]
  · isplitr; · iexact HIP
    isplitl [HO]; · iexact HO
    isplitl [HtP]; · iexact HtP
    isplitl [Hs0]
    · rw [show ((pr 0 c : Thread nD τ), SemLoc.reg bsem) = bar (pr 0 c) from rfl, payload_bar]; unfold barPay; rw [nx_pr]; unfold slots
      isplitl [Hs0]; · iexact Hs0
      iapply (greet_here I K c); iexact HR
    iexact HrP
  iintro HO
  iapply (Rounds.wp_signal 𝒱₀ ER (ringRd I) (c : Thread nD τ) none (dst := (pr 1 c : Thread nD τ)) (κ := K (pr 1 c, none))
      (d := 1) (mem_bar I (pr 1 c) 1) ((amount_bar I (pr 1 c) 1).trans (by decide)) () (rsDue c 7) rfl)
    $$ [HO HtN Hs1]
  · isplitr; · iexact HIN
    isplitl [HO]; · iexact HO
    isplitl [HtN]; · iexact HtN
    isplitl [Hs1]
    · rw [show ((pr 1 c : Thread nD τ), SemLoc.reg bsem) = bar (pr 1 c) from rfl, payload_bar]; unfold barPay; rw [nx_pr]; unfold slots
      isplitl [Hs1]; · iexact Hs1
      iapply (greet_here I K c); iexact HR
    iexact HrN
  iintro HO
  iapply (wait_wp I K c none (greet I K c) (greet_inv I K c c none) 1 (by decide) (Above.rs c 2 7 (by omega) (by omega)) (wpE_semWait_eq 𝒱₀ (c : Thread nD τ) none Set.univ)
    ((by decide : (2#32 : BitVec 32).toNat = 2).trans (expect_bar I c).symm))
  isplitr; · iexact HR
  isplitr; · iexact Hlev
  isplitl [Hc]; · iexact Hc
  isplitl [HO]; · unfold owesE; iexists W; iexact HO
  isplitl [Hat]; · iexact Hat
  iintro ⟨HO, Hz, Hpay⟩
  ihave Hp := (Entails.of_eq (rest_bar I c)) $$ Hpay
  unfold barPay
  icases Hp with ⟨⟨Hp0, #H0⟩, Hp1, #H1⟩
  iapply HQ
  isplitl [HO]; · unfold owesE; iexact HO
  isplitl [Hz]; · iexact Hz
  isplitr
  · unfold records
    isplitr; · iexact HR
    isplitr; · iexact H0
    iexact H1
  unfold slots
  isplitl [Hp0]; · iexact Hp0
  iexact Hp1

/-- A copy of one place to another, on device `n`: what the source reads is there afterwards, the source comes back when
    the copy has left, and `G` goes along. -/
theorem send_wp (c n : Dev nD) (hn : Near c n) (δ : Fin 2) (j j' : Fin 4) (t : Fin 7) (src dst : Place) (X : Vec F S512x512 .bf16) (G : sProp 𝕄)
    (hs : src.view.WordExact) (hd : dst.view.WordExact) {O₀ O : CellTallies nD τ sig Unit} (hO : O₀ = O + tallyAt (dcell n δ j' t) () N)
    (hback : isP c src X ⊢ pay I c δ j t) (hgo : iprop(isP n dst X ∗ G) ⊢ pay I n δ j' t) (Q : PUnit → sProp 𝕄) :
    iprop(records I K c ∗ isP c src X ∗ anyP n dst ∗ G ∗ owesE c O₀
      ∗ dutyTok ER (dcell c δ j t) 0 0 ∗ dutyTok ER (dcell n δ j' t) 0 0
      ∗ ((cred (tallyAt (dcell c δ j t) () N) ∗ owesE c O) -∗ Q ⟨⟩))
      ⊢ WP c (Prog.lift (.enqueueDma src (.remote (Dev.tc n) dst (.dma (dsem δ j t))) (.dma (dsem δ j' t)) hs hd ⟨⟨rfl, Or.inl rfl⟩, trivial⟩)) Q := by
  unfold owesE
  simp only [Prog.lift]
  have hback' : ∀ f : src.view.ty.Contents (Elt F), src.view.read (Elt F) f = X →
      ((src.view.loc (c : Thread nD τ) ↦[src.view.set]{fullShare} f : sProp 𝕄) ⊢ pay I c δ j t) := fun f hf => by
    refine BIBase.Entails.trans ?_ hback
    unfold isP atP
    iintro H; iexists f
    isplitr; · ipureintro; exact hf
    iexact H
  have hland : ∀ (f : src.view.ty.Contents (Elt F)) (fd : dst.view.ty.Contents (Elt F)), src.view.read (Elt F) f = X →
      ((dst.view.loc (n : Thread nD τ) ↦[dst.view.set]{fullShare} (dst.view.write (Elt F) fd (src.view.read (Elt F) f) Finset.univ) : sProp 𝕄) ⊢ isP n dst X) :=
    fun f fd hf => by
      unfold isP atP
      iintro H; iexists _
      isplitr
      · ipureintro; rw [← hf]; exact View.read_write_univ fd _
      · iexact H
  rw [show (isP c src X : sProp 𝕄) = iprop(∃ f : src.view.ty.Contents (Elt F), ⌜src.view.read (Elt F) f = X⌝ ∗ atP c src f) from rfl,
    show (anyP n dst : sProp 𝕄) = iprop(∃ f : dst.view.ty.Contents (Elt F), atP n dst f) from rfl]
  iintro ⟨#HR, ⟨%f, %hf, Hsrc⟩, ⟨%fd, Hdst⟩, Hbag, ⟨%W, HO⟩, HtS, HtV, HQ⟩
  ihave Hr := (rec_at I K c c (.inl rfl) ((δ, j, t))) $$ HR
  icases Hr with ⟨#HIS, #HrS⟩
  ihave Hr := (rec_at I K c n hn ((δ, j', t))) $$ HR
  icases Hr with ⟨#HIV, #HrV⟩
  iapply (Rounds.wp_send_pointsTo_with 𝒱₀ ER (ringRd I) (c : Thread nD τ) none (c' := (n : Thread nD τ))
      (src := src) (dst := dst) (sS := .dma (dsem δ j t)) (sem := .dma (dsem δ j' t)) (q := fullShare)
      (κ₁ := K (c, some (δ, j, t))) (κ₂ := K (n, some (δ, j', t))) (fs := f) (fd := fd) (F := G)
      (r₁ := 0) (r₂ := 0) (d₁ := 0) (d₂ := 0)
      (mem_dma I c δ j t) (mem_dma I n δ j' t)
      () () N rfl (amount_dma I c δ j t 0) (amount_dma I n δ j' t 0) O hO (W := W)
      (by rw [show ((c : Thread nD τ), SemLoc.dma (dsem δ j t)) = dcell c δ j t from rfl, payload_dma]
          exact hback' f hf)
      (by rw [show ((n : Thread nD τ), SemLoc.dma (dsem δ j' t)) = dcell n δ j' t from rfl, payload_dma]
          exact (sep_mono_l (hland f fd hf)).trans hgo)) $$ [Hsrc Hdst Hbag HO HtS HtV]
  · isplitr; · iexact HIS
    isplitr; · iexact HIV
    isplitl [Hsrc]; · unfold atP; iexact Hsrc
    isplitl [Hdst Hbag]
    · isplitl [Hdst]
      · unfold atP; iexact Hdst
      · iexact Hbag
    isplitl [HO]; · iexact HO
    isplitl [HtS]; · iexact HtS
    isplitr; · iexact HrS
    isplitl [HtV]; · iexact HtV
    iexact HrV
  iintro ⟨Hc, HO⟩
  rw [wp_ret]; imodintro
  iapply HQ
  isplitl [Hc]; · iexact Hc
  iexists W; iexact HO

/-- Every place credits the same. -/
theorem credit (m : Place) : m.view.dmaCredit = N := rfl

/-- A wait for one copy. -/
theorem waitD_wp (c : Dev nD) (δ : Fin 2) (j : Fin 4) (t : Fin 7) {O : CellTallies nD τ sig Unit} (hO : Above (lvOf (some (some (δ, j, t))) + 1) O)
    (src dst : Place) (hs : src.view.WordExact) (hd : dst.view.WordExact) (Q : PUnit → sProp 𝕄) :
    iprop(records I K c ∗ levAts L lv ∗ cred (tallyAt (dcell c δ j t) () N) ∗ owesE c O ∗ atPos ER (dcell c δ j t) 0 ∅ 0
      ∗ ((owesE c O ∗ semVal (dcell c δ j t) 0 ∗ pay I c δ j t) -∗ Q ⟨⟩))
      ⊢ WP c (Prog.lift (.waitDma2 (dsem δ j t) src dst hs hd)) Q := by
  have hw : ∀ Kt : PUnit → sProp 𝕄, wpE (defs₀ (F := F)) 𝒱₀ (c : Thread nD τ) none Set.univ (.waitDma2 (dsem δ j t) src dst hs hd) Kt
      = waitSpec (c : Thread nD τ) Set.univ (csem (some (δ, j, t))) N Kt := fun Kt => by
    rw [← credit dst]
    exact wpE_waitDma2_eq 𝒱₀ (c : Thread nD τ) none Set.univ Kt
  iintro ⟨HR, Hlev, Hc, HO, Hat, HQ⟩
  iapply (wait_wp I K c (some (δ, j, t)) (records I K c) (rec_inv I K c _) (lvOf (some (some (δ, j, t)))) (le_refl _) hO hw (expect_dma I c δ j t).symm)
  isplitl [HR]; · iexact HR
  isplitl [Hlev]; · iexact Hlev
  isplitl [Hc]; · iexact Hc
  isplitl [HO]; · iexact HO
  isplitl [Hat]; · iexact Hat
  iintro ⟨HO, Hz, Hpay⟩
  iapply HQ
  isplitl [HO]; · iexact HO
  isplitl [Hz]; · iexact Hz
  rw [← rest_dma]; iexact Hpay

/-- What a device has for one step of one direction, of tokens, positions and credit — the send cell in array `j`, the
    receive cell in array `j'`; what is left of it. -/
def kit (c : Dev nD) (δ : Fin 2) (j j' : Fin 4) (t : Fin 7) : sProp 𝕄 :=
  iprop(atPos ER (dcell c δ j t) 0 ∅ 0 ∗ atPos ER (dcell c δ j' t) 0 ∅ 0 ∗ dutyTok ER (dcell c δ j t) 0 0 ∗ dutyTok ER (dcell (nx δ c) δ j' t) 0 0
    ∗ cred (tallyAt (dcell c δ j' t) () N))
def zero (c : Dev nD) (δ : Fin 2) (j j' : Fin 4) (t : Fin 7) : sProp 𝕄 := iprop(semVal (dcell c δ j t) 0 ∗ semVal (dcell c δ j' t) 0)

theorem Above.mono {l l' : ℕ} (h : l ≤ l') {O : CellTallies nD τ sig Unit} (hO : Above l' O) : Above l O := fun g u hg => by
  obtain ⟨d, i, e, h'⟩ := hO g u hg
  exact ⟨d, i, e, h.trans h'⟩

/-- The two waits of a step in one direction. -/
theorem waits_wp (c : Dev nD) (δ : Fin 2) (j j' : Fin 4) (hj : ∀ t, lvOf (some (some (δ, j, t))) = 0) (t : Fin 7) {O : CellTallies nD τ sig Unit}
    (hO : Above (lvOf (some (some (δ, j', t))) + 1) O)
    (s₁ d₁ s₂ d₂ : Place) (hs₁ : s₁.view.WordExact) (hd₁ : d₁.view.WordExact) (hs₂ : s₂.view.WordExact) (hd₂ : d₂.view.WordExact)
    (p : P (F := F) PUnit) (Q : PUnit → sProp 𝕄) :
    iprop(records I K c ∗ levAts L lv ∗ cred (tallyAt (dcell c δ j t) () N) ∗ cred (tallyAt (dcell c δ j' t) () N) ∗ owesE c O
      ∗ atPos ER (dcell c δ j t) 0 ∅ 0 ∗ atPos ER (dcell c δ j' t) 0 ∅ 0
      ∗ ((owesE c O ∗ zero c δ j j' t ∗ pay I c δ j t ∗ pay I c δ j' t) -∗ WP c p Q))
      ⊢ WP c (do
        Prog.lift (.waitDma2 (dsem δ j t) s₁ d₁ hs₁ hd₁)
        Prog.lift (.waitDma2 (dsem δ j' t) s₂ d₂ hs₂ hd₂)
        p) Q := by
  unfold zero
  iintro ⟨#HR, #Hlev, Hc, Hc', HO, Ha, Ha', HQ⟩
  iapply wp_then
  iapply (waitD_wp I K c δ j t (Above.mono (by rw [hj]; omega) hO))
  isplitr; · iexact HR
  isplitr; · iexact Hlev
  isplitl [Hc]; · iexact Hc
  isplitl [HO]; · iexact HO
  isplitl [Ha]; · iexact Ha
  iintro ⟨HO, Hz, Hp⟩
  iapply wp_then
  iapply (waitD_wp I K c δ j' t hO)
  isplitr; · iexact HR
  isplitr; · iexact Hlev
  isplitl [Hc']; · iexact Hc'
  isplitl [HO]; · iexact HO
  isplitl [Ha']; · iexact Ha'
  iintro ⟨HO, Hz', Hp'⟩
  iapply HQ
  isplitl [HO]; · iexact HO
  isplitl [Hz Hz']
  · isplitl [Hz]; · iexact Hz
    iexact Hz'
  isplitl [Hp]; · iexact Hp
  iexact Hp'

end Cert.SumProof

end
-- ==== Proof.SumSteps.lean ====
/-
  One STEP of the all-reduce in both directions, from what a device has before it to what it has after it, and seven such
  steps in a row.
-/
module

public import proofs.«01_k».proof.Proof.SumTalk

@[expose] public section

noncomputable section

namespace Cert.SumProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

/-- One thing for each direction. -/
def both (Φ : Fin 2 → sProp 𝕄) : sProp 𝕄 := iprop(Φ 0 ∗ Φ 1)

omit [FloatOps F] in
theorem both_mono {Φ Ψ : Fin 2 → sProp 𝕄} (h : ∀ δ, Φ δ ⊢ Ψ δ) : both Φ ⊢ both Ψ := BIClass.sep_mono (h 0) (h 1)
omit [FloatOps F] in
theorem both_sep {Φ Ψ : Fin 2 → sProp 𝕄} : iprop(both Φ ∗ both Ψ) ⊣⊢ both fun δ => iprop(Φ δ ∗ Ψ δ) := by
  unfold both
  constructor
  · iintro ⟨⟨A, B⟩, C, D⟩
    isplitl [A C]
    · isplitl [A]; · iexact A
      iexact C
    · isplitl [B]; · iexact B
      iexact D
  · iintro ⟨⟨A, C⟩, B, D⟩
    isplitl [A B]
    · isplitl [A]; · iexact A
      iexact B
    · isplitl [C]; · iexact C
      iexact D
omit [FloatOps F] in
/-- The two directions, named the other way round. -/
theorem both_flip (Φ : Fin 2 → sProp 𝕄) : both (fun δ => Φ (flip δ)) ⊢ both Φ := by
  show iprop(Φ 1 ∗ Φ 0) ⊢ iprop(Φ 0 ∗ Φ 1)
  iintro ⟨A, B⟩
  isplitl [B]; · iexact B
  iexact A

/-! ## The reduce-scatter -/

/-- A tile a device has summed up so far, and the one it has sent before. -/
def rsHas (c : Dev nD) (t : ℕ) (δ : Fin 2) : sProp 𝕄 := iprop(isP c (halfM δ (ch δ c t)) (I.R δ t c) ∗ pend c δ t)
/-- A tile of what the device brings that is still untouched. -/
def own (c : Dev nD) (n : ℕ) (δ : Fin 2) : sProp 𝕄 := isP c (halfM δ (ch δ c n)) (I.H δ c (ch δ c n))

/-- The end of a step in one direction: the copy has left, the neighbour's is in and is added. -/
theorem rsEnd_wp (c : Dev nD) (δ : Fin 2) (t : Fin 7) {o : Fin 2 → ℕ} (h : Inb o) (hw : Words o h) {o' : Fin 2 → ℕ} (h' : Inb o') (hp : Packed o' h')
    (e : o' = ![512 * (ch δ c (t.val + 1)).val, 512 * δ.val]) {O : CellTallies nD τ sig Unit} (hO : Above (2 + t.val + 1) O) (Q : PUnit → sProp 𝕄) :
    iprop(records I K c ∗ levAts L lv ∗ cred (tallyAt (dcell c δ 0 t) () N) ∗ cred (tallyAt (dcell c δ 1 t) () N) ∗ owesE c O
      ∗ atPos ER (dcell c δ 0 t) 0 ∅ 0 ∗ atPos ER (dcell c δ 1 t) 0 ∅ 0 ∗ own I c (t.val + 1) δ
      ∗ ((owesE c O ∗ zero c δ 0 1 t ∗ rsHas I c (t.val + 1) δ ∗ anyP c (slotM δ t) ∗ pend (nx (flip δ) c) (flip δ) t.val) -∗ Q ⟨⟩))
      ⊢ WP c (rsEnd δ o h hw o' h' hp t) Q := by
  unfold rsEnd waitSlotOut waitSlotIn own rsHas
  iintro ⟨HR, Hlev, Hc, Hc', HO, Ha, Ha', Hown, HQ⟩
  iapply (waits_wp I K c δ 0 1 (fun _ => rfl) t hO)
  isplitl [HR]; · iexact HR
  isplitl [Hlev]; · iexact Hlev
  isplitl [Hc]; · iexact Hc
  isplitl [Hc']; · iexact Hc'
  isplitl [HO]; · iexact HO
  isplitl [Ha]; · iexact Ha
  isplitl [Ha']; · iexact Ha'
  unfold pay
  iintro ⟨HO, Hz, Hback, Hin, Hp⟩
  iapply (addHalf_wp c δ (ch δ c (t.val + 1)) t h' hp e)
  isplitl [Hown]; · iexact Hown
  isplitl [Hin]; · iexact Hin
  iintro ⟨Hsum, Hslot⟩
  iapply HQ
  isplitl [HO]; · iexact HO
  isplitl [Hz]; · iexact Hz
  isplitl [Hsum Hback]
  · isplitl [Hsum]; · iexact Hsum
    unfold pend
    rw [if_neg (Nat.succ_ne_zero t.val), Nat.add_sub_cancel]
    iexact Hback
  isplitl [Hslot]; · iexact Hslot
  rw [nx_flip]; iexact Hp

/-- Step `t` of the reduce-scatter: what it uses up, what it leaves besides the sums. -/
def rsUse (c : Dev nD) (t : Fin 7) : sProp 𝕄 :=
  both fun δ => iprop(kit c δ 0 1 t ∗ own I c (t.val + 1) δ ∗ anyP (nx δ c) (slotM δ t))
def rsLeave (c : Dev nD) (t : Fin 7) : sProp 𝕄 :=
  both fun δ => iprop(zero c δ 0 1 t ∗ anyP c (slotM δ t) ∗ pend (nx (flip δ) c) (flip δ) t.val)
def rsSt (c : Dev nD) (t : ℕ) : sProp 𝕄 := iprop(owesE c (rsDue c (7 - t)) ∗ both (rsHas I c t))

theorem off_rs₀ (c : Dev nD) (t : Fin 7) : k4_off1 c (BitVec.ofNat 32 t.val) = ![512 * (ch 0 c t.val).val, 512 * (0 : Fin 2).val] := by
  rw [k4_off1_eq, ch_val₀, show (c.val + 8 - t.val) % 8 = (c.val + 7 * t.val) % 8 by have := t.isLt; omega]; rfl
theorem off_rs₁ (c : Dev nD) (t : Fin 7) : k4_off2 c (BitVec.ofNat 32 t.val) = ![512 * (ch 1 c t.val).val, 512 * (1 : Fin 2).val] := by
  rw [k4_off2_eq, ch_val₁, show (c.val + t.val) % 8 = (c.val + 1 * t.val) % 8 by omega]; rfl
theorem off_add₀ (c : Dev nD) (t : Fin 7) : k4_off3 c (BitVec.ofNat 32 t.val) = ![512 * (ch 0 c (t.val + 1)).val, 512 * (0 : Fin 2).val] := by
  rw [k4_off3_eq, ch_val₀, show (c.val + 15 - t.val) % 8 = (c.val + 7 * (t.val + 1)) % 8 by have := t.isLt; omega]; rfl
theorem off_add₁ (c : Dev nD) (t : Fin 7) : k4_off4 c (BitVec.ofNat 32 t.val) = ![512 * (ch 1 c (t.val + 1)).val, 512 * (1 : Fin 2).val] := by
  rw [k4_off4_eq, ch_val₁, show (c.val + t.val + 1) % 8 = (c.val + 1 * (t.val + 1)) % 8 by omega]; rfl
theorem off_ag₀ (c : Dev nD) (s : Fin 7) : k4_off5 c (BitVec.ofNat 32 s.val) = ![512 * (ch 0 c (7 + s.val)).val, 512 * (0 : Fin 2).val] := by
  rw [k4_off5_eq, ch_val₀, show (c.val + 9 - s.val) % 8 = (c.val + 7 * (7 + s.val)) % 8 by have := s.isLt; omega]; rfl
theorem off_ag₁ (c : Dev nD) (s : Fin 7) : k4_off6 c (BitVec.ofNat 32 s.val) = ![512 * (ch 1 c (7 + s.val)).val, 512 * (1 : Fin 2).val] := by
  rw [k4_off6_eq, ch_val₁, show (c.val + s.val + 7) % 8 = (c.val + 1 * (7 + s.val)) % 8 by omega]; rfl

/-- A copy of a tile into a slot. -/
theorem sendSlot_wp (c n : Dev nD) (δ : Fin 2) (hn : n = nx δ c) (t : Fin 7) {o : Fin 2 → ℕ} (h : Inb o) (hw : Words o h)
    (e : o = ![512 * (ch δ c t.val).val, 512 * δ.val]) {O₀ O : CellTallies nD τ sig Unit} (hO : O₀ = O + tallyAt (dcell (nx δ c) δ 1 t) () N)
    (Q : PUnit → sProp 𝕄) :
    iprop(records I K c ∗ isP c (halfM δ (ch δ c t.val)) (I.R δ t.val c) ∗ anyP (nx δ c) (slotM δ t) ∗ pend c (flip δ) t.val ∗ owesE c O₀
      ∗ dutyTok ER (dcell c δ 0 t) 0 0 ∗ dutyTok ER (dcell (nx δ c) δ 1 t) 0 0
      ∗ ((cred (tallyAt (dcell c δ 0 t) () N) ∗ owesE c O) -∗ Q ⟨⟩))
      ⊢ WP c (sendSlot δ n o h hw t) Q := by
  subst hn e
  unfold sendSlot
  exact send_wp I K c (nx δ c) (near_nx c δ) δ 0 1 t (halfM δ (ch δ c t.val)) (slotM δ t) (I.R δ t.val c) (pend c (flip δ) t.val) _ _ hO (isP_any c _ _)
    (by unfold pay; rw [pr_nx]) Q

theorem rsStep_wp (c n₀ n₁ : Dev nD) (h₀ : n₀ = nx 0 c) (h₁ : n₁ = nx 1 c) (t : Fin 7) (Q : PUnit → sProp 𝕄) :
    iprop((records I K c ∗ levAts L lv) ∗ rsUse I c t ∗ rsSt I c t.val ∗ ((rsLeave c t ∗ rsSt I c (t.val + 1)) -∗ Q ⟨⟩))
      ⊢ WP c (rsStep c n₀ n₁ t) Q := by
  unfold rsUse rsSt rsLeave both rsStep kit rsHas
  iintro ⟨⟨#HR, #Hlev⟩, ⟨⟨⟨Ha0, Hb0, Ht0, Hu0, Hc0⟩, Hown0, Hs0⟩, ⟨Ha1, Hb1, Ht1, Hu1, Hc1⟩, Hown1, Hs1⟩, ⟨HO, ⟨Hr0, Hp0⟩, Hr1, Hp1⟩, HQ⟩
  iapply wp_then
  iapply (sendSlot_wp I K c n₀ 0 h₀ t _ _ (off_rs₀ c t) (due_step c 1 (agDue c 7) t))
  isplitr; · iexact HR
  isplitl [Hr0]; · iexact Hr0
  isplitl [Hs0]; · iexact Hs0
  isplitl [Hp1]; · iexact Hp1
  isplitl [HO]; · iexact HO
  isplitl [Ht0]; · iexact Ht0
  isplitl [Hu0]; · iexact Hu0
  iintro ⟨Hd0, HO⟩
  iapply wp_then
  iapply (sendSlot_wp I K c n₁ 1 h₁ t _ _ (off_rs₁ c t) rfl)
  isplitr; · iexact HR
  isplitl [Hr1]; · iexact Hr1
  isplitl [Hs1]; · iexact Hs1
  isplitl [Hp0]; · iexact Hp0
  isplitl [HO]; · iexact HO
  isplitl [Ht1]; · iexact Ht1
  isplitl [Hu1]; · iexact Hu1
  iintro ⟨Hd1, HO⟩
  have hO : Above (2 + t.val + 1) (due c 1 (agDue c 7) (6 - t.val)) := Above.rs c _ (6 - t.val) (by omega) (by have := t.isLt; omega)
  iapply wp_then
  iapply (rsEnd_wp I K c 0 t _ _ _ _ (off_add₀ c t) hO)
  isplitr; · iexact HR
  isplitr; · iexact Hlev
  isplitl [Hd0]; · iexact Hd0
  isplitl [Hc0]; · iexact Hc0
  isplitl [HO]; · iexact HO
  isplitl [Ha0]; · iexact Ha0
  isplitl [Hb0]; · iexact Hb0
  isplitl [Hown0]; · iexact Hown0
  unfold rsHas
  iintro ⟨HO, Hz0, ⟨Hr0, Hp0⟩, Hs0, Hg0⟩
  iapply (rsEnd_wp I K c 1 t _ _ _ _ (off_add₁ c t) hO)
  isplitr; · iexact HR
  isplitr; · iexact Hlev
  isplitl [Hd1]; · iexact Hd1
  isplitl [Hc1]; · iexact Hc1
  isplitl [HO]; · iexact HO
  isplitl [Ha1]; · iexact Ha1
  isplitl [Hb1]; · iexact Hb1
  isplitl [Hown1]; · iexact Hown1
  unfold rsHas
  iintro ⟨HO, Hz1, ⟨Hr1, Hp1⟩, Hs1, Hg1⟩
  iapply HQ
  isplitl [Hz0 Hs0 Hg0 Hz1 Hs1 Hg1]
  · isplitl [Hz0 Hs0 Hg0]
    · isplitl [Hz0]; · iexact Hz0
      isplitl [Hs0]; · iexact Hs0
      iexact Hg0
    · isplitl [Hz1]; · iexact Hz1
      isplitl [Hs1]; · iexact Hs1
      iexact Hg1
  isplitl [HO]
  · rw [show 7 - (t.val + 1) = 6 - t.val by omega]; unfold rsDue; iexact HO
  isplitl [Hr0 Hp0]
  · isplitl [Hr0]; · iexact Hr0
    iexact Hp0
  · isplitl [Hr1]; · iexact Hr1
    iexact Hp1

/-! ## The all-gather -/

/-- The place on `nx δ c` that step `s` writes into. -/
def goal (c : Dev nD) (s : ℕ) (δ : Fin 2) : sProp 𝕄 := anyP (nx δ c) (halfM δ (ch δ c (7 + s)))

/-- Step `s` in both directions, of the tiles themselves. -/
theorem agCore_wp (c n₀ n₁ : Dev nD) (h₀ : n₀ = nx 0 c) (h₁ : n₁ = nx 1 c) (s : Fin 7) (Q : PUnit → sProp 𝕄) :
    iprop(records I K c ∗ levAts L lv ∗ both (fun δ => kit c δ 2 3 s) ∗ owesE c (agDue c (7 - s.val))
      ∗ both (fun δ => halfV I c δ (ch δ c (7 + s.val))) ∗ both (goal c s.val) ∗ both (fun δ => bag c δ s.val)
      ∗ ((both (fun δ => zero c δ 2 3 s) ∗ owesE c (agDue c (6 - s.val)) ∗ both (fun δ => halfV I c δ (ch δ c (7 + s.val)))
          ∗ both (fun δ => halfV I c δ (ch δ c s.val)) ∗ both (fun δ => bag (pr δ c) δ s.val)) -∗ Q ⟨⟩))
      ⊢ WP c (agStep c n₀ n₁ s) Q := by
  have hO : Above (9 + s.val + 1) (agDue c (6 - s.val)) := Above.ag c _ (6 - s.val) (by omega) (by have := s.isLt; omega)
  have send : ∀ (n : Dev nD) (δ : Fin 2) (hn : n = nx δ c) {o : Fin 2 → ℕ} (h : Inb o) (hw : Words o h)
      (e : o = ![512 * (ch δ c (7 + s.val)).val, 512 * δ.val]) {O₀ O : CellTallies nD τ sig Unit} (hO : O₀ = O + tallyAt (dcell (nx δ c) δ 3 s) () N)
      (Q : PUnit → sProp 𝕄),
      iprop(records I K c ∗ halfV I c δ (ch δ c (7 + s.val)) ∗ goal c s.val δ ∗ bag c δ s.val ∗ owesE c O₀
        ∗ dutyTok ER (dcell c δ 2 s) 0 0 ∗ dutyTok ER (dcell (nx δ c) δ 3 s) 0 0
        ∗ ((cred (tallyAt (dcell c δ 2 s) () N) ∗ owesE c O) -∗ Q ⟨⟩))
        ⊢ WP c (sendHalf δ n o h hw s) Q := fun n δ hn o h hw e O₀ O hO Q => by
    subst hn e
    unfold sendHalf goal halfV
    exact send_wp I K c (nx δ c) (near_nx c δ) δ 2 3 s (halfM δ (ch δ c (7 + s.val))) (halfM δ (ch δ c (7 + s.val))) (I.V δ (ch δ c (7 + s.val))) (bag c δ s.val) _ _ hO
      (by unfold pay halfV; exact BIBase.Entails.rfl) (by unfold pay halfV; rw [ch_nx, pr_nx]) Q
  have ends : ∀ (δ : Fin 2) {o : Fin 2 → ℕ} (h : Inb o) (hw : Words o h) (Q : PUnit → sProp 𝕄),
      iprop(records I K c ∗ levAts L lv ∗ cred (tallyAt (dcell c δ 2 s) () N) ∗ cred (tallyAt (dcell c δ 3 s) () N) ∗ owesE c (agDue c (6 - s.val))
        ∗ atPos ER (dcell c δ 2 s) 0 ∅ 0 ∗ atPos ER (dcell c δ 3 s) 0 ∅ 0
        ∗ ((owesE c (agDue c (6 - s.val)) ∗ zero c δ 2 3 s ∗ halfV I c δ (ch δ c (7 + s.val)) ∗ halfV I c δ (ch δ c s.val) ∗ bag (pr δ c) δ s.val) -∗ Q ⟨⟩))
        ⊢ WP c (agEnd δ o h hw s) Q := fun δ o h hw Q => by
    unfold agEnd waitHalf
    iintro ⟨HR, Hlev, Hc, Hc', HO, Ha, Ha', HQ⟩
    rw [show (do
        Prog.lift (.waitDma2 (dsem δ 2 s) (halfAt o h) (halfAt o h) (half_exact o h hw) (half_exact o h hw))
        Prog.lift (.waitDma2 (dsem δ 3 s) (halfAt o h) (halfAt o h) (half_exact o h hw) (half_exact o h hw)) : P (F := F) PUnit)
      = (do
        Prog.lift (.waitDma2 (dsem δ 2 s) (halfAt o h) (halfAt o h) (half_exact o h hw) (half_exact o h hw))
        Prog.lift (.waitDma2 (dsem δ 3 s) (halfAt o h) (halfAt o h) (half_exact o h hw) (half_exact o h hw))
        pure ⟨⟩) from by simp only [bind_pure_unit]]
    iapply (waits_wp I K c δ 2 3 (fun _ => rfl) s hO)
    isplitl [HR]; · iexact HR
    isplitl [Hlev]; · iexact Hlev
    isplitl [Hc]; · iexact Hc
    isplitl [Hc']; · iexact Hc'
    isplitl [HO]; · iexact HO
    isplitl [Ha]; · iexact Ha
    isplitl [Ha']; · iexact Ha'
    unfold pay
    iintro ⟨HO, Hz, Hback, Hin, Hb⟩
    unfold WP
    rw [Prog.pure_eq_ret, wp_ret]; imodintro
    iapply HQ
    isplitl [HO]; · iexact HO
    isplitl [Hz]; · iexact Hz
    isplitl [Hback]; · iexact Hback
    isplitl [Hin]; · iexact Hin
    iexact Hb
  unfold both agStep kit
  iintro ⟨#HR, #Hlev, ⟨⟨Ha0, Hb0, Ht0, Hu0, Hc0⟩, Ha1, Hb1, Ht1, Hu1, Hc1⟩, HO, ⟨Hr0, Hr1⟩, ⟨Hg0, Hg1⟩, ⟨Hp0, Hp1⟩, HQ⟩
  iapply wp_then
  iapply (send n₀ 0 h₀ _ _ (off_ag₀ c s) (due_step c 3 0 s))
  isplitr; · iexact HR
  isplitl [Hr0]; · iexact Hr0
  isplitl [Hg0]; · iexact Hg0
  isplitl [Hp0]; · iexact Hp0
  isplitl [HO]; · unfold agDue; iexact HO
  isplitl [Ht0]; · iexact Ht0
  isplitl [Hu0]; · iexact Hu0
  iintro ⟨Hd0, HO⟩
  iapply wp_then
  iapply (send n₁ 1 h₁ _ _ (off_ag₁ c s) rfl)
  isplitr; · iexact HR
  isplitl [Hr1]; · iexact Hr1
  isplitl [Hg1]; · iexact Hg1
  isplitl [Hp1]; · iexact Hp1
  isplitl [HO]; · iexact HO
  isplitl [Ht1]; · iexact Ht1
  isplitl [Hu1]; · iexact Hu1
  iintro ⟨Hd1, HO⟩
  iapply wp_then
  iapply (ends 0 _ _)
  isplitr; · iexact HR
  isplitr; · iexact Hlev
  isplitl [Hd0]; · iexact Hd0
  isplitl [Hc0]; · iexact Hc0
  isplitl [HO]; · unfold agDue; iexact HO
  isplitl [Ha0]; · iexact Ha0
  isplitl [Hb0]; · iexact Hb0
  iintro ⟨HO, Hz0, Hr0, Hn0, Hp0⟩
  iapply (ends 1 _ _)
  isplitr; · iexact HR
  isplitr; · iexact Hlev
  isplitl [Hd1]; · iexact Hd1
  isplitl [Hc1]; · iexact Hc1
  isplitl [HO]; · iexact HO
  isplitl [Ha1]; · iexact Ha1
  isplitl [Hb1]; · iexact Hb1
  iintro ⟨HO, Hz1, Hr1, Hn1, Hp1⟩
  iapply HQ
  isplitl [Hz0 Hz1]
  · isplitl [Hz0]; · iexact Hz0
    iexact Hz1
  isplitl [HO]; · iexact HO
  isplitl [Hr0 Hr1]
  · isplitl [Hr0]; · iexact Hr0
    iexact Hr1
  isplitl [Hn0 Hn1]
  · isplitl [Hn0]; · iexact Hn0
    iexact Hn1
  isplitl [Hp0]; · iexact Hp0
  iexact Hp1

/-- The place for step 6 as it comes along: still the other direction's tile before step 0, at its place from then on,
    used up after step 6; what of it stays behind during step `s`; the places of steps 0 to 5. -/
def carry (c : Dev nD) (s : ℕ) (δ : Fin 2) : sProp 𝕄 :=
  if s = 0 then pend c δ 7 else if s = 7 then iprop(emp) else pend (nx δ c) δ 7
def keep (c : Dev nD) (s : ℕ) (δ : Fin 2) : sProp 𝕄 := if s = 0 ∨ s = 6 then iprop(emp) else pend (nx δ c) δ 7
def need (c : Dev nD) (s : ℕ) (δ : Fin 2) : sProp 𝕄 := if s = 6 then iprop(emp) else pend (nx δ c) δ (s + 1)

omit [FloatOps F] in
theorem pend_goal (c : Dev nD) (s : ℕ) (δ : Fin 2) : (pend (nx δ c) δ (s + 1) : sProp 𝕄) = goal c s δ := by
  unfold pend goal
  rw [if_neg (Nat.succ_ne_zero s), Nat.add_sub_cancel, ch_nx]

omit [FloatOps F] in
/-- What step `s` needs is at hand. -/
theorem have_goal (c : Dev nD) (s : Fin 7) (δ : Fin 2) :
    (iprop(need c s.val δ ∗ carry c s.val δ) : sProp 𝕄) ⊢ iprop(goal c s.val δ ∗ bag c (flip δ) s.val ∗ keep c s.val δ) := by
  unfold need carry bag keep
  rw [flip_flip, pend_goal, if_neg (show s.val ≠ 7 by have := s.isLt; omega)]
  by_cases h0 : s.val = 0
  · rw [if_neg (by omega), if_pos h0, if_pos h0, if_pos (Or.inl h0)]
    iintro ⟨A, B⟩
    isplitl [A]; · iexact A
    isplitl [B]; · iexact B
    iempintro
  · rw [if_neg h0, if_neg h0]
    by_cases h6 : s.val = 6
    · rw [if_pos h6, if_pos (Or.inr h6), ← pend_goal, h6]
      iintro ⟨-, B⟩
      isplitl [B]; · iexact B
      isplitr <;> iempintro
    · rw [if_neg h6, if_neg (not_or.mpr ⟨h0, h6⟩)]
      iintro ⟨A, B⟩
      isplitl [A]; · iexact A
      isplitr; · iempintro
      iexact B

omit [FloatOps F] in
/-- What step `s` brings is kept. -/
theorem have_carry (c : Dev nD) (s : Fin 7) (δ : Fin 2) :
    (iprop(keep c s.val δ ∗ bag (pr (flip δ) c) (flip δ) s.val) : sProp 𝕄) ⊢ carry c (s.val + 1) δ := by
  have hp : pr (flip δ) c = nx δ c := by rw [← nx_flip, flip_flip]
  unfold keep bag carry
  rw [flip_flip, hp, if_neg (Nat.succ_ne_zero s.val)]
  by_cases h0 : s.val = 0
  · rw [if_pos (Or.inl h0), if_pos h0, if_neg (by omega)]
    iintro ⟨-, B⟩; iexact B
  · rw [if_neg h0]
    by_cases h6 : s.val = 6
    · rw [if_pos (Or.inr h6), if_pos (by omega)]
      iintro -; iempintro
    · rw [if_neg (not_or.mpr ⟨h0, h6⟩), if_neg (by omega)]
      iintro ⟨A, -⟩; iexact A

def agUse (c : Dev nD) (s : Fin 7) : sProp 𝕄 := both fun δ => iprop(kit c δ 2 3 s ∗ need c s.val δ)
def agLeave (c : Dev nD) (s : Fin 7) : sProp 𝕄 := both fun δ => iprop(zero c δ 2 3 s ∗ halfV I c δ (ch δ c (7 + s.val)))
def agSt (c : Dev nD) (s : ℕ) : sProp 𝕄 :=
  iprop(owesE c (agDue c (7 - s)) ∗ both fun δ => iprop(halfV I c δ (ch δ c (7 + s)) ∗ carry c s δ))

theorem agStep_wp (c n₀ n₁ : Dev nD) (h₀ : n₀ = nx 0 c) (h₁ : n₁ = nx 1 c) (s : Fin 7) (Q : PUnit → sProp 𝕄) :
    iprop((records I K c ∗ levAts L lv) ∗ agUse c s ∗ agSt I c s.val ∗ ((agLeave I c s ∗ agSt I c (s.val + 1)) -∗ Q ⟨⟩))
      ⊢ WP c (agStep c n₀ n₁ s) Q := by
  unfold agUse agSt agLeave
  iintro ⟨⟨HR, Hlev⟩, HU, ⟨HO, HS⟩, HQ⟩
  ihave HU := both_sep.2 $$ HU
  icases HU with ⟨Hk, Hn⟩
  ihave HS := both_sep.2 $$ HS
  icases HS with ⟨Hr, Hc⟩
  ihave Hg := both_sep.1 $$ [Hn Hc]
  · isplitl [Hn]; · iexact Hn
    iexact Hc
  ihave Hg := (both_mono (have_goal c s)) $$ Hg
  ihave Hg := both_sep.2 $$ Hg
  icases Hg with ⟨Hg, Hb⟩
  ihave Hb := both_sep.2 $$ Hb
  icases Hb with ⟨Hb, Hkeep⟩
  ihave Hb := (both_flip fun δ => bag c δ s.val) $$ Hb
  iapply (agCore_wp I K c n₀ n₁ h₀ h₁ s)
  isplitl [HR]; · iexact HR
  isplitl [Hlev]; · iexact Hlev
  isplitl [Hk]; · iexact Hk
  isplitl [HO]; · iexact HO
  isplitl [Hr]; · iexact Hr
  isplitl [Hg]; · iexact Hg
  isplitl [Hb]; · iexact Hb
  iintro ⟨Hz, HO, Hr, Hnew, Hb⟩
  ihave Hb := (both_flip fun δ => bag (pr (flip δ) c) (flip δ) s.val) $$ [Hb]
  · iapply (both_mono (fun δ => Entails.of_eq (by rw [flip_flip]))); iexact Hb
  ihave Hc := both_sep.1 $$ [Hkeep Hb]
  · isplitl [Hkeep]; · iexact Hkeep
    iexact Hb
  ihave Hc := (both_mono (have_carry c s)) $$ Hc
  iapply HQ
  isplitl [Hz Hr]
  · iapply both_sep.1
    isplitl [Hz]; · iexact Hz
    iexact Hr
  isplitl [HO]
  · rw [show 7 - (s.val + 1) = 6 - s.val by omega]; iexact HO
  iapply both_sep.1
  isplitl [Hnew]
  · iapply (both_mono (fun δ => Entails.of_eq (by rw [show 7 + (s.val + 1) = 8 + s.val by omega, ch_add8]))); iexact Hnew
  iexact Hc

/-! ## Seven steps -/

omit [FloatOps F] in
theorem bigSep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Seven steps, each of which uses its own share and takes the state one further. -/
theorem seven_wp (c : Dev nD) (p : Fin 7 → P (F := F) PUnit) (B : sProp 𝕄) [BI.Persistent B] (use leave : Fin 7 → sProp 𝕄) (st : ℕ → sProp 𝕄)
    (h : ∀ (t : Fin 7) (Q : PUnit → sProp 𝕄), iprop(B ∗ use t ∗ st t.val ∗ ((leave t ∗ st (t.val + 1)) -∗ Q ⟨⟩)) ⊢ WP c (p t) Q) (Q : PUnit → sProp 𝕄) :
    iprop(B ∗ bigSep Finset.univ use ∗ st 0 ∗ ((bigSep Finset.univ leave ∗ st 7) -∗ Q ⟨⟩)) ⊢ WP c (seven p) Q := by
  have h' : ∀ (t : Fin 7) (n m : ℕ), t.val = n → n + 1 = m → ∀ Q : PUnit → sProp 𝕄,
      iprop(B ∗ use t ∗ st n ∗ ((leave t ∗ st m) -∗ Q ⟨⟩)) ⊢ WP c (p t) Q := fun t n m e e' Q => by
    subst e; subst e'; exact h t Q
  rw [bigSep7, bigSep7]
  unfold seven
  iintro ⟨#HB, ⟨U0, U1, U2, U3, U4, U5, U6⟩, HS, HQ⟩
  iapply wp_then; iapply (h' 0 0 1 rfl rfl)
  isplitr; · iexact HB
  isplitl [U0]; · iexact U0
  isplitl [HS]; · iexact HS
  iintro ⟨L0, HS⟩
  iapply wp_then; iapply (h' 1 1 2 rfl rfl)
  isplitr; · iexact HB
  isplitl [U1]; · iexact U1
  isplitl [HS]; · iexact HS
  iintro ⟨L1, HS⟩
  iapply wp_then; iapply (h' 2 2 3 rfl rfl)
  isplitr; · iexact HB
  isplitl [U2]; · iexact U2
  isplitl [HS]; · iexact HS
  iintro ⟨L2, HS⟩
  iapply wp_then; iapply (h' 3 3 4 rfl rfl)
  isplitr; · iexact HB
  isplitl [U3]; · iexact U3
  isplitl [HS]; · iexact HS
  iintro ⟨L3, HS⟩
  iapply wp_then; iapply (h' 4 4 5 rfl rfl)
  isplitr; · iexact HB
  isplitl [U4]; · iexact U4
  isplitl [HS]; · iexact HS
  iintro ⟨L4, HS⟩
  iapply wp_then; iapply (h' 5 5 6 rfl rfl)
  isplitr; · iexact HB
  isplitl [U5]; · iexact U5
  isplitl [HS]; · iexact HS
  iintro ⟨L5, HS⟩
  iapply (h' 6 6 7 rfl rfl)
  isplitr; · iexact HB
  isplitl [U6]; · iexact U6
  isplitl [HS]; · iexact HS
  iintro ⟨L6, HS⟩
  iapply HQ
  isplitr [HS]
  · isplitl [L0]; · iexact L0
    isplitl [L1]; · iexact L1
    isplitl [L2]; · iexact L2
    isplitl [L3]; · iexact L3
    isplitl [L4]; · iexact L4
    isplitl [L5]; · iexact L5
    iexact L6
  · iexact HS

end Cert.SumProof

end
-- ==== Proof.SumBody.lean ====
/-
  The body of a device of the all-reduce, from what the launch deals it: the result buffer cut into the tiles that
  travel and joined again at the end, the arrival buffers cut into their slots and joined, and in between the greeting,
  the copy of the operand, the reduce-scatter and the all-gather.
-/
module

public import proofs.«01_k».proof.Proof.SumSteps

@[expose] public section

noncomputable section

namespace Cert.SumProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

/-! ## The two directions and the seven steps -/

omit [FloatOps F] in
theorem both_eq (Φ : Fin 2 → sProp 𝕄) : both Φ = bigSep Finset.univ Φ :=
  (bigSep_univ_eq_bigSepL [0, 1] (by decide) (by decide) Φ).symm

omit [FloatOps F] in
theorem both_bigSep (Φ : Fin 2 → Fin 7 → sProp 𝕄) :
    (bigSep Finset.univ fun t : Fin 7 => both fun δ => Φ δ t) = both fun δ => bigSep Finset.univ (Φ δ) := by
  unfold both
  rw [bigSep_sep' Finset.univ (Φ 0) (Φ 1)]

omit [FloatOps F] in
/-- Two families over the directions and the steps, one by one. -/
theorem zip (Φ Ψ : Fin 2 → Fin 7 → sProp 𝕄) :
    iprop(both (fun δ => bigSep Finset.univ (Φ δ)) ∗ both (fun δ => bigSep Finset.univ (Ψ δ)))
      ⊢ both fun δ => bigSep Finset.univ fun t => iprop(Φ δ t ∗ Ψ δ t) :=
  both_sep.1.trans (both_mono fun δ => Entails.of_eq (bigSep_sep' Finset.univ (Φ δ) (Ψ δ)).symm)
omit [FloatOps F] in
theorem unzip (Φ Ψ : Fin 2 → Fin 7 → sProp 𝕄) :
    (both fun δ => bigSep Finset.univ fun t => iprop(Φ δ t ∗ Ψ δ t))
      ⊢ iprop(both (fun δ => bigSep Finset.univ (Φ δ)) ∗ both (fun δ => bigSep Finset.univ (Ψ δ))) :=
  (both_mono fun δ => Entails.of_eq (bigSep_sep' Finset.univ (Φ δ) (Ψ δ))).trans both_sep.2

omit [FloatOps F] in
/-- The tiles that came back with steps 1 to 6 are the places for steps 0 to 5 of the all-gather. -/
theorem shift7 (c : Dev nD) (δ : Fin 2) :
    (bigSep Finset.univ fun t : Fin 7 => pend (nx δ c) δ t.val : sProp 𝕄) ⊢ bigSep Finset.univ fun s : Fin 7 => need c s.val δ := by
  have e : ∀ s t : Fin 7, s.val ≠ 6 → t.val = s.val + 1 → (pend (nx δ c) δ t.val : sProp 𝕄) ⊢ need c s.val δ := fun s t h h' => by
    unfold need
    rw [if_neg h, h']
  rw [bigSep7, bigSep7]
  iintro ⟨-, A1, A2, A3, A4, A5, A6⟩
  isplitl [A1]; · iapply (e 0 1 (by decide) rfl); iexact A1
  isplitl [A2]; · iapply (e 1 2 (by decide) rfl); iexact A2
  isplitl [A3]; · iapply (e 2 3 (by decide) rfl); iexact A3
  isplitl [A4]; · iapply (e 3 4 (by decide) rfl); iexact A4
  isplitl [A5]; · iapply (e 4 5 (by decide) rfl); iexact A5
  isplitl [A6]; · iapply (e 5 6 (by decide) rfl); iexact A6
  show emp ⊢ need c 6 δ
  unfold need
  rw [if_pos rfl]

/-! ## The result buffer -/

/-- Eight tile numbers in the order of direction `δ`, from the `n`-th on. -/
def around (δ : Fin 2) (c : Fin 8) (n : ℕ) : Fin 8 ≃ Fin 8 :=
  Equiv.ofBijective (fun s => ch δ c (n + s.val)) (Finite.injective_iff_bijective.mp fun s s' h => Fin.ext (by
    have := s.isLt; have := s'.isLt
    match δ with
    | 0 => have h := congrArg Fin.val h; simp only [ch_val₀] at h; omega
    | 1 => have h := congrArg Fin.val h; simp only [ch_val₁] at h; omega))

/-- The whole result is its two sides of eight tiles. -/
theorem tiles_eq (c : Dev nD) (f : Vec F S4096x1024 .bf16) :
    (oAt c Finset.univ f : sProp 𝕄) = both fun δ => bigSep Finset.univ fun k : Fin 8 => oAt c (halfS δ k) f := by
  rw [both_eq]
  unfold oAt
  rw [← sides_cover, pointsTo_biUnion _ _ fun _ _ _ _ h => sides_disjoint h]
  refine congrArg (bigSep Finset.univ) (funext fun δ => ?_)
  rw [← halves_cover]
  exact pointsTo_biUnion _ _ fun _ _ _ _ h => halves_disjoint δ h

omit [FloatOps F] in
theorem tile_is (c : Dev nD) (δ : Fin 2) (k : Fin 8) (f : Vec F S4096x1024 .bf16) :
    (oAt c (halfS δ k) f : sProp 𝕄) ⊢ isP c (halfM δ k) ((halfM δ k).view.read (Elt F) f) := by
  unfold isP atP oAt
  rw [halfM_set]
  iintro H
  iexists f
  isplitr
  · ipureintro; rfl
  · iexact H

/-- A finished tile is part of the result. -/
theorem tile_out (c : Dev nD) (δ : Fin 2) (k : Fin 8) : (halfV I c δ k : sProp 𝕄) ⊢ oAt c (halfS δ k) I.out := by
  unfold halfV isP atP oAt
  rw [halfM_set]
  iintro ⟨%f, %hf, H⟩
  have e : ∀ i ∈ halfS δ k, f i = I.out i := fun i hi => read_ext δ k f I.out (hf.trans (read_gather I.V δ k).symm) hi
  rw [show ((oM.view.loc (c : Thread nD τ)) ↦[halfS δ k]{fullShare} I.out : sProp 𝕄)
    = ((oM.view.loc (c : Thread nD τ)) ↦[halfS δ k]{fullShare} f) from (pointsTo_congr e).symm]
  iexact H

/-- What the operand brings: the tile that starts, and the seven it is added to. -/
theorem tiles_split (c : Dev nD) :
    (oAt c Finset.univ (I c) : sProp 𝕄) ⊢ iprop(both (rsHas I c 0) ∗ both fun δ => bigSep Finset.univ fun t : Fin 7 => own I c (t.val + 1) δ) := by
  rw [tiles_eq]
  refine BIBase.Entails.trans (both_mono (Ψ := fun δ => iprop(rsHas I c 0 δ ∗ bigSep Finset.univ fun t : Fin 7 => own I c (t.val + 1) δ)) fun δ => ?_) both_sep.2
  have h : (bigSep Finset.univ fun k : Fin 8 => oAt c (halfS δ k) (I c) : sProp 𝕄) ⊢ bigSep Finset.univ fun k : Fin 8 => isP c (halfM δ k) (I.H δ c k) :=
    BI.bigSep_mono fun k _ => tile_is c δ k (I c)
  refine BIBase.Entails.trans h ?_
  rw [bigSep_univ_equiv (around δ c 0) fun k => isP c (halfM δ k) (I.H δ c k), bigSep8, bigSep7]
  unfold rsHas own pend
  rw [if_pos rfl]
  have e : ∀ s : Fin 8, around δ c 0 s = ch δ c s.val := fun s => by show ch δ c (0 + s.val) = _; rw [Nat.zero_add]
  simp only [e]
  iintro ⟨A0, A⟩
  isplitl [A0]
  · isplitl [A0]
    · iexact A0
    · iempintro
  iexact A

/-- The eight finished tiles of both sides are the result. -/
theorem tiles_join (c : Dev nD) :
    iprop(both (fun δ => bigSep Finset.univ fun s : Fin 7 => halfV I c δ (ch δ c (7 + s.val))) ∗ both (fun δ => halfV I c δ (ch δ c (7 + 7))))
      ⊢ oAt c Finset.univ I.out := by
  rw [tiles_eq]
  refine BIBase.Entails.trans both_sep.1 (both_mono fun δ => ?_)
  refine BIBase.Entails.trans ?_ (BI.bigSep_mono fun k _ => tile_out I c δ k)
  rw [bigSep_univ_equiv (around δ c 7) fun k => halfV I c δ k, bigSep8, bigSep7]
  iintro ⟨⟨A0, A1, A2, A3, A4, A5, A6⟩, A7⟩
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

/-! ## The arrival buffers -/

/-- An arrival buffer with any contents. -/
def cAny (c : Dev nD) (δ : Fin 2) : sProp 𝕄 :=
  iprop(∃ f : (cM δ).view.ty.Contents (Elt F), ((cM δ).view.loc (c : Thread nD τ)) ↦{fullShare} f)

theorem slotM_disjoint : ∀ (δ : Fin 2) (t t' : Fin 7), t ≠ t' →
    Disjoint (α := Finset (Idx ((cM δ).view.loc ((0 : Dev nD) : Thread nD τ)))) (slotM δ t).view.set (slotM δ t').view.set
  | 0, t, t', h => by rw [slotM_set₀, slotM_set₀]; exact slots_disjoint h
  | 1, t, t', h => by rw [slotM_set₁, slotM_set₁]; exact slots_disjoint h
theorem slotM_cover : ∀ δ : Fin 2, (Finset.univ : Finset (Fin 7)).biUnion (β := Idx ((cM δ).view.loc ((0 : Dev nD) : Thread nD τ)))
    (fun t => (slotM δ t).view.set) = Finset.univ
  | 0 => (congrArg (Finset.biUnion Finset.univ) (funext slotM_set₀)).trans slots_cover
  | 1 => (congrArg (Finset.biUnion Finset.univ) (funext slotM_set₁)).trans slots_cover
/-- A content of an arrival buffer. -/
def zeroBuf : ∀ δ : Fin 2, (cM δ).view.ty.Contents (Elt F)
  | 0 => (fun _ => (FloatOps.ofBits (F := F) .bf16 0 : F .bf16) : Vec F S7x512x512 .bf16)
  | 1 => (fun _ => (FloatOps.ofBits (F := F) .bf16 0 : F .bf16) : Vec F S7x512x512 .bf16)

omit [FloatOps F] in
/-- A buffer of seven slots is cut into them, and joined again. -/
theorem cut7 {l : Loc nD τ sig} (S : Fin 7 → Finset (Idx l)) (hd : ∀ t t', t ≠ t' → Disjoint (S t) (S t'))
    (hc : (Finset.univ : Finset (Fin 7)).biUnion S = Finset.univ) :
    (iprop(∃ f : Buf (Elt F) l, l ↦{fullShare} f) : sProp 𝕄) ⊢ bigSep Finset.univ fun t => iprop(∃ f : Buf (Elt F) l, l ↦[S t]{fullShare} f) := by
  iintro ⟨%f, H⟩
  have h : ((l ↦{fullShare} f) : sProp 𝕄) = bigSep Finset.univ fun t => (l ↦[S t]{fullShare} f) := by
    rw [← pointsTo_biUnion _ _ fun _ _ _ _ h => hd _ _ h, hc]
  have h' : (bigSep Finset.univ fun t => (l ↦[S t]{fullShare} f) : sProp 𝕄) ⊢ bigSep Finset.univ fun t => iprop(∃ f : Buf (Elt F) l, l ↦[S t]{fullShare} f) :=
    BI.bigSep_mono fun t _ => by
      show (l ↦[S t]{fullShare} f : sProp 𝕄) ⊢ iprop(∃ f : Buf (Elt F) l, l ↦[S t]{fullShare} f)
      iintro H; iexists f; iexact H
  iapply h'
  iapply (Entails.of_eq h); iexact H

omit [FloatOps F] in
theorem join7 {l : Loc nD τ sig} (f₀ : Buf (Elt F) l) (S : Fin 7 → Finset (Idx l)) (hd : ∀ t t', t ≠ t' → Disjoint (S t) (S t'))
    (hc : (Finset.univ : Finset (Fin 7)).biUnion S = Finset.univ) :
    (bigSep Finset.univ fun t => iprop(∃ f : Buf (Elt F) l, l ↦[S t]{fullShare} f) : sProp 𝕄) ⊢ iprop(∃ f : Buf (Elt F) l, l ↦{fullShare} f) := by
  haveI : Nonempty (Buf (Elt F) l) := ⟨f₀⟩
  iintro H
  ihave H := (BI.bigSep_exists_pi Finset.univ (fun (t : Fin 7) (f : Buf (Elt F) l) => ((l ↦[S t]{fullShare} f) : sProp 𝕄))) $$ H
  icases H with ⟨%fs, H⟩
  ihave H := (pointsTo_biUnion_join Finset.univ S fs (fs 0) fun _ _ _ _ h => hd _ _ h) $$ H
  icases H with ⟨%g, -, H⟩
  iexists g
  rw [hc]; iexact H

theorem slots_split (c : Dev nD) (δ : Fin 2) : (cAny c δ : sProp 𝕄) ⊢ slots c δ :=
  cut7 (l := (cM δ).view.loc (c : Thread nD τ)) (fun t => (slotM δ t).view.set) (slotM_disjoint δ) (slotM_cover δ)
theorem slots_join (c : Dev nD) (δ : Fin 2) : (slots c δ : sProp 𝕄) ⊢ cAny c δ :=
  join7 (l := (cM δ).view.loc (c : Thread nD τ)) (zeroBuf δ) (fun t => (slotM δ t).view.set) (slotM_disjoint δ) (slotM_cover δ)

/-! ## The whole body -/

theorem rsTo_eq (c : Dev nD) (t : Fin 7) : (rsTo c t).1 = nx 0 c ∧ (rsTo c t).2 = nx 1 c := by
  have e0 : (nx 0 c).val = (c.val + 1) % 8 := by show (ch 0 c 7).val = _; rw [ch_val₀]; omega
  have e1 : (nx 1 c).val = (c.val + 7) % 8 := by show (ch 1 c 7).val = _; rw [ch_val₁]
  refine ⟨Fin.ext (Eq.trans ?_ e0.symm), Fin.ext (Eq.trans ?_ e1.symm)⟩ <;> fin_cases t
  exacts [k4_dev3_eq c, k4_dev5_eq c, k4_dev7_eq c, k4_dev9_eq c, k4_dev11_eq c, k4_dev13_eq c, k4_dev15_eq c,
    k4_dev4_eq c, k4_dev6_eq c, k4_dev8_eq c, k4_dev10_eq c, k4_dev12_eq c, k4_dev14_eq c, k4_dev16_eq c]
theorem agTo_eq (c : Dev nD) (t : Fin 7) : (agTo c t).1 = nx 0 c ∧ (agTo c t).2 = nx 1 c := by
  have e0 : (nx 0 c).val = (c.val + 1) % 8 := by show (ch 0 c 7).val = _; rw [ch_val₀]; omega
  have e1 : (nx 1 c).val = (c.val + 7) % 8 := by show (ch 1 c 7).val = _; rw [ch_val₁]
  refine ⟨Fin.ext (Eq.trans ?_ e0.symm), Fin.ext (Eq.trans ?_ e1.symm)⟩ <;> fin_cases t
  exacts [k4_dev17_eq c, k4_dev19_eq c, k4_dev21_eq c, k4_dev23_eq c, k4_dev25_eq c, k4_dev27_eq c, k4_dev29_eq c,
    k4_dev18_eq c, k4_dev20_eq c, k4_dev22_eq c, k4_dev24_eq c, k4_dev26_eq c, k4_dev28_eq c, k4_dev30_eq c]

/-- What the launch deals device `c` of tokens, positions and credit. -/
def deal (c : Dev nD) : sProp 𝕄 :=
  iprop((dutyTok ER (bar (pr 0 c)) 0 0 ∗ dutyTok ER (bar (pr 1 c)) 0 1 ∗ cred (tallyAt (bar c) () 2) ∗ atPos ER (bar c) 0 ∅ 0)
    ∗ both (fun δ => bigSep Finset.univ fun t : Fin 7 => kit c δ 0 1 t) ∗ both (fun δ => bigSep Finset.univ fun s : Fin 7 => kit c δ 2 3 s))
/-- The semaphores of device `c` at the end. -/
def zeros (c : Dev nD) : sProp 𝕄 :=
  iprop(semVal (bar c) 0 ∗ both (fun δ => bigSep Finset.univ fun t : Fin 7 => zero c δ 0 1 t) ∗ both (fun δ => bigSep Finset.univ fun s : Fin 7 => zero c δ 2 3 s))

theorem body_wp (c : Dev nD) (g : Vec F S4096x1024 .bf16) (Q : PUnit → sProp 𝕄) :
    iprop(greet I K c ∗ levAts L lv ∗ deal c ∗ owesE c (O₀ c) ∗ insAt I c ∗ both (cAny c) ∗ oAt c Finset.univ g
      ∗ ((zeros c ∗ owesE c 0 ∗ insAt I c ∗ both (cAny c) ∗ oAt c Finset.univ I.out) -∗ Q ⟨⟩))
      ⊢ WP c (body c) Q := by
  unfold deal zeros body
  iintro ⟨#HG, #Hlev, ⟨⟨HtP, HtN, Hcb, Hab⟩, Hrk, Hak⟩, HO, Hin, Hs, Hout, HQ⟩
  ihave Hs := (both_mono (slots_split c)) $$ Hs
  ihave Hs := (Entails.of_eq (show both (slots c) = iprop(slots c 0 ∗ slots c 1) from rfl)) $$ Hs
  icases Hs with ⟨Hs0, Hs1⟩
  iapply wp_then
  iapply (hello_wp I K c _ _ (Fin.ext (by show k4_dev1 c = (ch 0 c 1).val; rw [ch_val₀, k4_dev1_eq]))
    (Fin.ext (by show k4_dev2 c = (ch 1 c 1).val; rw [ch_val₁, k4_dev2_eq])))
  isplitr; · iexact HG
  isplitr; · iexact Hlev
  isplitl [HO]; · iexact HO
  isplitl [HtP]; · iexact HtP
  isplitl [HtN]; · iexact HtN
  isplitl [Hs0]; · iexact Hs0
  isplitl [Hs1]; · iexact Hs1
  isplitl [Hcb]; · iexact Hcb
  isplitl [Hab]; · iexact Hab
  iintro ⟨HO, Hzb, #HR, HN⟩
  iapply wp_then
  iapply (copyIn_wp I c g)
  isplitl [Hin]; · iexact Hin
  isplitl [Hout]; · iexact Hout
  iintro ⟨Hin, Hout⟩
  ihave Hout := (tiles_split I c) $$ Hout
  icases Hout with ⟨Hhas, Hown⟩
  iapply wp_then
  iapply (seven_wp c (fun t => rsStep c (rsTo c t).1 (rsTo c t).2 t) iprop(records I K c ∗ levAts L lv) (rsUse I c) (rsLeave c) (rsSt I c)
    (fun t => rsStep_wp I K c _ _ (rsTo_eq c t).1 (rsTo_eq c t).2 t))
  isplitr
  · isplitr; · iexact HR
    iexact Hlev
  isplitl [Hrk Hown HN]
  · unfold rsUse slots
    rw [both_bigSep (fun δ t => iprop(kit c δ 0 1 t ∗ own I c (t.val + 1) δ ∗ anyP (nx δ c) (slotM δ t)))]
    iapply (zip (fun δ t => kit c δ 0 1 t) fun δ t => iprop(own I c (t.val + 1) δ ∗ anyP (nx δ c) (slotM δ t)))
    isplitl [Hrk]; · iexact Hrk
    iapply (zip (fun δ t => own I c (t.val + 1) δ) fun δ t => anyP (nx δ c) (slotM δ t))
    isplitl [Hown]; · iexact Hown
    unfold both; iexact HN
  isplitl [HO Hhas]
  · unfold rsSt
    isplitl [HO]; · iexact HO
    iexact Hhas
  unfold rsLeave
  rw [both_bigSep (fun δ t => iprop(zero c δ 0 1 t ∗ anyP c (slotM δ t) ∗ pend (nx (flip δ) c) (flip δ) t.val))]
  unfold rsSt
  iintro ⟨HL, HO, Hhas⟩
  ihave HL := (unzip (fun δ t => zero c δ 0 1 t) fun δ t => iprop(anyP c (slotM δ t) ∗ pend (nx (flip δ) c) (flip δ) t.val)) $$ HL
  icases HL with ⟨Hz, HL⟩
  ihave HL := (unzip (fun δ t => anyP c (slotM δ t)) fun δ t => pend (nx (flip δ) c) (flip δ) t.val) $$ HL
  icases HL with ⟨Hs, Hp⟩
  ihave Hp := (both_flip fun δ => bigSep Finset.univ fun t : Fin 7 => pend (nx δ c) δ t.val) $$ Hp
  ihave Hp := (both_mono (shift7 c)) $$ Hp
  iapply (seven_wp c (fun s => agStep c (agTo c s).1 (agTo c s).2 s) iprop(records I K c ∗ levAts L lv) (agUse c) (agLeave I c) (agSt I c)
    (fun s => agStep_wp I K c _ _ (agTo_eq c s).1 (agTo_eq c s).2 s))
  isplitr
  · isplitr; · iexact HR
    iexact Hlev
  isplitl [Hak Hp]
  · unfold agUse
    rw [both_bigSep (fun δ s => iprop(kit c δ 2 3 s ∗ need c s.val δ))]
    iapply (zip (fun δ s => kit c δ 2 3 s) fun δ s => need c s.val δ)
    isplitl [Hak]; · iexact Hak
    iexact Hp
  isplitl [HO Hhas]
  · unfold agSt
    isplitl [HO]; · iexact HO
    iapply (both_mono (Φ := rsHas I c 7) (fun δ => by
      unfold rsHas halfV carry
      rw [if_pos rfl, Nat.add_zero, I.V_done])) $$ Hhas
  unfold agLeave
  rw [both_bigSep (fun δ s => iprop(zero c δ 2 3 s ∗ halfV I c δ (ch δ c (7 + s.val))))]
  unfold agSt
  iintro ⟨HL, HO, Hlast⟩
  ihave HL := (unzip (fun δ s => zero c δ 2 3 s) fun δ s => halfV I c δ (ch δ c (7 + s.val))) $$ HL
  icases HL with ⟨Hz', HL⟩
  ihave Hlast := both_sep.2 $$ Hlast
  icases Hlast with ⟨Hlast, -⟩
  iapply HQ
  isplitl [Hzb Hz Hz']
  · isplitl [Hzb]; · iexact Hzb
    isplitl [Hz]; · iexact Hz
    iexact Hz'
  isplitl [HO]; · iexact HO
  isplitl [Hin]; · iexact Hin
  isplitl [Hs]
  · iapply (both_mono (slots_join c)); iexact Hs
  iapply (tiles_join I c)
  isplitl [HL]; · iexact HL
  iexact Hlast

end Cert.SumProof

end
-- ==== Proof.Mint.lean ====
/-
  One ring's cells AT LAUNCH and at its own call, whatever the ring. At launch the barriers are live and the cells of the
  copies are dormant: their invariants exist, and each device has the right to open its own. At the call, where a device
  is given its copies' semaphores at zero, it opens them.
-/
module

public import proofs.«01_k».proof.Proof.Cells

@[expose] public section

noncomputable section

namespace Cert.Whole

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} {A D : Type} [Fintype A] [DecidableEq A] [DecidableEq D]

local notation "𝕄" => MT nD τ sig Unit (Elt F) ℕ UU ℕ

/-- A device's cells — the barrier and those of the copies — on all devices, no two the same. -/
structure Family (A : Type) where
  cl : Dev nD → Option A → GSem nD τ sig
  inj : ∀ {c c' : Dev nD} {i j : Option A}, cl c i = cl c' j → c = c' ∧ i = j

namespace Family

variable (C : Family A)

def bars : Finset (GSem nD τ sig) := Finset.univ.map ⟨fun c : Dev nD => C.cl c none, fun _ _ h => (C.inj h).1⟩
def dmas : Finset (GSem nD τ sig) :=
  Finset.univ.map ⟨fun p : Dev nD × A => C.cl p.1 (some p.2), fun _ _ h => Prod.ext (C.inj h).1 (Option.some.inj (C.inj h).2)⟩

theorem disj : Disjoint C.bars C.dmas := by
  rw [Finset.disjoint_left]
  intro g hb hd
  obtain ⟨c, _, rfl⟩ := Finset.mem_map.mp hb
  obtain ⟨p, _, h⟩ := Finset.mem_map.mp hd
  exact Option.some_ne_none p.2 (C.inj (show C.cl p.1 (some p.2) = C.cl c none from h)).2

theorem over_bars (Φ : GSem nD τ sig → sProp 𝕄) : bigSep C.bars Φ = bigSep Finset.univ fun c : Dev nD => Φ (C.cl c none) := by
  unfold bars; rw [bigSep_map]; rfl
theorem over_dmas (Φ : GSem nD τ sig → sProp 𝕄) :
    bigSep C.dmas Φ = bigSep Finset.univ fun c : Dev nD => bigSep Finset.univ fun a : A => Φ (C.cl c (some a)) := by
  unfold dmas; rw [bigSep_map, bigSep_univ_prod]; rfl
theorem over_option (Φ : Option A → sProp 𝕄) :
    bigSep Finset.univ Φ = iprop(Φ none ∗ bigSep Finset.univ fun a : A => Φ (some a)) := by
  rw [show (Finset.univ : Finset (Option A)) = insert none (Finset.univ.map Function.Embedding.some) from by ext x; cases x <;> simp,
    bigSep_insert (by simp), bigSep_map]
  rfl
theorem over_all (Φ : GSem nD τ sig → sProp 𝕄) :
    bigSep (C.bars ∪ C.dmas) Φ = bigSep Finset.univ fun ck : Dev nD × Option A => Φ (C.cl ck.1 ck.2) := by
  rw [bigSep_union C.disj, over_bars, over_dmas, bigSep_univ_prod]
  exact (bigSep_sep' Finset.univ (fun c : Dev nD => Φ (C.cl c none)) fun c => bigSep Finset.univ fun a : A => Φ (C.cl c (some a))).symm.trans
    (bigSep_congr fun c _ => (over_option fun i => Φ (C.cl c i)).symm)

variable (E : Emb (URounds (GSem nD τ sig) D) (MT nD τ sig Unit (Elt F) ℕ UU ℕ)) [E.LandsIn (upEmb : UEmb _ (MT nD τ sig Unit (Elt F) ℕ UU ℕ))]
variable (Rd : Rounds.Schedule (GSem nD τ sig) D (MT nD τ sig Unit (Elt F) ℕ UU ℕ)) [∀ g r d, BI.Storable (upEmb : UEmb _ (MT nD τ sig Unit (Elt F) ℕ UU ℕ)) (Rd.payload g r d)]

/-- At launch. -/
theorem mint (hu : ∀ g, ¬ Rd.unitless g) (T : Finset (GSem nD τ sig × ℕ × D)) :
    iprop((bigSep Finset.univ fun c : Dev nD => (semVal (C.cl c none) 0 : sProp 𝕄)) ∗ BI.own (E (launchOf C.bars C.dmas T)))
      ⊢ (|={Set.univ}=> iprop(∃ K : Dev nD × Option A → ℕ,
        (bigSep Finset.univ fun ck : Dev nD × Option A => cellInv E Rd (K ck) (C.cl ck.1 ck.2))
        ∗ (bigSep Finset.univ fun c : Dev nD => reached E (C.cl c none) 0)
        ∗ (bigSep Finset.univ fun c : Dev nD => atPos E (C.cl c none) 0 ∅ 0)
        ∗ (bigSep Finset.univ fun c : Dev nD => bigSep Finset.univ fun a : A => openTok E (C.cl c (some a)))
        ∗ bigSep T fun x => dutyTok E x.1 x.2.1 x.2.2) : sProp 𝕄) := by
  rw [← C.over_bars fun g => (semVal g 0 : sProp 𝕄)]
  iintro H
  imod (Rounds.fund_launch E Rd C.disj (fun g _ => hu g) T) $$ H with ⟨%κ, -, HI, HR, HA, HO, HT⟩
  imodintro
  iexists fun ck => κ (C.cl ck.1 ck.2)
  isplitl [HI]; · iapply (Entails.of_eq (C.over_all fun g => cellInv E Rd (κ g) g)); iexact HI
  isplitl [HR]; · iapply (Entails.of_eq (C.over_bars fun g => reached E g 0)); iexact HR
  isplitl [HA]; · iapply (Entails.of_eq (C.over_bars fun g => atPos E g 0 ∅ 0)); iexact HA
  isplitl [HO]; · iapply (Entails.of_eq (C.over_dmas fun g => openTok E g)); iexact HO
  iexact HT

/-- At the call. -/
theorem opened (c : Dev nD) (K : Dev nD × Option A → ℕ) :
    iprop((bigSep Finset.univ fun ck : Dev nD × Option A => cellInv E Rd (K ck) (C.cl ck.1 ck.2))
        ∗ (bigSep Finset.univ fun a : A => openTok E (C.cl c (some a))) ∗ bigSep Finset.univ fun a : A => semVal (C.cl c (some a)) 0)
      ⊢ (|={Set.univ}=> iprop((bigSep Finset.univ fun a : A => atPos E (C.cl c (some a)) 0 ∅ 0)
        ∗ bigSep Finset.univ fun a : A => reached E (C.cl c (some a)) 0) : sProp 𝕄) := by
  have hc : (bigSep Finset.univ fun c : Dev nD => bigSep Finset.univ fun i : Option A => cellInv E Rd (K (c, i)) (C.cl c i) : sProp 𝕄)
      ⊢ bigSep Finset.univ fun a : A => cellInv E Rd (K (c, some a)) (C.cl c (some a)) := by
    refine BIBase.Entails.trans (bigSep_elim (Φ := fun c : Dev nD => bigSep Finset.univ fun i : Option A => cellInv E Rd (K (c, i)) (C.cl c i)) (Finset.mem_univ c)) ?_
    rw [over_option]
    iintro ⟨-, HI⟩; iexact HI
  rw [bigSep_univ_prod, ← bigSep_sep', ← bigSep_sep']
  refine BIBase.Entails.trans ?_ ((bigSep_mono fun a _ =>
    Rounds.cell_open E Rd (κ := K (c, some a)) (g := C.cl c (some a)) (Set.mem_univ _)).trans (bigSep_fupd _ _))
  simp only [bigSep_sep']
  iintro ⟨HI, HO, HS⟩
  isplitl [HI]
  · iapply hc; iexact HI
  isplitl [HO] <;> iassumption

end Family

end Cert.Whole

end
-- ==== Proof.SumDeal.lean ====
/-
  What the launch of the all-reduce deals: a duty token for every payment, a position for every cell, and the credit of
  what the other devices owe. A token is minted with the cell it pays into and handed to the device that pays.
-/
module

public import proofs.«01_k».proof.Proof.SumBody
public import proofs.«01_k».proof.Proof.Mint

@[expose] public section

noncomputable section

namespace Cert.SumProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## Splitting over the cells of a device -/

omit [FloatOps F] in
theorem overCI (Φ : CI → sProp 𝕄) :
    bigSep Finset.univ Φ = iprop(Φ none ∗ bigSep Finset.univ fun p : Fin 2 × Fin 4 × Fin 7 => Φ (some p)) := by
  rw [show (Finset.univ : Finset CI) = insert none (Finset.univ.map Function.Embedding.some) from by ext x; cases x <;> simp,
    bigSep_insert (by simp), bigSep_map]
  rfl

/-- The four arrays of one direction. -/
def four (Φ : Fin 4 → sProp 𝕄) : sProp 𝕄 := iprop(Φ 0 ∗ Φ 1 ∗ Φ 2 ∗ Φ 3)

omit [FloatOps F] in
theorem overDma (Φ : Fin 2 × Fin 4 × Fin 7 → sProp 𝕄) :
    bigSep Finset.univ Φ = both fun δ => four fun j => bigSep Finset.univ fun t => Φ (δ, j, t) := by
  rw [bigSep_univ_prod, both_eq]
  refine bigSep_congr fun δ _ => ?_
  rw [bigSep_univ_prod]
  exact bigSep_univ_eq_bigSepL [0, 1, 2, 3] (by decide) (by decide) _

omit [FloatOps F] in
theorem add_one {A : Type} [DecidableEq A] {a : A} {s : Finset A} (h : a ∉ s) {Φ : A → sProp 𝕄} :
    bigSep (insert a s) Φ = iprop(Φ a ∗ bigSep s Φ) := bigSep_insert h

/-! ## Tokens and positions -/

/-- The seven tokens, the seven positions, the seven credits of one array of a device's cells. -/
def toks (δ : Fin 2) (j : Fin 4) (c : Dev nD) : sProp 𝕄 := bigSep Finset.univ fun t : Fin 7 => dutyTok ER (dcell c δ j t) 0 0
def poss (δ : Fin 2) (j : Fin 4) (c : Dev nD) : sProp 𝕄 := bigSep Finset.univ fun t : Fin 7 => atPos ER (dcell c δ j t) 0 ∅ 0
def crds (δ : Fin 2) (j : Fin 4) (c : Dev nD) : sProp 𝕄 := bigSep Finset.univ fun t : Fin 7 => cred (tallyAt (dcell c δ j t) () N)

/-- All tokens minted with device `c`'s cells; all its positions. -/
def minted (c : Dev nD) : sProp 𝕄 := iprop((dutyTok ER (bar c) 0 0 ∗ dutyTok ER (bar c) 0 1) ∗ both fun δ => four fun j => toks δ j c)
def places (c : Dev nD) : sProp 𝕄 := bigSep Finset.univ fun i : CI => atPos ER (cell c i) 0 ∅ 0

/-- The tokens device `c` pays with in one direction. -/
def pays (c : Dev nD) (δ : Fin 2) : sProp 𝕄 := iprop(toks δ 0 c ∗ toks δ 1 (nx δ c) ∗ toks δ 2 c ∗ toks δ 3 (nx δ c))
/-- All of them; what it works with, its credit apart. -/
def passed (c : Dev nD) : sProp 𝕄 := iprop((dutyTok ER (bar (pr 0 c)) 0 0 ∗ dutyTok ER (bar (pr 1 c)) 0 1) ∗ both (pays c))
def held (c : Dev nD) : sProp 𝕄 := iprop(places c ∗ passed c)

omit [FloatOps F] in
theorem places_eq (c : Dev nD) : (places c : sProp 𝕄) = iprop(atPos ER (bar c) 0 ∅ 0 ∗ both fun δ => four fun j => poss δ j c) := by
  unfold places poss; rw [overCI, overDma]

omit [FloatOps F] in
theorem over_both (Φ : Dev nD → Fin 2 → sProp 𝕄) :
    (bigSep Finset.univ fun c : Dev nD => both (Φ c)) = both fun δ => bigSep Finset.univ fun c : Dev nD => Φ c δ := by
  unfold both; rw [bigSep_sep' Finset.univ (fun c => Φ c 0) fun c => Φ c 1]

omit [FloatOps F] in
/-- In one direction, every token goes to the device that pays with it. -/
theorem pass (δ : Fin 2) : (bigSep Finset.univ fun c : Dev nD => four fun j => toks δ j c : sProp 𝕄) ⊢ bigSep Finset.univ fun c : Dev nD => pays c δ := by
  unfold four pays
  simp only [bigSep_sep']
  rw [bigSep_univ_equiv (ring δ) (fun c : Dev nD => (toks δ 1 c : sProp 𝕄)), bigSep_univ_equiv (ring δ) (fun c : Dev nD => (toks δ 3 c : sProp 𝕄))]
  exact BIBase.Entails.rfl

omit [FloatOps F] in
theorem pass_all : (bigSep Finset.univ fun c : Dev nD => minted c : sProp 𝕄) ⊢ bigSep Finset.univ fun c : Dev nD => passed c := by
  unfold minted passed
  simp only [bigSep_sep']
  rw [over_both, over_both, bigSep_univ_equiv (ring 0).symm (fun c : Dev nD => (dutyTok ER (bar c) 0 0 : sProp 𝕄)),
    bigSep_univ_equiv (ring 1).symm (fun c : Dev nD => (dutyTok ER (bar c) 0 1 : sProp 𝕄))]
  iintro ⟨HB, HT⟩
  isplitl [HB]; · iexact HB
  iapply (both_mono pass); iexact HT

/-! ## The credit -/

omit [FloatOps F] in
/-- What every device owes the device it sends to, on a cell, is credit of that cell. -/
theorem cred_nx (δ : Fin 2) (i : CI) (n : ℕ) (c : Dev nD) :
    (Pipeline.launchCred (fun d => tallyAt (cell (nx δ d) i) () n) c : sProp 𝕄) ⊢ cred (tallyAt (cell c i) () n) :=
  Pipeline.launchCred_tallyAt (csem i) (fun d => nx δ d) (fun d => pr δ d) (nx_pr δ) (pr_nx δ) () n c

/-- The steps still owed, with `n` to go. -/
def togo (n : ℕ) : Finset (Fin 7) := Finset.univ.filter fun t => 7 ≤ t.val + n

theorem togo_zero : togo 0 = ∅ := by decide
theorem togo_succ (n : ℕ) (h : n < 7) : togo (n + 1) = insert ⟨(6 - n) % 7, Nat.mod_lt _ (by decide)⟩ (togo n)
    ∧ (⟨(6 - n) % 7, Nat.mod_lt _ (by decide)⟩ : Fin 7) ∉ togo n := by
  interval_cases n <;> decide
theorem togo_seven : togo 7 = Finset.univ := by decide

omit [FloatOps F] in
/-- The copies of `n` steps owed on top of `B` are credit of the cells they come in on, besides the credit of `B`. -/
theorem cred_due (j : Fin 4) (B : Dev nD → CellTallies nD τ sig Unit) (X : sProp 𝕄) (c : Dev nD) (hB : (Pipeline.launchCred B c : sProp 𝕄) ⊢ X) :
    ∀ n, n ≤ 7 → (Pipeline.launchCred (fun d => due d j (B d) n) c : sProp 𝕄)
      ⊢ iprop((both fun δ => bigSep (togo n) fun t => cred (tallyAt (dcell c δ j t) () N)) ∗ X)
  | 0, _ => by
    unfold both
    beta_reduce
    rw [togo_zero, bigSep_empty, bigSep_empty]
    iintro H
    isplitr
    · isplitl <;> iempintro
    · iapply hB; iexact H
  | n + 1, h => by
    have ht := togo_succ n (by omega)
    have ih := cred_due j B X c hB n (by omega)
    unfold both at ih ⊢
    beta_reduce at ih ⊢
    rw [ht.1, add_one ht.2, add_one ht.2]
    show (Pipeline.launchCred (fun d => (due d j (B d) n + tallyAt (dcell (nx 1 d) 1 j _) () N) + tallyAt (dcell (nx 0 d) 0 j _) () N) c : sProp 𝕄) ⊢ _
    rw [Pipeline.launchCred_add, Pipeline.launchCred_add]
    iintro ⟨⟨HA, H1⟩, H0⟩
    ihave HA := ih $$ HA
    icases HA with ⟨⟨HA0, HA1⟩, HX⟩
    ihave H1 := (cred_nx (F := F) 1 _ N c) $$ H1
    ihave H0 := (cred_nx (F := F) 0 _ N c) $$ H0
    isplitr [HX]
    · isplitl [H0 HA0]
      · isplitl [H0] <;> iassumption
      · isplitl [H1] <;> iassumption
    · iexact HX

theorem tally_two (g : GSem nD τ sig) : (tallyAt g () 1 + tallyAt g () 1 : CellTallies nD τ sig Unit) = tallyAt g () 2 := by
  unfold tallyAt
  rw [← tallyOn_add, ← Finsupp.single_add]

omit [FloatOps F] in
theorem creds (c : Dev nD) : (Pipeline.launchCred O₀ c : sProp 𝕄)
    ⊢ iprop(cred (tallyAt (bar c) () 2) ∗ both (fun δ => crds δ 1 c) ∗ both fun δ => crds δ 3 c) := by
  have h3 := cred_due (F := F) 3 (fun _ => 0) iprop(emp) c (by rw [Pipeline.launchCred_zero]) 7 (le_refl 7)
  have h1 := cred_due (F := F) 1 (fun d => agDue d 7) _ c h3 7 (le_refl 7)
  rw [togo_seven] at h1
  rw [show (O₀ : Dev nD → CellTallies nD τ sig Unit) = fun d => (due d 1 (agDue d 7) 7 + tallyAt (bar (nx 0 d)) () 1) + tallyAt (bar (nx 1 d)) () 1 from
    funext fun d => by unfold O₀ O₁ rsDue; rw [← nx_flip, ← nx_flip]; rfl, Pipeline.launchCred_add, Pipeline.launchCred_add]
  iintro ⟨⟨HA, H0⟩, H1⟩
  ihave HA := h1 $$ HA
  icases HA with ⟨HA1, HA3, -⟩
  ihave H0 := (cred_nx (F := F) 0 _ 1 c) $$ H0
  ihave H1 := (cred_nx (F := F) 1 _ 1 c) $$ H1
  isplitl [H0 H1]
  · rw [← tally_two]
    iapply (cred_add _ _).2
    isplitl [H0] <;> iassumption
  isplitl [HA1]; · iexact HA1
  iexact HA3

omit [FloatOps F] in
/-- Device `c`'s part of the deal is what its body starts with. -/
theorem deal_intro (c : Dev nD) :
    iprop(held c ∗ cred (tallyAt (bar c) () 2) ∗ both (fun δ => crds δ 1 c) ∗ both (fun δ => crds δ 3 c) : sProp 𝕄) ⊢ deal c := by
  have dir : ∀ δ : Fin 2, (iprop(((four fun j => poss δ j c) ∗ pays c δ) ∗ crds δ 1 c ∗ crds δ 3 c) : sProp 𝕄)
      ⊢ iprop((bigSep Finset.univ fun t : Fin 7 => kit c δ 0 1 t) ∗ bigSep Finset.univ fun s : Fin 7 => kit c δ 2 3 s) := fun δ => by
    unfold four pays poss toks crds kit
    simp only [bigSep_sep']
    iintro ⟨⟨⟨P0, P1, P2, P3⟩, T0, T1, T2, T3⟩, C1, C3⟩
    isplitl [P0 P1 T0 T1 C1]
    · isplitl [P0]; · iexact P0
      isplitl [P1]; · iexact P1
      isplitl [T0]; · iexact T0
      isplitl [T1] <;> iassumption
    · isplitl [P2]; · iexact P2
      isplitl [P3]; · iexact P3
      isplitl [T2]; · iexact T2
      isplitl [T3] <;> iassumption
  unfold held passed deal
  rw [places_eq]
  iintro ⟨⟨⟨Pb, P⟩, ⟨Tf, Tt⟩, T⟩, Cb, C1, C3⟩
  isplitl [Tt Tf Cb Pb]
  · isplitl [Tf]; · iexact Tf
    isplitl [Tt]; · iexact Tt
    isplitl [Cb] <;> iassumption
  iapply both_sep.2
  iapply (both_mono dir)
  iapply both_sep.1
  isplitl [P T]
  · iapply both_sep.1
    isplitl [P] <;> iassumption
  · iapply both_sep.1
    isplitl [C1] <;> iassumption

/-! ## Minting -/

/-- Which token: one of a barrier's two, or a copy's. -/
abbrev Tok : Type := Fin 2 ⊕ (Fin 2 × Fin 4 × Fin 7)
def tokOf (ct : Dev nD × Tok) : GSem nD τ sig × ℕ × Fin 2 :=
  match ct.2 with
  | .inl d => (bar ct.1, 0, d)
  | .inr p => (cell ct.1 (some p), 0, 0)
theorem tokOf_injective : Function.Injective tokOf := by
  rintro ⟨c, i⟩ ⟨c', i'⟩ h
  have hc : (tokOf (c, i)).1 = (tokOf (c', i')).1 := congrArg Prod.fst h
  have hd : (tokOf (c, i)).2.2 = (tokOf (c', i')).2.2 := congrArg (fun x => x.2.2) h
  rcases i with d | p <;> rcases i' with d' | p' <;> obtain ⟨h1, h2⟩ := cell_inj hc
  · exact Prod.ext h1 (congrArg Sum.inl (show d = d' from hd))
  · simp at h2
  · simp at h2
  · exact Prod.ext h1 (congrArg Sum.inr (Option.some.inj h2))
def ringToks : Finset (GSem nD τ sig × ℕ × Fin 2) := Finset.univ.map ⟨tokOf, tokOf_injective⟩

omit [FloatOps F] in
theorem minted_eq : bigSep ringToks (fun x => (dutyTok ER x.1 x.2.1 x.2.2 : sProp 𝕄)) = bigSep Finset.univ fun c : Dev nD => minted c := by
  unfold ringToks
  rw [bigSep_map, bigSep_univ_prod]
  refine bigSep_congr fun c _ => ?_
  unfold minted toks
  rw [bigSep_univ_sum, overDma, bigSep_univ_eq_bigSepL [0, 1] (by decide) (by decide)]
  rfl

/-- This ring's cells. -/
abbrev fam : Family (Fin 2 × Fin 4 × Fin 7) := ⟨cell, fun h => cell_inj h⟩

/-- What device `c` keeps from the launch to its call: all invariants and that the barriers' first round is open, the
    right to open its own cells, its place at its barrier, and the tokens it pays with. -/
def ticket (c : Dev nD) : sProp 𝕄 :=
  iprop((∃ K : Dev nD × CI → ℕ, bigSep Finset.univ fun ck : Dev nD × CI => cellInv ER (ringRd I) (K ck) (cell ck.1 ck.2))
    ∗ (bigSep Finset.univ fun d : Dev nD => reached ER (bar d) 0)
    ∗ atPos ER (bar c) 0 ∅ 0 ∗ (bigSep Finset.univ fun k : Fin 2 × Fin 4 × Fin 7 => openTok ER (cell c (some k))) ∗ passed c)

/-- The barriers at zero and the launch's ghost state make every device's ticket. -/
theorem glob : iprop((bigSep Finset.univ fun c : Dev nD => (semVal (bar c) 0 : sProp 𝕄)) ∗ BI.own (ER (launchOf fam.bars fam.dmas ringToks)))
    ⊢ |={Set.univ}=> bigSep Finset.univ (ticket I) := by
  iintro H
  imod (fam.mint ER (ringRd I) (fun _ h => h) ringToks) $$ H with ⟨%K, #HI, #HR, HA, HO, HT⟩
  imodintro
  ihave HT := (Entails.of_eq minted_eq) $$ HT
  ihave HT := (pass_all (F := F)) $$ HT
  unfold ticket
  simp only [bigSep_sep']
  isplitr
  · iapply (BI.bigSep_of_persistent (Finset.univ : Finset (Dev nD))
      (iprop(∃ K : Dev nD × CI → ℕ, bigSep Finset.univ fun ck : Dev nD × CI => cellInv ER (ringRd I) (K ck) (cell ck.1 ck.2)) : sProp 𝕄))
    iexists K; iexact HI
  isplitr
  · iapply (BI.bigSep_of_persistent (Finset.univ : Finset (Dev nD)) (bigSep Finset.univ fun d : Dev nD => (reached ER (bar d) 0 : sProp 𝕄)))
    iexact HR
  isplitl [HA]; · iexact HA
  isplitl [HO] <;> iassumption

/-- The scratch semaphores of a device; its barrier is the machine's. -/
def osem (p : Fin 2 × Fin 4 × Fin 7) : SemLoc sig := csem (some p)

/-- The scratch semaphores of a device, all at zero. -/
abbrev scratch (c : Dev nD) : sProp 𝕄 := Pipeline.ownSems0 (Ix := Unit) (Name := ℕ) (U := UU) (Lvl := ℕ) (Val := Elt F) (τ := τ) osem c

omit [FloatOps F] in
theorem scratch_eq (c : Dev nD) : (scratch c : sProp 𝕄) = bigSep Finset.univ fun p : Fin 2 × Fin 4 × Fin 7 => semVal (cell c (some p)) 0 := rfl

/-- What device `c` comes to its call with. -/
def Tk (c : Dev nD) : sProp 𝕄 := iprop(ticket I c ∗ cred (tallyAt (bar c) () 2) ∗ both (fun δ => crds δ 1 c) ∗ both fun δ => crds δ 3 c)

/-- At its call a device is given its scratch semaphores at zero, and opens its cells. -/
theorem enter (c : Dev nD) :
    iprop(Tk I c ∗ scratch c ∗ levAts L lv) ⊢ |={Set.univ}=> iprop((∃ K, greet I K c) ∗ levAts L lv ∗ deal c) := by
  unfold Tk ticket
  rw [scratch_eq]
  iintro ⟨⟨⟨⟨%K, #HI⟩, #HR, HA, HO, HP⟩, HC⟩, HS, Hl⟩
  imod (fam.opened ER (ringRd I) c K) $$ [HO HS] with ⟨HD, #Hh⟩
  · isplitr; · iexact HI
    isplitl [HO] <;> iassumption
  imodintro
  isplitr
  · iexists K
    unfold greet here
    isplitr; · iexact HI
    isplitr; · iexact HR
    iexact Hh
  isplitl [Hl]; · iexact Hl
  iapply (deal_intro (F := F) c)
  isplitr [HC]
  · unfold held places
    rw [overCI]
    isplitl [HA HD]
    · isplitl [HA] <;> iassumption
    iexact HP
  iexact HC

omit [FloatOps F] in
theorem zeros_eq (c : Dev nD) : (zeros c : sProp 𝕄) ⊢ iprop(semVal (bar c) 0 ∗ scratch c) := by
  rw [scratch_eq, overDma]
  unfold zeros
  iintro ⟨HB, H, H'⟩
  isplitl [HB]; · iexact HB
  iapply (both_mono (Φ := fun δ => iprop((bigSep Finset.univ fun t : Fin 7 => zero c δ 0 1 t) ∗ bigSep Finset.univ fun s : Fin 7 => zero c δ 2 3 s)) (fun δ => by
    unfold four zero
    simp only [bigSep_sep']
    iintro ⟨⟨A0, A1⟩, A2, A3⟩
    isplitl [A0]; · iexact A0
    isplitl [A1]; · iexact A1
    isplitl [A2] <;> iassumption))
  iapply both_sep.1
  isplitl [H] <;> iassumption

end Cert.SumProof

end
-- ==== Proof.Deal.lean ====
/-
  What the launch DEALS: one duty token for every payment, one position for every cell, and the credit of what the
  other devices owe. A token is minted with the cell it pays into; it is handed to the device that pays.
-/
module

public import proofs.«01_k».proof.Proof.Body
public import proofs.«01_k».proof.Proof.SumDeal

@[expose] public section

noncomputable section

namespace Cert.RingProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## Splitting over the cells of a device -/

omit [FloatOps F] in
theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem bigSepCI (Φ : CI → sProp 𝕄) :
    bigSep Finset.univ Φ = iprop(Φ none ∗ bigSep Finset.univ fun p : Fin 6 × Fin 7 => Φ (some p)) := by
  rw [show (Finset.univ : Finset CI) = insert none (Finset.univ.map Function.Embedding.some) from by ext x; cases x <;> simp,
    bigSep_insert (by simp), bigSep_map]
  rfl

omit [FloatOps F] in
theorem bigSep67 (Φ : Fin 6 × Fin 7 → sProp 𝕄) : bigSep Finset.univ Φ
    = iprop((bigSep Finset.univ fun t => Φ (0, t)) ∗ (bigSep Finset.univ fun t => Φ (1, t)) ∗ (bigSep Finset.univ fun t => Φ (2, t))
      ∗ (bigSep Finset.univ fun t => Φ (3, t)) ∗ (bigSep Finset.univ fun t => Φ (4, t)) ∗ (bigSep Finset.univ fun t => Φ (5, t))) := by
  rw [bigSep_univ_prod, bigSep6]

omit [FloatOps F] in
theorem insert_split {A : Type} [DecidableEq A] {a : A} {s : Finset A} (h : a ∉ s) {Φ : A → sProp 𝕄} :
    bigSep (insert a s) Φ = iprop(Φ a ∗ bigSep s Φ) := bigSep_insert h

/-! ## Tokens and positions -/

/-- The seven tokens, the seven positions of one array of a device's cells. -/
def toks (κ : Fin 6) (c : Dev nD) : sProp 𝕄 := bigSep Finset.univ fun t : Fin 7 => dutyTok ER (dcell c κ t) 0 false
def poss (κ : Fin 6) (c : Dev nD) : sProp 𝕄 := bigSep Finset.univ fun t : Fin 7 => atPos ER (dcell c κ t) 0 ∅ 0

/-- All tokens minted with device `c`'s cells; all its positions. -/
def minted (c : Dev nD) : sProp 𝕄 :=
  iprop((dutyTok ER (bar c) 0 false ∗ dutyTok ER (bar c) 0 true) ∗ toks 0 c ∗ toks 1 c ∗ toks 2 c ∗ toks 3 c ∗ toks 4 c ∗ toks 5 c)
def places (c : Dev nD) : sProp 𝕄 := bigSep Finset.univ fun i : CI => atPos ER (cell c i) 0 ∅ 0

/-- The tokens device `c` pays with; what it works with, its credit apart. -/
def passed (c : Dev nD) : sProp 𝕄 :=
  iprop((dutyTok ER (bar (bk c 1)) 0 true ∗ dutyTok ER (bar (fw c 1)) 0 false)
    ∗ toks 0 c ∗ toks 1 (fw c 1) ∗ toks 2 c ∗ toks 3 (fw c 1) ∗ toks 4 c ∗ toks 5 (bk c 1))
def held (c : Dev nD) : sProp 𝕄 := iprop(places c ∗ passed c)

omit [FloatOps F] in
theorem places_eq (c : Dev nD) : (places c : sProp 𝕄)
    = iprop(atPos ER (bar c) 0 ∅ 0 ∗ poss 0 c ∗ poss 1 c ∗ poss 2 c ∗ poss 3 c ∗ poss 4 c ∗ poss 5 c) := by
  unfold places poss; rw [bigSepCI, bigSep67]

omit [FloatOps F] in
/-- Every token goes to the device that pays with it. -/
theorem around : (bigSep Finset.univ fun c : Dev nD => minted c : sProp 𝕄) ⊢ bigSep Finset.univ fun c : Dev nD => passed c := by
  unfold minted passed
  simp only [bigSep_sep']
  rw [bigSep_univ_equiv ring (fun c : Dev nD => (dutyTok ER (bar c) 0 false : sProp 𝕄)),
    bigSep_univ_equiv ring.symm (fun c : Dev nD => (dutyTok ER (bar c) 0 true : sProp 𝕄)),
    bigSep_univ_equiv ring (fun c : Dev nD => (toks 1 c : sProp 𝕄)),
    bigSep_univ_equiv ring (fun c : Dev nD => (toks 3 c : sProp 𝕄)),
    bigSep_univ_equiv ring.symm (fun c : Dev nD => (toks 5 c : sProp 𝕄))]
  iintro ⟨⟨Hf, Ht⟩, H0, H1, H2, H3, H4, H5⟩
  isplitl [Hf Ht]
  · isplitl [Ht]; · iexact Ht
    iexact Hf
  isplitl [H0]; · iexact H0
  isplitl [H1]; · iexact H1
  isplitl [H2]; · iexact H2
  isplitl [H3]; · iexact H3
  isplitl [H4]; · iexact H4
  iexact H5

/-! ## The credit -/

/-- The credit of one array of a device's cells. -/
def crds (κ : Fin 6) (n : ℕ) (c : Dev nD) : sProp 𝕄 := bigSep Finset.univ fun t : Fin 7 => cred (tallyAt (dcell c κ t) () n)

omit [FloatOps F] in
/-- What every device owes its right neighbour, or its left one, on a cell, is credit of that cell. -/
theorem cred_fw (i : CI) (n : ℕ) (c : Dev nD) :
    (Pipeline.launchCred (fun d => tallyAt (cell (fw d 1) i) () n) c : sProp 𝕄) ⊢ cred (tallyAt (cell c i) () n) :=
  Pipeline.launchCred_tallyAt (csem i) (fun d => fw d 1) (fun d => bk d 1) fw_bk bk_fw () n c
omit [FloatOps F] in
theorem cred_bk (i : CI) (n : ℕ) (c : Dev nD) :
    (Pipeline.launchCred (fun d => tallyAt (cell (bk d 1) i) () n) c : sProp 𝕄) ⊢ cred (tallyAt (cell c i) () n) :=
  Pipeline.launchCred_tallyAt (csem i) (fun d => bk d 1) (fun d => fw d 1) bk_fw fw_bk () n c

/-- The steps still owed, with `n` to go. -/
def togo (n : ℕ) : Finset (Fin 7) := Finset.univ.filter fun t => 7 ≤ t.val + n

theorem togo_zero : togo 0 = ∅ := by decide
theorem togo_succ (n : ℕ) (h : n < 7) : togo (n + 1) = insert ⟨(6 - n) % 7, Nat.mod_lt _ (by decide)⟩ (togo n)
    ∧ (⟨(6 - n) % 7, Nat.mod_lt _ (by decide)⟩ : Fin 7) ∉ togo n := by
  interval_cases n <;> decide
theorem togo_seven : togo 7 = Finset.univ := by decide

omit [FloatOps F] in
theorem cred_ag (c : Dev nD) : ∀ n, n ≤ 7 → (Pipeline.launchCred (fun d => agDue d n) c : sProp 𝕄)
    ⊢ iprop((bigSep (togo n) fun t => cred (tallyAt (dcell c 3 t) () NH)) ∗ (bigSep (togo n) fun t => cred (tallyAt (dcell c 5 t) () NH)) ∗ Pipeline.launchCred SumProof.O₀ c)
  | 0, _ => by
    rw [togo_zero, bigSep_empty, bigSep_empty]
    show (Pipeline.launchCred SumProof.O₀ c : sProp 𝕄) ⊢ _
    iintro H
    isplitr; · iempintro
    isplitr; · iempintro
    iexact H
  | n + 1, h => by
    have ht := togo_succ n (by omega)
    rw [ht.1, insert_split ht.2, insert_split ht.2]
    show (Pipeline.launchCred (fun d => (agDue d n + tallyAt (dcell (bk d 1) 5 _) () NH) + tallyAt (dcell (fw d 1) 3 _) () NH) c : sProp 𝕄) ⊢ _
    rw [Pipeline.launchCred_add, Pipeline.launchCred_add]
    iintro ⟨⟨HA, H5⟩, H3⟩
    ihave HA' := (cred_ag c n (by omega)) $$ HA
    icases HA' with ⟨HA3, HA5, HB⟩
    ihave H5' := (cred_bk (F := F) _ NH c) $$ H5
    ihave H3' := (cred_fw (F := F) _ NH c) $$ H3
    isplitl [H3' HA3]
    · isplitl [H3'] <;> iassumption
    isplitl [H5' HA5]
    · isplitl [H5'] <;> iassumption
    iexact HB

omit [FloatOps F] in
theorem cred_rs (c : Dev nD) : ∀ n, n ≤ 7 → (Pipeline.launchCred (fun d => rsDue d n) c : sProp 𝕄)
    ⊢ iprop((bigSep (togo n) fun t => cred (tallyAt (dcell c 1 t) () NR)) ∗ crds 3 NH c ∗ crds 5 NH c ∗ Pipeline.launchCred SumProof.O₀ c)
  | 0, _ => by
    rw [togo_zero, bigSep_empty]
    show (Pipeline.launchCred (fun d => agDue d 7) c : sProp 𝕄) ⊢ _
    iintro H
    ihave H' := (cred_ag c 7 (le_refl 7)) $$ H
    rw [togo_seven]
    isplitr; · iempintro
    iexact H'
  | n + 1, h => by
    have ht := togo_succ n (by omega)
    rw [ht.1, insert_split ht.2]
    show (Pipeline.launchCred (fun d => rsDue d n + tallyAt (dcell (fw d 1) 1 _) () NR) c : sProp 𝕄) ⊢ _
    rw [Pipeline.launchCred_add]
    iintro ⟨HA, H1⟩
    ihave HA' := (cred_rs c n (by omega)) $$ HA
    icases HA' with ⟨HA1, HR⟩
    ihave H1' := (cred_fw (F := F) _ NR c) $$ H1
    isplitl [H1' HA1]
    · isplitl [H1'] <;> iassumption
    · iexact HR

theorem tally_two (g : GSem nD τ sig) : (tallyAt g () 1 + tallyAt g () 1 : CellTallies nD τ sig Unit) = tallyAt g () 2 := by
  unfold tallyAt
  rw [← tallyOn_add, ← Finsupp.single_add]

omit [FloatOps F] in
theorem creds (c : Dev nD) : (Pipeline.launchCred O₀ c : sProp 𝕄)
    ⊢ iprop((cred (tallyAt (bar c) () 2) ∗ crds 1 NR c ∗ crds 3 NH c ∗ crds 5 NH c) ∗ Pipeline.launchCred SumProof.O₀ c) := by
  show (Pipeline.launchCred (fun d => (rsDue d 7 + tallyAt (bar (fw d 1)) () 1) + tallyAt (bar (bk d 1)) () 1) c : sProp 𝕄) ⊢ _
  rw [Pipeline.launchCred_add, Pipeline.launchCred_add]
  iintro ⟨⟨HA, Hf⟩, Hb⟩
  ihave HA' := (cred_rs c 7 (le_refl 7)) $$ HA
  ihave Hf' := (cred_fw (F := F) _ 1 c) $$ Hf
  ihave Hb' := (cred_bk (F := F) _ 1 c) $$ Hb
  rw [togo_seven]
  icases HA' with ⟨H1, H3, H5, HB⟩
  isplitr [HB]; swap; · iexact HB
  isplitl [Hf' Hb']
  · rw [← tally_two]
    iapply (cred_add _ _).2
    isplitl [Hf'] <;> iassumption
  isplitl [H1]; · unfold crds; iexact H1
  isplitl [H3] <;> iassumption

omit [FloatOps F] in
/-- Device `c`'s part of the deal is what its body starts with. -/
theorem kit_intro (c : Dev nD) :
    iprop(held c ∗ cred (tallyAt (bar c) () 2) ∗ crds 1 NR c ∗ crds 3 NH c ∗ crds 5 NH c : sProp 𝕄) ⊢ kit c := by
  unfold held passed kit rsKit agKit
  rw [places_eq]
  simp only [bigSep_sep']
  unfold toks poss crds
  iintro ⟨⟨⟨Pb, P0, P1, P2, P3, P4, P5⟩, ⟨Tt, Tf⟩, T0, T1, T2, T3, T4, T5⟩, Cb, C1, C3, C5⟩
  isplitl [Tt Tf Cb Pb]
  · isplitl [Tt]; · iexact Tt
    isplitl [Tf]; · iexact Tf
    isplitl [Cb] <;> iassumption
  isplitl [P0 P1 T0 T1 C1]
  · isplitl [P0]; · iexact P0
    isplitl [P1]; · iexact P1
    isplitl [T0]; · iexact T0
    isplitl [T1] <;> iassumption
  · isplitl [P2]; · iexact P2
    isplitl [P3]; · iexact P3
    isplitl [P4]; · iexact P4
    isplitl [P5]; · iexact P5
    isplitl [T2]; · iexact T2
    isplitl [T3]; · iexact T3
    isplitl [T4]; · iexact T4
    isplitl [T5]; · iexact T5
    isplitl [C3] <;> iassumption

/-! ## Minting -/

/-- Which token: a barrier's two, a copy's one. -/
abbrev TI : Type := Bool ⊕ (Fin 6 × Fin 7)
def tokOf (ct : Dev nD × TI) : GSem nD τ sig × ℕ × Bool :=
  match ct.2 with
  | .inl d => (bar ct.1, 0, d)
  | .inr p => (cell ct.1 (some p), 0, false)
theorem tokOf_injective : Function.Injective tokOf := by
  rintro ⟨c, i⟩ ⟨c', i'⟩ h
  rcases i with d | p <;> rcases i' with d' | p'
  · have h1 : bar c = bar c' := congrArg Prod.fst h
    have h2 : d = d' := congrArg (fun x : GSem nD τ sig × ℕ × Bool => x.2.2) h
    rw [(cell_inj h1).1, h2]
  · have h1 : bar c = cell c' (some p') := congrArg Prod.fst h
    exact absurd (cell_inj h1).2 (by simp)
  · have h1 : cell c (some p) = bar c' := congrArg Prod.fst h
    exact absurd (cell_inj h1).2 (by simp)
  · have h1 : cell c (some p) = cell c' (some p') := congrArg Prod.fst h
    rw [(cell_inj h1).1, Option.some.inj (cell_inj h1).2]
def ringToks : Finset (GSem nD τ sig × ℕ × Bool) := Finset.univ.map ⟨tokOf, tokOf_injective⟩

omit [FloatOps F] in
theorem minted_eq : bigSep ringToks (fun x => (dutyTok ER x.1 x.2.1 x.2.2 : sProp 𝕄)) = bigSep Finset.univ fun c : Dev nD => minted c := by
  unfold ringToks
  rw [bigSep_map, bigSep_univ_prod]
  refine bigSep_congr fun c _ => ?_
  unfold minted toks
  rw [bigSep_univ_sum, bigSep67, bigSep_univ_eq_bigSepL [false, true] (by decide) (by decide)]
  rfl

/-- This ring's cells. -/
abbrev fam : Family (Fin 6 × Fin 7) := ⟨cell, fun h => cell_inj h⟩

/-- What device `c` keeps from the launch to its call: all invariants and that the barriers' first round is open, the
    right to open its own cells, its place at its barrier, and the tokens it pays with. -/
def ticket (c : Dev nD) : sProp 𝕄 :=
  iprop((∃ K : Dev nD × CI → ℕ, bigSep Finset.univ fun ck : Dev nD × CI => cellInv ER (ringRd I) (K ck) (cell ck.1 ck.2))
    ∗ (bigSep Finset.univ fun d : Dev nD => reached ER (bar d) 0)
    ∗ atPos ER (bar c) 0 ∅ 0 ∗ (bigSep Finset.univ fun k : Fin 6 × Fin 7 => openTok ER (cell c (some k))) ∗ passed c)

/-- The barriers at zero and the launch's ghost state make every device's ticket. -/
theorem glob : iprop((bigSep Finset.univ fun c : Dev nD => (semVal (bar c) 0 : sProp 𝕄)) ∗ BI.own (ER (launchOf fam.bars fam.dmas ringToks)))
    ⊢ |={Set.univ}=> bigSep Finset.univ (ticket I) := by
  iintro H
  imod (fam.mint ER (ringRd I) (fun _ h => h) ringToks) $$ H with ⟨%K, #HI, #HR, HA, HO, HT⟩
  imodintro
  ihave HT := (Entails.of_eq minted_eq) $$ HT
  ihave HT := (around (F := F)) $$ HT
  unfold ticket
  simp only [bigSep_sep']
  isplitr
  · iapply (BI.bigSep_of_persistent (Finset.univ : Finset (Dev nD))
      (iprop(∃ K : Dev nD × CI → ℕ, bigSep Finset.univ fun ck : Dev nD × CI => cellInv ER (ringRd I) (K ck) (cell ck.1 ck.2)) : sProp 𝕄))
    iexists K; iexact HI
  isplitr
  · iapply (BI.bigSep_of_persistent (Finset.univ : Finset (Dev nD)) (bigSep Finset.univ fun d : Dev nD => (reached ER (bar d) 0 : sProp 𝕄)))
    iexact HR
  isplitl [HA]; · iexact HA
  isplitl [HO] <;> iassumption

/-- The scratch semaphores of a device; its barrier is the machine's. -/
def osem (p : Fin 6 × Fin 7) : SemLoc sig := csem (some p)

/-- The scratch semaphores of a device, all at zero. -/
abbrev scratch (c : Dev nD) : sProp 𝕄 := Pipeline.ownSems0 (Ix := Unit) (Name := ℕ) (U := UU) (Lvl := ℕ) (Val := Elt F) (τ := τ) osem c

omit [FloatOps F] in
theorem scratch_eq (c : Dev nD) : (scratch c : sProp 𝕄) = bigSep Finset.univ fun p : Fin 6 × Fin 7 => semVal (cell c (some p)) 0 := rfl

/-- What device `c` comes to its call with. -/
def Tk (c : Dev nD) : sProp 𝕄 := iprop(ticket I c ∗ cred (tallyAt (bar c) () 2) ∗ crds 1 NR c ∗ crds 3 NH c ∗ crds 5 NH c)

/-- At its call a device is given its scratch semaphores at zero, and opens its cells. -/
theorem enter (c : Dev nD) :
    iprop(Tk I c ∗ scratch c ∗ levAts L lv) ⊢ |={Set.univ}=> iprop((∃ K, greet I K c) ∗ levAts L lv ∗ kit c) := by
  unfold Tk ticket
  rw [scratch_eq]
  iintro ⟨⟨⟨⟨%K, #HI⟩, #HR, HA, HO, HP⟩, HC⟩, HS, Hl⟩
  imod (fam.opened ER (ringRd I) c K) $$ [HO HS] with ⟨HD, #Hh⟩
  · isplitr; · iexact HI
    isplitl [HO] <;> iassumption
  imodintro
  isplitr
  · iexists K
    unfold greet here
    isplitr; · iexact HI
    isplitr; · iexact HR
    iexact Hh
  isplitl [Hl]; · iexact Hl
  iapply (kit_intro (F := F) c)
  isplitr [HC]
  · unfold held places
    rw [bigSepCI]
    isplitl [HA HD]
    · isplitl [HA] <;> iassumption
    iexact HP
  iexact HC

omit [FloatOps F] in
theorem zeros_eq (c : Dev nD) : (zeros c : sProp 𝕄)
    ⊢ iprop(semVal (bar c) 0 ∗ Pipeline.ownSems0 (Ix := Unit) (Name := ℕ) (U := UU) (Lvl := ℕ) (Val := Elt F) (τ := τ) osem c) := by
  rw [show (Pipeline.ownSems0 (Ix := Unit) (Name := ℕ) (U := UU) (Lvl := ℕ) (Val := Elt F) (τ := τ) osem c : sProp 𝕄)
    = bigSep Finset.univ fun p : Fin 6 × Fin 7 => semVal (cell c (some p)) 0 from rfl, bigSep67]
  unfold zeros rsZero agZero
  simp only [bigSep_sep']
  iintro ⟨HB, ⟨H0, H1⟩, H2, H3, H4, H5⟩
  isplitl [HB]; · iexact HB
  isplitl [H0]; · iexact H0
  isplitl [H1]; · iexact H1
  isplitl [H2]; · iexact H2
  isplitl [H3]; · iexact H3
  isplitl [H4] <;> iassumption

end Cert.RingProof

end
-- ==== Proof.Parts.lean ====
/-
  The printed body is the named pieces of `Program` in order: part by part, each part being its pieces and the words it
  hands on, and then all parts together (`body_eq`).
-/
module

public import proofs.«01_k».proof.Proof.Program

@[expose] public section

set_option maxRecDepth 65536

noncomputable section

namespace Cert.RingProof

open Idealize.ShloMosaic Idealize.SL.Sem Cert.KernelIdeal Cert.KernelIdeal.Gen

variable {F : FTy → Type} [FloatOps F]

theorem part1  :
  ∃ r : Dev nD → (Σ' (v2 : BitVec 32) (v5 : BitVec 32) (v7 : BitVec 32), BitVec 32), k1_part1 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7  = (do
    let d0 ← Prog.lift .deviceId
    hello ⟨k1_dev1 d0, k1_dev1_lt d0⟩ ⟨k1_dev2 d0, k1_dev2_lt d0⟩
    let _ ← loop1 d0
    let v16 ← loadA
    let v17 ← loadW
    let v22 ← loadRow (k1_off4 d0) (k1_off4_inb d0)
    storeRow (k1_off4 d0) (k1_off4_inb d0) (k1_off4_packedbf16 d0) (k1_pay2 v16 v17)
    pure ⟨d0, r d0⟩) := ⟨_, rfl⟩

theorem part2 (d0 : Dev nD) (v2 : BitVec 32) (v7 : BitVec 32) (v24 : BitVec 32) :
  k1_part2 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 v24 = (do
    sendRow ⟨k1_dev3 d0, k1_dev3_lt d0⟩ (k1_off5 d0 (BitVec.ofNat 32 (0 : Fin 7).val)) (k1_off5_inb d0 0) (k1_off5_wordsbf16 d0 0) 0
    let _ ← loop2 d0
    let v42 ← loadA
    let v43 ← loadW
    let v48 ← loadRow (k1_off9 d0 (BitVec.ofNat 32 (0 : Fin 7).val)) (k1_off9_inb d0 0)
    storeRow (k1_off9 d0 (BitVec.ofNat 32 (0 : Fin 7).val)) (k1_off9_inb d0 0) (k1_off9_packedbf16 d0 0) (k1_pay2 v42 v43)) := rfl

theorem part3 (d0 : Dev nD) (v2 : BitVec 32) (v7 : BitVec 32) :
  k1_part3 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 = (do
    waitRowOut (k1_off5 d0 (BitVec.ofNat 32 (0 : Fin 7).val)) (k1_off5_inb d0 0) (k1_off5_wordsbf16 d0 0) 0
    waitRowIn (k1_off5 d0 (BitVec.ofNat 32 (0 : Fin 7).val)) (k1_off5_inb d0 0) (k1_off5_wordsbf16 d0 0) 0
    let v67 ← loadRow (k1_off9 d0 (BitVec.ofNat 32 (0 : Fin 7).val)) (k1_off9_inb d0 0)
    let v69 ← loadSlot 0
    let v73 ← loadRow (k1_off9 d0 (BitVec.ofNat 32 (0 : Fin 7).val)) (k1_off9_inb d0 0)
    storeRow (k1_off9 d0 (BitVec.ofNat 32 (0 : Fin 7).val)) (k1_off9_inb d0 0) (k1_off9_packedbf16 d0 0) (k1_pay5 v67 v69)) := rfl

theorem part4 (d0 : Dev nD) (v2 : BitVec 32) (v7 : BitVec 32) :
  ∃ r : (Σ' (v105 : BitVec 32), BitVec 32), k1_part4 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 = (do
    sendRow ⟨k1_dev4 d0, k1_dev4_lt d0⟩ (k1_off5 d0 (BitVec.ofNat 32 (1 : Fin 7).val)) (k1_off5_inb d0 1) (k1_off5_wordsbf16 d0 1) 1
    let _ ← loop3 d0
    let v93 ← loadA
    let v94 ← loadW
    let v99 ← loadRow (k1_off9 d0 (BitVec.ofNat 32 (1 : Fin 7).val)) (k1_off9_inb d0 1)
    storeRow (k1_off9 d0 (BitVec.ofNat 32 (1 : Fin 7).val)) (k1_off9_inb d0 1) (k1_off9_packedbf16 d0 1) (k1_pay2 v93 v94)
    waitRowOut (k1_off5 d0 (BitVec.ofNat 32 (1 : Fin 7).val)) (k1_off5_inb d0 1) (k1_off5_wordsbf16 d0 1) 1
    pure r) := ⟨_, rfl⟩

theorem part5 (d0 : Dev nD) (v2 : BitVec 32) (v7 : BitVec 32) (v105 : BitVec 32) (c0_i32_108 : BitVec 32) :
  k1_part5 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 v105 c0_i32_108 = (do
    waitRowIn (k1_off5 d0 (BitVec.ofNat 32 (1 : Fin 7).val)) (k1_off5_inb d0 1) (k1_off5_wordsbf16 d0 1) 1
    let v118 ← loadRow (k1_off9 d0 (BitVec.ofNat 32 (1 : Fin 7).val)) (k1_off9_inb d0 1)
    let v120 ← loadSlot 1
    let v124 ← loadRow (k1_off9 d0 (BitVec.ofNat 32 (1 : Fin 7).val)) (k1_off9_inb d0 1)
    storeRow (k1_off9 d0 (BitVec.ofNat 32 (1 : Fin 7).val)) (k1_off9_inb d0 1) (k1_off9_packedbf16 d0 1) (k1_pay5 v118 v120)
    sendRow ⟨k1_dev5 d0, k1_dev5_lt d0⟩ (k1_off5 d0 (BitVec.ofNat 32 (2 : Fin 7).val)) (k1_off5_inb d0 2) (k1_off5_wordsbf16 d0 2) 2) := rfl

theorem part6 (d0 : Dev nD) (v2 : BitVec 32) (v7 : BitVec 32) :
  ∃ r : (BitVec 32), k1_part6 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 = (do
    let _ ← loop4 d0
    let v144 ← loadA
    let v145 ← loadW
    let v150 ← loadRow (k1_off9 d0 (BitVec.ofNat 32 (2 : Fin 7).val)) (k1_off9_inb d0 2)
    storeRow (k1_off9 d0 (BitVec.ofNat 32 (2 : Fin 7).val)) (k1_off9_inb d0 2) (k1_off9_packedbf16 d0 2) (k1_pay2 v144 v145)
    waitRowOut (k1_off5 d0 (BitVec.ofNat 32 (2 : Fin 7).val)) (k1_off5_inb d0 2) (k1_off5_wordsbf16 d0 2) 2
    waitRowIn (k1_off5 d0 (BitVec.ofNat 32 (2 : Fin 7).val)) (k1_off5_inb d0 2) (k1_off5_wordsbf16 d0 2) 2
    pure r) := ⟨_, rfl⟩

theorem part7 (d0 : Dev nD) (v2 : BitVec 32) (v7 : BitVec 32) (c2_i32_163 : BitVec 32) :
  ∃ r : (Σ' (v193 : BitVec 32), BitVec 32), k1_part7 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 c2_i32_163 = (do
    let v169 ← loadRow (k1_off9 d0 (BitVec.ofNat 32 (2 : Fin 7).val)) (k1_off9_inb d0 2)
    let v171 ← loadSlot 2
    let v175 ← loadRow (k1_off9 d0 (BitVec.ofNat 32 (2 : Fin 7).val)) (k1_off9_inb d0 2)
    storeRow (k1_off9 d0 (BitVec.ofNat 32 (2 : Fin 7).val)) (k1_off9_inb d0 2) (k1_off9_packedbf16 d0 2) (k1_pay5 v169 v171)
    sendRow ⟨k1_dev6 d0, k1_dev6_lt d0⟩ (k1_off5 d0 (BitVec.ofNat 32 (3 : Fin 7).val)) (k1_off5_inb d0 3) (k1_off5_wordsbf16 d0 3) 3
    pure r) := ⟨_, rfl⟩

theorem part8 (d0 : Dev nD) (v2 : BitVec 32) (v7 : BitVec 32) (v193 : BitVec 32) (c0_i32_188 : BitVec 32) :
  ∃ r : (BitVec 32), k1_part8 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 v193 c0_i32_188 = (do
    let _ ← loop5 d0
    let v195 ← loadA
    let v196 ← loadW
    let v201 ← loadRow (k1_off9 d0 (BitVec.ofNat 32 (3 : Fin 7).val)) (k1_off9_inb d0 3)
    storeRow (k1_off9 d0 (BitVec.ofNat 32 (3 : Fin 7).val)) (k1_off9_inb d0 3) (k1_off9_packedbf16 d0 3) (k1_pay2 v195 v196)
    waitRowOut (k1_off5 d0 (BitVec.ofNat 32 (3 : Fin 7).val)) (k1_off5_inb d0 3) (k1_off5_wordsbf16 d0 3) 3
    waitRowIn (k1_off5 d0 (BitVec.ofNat 32 (3 : Fin 7).val)) (k1_off5_inb d0 3) (k1_off5_wordsbf16 d0 3) 3
    pure r) := ⟨_, rfl⟩

theorem part9 (d0 : Dev nD) (v2 : BitVec 32) (v7 : BitVec 32) (v218 : BitVec 32) :
  ∃ r : BitVec 32, k1_part9 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 v218 = (do
    let v220 ← loadRow (k1_off9 d0 (BitVec.ofNat 32 (3 : Fin 7).val)) (k1_off9_inb d0 3)
    let v222 ← loadSlot 3
    let v226 ← loadRow (k1_off9 d0 (BitVec.ofNat 32 (3 : Fin 7).val)) (k1_off9_inb d0 3)
    storeRow (k1_off9 d0 (BitVec.ofNat 32 (3 : Fin 7).val)) (k1_off9_inb d0 3) (k1_off9_packedbf16 d0 3) (k1_pay5 v220 v222)
    sendRow ⟨k1_dev7 d0, k1_dev7_lt d0⟩ (k1_off5 d0 (BitVec.ofNat 32 (4 : Fin 7).val)) (k1_off5_inb d0 4) (k1_off5_wordsbf16 d0 4) 4
    let _ ← loop6 d0
    let v246 ← loadA
    let v247 ← loadW
    pure ⟨r, v246, v247⟩) := ⟨_, rfl⟩

theorem part10 (d0 : Dev nD) (v2 : BitVec 32) (v7 : BitVec 32) (v244 : BitVec 32) (v246 : Vec F S512x1024 .bf16) (v247 : Vec F S1024x1024 .bf16) :
  k1_part10 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 v244 v246 v247 = (do
    let v252 ← loadRow (k1_off9 d0 (BitVec.ofNat 32 (4 : Fin 7).val)) (k1_off9_inb d0 4)
    storeRow (k1_off9 d0 (BitVec.ofNat 32 (4 : Fin 7).val)) (k1_off9_inb d0 4) (k1_off9_packedbf16 d0 4) (k1_pay2 v246 v247)
    waitRowOut (k1_off5 d0 (BitVec.ofNat 32 (4 : Fin 7).val)) (k1_off5_inb d0 4) (k1_off5_wordsbf16 d0 4) 4
    waitRowIn (k1_off5 d0 (BitVec.ofNat 32 (4 : Fin 7).val)) (k1_off5_inb d0 4) (k1_off5_wordsbf16 d0 4) 4
    let v271 ← loadRow (k1_off9 d0 (BitVec.ofNat 32 (4 : Fin 7).val)) (k1_off9_inb d0 4)
    let v273 ← loadSlot 4
    let v277 ← loadRow (k1_off9 d0 (BitVec.ofNat 32 (4 : Fin 7).val)) (k1_off9_inb d0 4)
    pure (k1_pay5 v271 v273)) := rfl

theorem part11 (d0 : Dev nD) (v2 : BitVec 32) (v7 : BitVec 32) (v275 : FVec F S512x1024 .bf16) :
  k1_part11 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 v275 = (do
    storeRow (k1_off9 d0 (BitVec.ofNat 32 (4 : Fin 7).val)) (k1_off9_inb d0 4) (k1_off9_packedbf16 d0 4) v275
    sendRow ⟨k1_dev8 d0, k1_dev8_lt d0⟩ (k1_off5 d0 (BitVec.ofNat 32 (5 : Fin 7).val)) (k1_off5_inb d0 5) (k1_off5_wordsbf16 d0 5) 5
    let _ ← loop7 d0
    let v297 ← loadA
    let v298 ← loadW
    let v303 ← loadRow (k1_off9 d0 (BitVec.ofNat 32 (5 : Fin 7).val)) (k1_off9_inb d0 5)
    storeRow (k1_off9 d0 (BitVec.ofNat 32 (5 : Fin 7).val)) (k1_off9_inb d0 5) (k1_off9_packedbf16 d0 5) (k1_pay2 v297 v298)) := rfl

theorem part12 (d0 : Dev nD) (v2 : BitVec 32) (v7 : BitVec 32) :
  k1_part12 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 = (do
    waitRowOut (k1_off5 d0 (BitVec.ofNat 32 (5 : Fin 7).val)) (k1_off5_inb d0 5) (k1_off5_wordsbf16 d0 5) 5
    waitRowIn (k1_off5 d0 (BitVec.ofNat 32 (5 : Fin 7).val)) (k1_off5_inb d0 5) (k1_off5_wordsbf16 d0 5) 5
    let v322 ← loadRow (k1_off9 d0 (BitVec.ofNat 32 (5 : Fin 7).val)) (k1_off9_inb d0 5)
    let v324 ← loadSlot 5
    let v328 ← loadRow (k1_off9 d0 (BitVec.ofNat 32 (5 : Fin 7).val)) (k1_off9_inb d0 5)
    storeRow (k1_off9 d0 (BitVec.ofNat 32 (5 : Fin 7).val)) (k1_off9_inb d0 5) (k1_off9_packedbf16 d0 5) (k1_pay5 v322 v324)) := rfl

theorem part13 (d0 : Dev nD) (v2 : BitVec 32) (v7 : BitVec 32) :
  k1_part13 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 = (do
    sendRow ⟨k1_dev9 d0, k1_dev9_lt d0⟩ (k1_off5 d0 (BitVec.ofNat 32 (6 : Fin 7).val)) (k1_off5_inb d0 6) (k1_off5_wordsbf16 d0 6) 6
    let _ ← loop8 d0
    let v348 ← loadA
    let v349 ← loadW
    let v354 ← loadRow (k1_off9 d0 (BitVec.ofNat 32 (6 : Fin 7).val)) (k1_off9_inb d0 6)
    storeRow (k1_off9 d0 (BitVec.ofNat 32 (6 : Fin 7).val)) (k1_off9_inb d0 6) (k1_off9_packedbf16 d0 6) (k1_pay2 v348 v349)
    waitRowOut (k1_off5 d0 (BitVec.ofNat 32 (6 : Fin 7).val)) (k1_off5_inb d0 6) (k1_off5_wordsbf16 d0 6) 6) := rfl

theorem part14 (d0 : Dev nD) (v2 : BitVec 32) (v7 : BitVec 32) :
  ∃ r : (BitVec 32), k1_part14 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v7 = (do
    waitRowIn (k1_off5 d0 (BitVec.ofNat 32 (6 : Fin 7).val)) (k1_off5_inb d0 6) (k1_off5_wordsbf16 d0 6) 6
    let v373 ← loadRow (k1_off9 d0 (BitVec.ofNat 32 (6 : Fin 7).val)) (k1_off9_inb d0 6)
    let v375 ← loadSlot 6
    let v379 ← loadRow (k1_off9 d0 (BitVec.ofNat 32 (6 : Fin 7).val)) (k1_off9_inb d0 6)
    storeRow (k1_off9 d0 (BitVec.ofNat 32 (6 : Fin 7).val)) (k1_off9_inb d0 6) (k1_off9_packedbf16 d0 6) (k1_pay5 v373 v375)
    pure r) := ⟨_, rfl⟩

theorem part15 (d0 : Dev nD) (v5 : BitVec 32) (v7 : BitVec 32) (c1_i32_383 : BitVec 32) :
  k1_part15 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v5 v7 c1_i32_383 = (do
    sendHalf 2 3 ⟨k1_dev10 d0, k1_dev10_lt d0⟩ (k1_off28 d0 (BitVec.ofNat 32 (0 : Fin 7).val)) (k1_off28_inb d0 0) (k1_off28_wordsbf16 d0 0) 0
    sendHalf 4 5 ⟨k1_dev11 d0, k1_dev11_lt d0⟩ (k1_off29 d0 (BitVec.ofNat 32 (0 : Fin 7).val)) (k1_off29_inb d0 0) (k1_off29_wordsbf16 d0 0) 0
    waitHalf 2 (k1_off28 d0 (BitVec.ofNat 32 (0 : Fin 7).val)) (k1_off28_inb d0 0) (k1_off28_wordsbf16 d0 0) 0
    waitHalf 3 (k1_off28 d0 (BitVec.ofNat 32 (0 : Fin 7).val)) (k1_off28_inb d0 0) (k1_off28_wordsbf16 d0 0) 0
    waitHalf 4 (k1_off29 d0 (BitVec.ofNat 32 (0 : Fin 7).val)) (k1_off29_inb d0 0) (k1_off29_wordsbf16 d0 0) 0) := rfl

theorem part16 (d0 : Dev nD) (v2 : BitVec 32) (v5 : BitVec 32) (v7 : BitVec 32) :
  k1_part16 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v5 v7 = (do
    waitHalf 5 (k1_off29 d0 (BitVec.ofNat 32 (0 : Fin 7).val)) (k1_off29_inb d0 0) (k1_off29_wordsbf16 d0 0) 0
    sendHalf 2 3 ⟨k1_dev12 d0, k1_dev12_lt d0⟩ (k1_off28 d0 (BitVec.ofNat 32 (1 : Fin 7).val)) (k1_off28_inb d0 1) (k1_off28_wordsbf16 d0 1) 1) := rfl

theorem part17 (d0 : Dev nD) (v2 : BitVec 32) (v5 : BitVec 32) (v7 : BitVec 32) :
  ∃ r : (Σ' (v475 : BitVec 32), BitVec 32), k1_part17 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v5 v7 = (do
    sendHalf 4 5 ⟨k1_dev13 d0, k1_dev13_lt d0⟩ (k1_off29 d0 (BitVec.ofNat 32 (1 : Fin 7).val)) (k1_off29_inb d0 1) (k1_off29_wordsbf16 d0 1) 1
    waitHalf 2 (k1_off28 d0 (BitVec.ofNat 32 (1 : Fin 7).val)) (k1_off28_inb d0 1) (k1_off28_wordsbf16 d0 1) 1
    waitHalf 3 (k1_off28 d0 (BitVec.ofNat 32 (1 : Fin 7).val)) (k1_off28_inb d0 1) (k1_off28_wordsbf16 d0 1) 1
    waitHalf 4 (k1_off29 d0 (BitVec.ofNat 32 (1 : Fin 7).val)) (k1_off29_inb d0 1) (k1_off29_wordsbf16 d0 1) 1
    waitHalf 5 (k1_off29 d0 (BitVec.ofNat 32 (1 : Fin 7).val)) (k1_off29_inb d0 1) (k1_off29_wordsbf16 d0 1) 1
    pure r) := ⟨_, rfl⟩

theorem part18 (d0 : Dev nD) (v5 : BitVec 32) (v7 : BitVec 32) (v475 : BitVec 32) (c2_i32_464 : BitVec 32) :
  k1_part18 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v5 v7 v475 c2_i32_464 = (do
    sendHalf 2 3 ⟨k1_dev14 d0, k1_dev14_lt d0⟩ (k1_off28 d0 (BitVec.ofNat 32 (2 : Fin 7).val)) (k1_off28_inb d0 2) (k1_off28_wordsbf16 d0 2) 2
    sendHalf 4 5 ⟨k1_dev15 d0, k1_dev15_lt d0⟩ (k1_off29 d0 (BitVec.ofNat 32 (2 : Fin 7).val)) (k1_off29_inb d0 2) (k1_off29_wordsbf16 d0 2) 2
    waitHalf 2 (k1_off28 d0 (BitVec.ofNat 32 (2 : Fin 7).val)) (k1_off28_inb d0 2) (k1_off28_wordsbf16 d0 2) 2
    waitHalf 3 (k1_off28 d0 (BitVec.ofNat 32 (2 : Fin 7).val)) (k1_off28_inb d0 2) (k1_off28_wordsbf16 d0 2) 2) := rfl

theorem part19 (d0 : Dev nD) (v2 : BitVec 32) (v5 : BitVec 32) (v7 : BitVec 32) :
  k1_part19 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v5 v7 = (do
    waitHalf 4 (k1_off29 d0 (BitVec.ofNat 32 (2 : Fin 7).val)) (k1_off29_inb d0 2) (k1_off29_wordsbf16 d0 2) 2
    waitHalf 5 (k1_off29 d0 (BitVec.ofNat 32 (2 : Fin 7).val)) (k1_off29_inb d0 2) (k1_off29_wordsbf16 d0 2) 2
    sendHalf 2 3 ⟨k1_dev16 d0, k1_dev16_lt d0⟩ (k1_off28 d0 (BitVec.ofNat 32 (3 : Fin 7).val)) (k1_off28_inb d0 3) (k1_off28_wordsbf16 d0 3) 3) := rfl

theorem part20 (d0 : Dev nD) (v2 : BitVec 32) (v5 : BitVec 32) (v7 : BitVec 32) :
  ∃ r : (Σ' (v561 : BitVec 32), BitVec 32), k1_part20 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v5 v7 = (do
    sendHalf 4 5 ⟨k1_dev17 d0, k1_dev17_lt d0⟩ (k1_off29 d0 (BitVec.ofNat 32 (3 : Fin 7).val)) (k1_off29_inb d0 3) (k1_off29_wordsbf16 d0 3) 3
    waitHalf 2 (k1_off28 d0 (BitVec.ofNat 32 (3 : Fin 7).val)) (k1_off28_inb d0 3) (k1_off28_wordsbf16 d0 3) 3
    waitHalf 3 (k1_off28 d0 (BitVec.ofNat 32 (3 : Fin 7).val)) (k1_off28_inb d0 3) (k1_off28_wordsbf16 d0 3) 3
    waitHalf 4 (k1_off29 d0 (BitVec.ofNat 32 (3 : Fin 7).val)) (k1_off29_inb d0 3) (k1_off29_wordsbf16 d0 3) 3
    waitHalf 5 (k1_off29 d0 (BitVec.ofNat 32 (3 : Fin 7).val)) (k1_off29_inb d0 3) (k1_off29_wordsbf16 d0 3) 3
    pure r) := ⟨_, rfl⟩

theorem part21 (d0 : Dev nD) (v2 : BitVec 32) (v5 : BitVec 32) (v7 : BitVec 32) (v561 : BitVec 32) (c8_i32_546 : BitVec 32) :
  k1_part21 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v5 v7 v561 c8_i32_546 = (do
    sendHalf 2 3 ⟨k1_dev18 d0, k1_dev18_lt d0⟩ (k1_off28 d0 (BitVec.ofNat 32 (4 : Fin 7).val)) (k1_off28_inb d0 4) (k1_off28_wordsbf16 d0 4) 4
    sendHalf 4 5 ⟨k1_dev19 d0, k1_dev19_lt d0⟩ (k1_off29 d0 (BitVec.ofNat 32 (4 : Fin 7).val)) (k1_off29_inb d0 4) (k1_off29_wordsbf16 d0 4) 4
    waitHalf 2 (k1_off28 d0 (BitVec.ofNat 32 (4 : Fin 7).val)) (k1_off28_inb d0 4) (k1_off28_wordsbf16 d0 4) 4) := rfl

theorem part22 (d0 : Dev nD) (v2 : BitVec 32) (v5 : BitVec 32) (v7 : BitVec 32) :
  k1_part22 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v5 v7 = (do
    waitHalf 3 (k1_off28 d0 (BitVec.ofNat 32 (4 : Fin 7).val)) (k1_off28_inb d0 4) (k1_off28_wordsbf16 d0 4) 4
    waitHalf 4 (k1_off29 d0 (BitVec.ofNat 32 (4 : Fin 7).val)) (k1_off29_inb d0 4) (k1_off29_wordsbf16 d0 4) 4
    waitHalf 5 (k1_off29 d0 (BitVec.ofNat 32 (4 : Fin 7).val)) (k1_off29_inb d0 4) (k1_off29_wordsbf16 d0 4) 4) := rfl

theorem part23 (d0 : Dev nD) (v5 : BitVec 32) (v7 : BitVec 32) :
  k1_part23 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v5 v7 = (do
    sendHalf 2 3 ⟨k1_dev20 d0, k1_dev20_lt d0⟩ (k1_off28 d0 (BitVec.ofNat 32 (5 : Fin 7).val)) (k1_off28_inb d0 5) (k1_off28_wordsbf16 d0 5) 5
    sendHalf 4 5 ⟨k1_dev21 d0, k1_dev21_lt d0⟩ (k1_off29 d0 (BitVec.ofNat 32 (5 : Fin 7).val)) (k1_off29_inb d0 5) (k1_off29_wordsbf16 d0 5) 5
    waitHalf 2 (k1_off28 d0 (BitVec.ofNat 32 (5 : Fin 7).val)) (k1_off28_inb d0 5) (k1_off28_wordsbf16 d0 5) 5
    waitHalf 3 (k1_off28 d0 (BitVec.ofNat 32 (5 : Fin 7).val)) (k1_off28_inb d0 5) (k1_off28_wordsbf16 d0 5) 5
    waitHalf 4 (k1_off29 d0 (BitVec.ofNat 32 (5 : Fin 7).val)) (k1_off29_inb d0 5) (k1_off29_wordsbf16 d0 5) 5) := rfl

theorem part24 (d0 : Dev nD) (v2 : BitVec 32) (v5 : BitVec 32) (v7 : BitVec 32) :
  k1_part24 (F := F) qM (Memref.isWhole_whole _) kM (Memref.isWhole_whole _) vM (Memref.isWhole_whole _) wM (Memref.isWhole_whole _) oM (Memref.isWhole_whole _) aM (Memref.isWhole_whole _) cM (Memref.isWhole_whole _) cc1_scratch2 cc1_scratch3 cc1_scratch4 cc1_scratch5 cc1_scratch6 cc1_scratch7 d0 v2 v5 v7 = (do
    waitHalf 5 (k1_off29 d0 (BitVec.ofNat 32 (5 : Fin 7).val)) (k1_off29_inb d0 5) (k1_off29_wordsbf16 d0 5) 5
    sendHalf 2 3 ⟨k1_dev22 d0, k1_dev22_lt d0⟩ (k1_off28 d0 (BitVec.ofNat 32 (6 : Fin 7).val)) (k1_off28_inb d0 6) (k1_off28_wordsbf16 d0 6) 6
    sendHalf 4 5 ⟨k1_dev23 d0, k1_dev23_lt d0⟩ (k1_off29 d0 (BitVec.ofNat 32 (6 : Fin 7).val)) (k1_off29_inb d0 6) (k1_off29_wordsbf16 d0 6) 6) := rfl

/-- The printed body is its pieces in order. -/
theorem body_eq : (cc1_body (F := F) qM (Memref.isWhole_whole _) kM (Memref.isWhole_whole _) vM (Memref.isWhole_whole _) wM (Memref.isWhole_whole _) oM (Memref.isWhole_whole _) aM (Memref.isWhole_whole _) cM (Memref.isWhole_whole _)
      cc1_scratch2 cc1_scratch3 cc1_scratch4 cc1_scratch5 cc1_scratch6 cc1_scratch7)
    = (do let d ← Prog.lift .deviceId; body d) := by
  obtain ⟨r1, h1⟩ := part1 (F := F)
  choose r4 h4 using part4 (F := F)
  choose r6 h6 using part6 (F := F)
  choose r7 h7 using part7 (F := F)
  choose r8 h8 using part8 (F := F)
  choose r9 h9 using part9 (F := F)
  choose r14 h14 using part14 (F := F)
  choose r17 h17 using part17 (F := F)
  choose r20 h20 using part20 (F := F)
  rw [cc1_body_eq_skeleton]
  unfold cc1_body_skel
  rw [k1_part25_eq_skeleton]
  unfold k1_part25_skel
  simp only [h1, part2, part3, h4, part5, h6, h7, h8, h9, part10, part11, part12, part13, h14, part15, part16, h17, part18, part19, h20, part21, part22, part23, part24, bind_assoc, pure_bind]
  simp only [body, rsPart, agPart, rsStep, agStep, prodRow, addRow, bind_assoc, pure_bind]
  rfl

end Cert.RingProof

end
-- ==== Proof.Launch.lean ====
/-
  The attention ring as a REGION of the program: what each device's operands, result and scratch are before and after
  its body, entered with whatever its arrays hold there, and that its body takes the one to the other. It is left with
  the dues of the all-reduce still owed.
-/
module

public import proofs.«01_k».proof.Proof.Deal
public import proofs.«01_k».proof.Proof.Parts
public import proofs.«01_k».proof.Proof.Gen.KernelIdeal.Regions
public import proofs.«01_k».proof.Proof.Gen.KernelIdeal.Points

@[expose] public section

noncomputable section

namespace Cert.RingProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-! ## Before and after -/

/-- A window's array as the call finds it, read through its only block. -/
def found (c : Dev nD) (w : Fin cfg1.W) : ((cfg1.win w).xblock (cfg1.grid.coords t1_0)).Idx → Elt F (cfg1.win w).elt :=
  ((cfg1.win w).blk t1_0).view.read (Elt F) (V c (Pipeline.arrRef spec1 w))

/-- What the devices bring. -/
def inp : Inp F where
  q c := found V c (0 : Fin 5)
  k c := found V c (1 : Fin 5)
  v c := found V c (2 : Fin 5)
  w c := found V c (3 : Fin 5)

/-- What the call leaves alone: the generator register and the buffers that are neither staged nor its scratch. -/
def aside (c : Dev nD) : sProp 𝕄 :=
  iprop((∃ r, prngReg c r) ∗ Pipeline.scopedRestBut (Ix := Unit) (Name := ℕ) (U := UU) (Lvl := ℕ) (Val := Elt F) spec1 c [cc1_scratch0, cc1_scratch1])
def Φ₀ (c : Dev nD) : sProp 𝕄 :=
  iprop(((∃ K, greet (inp V) K c) ∗ levAts L lv ∗ kit c ∗ aAny c ∗ ∃ f : Vec F S7x512x1024 .bf16, cAt c Finset.univ f) ∗ aside c)
def Φ₁ (c : Dev nD) : sProp 𝕄 := iprop((zeros c ∗ aAny c ∗ ∃ f : Vec F S7x512x1024 .bf16, cAt c Finset.univ f) ∗ aside c)

def dat (c : Dev nD) : Dat τ (Elt F) Unit ℕ UU ℕ cfg1 c where
  A w := V c (Pipeline.arrRef spec1 w)
  after w _ := match w with
    | ⟨0, _⟩ => (inp V).q c
    | ⟨1, _⟩ => (inp V).k c
    | ⟨2, _⟩ => (inp V).v c
    | ⟨3, _⟩ => (inp V).w c
    | ⟨4, _⟩ => (inp V).out
  Φ t := match t with
    | ⟨0, _⟩ => Φ₀ V c
    | ⟨_ + 1, _⟩ => Φ₁ c
  q _ := fullShare
  owed t := match t with
    | ⟨0, _⟩ => O₀ c
    | ⟨_ + 1, _⟩ => SumProof.O₀ c

omit [FloatOps F] in
theorem bigSep_W (Φ : Fin cfg1.W → sProp 𝕄) :
    bigSep Finset.univ Φ = iprop(Φ (0 : Fin 5) ∗ Φ (1 : Fin 5) ∗ Φ (2 : Fin 5) ∗ Φ (3 : Fin 5) ∗ Φ (4 : Fin 5)) := bigSep_W1 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ V c ∗ (dat V c).owesAt () t1_0.castSucc
    ∗ (∃ d, stg c cc1_stg0_0 ((dat V c).before (0 : Fin 5) t1_0 d))
    ∗ (∃ d, stg c cc1_stg1_0 ((dat V c).before (1 : Fin 5) t1_0 d))
    ∗ (∃ d, stg c cc1_stg2_0 ((dat V c).before (2 : Fin 5) t1_0 d))
    ∗ (∃ d, stg c cc1_stg3_0 ((dat V c).before (3 : Fin 5) t1_0 d))
    ∗ (∃ d, stg c cc1_stg4_0 ((dat V c).before (4 : Fin 5) t1_0 d)))

def bodyPost (c : Dev nD) : sProp 𝕄 :=
  iprop(Φ₁ c ∗ (dat V c).owesAt () t1_0.succ ∗ stg c cc1_stg0_0 ((inp V).q c) ∗ stg c cc1_stg1_0 ((inp V).k c)
    ∗ stg c cc1_stg2_0 ((inp V).v c) ∗ stg c cc1_stg3_0 ((inp V).w c) ∗ stg c cc1_stg4_0 (inp V).out)

theorem before_0 (c : Dev nD) (d) : (dat V c).before (0 : Fin 5) t1_0 d = (inp V).q c := by
  unfold Dat.before; rw [if_pos (fetch1_0 t1_0)]; rfl
theorem before_1 (c : Dev nD) (d) : (dat V c).before (1 : Fin 5) t1_0 d = (inp V).k c := by
  unfold Dat.before; rw [if_pos (fetch1_1 t1_0)]; rfl
theorem before_2 (c : Dev nD) (d) : (dat V c).before (2 : Fin 5) t1_0 d = (inp V).v c := by
  unfold Dat.before; rw [if_pos (fetch1_2 t1_0)]; rfl
theorem before_3 (c : Dev nD) (d) : (dat V c).before (3 : Fin 5) t1_0 d = (inp V).w c := by
  unfold Dat.before; rw [if_pos (fetch1_3 t1_0)]; rfl

theorem body_sound (c : Dev nD) : bodyPre V c ⊢ wp frame (wpE (defs₀ (F := F)) 𝒱₀ (c : Thread nD τ) none) Set.univ
    (cc1_body (F := F) qM (Memref.isWhole_whole _) kM (Memref.isWhole_whole _) vM (Memref.isWhole_whole _) wM (Memref.isWhole_whole _)
      oM (Memref.isWhole_whole _) aM (Memref.isWhole_whole _) cM (Memref.isWhole_whole _)
      cc1_scratch2 cc1_scratch3 cc1_scratch4 cc1_scratch5 cc1_scratch6 cc1_scratch7) (fun _ => bodyPost V c) := by
  rw [body_eq]
  simp only [Prog.lift, Prog.bind_op, Prog.bind_ret, wp_deviceId]
  unfold bodyPre bodyPost Φ₀ Φ₁ Dat.owesAt Pipeline.owesWithin
  simp only [before_0, before_1, before_2, before_3]
  iintro ⟨⟨⟨⟨%K, HK⟩, Hl, Hk, Ha, ⟨%fc, Hc⟩⟩, Hrest⟩, ⟨%W, %hW, HO⟩, ⟨%d0, ⟨%f0, %h0, H0⟩⟩, ⟨%d1, ⟨%f1, %h1, H1⟩⟩, ⟨%d2, ⟨%f2, %h2, H2⟩⟩, ⟨%d3, ⟨%f3, %h3, H3⟩⟩, ⟨%d4, ⟨%f4, %h4, H4⟩⟩⟩
  subst h0 h1 h2 h3
  iapply (body_wp (inp V) K c fc f4)
  isplitl [HK]; · iexact HK
  isplitl [Hl]; · iexact Hl
  isplitl [Hk]; · iexact Hk
  isplitl [HO]
  · unfold owesE; iexists W; iexact HO
  isplitl [H0 H1 H2 H3]
  · unfold insAt
    isplitl [H0]; · iexact H0
    isplitl [H1]; · iexact H1
    isplitl [H2]; · iexact H2
    iexact H3
  isplitl [Ha]; · iexact Ha
  isplitl [Hc]; · iexact Hc
  isplitl [H4]; · unfold oAt; iexact H4
  iintro ⟨Hz, HO, Hin, Ha, Hc, Ho⟩
  isplitl [Hz Ha Hc Hrest]
  · isplitl [Hz Ha Hc]
    · isplitl [Hz]; · iexact Hz
      isplitl [Ha] <;> iassumption
    · iexact Hrest
  isplitl [HO]
  · unfold owesE
    icases HO with ⟨%W', HO⟩
    iexists W'
    isplitr
    · ipureintro; exact fun _ _ => Or.inl trivial
    · iexact HO
  unfold insAt oAt
  icases Hin with ⟨H0, H1, H2, H3⟩
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  iexists _; isplitr; swap; · iexact Ho
  ipureintro; rfl

theorem body_obligation (c : Dev nD) : BodyObligation (dat (F := F) V c) (defs₀ (F := F)) 𝒱₀ () Set.univ := fun t => by
  rw [fin_N1 t]
  rw [bigSep_W, bigSep_W]
  simp only [owns_whole_eq]
  exact body_sound V c

/-! ## Into the call and out of it -/

theorem ownSemFacts : Pipeline.OwnSemFacts cfg1.spec osem := by decide +kernel

theorem share_eq (c : Dev nD) (w : Fin cfg1.W) : (dat V c).share w = fullShare := by unfold Dat.share; split <;> rfl

theorem phi0_intro (W : Valuation τ sig (Elt F)) (c : Dev nD) :
    iprop(Pipeline.scopedRest cfg1.spec c ∗ (∃ r, prngReg c r) ∗ StableHlo.held (c.tc : Thread nD τ) ∅ W
        ∗ (∃ K, greet (inp V) K c) ∗ levAts L lv ∗ kit c) ⊢ (dat V c).Φ 0 := by
  rw [show (dat V c).Φ 0 = Φ₀ V c from rfl, show (Pipeline.scopedRest cfg1.spec c : sProp 𝕄) = Pipeline.scopedRest spec1 c from rfl, scopedRest1_split]
  unfold Φ₀ aside aAny aAt cAt
  iintro ⟨⟨⟨Ha, Hc⟩, Hr⟩, Hp, -, HK, Hl, Hk⟩
  isplitl [HK Hl Hk Ha Hc]
  · isplitl [HK]; · iexact HK
    isplitl [Hl]; · iexact Hl
    isplitl [Hk]; · iexact Hk
    isplitl [Ha]; · iexact Ha
    iexact Hc
  isplitl [Hp] <;> iassumption

theorem phi1_exit (W : Valuation τ sig (Elt F)) (c : Dev nD) :
    (dat V c).Φ (Fin.last cfg1.N) ⊢ iprop(Pipeline.scopedRest cfg1.spec c ∗ (∃ r, prngReg c r) ∗ StableHlo.held (c.tc : Thread nD τ) ∅ W
        ∗ scratch c ∗ semVal (bar c) 0) := by
  rw [show (dat V c).Φ (Fin.last cfg1.N) = Φ₁ c from rfl, show (Pipeline.scopedRest cfg1.spec c : sProp 𝕄) = Pipeline.scopedRest spec1 c from rfl, scopedRest1_split]
  unfold Φ₁ aside aAny aAt cAt StableHlo.held
  rw [bigSep_empty]
  iintro ⟨⟨Hz, Ha, Hc⟩, Hp, Hr⟩
  ihave Hz' := (zeros_eq (F := F) c) $$ Hz
  icases Hz' with ⟨HB, HS⟩
  isplitl [Ha Hc Hr]
  · isplitl [Ha Hc]
    · isplitl [Ha]; · iexact Ha
      iexact Hc
    · iexact Hr
  isplitl [Hp]; · iexact Hp
  isplitr; · iempintro
  isplitl [HS] <;> iassumption

/-- All that is owed here lies above the staging semaphores. -/
theorem owed_above (c : Dev nD) (t : Fin (cfg1.N + 1)) : Above 1 ((dat V c).owed t) := by
  rcases t with ⟨_ | _, ht⟩
  · exact Above.O₀ c
  · exact Above.later c 1 (by decide)

theorem grow {A d x a b : CellTallies nD τ sig Unit} (h : A + d = x) : A + (d + (a + b)) = x + a + b := by rw [← add_assoc, h, add_assoc]
theorem more_ag (c : Dev nD) : ∀ n, ∃ d, SumProof.O₀ c + d = agDue c n
  | 0 => ⟨0, add_zero _⟩
  | n + 1 => by
    obtain ⟨d, h⟩ := more_ag c n
    exact ⟨_, grow h⟩
theorem more_rs (c : Dev nD) : ∀ n, ∃ d, SumProof.O₀ c + d = rsDue c n
  | 0 => more_ag c 7
  | n + 1 => by
    obtain ⟨d, h⟩ := more_rs c n
    exact ⟨d + _, by rw [← add_assoc, h]; rfl⟩
/-- What is owed at the start is what the all-reduce owes and more. -/
theorem more (c : Dev nD) : ∃ d, SumProof.O₀ c + d = O₀ c := by
  obtain ⟨d, h⟩ := more_rs c 7
  exact ⟨_, grow h⟩
/-- The dues of this ring alone. -/
def own₀ (c : Dev nD) : CellTallies nD τ sig Unit := Classical.choose (more c)
theorem own₀_eq (c : Dev nD) : SumProof.O₀ c + own₀ c = O₀ c := Classical.choose_spec (more c)

end Cert.RingProof

end
-- ==== Proof.SumParts.lean ====
/-
  The printed body of the all-reduce is the named pieces of `SumProgram` in order: part by part, each part being its pieces
  and the words it hands on, and then all parts together (`body_eq`).
-/
module

public import proofs.«01_k».proof.Proof.SumProgram

@[expose] public section

set_option maxRecDepth 65536

noncomputable section

namespace Cert.SumProof

open Idealize.ShloMosaic Idealize.SL.Sem Cert.KernelIdeal Cert.KernelIdeal.Gen

variable {F : FTy → Type} [FloatOps F]

theorem part1  :
  ∃ r : Dev nD → (Σ' (v2 : BitVec 32) (v5 : BitVec 32) (v7 : BitVec 32) (v23 : BitVec 32), BitVec 32), k4_part1 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 = (do
    let d0 ← Prog.lift .deviceId
    hello ⟨k4_dev1 d0, k4_dev1_lt d0⟩ ⟨k4_dev2 d0, k4_dev2_lt d0⟩
    copyIn
    pure ⟨d0, r d0⟩) := ⟨_, rfl⟩

theorem part2 (d0 : Dev nD) (v5 : BitVec 32) (v7 : BitVec 32) (v23 : BitVec 32) (c : BitVec 32) :
  ∃ r : BitVec 32, k4_part2 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v5 v7 v23 c = (do
    sendSlot 0 ⟨k4_dev3 d0, k4_dev3_lt d0⟩ (k4_off1 d0 (BitVec.ofNat 32 (0 : Fin 7).val)) (k4_off1_inb d0 0) (k4_off1_wordsbf16 d0 0) 0
    sendSlot 1 ⟨k4_dev4 d0, k4_dev4_lt d0⟩ (k4_off2 d0 (BitVec.ofNat 32 (0 : Fin 7).val)) (k4_off2_inb d0 0) (k4_off2_wordsbf16 d0 0) 0
    waitSlotOut 0 (k4_off1 d0 (BitVec.ofNat 32 (0 : Fin 7).val)) (k4_off1_inb d0 0) (k4_off1_wordsbf16 d0 0) 0
    waitSlotIn 0 (k4_off1 d0 (BitVec.ofNat 32 (0 : Fin 7).val)) (k4_off1_inb d0 0) (k4_off1_wordsbf16 d0 0) 0
    pure r) := ⟨_, rfl⟩

theorem part3 (d0 : Dev nD) (v2 : BitVec 32) (v5 : BitVec 32) (c : BitVec 32) :
  ∃ r : BitVec 32, k4_part3 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 c = (do
    let a ← loadHalf (k4_off3 d0 (BitVec.ofNat 32 (0 : Fin 7).val)) (k4_off3_inb d0 0)
    let b ← loadSlot 0 0
    let _ ← loadHalf (k4_off3 d0 (BitVec.ofNat 32 (0 : Fin 7).val)) (k4_off3_inb d0 0)
    storeHalf (k4_off3 d0 (BitVec.ofNat 32 (0 : Fin 7).val)) (k4_off3_inb d0 0) (k4_off3_packedbf16 d0 0) (k4_pay2 a b)
    waitSlotOut 1 (k4_off2 d0 (BitVec.ofNat 32 (0 : Fin 7).val)) (k4_off2_inb d0 0) (k4_off2_wordsbf16 d0 0) 0
    waitSlotIn 1 (k4_off2 d0 (BitVec.ofNat 32 (0 : Fin 7).val)) (k4_off2_inb d0 0) (k4_off2_wordsbf16 d0 0) 0
    pure r) := ⟨_, rfl⟩

theorem part4 (d0 : Dev nD) (v2 : BitVec 32) (v5 : BitVec 32) (v7 : BitVec 32) (v81 : BitVec 32) :
  k4_part4 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 v81 = (do
    let a ← loadHalf (k4_off4 d0 (BitVec.ofNat 32 (0 : Fin 7).val)) (k4_off4_inb d0 0)
    let b ← loadSlot 1 0
    let _ ← loadHalf (k4_off4 d0 (BitVec.ofNat 32 (0 : Fin 7).val)) (k4_off4_inb d0 0)
    storeHalf (k4_off4 d0 (BitVec.ofNat 32 (0 : Fin 7).val)) (k4_off4_inb d0 0) (k4_off4_packedbf16 d0 0) (k4_pay2 a b)
    sendSlot 0 ⟨k4_dev5 d0, k4_dev5_lt d0⟩ (k4_off1 d0 (BitVec.ofNat 32 (1 : Fin 7).val)) (k4_off1_inb d0 1) (k4_off1_wordsbf16 d0 1) 1) := rfl

theorem part5 (d0 : Dev nD) (v2 : BitVec 32) (v7 : BitVec 32) :
  k4_part5 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v7 = (do
    sendSlot 1 ⟨k4_dev6 d0, k4_dev6_lt d0⟩ (k4_off2 d0 (BitVec.ofNat 32 (1 : Fin 7).val)) (k4_off2_inb d0 1) (k4_off2_wordsbf16 d0 1) 1
    waitSlotOut 0 (k4_off1 d0 (BitVec.ofNat 32 (1 : Fin 7).val)) (k4_off1_inb d0 1) (k4_off1_wordsbf16 d0 1) 1
    waitSlotIn 0 (k4_off1 d0 (BitVec.ofNat 32 (1 : Fin 7).val)) (k4_off1_inb d0 1) (k4_off1_wordsbf16 d0 1) 1
    let a ← loadHalf (k4_off3 d0 (BitVec.ofNat 32 (1 : Fin 7).val)) (k4_off3_inb d0 1)
    let b ← loadSlot 0 1
    let _ ← loadHalf (k4_off3 d0 (BitVec.ofNat 32 (1 : Fin 7).val)) (k4_off3_inb d0 1)
    storeHalf (k4_off3 d0 (BitVec.ofNat 32 (1 : Fin 7).val)) (k4_off3_inb d0 1) (k4_off3_packedbf16 d0 1) (k4_pay2 a b)) := rfl

theorem part6 (d0 : Dev nD) (v2 : BitVec 32) (v5 : BitVec 32) :
  ∃ r : BitVec 32, k4_part6 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 = (do
    waitSlotOut 1 (k4_off2 d0 (BitVec.ofNat 32 (1 : Fin 7).val)) (k4_off2_inb d0 1) (k4_off2_wordsbf16 d0 1) 1
    waitSlotIn 1 (k4_off2 d0 (BitVec.ofNat 32 (1 : Fin 7).val)) (k4_off2_inb d0 1) (k4_off2_wordsbf16 d0 1) 1
    let a ← loadHalf (k4_off4 d0 (BitVec.ofNat 32 (1 : Fin 7).val)) (k4_off4_inb d0 1)
    let b ← loadSlot 1 1
    let _ ← loadHalf (k4_off4 d0 (BitVec.ofNat 32 (1 : Fin 7).val)) (k4_off4_inb d0 1)
    storeHalf (k4_off4 d0 (BitVec.ofNat 32 (1 : Fin 7).val)) (k4_off4_inb d0 1) (k4_off4_packedbf16 d0 1) (k4_pay2 a b)
    pure r) := ⟨_, rfl⟩

theorem part7 (d0 : Dev nD) (v5 : BitVec 32) (v7 : BitVec 32) (v169 : BitVec 32) :
  k4_part7 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v5 v7 v169 = (do
    sendSlot 0 ⟨k4_dev7 d0, k4_dev7_lt d0⟩ (k4_off1 d0 (BitVec.ofNat 32 (2 : Fin 7).val)) (k4_off1_inb d0 2) (k4_off1_wordsbf16 d0 2) 2
    sendSlot 1 ⟨k4_dev8 d0, k4_dev8_lt d0⟩ (k4_off2 d0 (BitVec.ofNat 32 (2 : Fin 7).val)) (k4_off2_inb d0 2) (k4_off2_wordsbf16 d0 2) 2
    waitSlotOut 0 (k4_off1 d0 (BitVec.ofNat 32 (2 : Fin 7).val)) (k4_off1_inb d0 2) (k4_off1_wordsbf16 d0 2) 2) := rfl

theorem part8 (d0 : Dev nD) (v2 : BitVec 32) (v5 : BitVec 32) :
  k4_part8 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 = (do
    waitSlotIn 0 (k4_off1 d0 (BitVec.ofNat 32 (2 : Fin 7).val)) (k4_off1_inb d0 2) (k4_off1_wordsbf16 d0 2) 2
    let a ← loadHalf (k4_off3 d0 (BitVec.ofNat 32 (2 : Fin 7).val)) (k4_off3_inb d0 2)
    let b ← loadSlot 0 2
    let _ ← loadHalf (k4_off3 d0 (BitVec.ofNat 32 (2 : Fin 7).val)) (k4_off3_inb d0 2)
    storeHalf (k4_off3 d0 (BitVec.ofNat 32 (2 : Fin 7).val)) (k4_off3_inb d0 2) (k4_off3_packedbf16 d0 2) (k4_pay2 a b)
    waitSlotOut 1 (k4_off2 d0 (BitVec.ofNat 32 (2 : Fin 7).val)) (k4_off2_inb d0 2) (k4_off2_wordsbf16 d0 2) 2
    waitSlotIn 1 (k4_off2 d0 (BitVec.ofNat 32 (2 : Fin 7).val)) (k4_off2_inb d0 2) (k4_off2_wordsbf16 d0 2) 2) := rfl

theorem part9 (d0 : Dev nD) (v2 : BitVec 32) (v5 : BitVec 32) (v7 : BitVec 32) :
  ∃ r : (Σ' (v254 : BitVec 32), BitVec 32), k4_part9 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    let a ← loadHalf (k4_off4 d0 (BitVec.ofNat 32 (2 : Fin 7).val)) (k4_off4_inb d0 2)
    let b ← loadSlot 1 2
    let _ ← loadHalf (k4_off4 d0 (BitVec.ofNat 32 (2 : Fin 7).val)) (k4_off4_inb d0 2)
    storeHalf (k4_off4 d0 (BitVec.ofNat 32 (2 : Fin 7).val)) (k4_off4_inb d0 2) (k4_off4_packedbf16 d0 2) (k4_pay2 a b)
    sendSlot 0 ⟨k4_dev9 d0, k4_dev9_lt d0⟩ (k4_off1 d0 (BitVec.ofNat 32 (3 : Fin 7).val)) (k4_off1_inb d0 3) (k4_off1_wordsbf16 d0 3) 3
    pure r) := ⟨_, rfl⟩

theorem part10 (d0 : Dev nD) (v2 : BitVec 32) (v7 : BitVec 32) (v254 : BitVec 32) (c : BitVec 32) :
  ∃ r : BitVec 32, k4_part10 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v7 v254 c = (do
    sendSlot 1 ⟨k4_dev10 d0, k4_dev10_lt d0⟩ (k4_off2 d0 (BitVec.ofNat 32 (3 : Fin 7).val)) (k4_off2_inb d0 3) (k4_off2_wordsbf16 d0 3) 3
    waitSlotOut 0 (k4_off1 d0 (BitVec.ofNat 32 (3 : Fin 7).val)) (k4_off1_inb d0 3) (k4_off1_wordsbf16 d0 3) 3
    waitSlotIn 0 (k4_off1 d0 (BitVec.ofNat 32 (3 : Fin 7).val)) (k4_off1_inb d0 3) (k4_off1_wordsbf16 d0 3) 3
    let a ← loadHalf (k4_off3 d0 (BitVec.ofNat 32 (3 : Fin 7).val)) (k4_off3_inb d0 3)
    let b ← loadSlot 0 3
    pure ⟨r, k4_pay8 a, k4_pay9 b⟩) := ⟨_, rfl⟩

theorem part11 (d0 : Dev nD) (v2 : BitVec 32) (v5 : BitVec 32) (v279 : BitVec 32) (v282 v284 : FVec F S512x512 .bf16) :
  ∃ r : BitVec 32, k4_part11 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v279 v282 v284 = (do
    let _ ← loadHalf (k4_off3 d0 (BitVec.ofNat 32 (3 : Fin 7).val)) (k4_off3_inb d0 3)
    storeHalf (k4_off3 d0 (BitVec.ofNat 32 (3 : Fin 7).val)) (k4_off3_inb d0 3) (k4_off3_packedbf16 d0 3) (k4_pay10 v282 v284)
    waitSlotOut 1 (k4_off2 d0 (BitVec.ofNat 32 (3 : Fin 7).val)) (k4_off2_inb d0 3) (k4_off2_wordsbf16 d0 3) 3
    waitSlotIn 1 (k4_off2 d0 (BitVec.ofNat 32 (3 : Fin 7).val)) (k4_off2_inb d0 3) (k4_off2_wordsbf16 d0 3) 3
    let a ← loadHalf (k4_off4 d0 (BitVec.ofNat 32 (3 : Fin 7).val)) (k4_off4_inb d0 3)
    let b ← loadSlot 1 3
    let _ ← loadHalf (k4_off4 d0 (BitVec.ofNat 32 (3 : Fin 7).val)) (k4_off4_inb d0 3)
    storeHalf (k4_off4 d0 (BitVec.ofNat 32 (3 : Fin 7).val)) (k4_off4_inb d0 3) (k4_off4_packedbf16 d0 3) (k4_pay2 a b)
    pure r) := ⟨_, rfl⟩

theorem part12 (d0 : Dev nD) (v2 : BitVec 32) (v5 : BitVec 32) (v7 : BitVec 32) (v313 : BitVec 32) :
  k4_part12 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 v313 = (do
    sendSlot 0 ⟨k4_dev11 d0, k4_dev11_lt d0⟩ (k4_off1 d0 (BitVec.ofNat 32 (4 : Fin 7).val)) (k4_off1_inb d0 4) (k4_off1_wordsbf16 d0 4) 4
    sendSlot 1 ⟨k4_dev12 d0, k4_dev12_lt d0⟩ (k4_off2 d0 (BitVec.ofNat 32 (4 : Fin 7).val)) (k4_off2_inb d0 4) (k4_off2_wordsbf16 d0 4) 4
    waitSlotOut 0 (k4_off1 d0 (BitVec.ofNat 32 (4 : Fin 7).val)) (k4_off1_inb d0 4) (k4_off1_wordsbf16 d0 4) 4) := rfl

theorem part13 (d0 : Dev nD) (v2 : BitVec 32) (v5 : BitVec 32) (v7 : BitVec 32) :
  k4_part13 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    waitSlotIn 0 (k4_off1 d0 (BitVec.ofNat 32 (4 : Fin 7).val)) (k4_off1_inb d0 4) (k4_off1_wordsbf16 d0 4) 4
    let a ← loadHalf (k4_off3 d0 (BitVec.ofNat 32 (4 : Fin 7).val)) (k4_off3_inb d0 4)
    let b ← loadSlot 0 4
    let _ ← loadHalf (k4_off3 d0 (BitVec.ofNat 32 (4 : Fin 7).val)) (k4_off3_inb d0 4)
    storeHalf (k4_off3 d0 (BitVec.ofNat 32 (4 : Fin 7).val)) (k4_off3_inb d0 4) (k4_off3_packedbf16 d0 4) (k4_pay2 a b)
    waitSlotOut 1 (k4_off2 d0 (BitVec.ofNat 32 (4 : Fin 7).val)) (k4_off2_inb d0 4) (k4_off2_wordsbf16 d0 4) 4) := rfl

theorem part14 (d0 : Dev nD) (v2 : BitVec 32) (v7 : BitVec 32) :
  k4_part14 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v7 = (do
    waitSlotIn 1 (k4_off2 d0 (BitVec.ofNat 32 (4 : Fin 7).val)) (k4_off2_inb d0 4) (k4_off2_wordsbf16 d0 4) 4
    let a ← loadHalf (k4_off4 d0 (BitVec.ofNat 32 (4 : Fin 7).val)) (k4_off4_inb d0 4)
    let b ← loadSlot 1 4
    let _ ← loadHalf (k4_off4 d0 (BitVec.ofNat 32 (4 : Fin 7).val)) (k4_off4_inb d0 4)
    storeHalf (k4_off4 d0 (BitVec.ofNat 32 (4 : Fin 7).val)) (k4_off4_inb d0 4) (k4_off4_packedbf16 d0 4) (k4_pay2 a b)) := rfl

theorem part15 (d0 : Dev nD) (v2 : BitVec 32) (v5 : BitVec 32) (v7 : BitVec 32) :
  ∃ r : BitVec 32, k4_part15 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    sendSlot 0 ⟨k4_dev13 d0, k4_dev13_lt d0⟩ (k4_off1 d0 (BitVec.ofNat 32 (5 : Fin 7).val)) (k4_off1_inb d0 5) (k4_off1_wordsbf16 d0 5) 5
    sendSlot 1 ⟨k4_dev14 d0, k4_dev14_lt d0⟩ (k4_off2 d0 (BitVec.ofNat 32 (5 : Fin 7).val)) (k4_off2_inb d0 5) (k4_off2_wordsbf16 d0 5) 5
    waitSlotOut 0 (k4_off1 d0 (BitVec.ofNat 32 (5 : Fin 7).val)) (k4_off1_inb d0 5) (k4_off1_wordsbf16 d0 5) 5
    waitSlotIn 0 (k4_off1 d0 (BitVec.ofNat 32 (5 : Fin 7).val)) (k4_off1_inb d0 5) (k4_off1_wordsbf16 d0 5) 5
    pure r) := ⟨_, rfl⟩

theorem part16 (d0 : Dev nD) (v2 : BitVec 32) (v5 : BitVec 32) (v427 : BitVec 32) :
  ∃ r : BitVec 32, k4_part16 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v427 = (do
    let a ← loadHalf (k4_off3 d0 (BitVec.ofNat 32 (5 : Fin 7).val)) (k4_off3_inb d0 5)
    let b ← loadSlot 0 5
    let _ ← loadHalf (k4_off3 d0 (BitVec.ofNat 32 (5 : Fin 7).val)) (k4_off3_inb d0 5)
    storeHalf (k4_off3 d0 (BitVec.ofNat 32 (5 : Fin 7).val)) (k4_off3_inb d0 5) (k4_off3_packedbf16 d0 5) (k4_pay2 a b)
    waitSlotOut 1 (k4_off2 d0 (BitVec.ofNat 32 (5 : Fin 7).val)) (k4_off2_inb d0 5) (k4_off2_wordsbf16 d0 5) 5
    waitSlotIn 1 (k4_off2 d0 (BitVec.ofNat 32 (5 : Fin 7).val)) (k4_off2_inb d0 5) (k4_off2_wordsbf16 d0 5) 5
    let a ← loadHalf (k4_off4 d0 (BitVec.ofNat 32 (5 : Fin 7).val)) (k4_off4_inb d0 5)
    let b ← loadSlot 1 5
    pure ⟨r, k4_pay2 a b⟩) := ⟨_, rfl⟩

theorem part17 (d0 : Dev nD) (v2 : BitVec 32) (v5 : BitVec 32) (v7 : BitVec 32) (v451 : BitVec 32) (v457 : FVec F S512x512 .bf16) :
  k4_part17 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 v451 v457 = (do
    let _ ← loadHalf (k4_off4 d0 (BitVec.ofNat 32 (5 : Fin 7).val)) (k4_off4_inb d0 5)
    storeHalf (k4_off4 d0 (BitVec.ofNat 32 (5 : Fin 7).val)) (k4_off4_inb d0 5) (k4_off4_packedbf16 d0 5) v457
    sendSlot 0 ⟨k4_dev15 d0, k4_dev15_lt d0⟩ (k4_off1 d0 (BitVec.ofNat 32 (6 : Fin 7).val)) (k4_off1_inb d0 6) (k4_off1_wordsbf16 d0 6) 6
    sendSlot 1 ⟨k4_dev16 d0, k4_dev16_lt d0⟩ (k4_off2 d0 (BitVec.ofNat 32 (6 : Fin 7).val)) (k4_off2_inb d0 6) (k4_off2_wordsbf16 d0 6) 6) := rfl

theorem part18 (d0 : Dev nD) (v2 : BitVec 32) (v7 : BitVec 32) :
  k4_part18 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v7 = (do
    waitSlotOut 0 (k4_off1 d0 (BitVec.ofNat 32 (6 : Fin 7).val)) (k4_off1_inb d0 6) (k4_off1_wordsbf16 d0 6) 6
    waitSlotIn 0 (k4_off1 d0 (BitVec.ofNat 32 (6 : Fin 7).val)) (k4_off1_inb d0 6) (k4_off1_wordsbf16 d0 6) 6
    let a ← loadHalf (k4_off3 d0 (BitVec.ofNat 32 (6 : Fin 7).val)) (k4_off3_inb d0 6)
    let b ← loadSlot 0 6
    let _ ← loadHalf (k4_off3 d0 (BitVec.ofNat 32 (6 : Fin 7).val)) (k4_off3_inb d0 6)
    storeHalf (k4_off3 d0 (BitVec.ofNat 32 (6 : Fin 7).val)) (k4_off3_inb d0 6) (k4_off3_packedbf16 d0 6) (k4_pay2 a b)
    waitSlotOut 1 (k4_off2 d0 (BitVec.ofNat 32 (6 : Fin 7).val)) (k4_off2_inb d0 6) (k4_off2_wordsbf16 d0 6) 6) := rfl

theorem part19 (d0 : Dev nD) (v2 : BitVec 32) (v5 : BitVec 32) :
  k4_part19 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 = (do
    waitSlotIn 1 (k4_off2 d0 (BitVec.ofNat 32 (6 : Fin 7).val)) (k4_off2_inb d0 6) (k4_off2_wordsbf16 d0 6) 6
    let a ← loadHalf (k4_off4 d0 (BitVec.ofNat 32 (6 : Fin 7).val)) (k4_off4_inb d0 6)
    let b ← loadSlot 1 6
    let _ ← loadHalf (k4_off4 d0 (BitVec.ofNat 32 (6 : Fin 7).val)) (k4_off4_inb d0 6)
    storeHalf (k4_off4 d0 (BitVec.ofNat 32 (6 : Fin 7).val)) (k4_off4_inb d0 6) (k4_off4_packedbf16 d0 6) (k4_pay2 a b)) := rfl

theorem part20 (d0 : Dev nD) (v5 : BitVec 32) (v7 : BitVec 32) :
  k4_part20 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v5 v7 = (do
    sendHalf 0 ⟨k4_dev17 d0, k4_dev17_lt d0⟩ (k4_off5 d0 (BitVec.ofNat 32 (0 : Fin 7).val)) (k4_off5_inb d0 0) (k4_off5_wordsbf16 d0 0) 0
    sendHalf 1 ⟨k4_dev18 d0, k4_dev18_lt d0⟩ (k4_off6 d0 (BitVec.ofNat 32 (0 : Fin 7).val)) (k4_off6_inb d0 0) (k4_off6_wordsbf16 d0 0) 0
    waitHalf 0 2 (k4_off5 d0 (BitVec.ofNat 32 (0 : Fin 7).val)) (k4_off5_inb d0 0) (k4_off5_wordsbf16 d0 0) 0
    waitHalf 0 3 (k4_off5 d0 (BitVec.ofNat 32 (0 : Fin 7).val)) (k4_off5_inb d0 0) (k4_off5_wordsbf16 d0 0) 0) := rfl

theorem part21 (d0 : Dev nD) (v2 : BitVec 32) (v5 : BitVec 32) (v7 : BitVec 32) :
  k4_part21 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    waitHalf 1 2 (k4_off6 d0 (BitVec.ofNat 32 (0 : Fin 7).val)) (k4_off6_inb d0 0) (k4_off6_wordsbf16 d0 0) 0
    waitHalf 1 3 (k4_off6 d0 (BitVec.ofNat 32 (0 : Fin 7).val)) (k4_off6_inb d0 0) (k4_off6_wordsbf16 d0 0) 0
    sendHalf 0 ⟨k4_dev19 d0, k4_dev19_lt d0⟩ (k4_off5 d0 (BitVec.ofNat 32 (1 : Fin 7).val)) (k4_off5_inb d0 1) (k4_off5_wordsbf16 d0 1) 1) := rfl

theorem part22 (d0 : Dev nD) (v2 : BitVec 32) (v5 : BitVec 32) (v7 : BitVec 32) :
  k4_part22 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    sendHalf 1 ⟨k4_dev20 d0, k4_dev20_lt d0⟩ (k4_off6 d0 (BitVec.ofNat 32 (1 : Fin 7).val)) (k4_off6_inb d0 1) (k4_off6_wordsbf16 d0 1) 1
    waitHalf 0 2 (k4_off5 d0 (BitVec.ofNat 32 (1 : Fin 7).val)) (k4_off5_inb d0 1) (k4_off5_wordsbf16 d0 1) 1
    waitHalf 0 3 (k4_off5 d0 (BitVec.ofNat 32 (1 : Fin 7).val)) (k4_off5_inb d0 1) (k4_off5_wordsbf16 d0 1) 1
    waitHalf 1 2 (k4_off6 d0 (BitVec.ofNat 32 (1 : Fin 7).val)) (k4_off6_inb d0 1) (k4_off6_wordsbf16 d0 1) 1
    waitHalf 1 3 (k4_off6 d0 (BitVec.ofNat 32 (1 : Fin 7).val)) (k4_off6_inb d0 1) (k4_off6_wordsbf16 d0 1) 1) := rfl

theorem part23 (d0 : Dev nD) (v2 : BitVec 32) (v5 : BitVec 32) (v7 : BitVec 32) :
  k4_part23 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    sendHalf 0 ⟨k4_dev21 d0, k4_dev21_lt d0⟩ (k4_off5 d0 (BitVec.ofNat 32 (2 : Fin 7).val)) (k4_off5_inb d0 2) (k4_off5_wordsbf16 d0 2) 2
    sendHalf 1 ⟨k4_dev22 d0, k4_dev22_lt d0⟩ (k4_off6 d0 (BitVec.ofNat 32 (2 : Fin 7).val)) (k4_off6_inb d0 2) (k4_off6_wordsbf16 d0 2) 2
    waitHalf 0 2 (k4_off5 d0 (BitVec.ofNat 32 (2 : Fin 7).val)) (k4_off5_inb d0 2) (k4_off5_wordsbf16 d0 2) 2) := rfl

theorem part24 (d0 : Dev nD) (v2 : BitVec 32) (v5 : BitVec 32) (v7 : BitVec 32) :
  k4_part24 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    waitHalf 0 3 (k4_off5 d0 (BitVec.ofNat 32 (2 : Fin 7).val)) (k4_off5_inb d0 2) (k4_off5_wordsbf16 d0 2) 2
    waitHalf 1 2 (k4_off6 d0 (BitVec.ofNat 32 (2 : Fin 7).val)) (k4_off6_inb d0 2) (k4_off6_wordsbf16 d0 2) 2
    waitHalf 1 3 (k4_off6 d0 (BitVec.ofNat 32 (2 : Fin 7).val)) (k4_off6_inb d0 2) (k4_off6_wordsbf16 d0 2) 2) := rfl

theorem part25 (d0 : Dev nD) (v5 : BitVec 32) (v7 : BitVec 32) :
  k4_part25 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v5 v7 = (do
    sendHalf 0 ⟨k4_dev23 d0, k4_dev23_lt d0⟩ (k4_off5 d0 (BitVec.ofNat 32 (3 : Fin 7).val)) (k4_off5_inb d0 3) (k4_off5_wordsbf16 d0 3) 3
    sendHalf 1 ⟨k4_dev24 d0, k4_dev24_lt d0⟩ (k4_off6 d0 (BitVec.ofNat 32 (3 : Fin 7).val)) (k4_off6_inb d0 3) (k4_off6_wordsbf16 d0 3) 3
    waitHalf 0 2 (k4_off5 d0 (BitVec.ofNat 32 (3 : Fin 7).val)) (k4_off5_inb d0 3) (k4_off5_wordsbf16 d0 3) 3
    waitHalf 0 3 (k4_off5 d0 (BitVec.ofNat 32 (3 : Fin 7).val)) (k4_off5_inb d0 3) (k4_off5_wordsbf16 d0 3) 3
    waitHalf 1 2 (k4_off6 d0 (BitVec.ofNat 32 (3 : Fin 7).val)) (k4_off6_inb d0 3) (k4_off6_wordsbf16 d0 3) 3) := rfl

theorem part26 (d0 : Dev nD) (v2 : BitVec 32) (v5 : BitVec 32) (v7 : BitVec 32) :
  k4_part26 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    waitHalf 1 3 (k4_off6 d0 (BitVec.ofNat 32 (3 : Fin 7).val)) (k4_off6_inb d0 3) (k4_off6_wordsbf16 d0 3) 3
    sendHalf 0 ⟨k4_dev25 d0, k4_dev25_lt d0⟩ (k4_off5 d0 (BitVec.ofNat 32 (4 : Fin 7).val)) (k4_off5_inb d0 4) (k4_off5_wordsbf16 d0 4) 4
    sendHalf 1 ⟨k4_dev26 d0, k4_dev26_lt d0⟩ (k4_off6 d0 (BitVec.ofNat 32 (4 : Fin 7).val)) (k4_off6_inb d0 4) (k4_off6_wordsbf16 d0 4) 4) := rfl

theorem part27 (d0 : Dev nD) (v2 : BitVec 32) (v5 : BitVec 32) (v7 : BitVec 32) :
  k4_part27 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    waitHalf 0 2 (k4_off5 d0 (BitVec.ofNat 32 (4 : Fin 7).val)) (k4_off5_inb d0 4) (k4_off5_wordsbf16 d0 4) 4
    waitHalf 0 3 (k4_off5 d0 (BitVec.ofNat 32 (4 : Fin 7).val)) (k4_off5_inb d0 4) (k4_off5_wordsbf16 d0 4) 4
    waitHalf 1 2 (k4_off6 d0 (BitVec.ofNat 32 (4 : Fin 7).val)) (k4_off6_inb d0 4) (k4_off6_wordsbf16 d0 4) 4
    waitHalf 1 3 (k4_off6 d0 (BitVec.ofNat 32 (4 : Fin 7).val)) (k4_off6_inb d0 4) (k4_off6_wordsbf16 d0 4) 4) := rfl

theorem part28 (d0 : Dev nD) (v5 : BitVec 32) (v7 : BitVec 32) :
  k4_part28 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v5 v7 = (do
    sendHalf 0 ⟨k4_dev27 d0, k4_dev27_lt d0⟩ (k4_off5 d0 (BitVec.ofNat 32 (5 : Fin 7).val)) (k4_off5_inb d0 5) (k4_off5_wordsbf16 d0 5) 5
    sendHalf 1 ⟨k4_dev28 d0, k4_dev28_lt d0⟩ (k4_off6 d0 (BitVec.ofNat 32 (5 : Fin 7).val)) (k4_off6_inb d0 5) (k4_off6_wordsbf16 d0 5) 5
    waitHalf 0 2 (k4_off5 d0 (BitVec.ofNat 32 (5 : Fin 7).val)) (k4_off5_inb d0 5) (k4_off5_wordsbf16 d0 5) 5
    waitHalf 0 3 (k4_off5 d0 (BitVec.ofNat 32 (5 : Fin 7).val)) (k4_off5_inb d0 5) (k4_off5_wordsbf16 d0 5) 5) := rfl

theorem part29 (d0 : Dev nD) (v2 : BitVec 32) (v5 : BitVec 32) (v7 : BitVec 32) :
  k4_part29 (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9 d0 v2 v5 v7 = (do
    waitHalf 1 2 (k4_off6 d0 (BitVec.ofNat 32 (5 : Fin 7).val)) (k4_off6_inb d0 5) (k4_off6_wordsbf16 d0 5) 5
    waitHalf 1 3 (k4_off6 d0 (BitVec.ofNat 32 (5 : Fin 7).val)) (k4_off6_inb d0 5) (k4_off6_wordsbf16 d0 5) 5
    sendHalf 0 ⟨k4_dev29 d0, k4_dev29_lt d0⟩ (k4_off5 d0 (BitVec.ofNat 32 (6 : Fin 7).val)) (k4_off5_inb d0 6) (k4_off5_wordsbf16 d0 6) 6) := rfl

/-- The body of the call is the device number and the named pieces. -/
theorem body_eq : cc4_body (F := F) iM (Memref.isWhole_whole _) oM (Memref.isWhole_whole _) (cM 0) (cM_whole 0) (cM 1) (cM_whole 1) cc4_scratch2 cc4_scratch3 cc4_scratch4 cc4_scratch5 cc4_scratch6 cc4_scratch7 cc4_scratch8 cc4_scratch9
    = (do let d ← Prog.lift .deviceId; body d) := by
  obtain ⟨r1, h1⟩ := part1 (F := F)
  choose r2 h2 using part2 (F := F)
  choose r3 h3 using part3 (F := F)
  choose r6 h6 using part6 (F := F)
  choose r9 h9 using part9 (F := F)
  choose r10 h10 using part10 (F := F)
  choose r11 h11 using part11 (F := F)
  choose r15 h15 using part15 (F := F)
  choose r16 h16 using part16 (F := F)
  rw [cc4_body_eq_skeleton]
  unfold cc4_body_skel
  rw [k4_part30_eq_skeleton]
  unfold k4_part30_skel
  simp only [h1, h2, h3, part4, part5, h6, part7, part8, h9, h10, h11, part12, part13, part14, h15, h16, part17, part18, part19, part20, part21, part22, part23, part24, part25, part26, part27, part28, part29, bind_assoc, pure_bind]
  simp only [body, seven, rsStep, agStep, rsEnd, agEnd, addHalf, bind_assoc, pure_bind]
  rfl

end Cert.SumProof

end
-- ==== Proof.SumLaunch.lean ====
/-
  The all-reduce as a REGION of the program: what each device's operand, result and scratch are before and after its
  body, entered with whatever its arrays hold there, and that its body takes the one to the other.
-/
module

public import proofs.«01_k».proof.Proof.SumDeal
public import proofs.«01_k».proof.Proof.SumParts
public import proofs.«01_k».proof.Proof.Gen.KernelIdeal.Regions
public import proofs.«01_k».proof.Proof.Gen.KernelIdeal.Points

@[expose] public section

noncomputable section

namespace Cert.SumProof

open Cert.KernelIdeal Cert.KernelIdeal.Gen Cert.Whole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-! ## Before and after -/

/-- A window's array as the call finds it, read through its only block. -/
def found (c : Dev nD) (w : Fin cfg4.W) : ((cfg4.win w).xblock (cfg4.grid.coords t4_0)).Idx → Elt F (cfg4.win w).elt :=
  ((cfg4.win w).blk t4_0).view.read (Elt F) (V c (Pipeline.arrRef spec4 w))

/-- What the devices bring. -/
def inp : Inp F := fun c => found V c (0 : Fin 2)

/-- What the call leaves alone: the generator register and the buffers that are neither staged nor its scratch. -/
def aside (c : Dev nD) : sProp 𝕄 :=
  iprop((∃ r, prngReg c r) ∗ Pipeline.scopedRestBut (Ix := Unit) (Name := ℕ) (U := UU) (Lvl := ℕ) (Val := Elt F) spec4 c [cc4_scratch0, cc4_scratch1])
def Φ₀ (c : Dev nD) : sProp 𝕄 := iprop(((∃ K, greet (inp V) K c) ∗ levAts L lv ∗ deal c ∗ both (cAny c)) ∗ aside c)
def Φ₁ (c : Dev nD) : sProp 𝕄 := iprop((zeros c ∗ both (cAny c)) ∗ aside c)

def dat (c : Dev nD) : Dat τ (Elt F) Unit ℕ UU ℕ cfg4 c where
  A w := V c (Pipeline.arrRef spec4 w)
  after w _ := match w with
    | ⟨0, _⟩ => inp V c
    | ⟨1, _⟩ => (inp V).out
  Φ t := match t with
    | ⟨0, _⟩ => Φ₀ V c
    | ⟨_ + 1, _⟩ => Φ₁ c
  q _ := fullShare
  owed t := match t with
    | ⟨0, _⟩ => O₀ c
    | ⟨_ + 1, _⟩ => 0

omit [FloatOps F] in
theorem bigSep_W (Φ : Fin cfg4.W → sProp 𝕄) : bigSep Finset.univ Φ = iprop(Φ (0 : Fin 2) ∗ Φ (1 : Fin 2)) := bigSep_W4 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ V c ∗ (dat V c).owesAt () t4_0.castSucc
    ∗ (∃ d, stg c cc4_stg0_0 ((dat V c).before (0 : Fin 2) t4_0 d))
    ∗ (∃ d, stg c cc4_stg1_0 ((dat V c).before (1 : Fin 2) t4_0 d)))

def bodyPost (c : Dev nD) : sProp 𝕄 :=
  iprop(Φ₁ c ∗ (dat V c).owesAt () t4_0.succ ∗ stg c cc4_stg0_0 (inp V c) ∗ stg c cc4_stg1_0 (inp V).out)

theorem before_in (c : Dev nD) (d) : (dat V c).before (0 : Fin 2) t4_0 d = inp V c := by
  unfold Dat.before; rw [if_pos (fetch4_0 t4_0)]; rfl

theorem body_sound (c : Dev nD) : bodyPre V c ⊢ wp frame (wpE (defs₀ (F := F)) 𝒱₀ (c : Thread nD τ) none) Set.univ
    (cc4_body (F := F) iM (Memref.isWhole_whole _) oM (Memref.isWhole_whole _) (cM 0) (cM_whole 0) (cM 1) (cM_whole 1)
      cc4_scratch2 cc4_scratch3 cc4_scratch4 cc4_scratch5 cc4_scratch6 cc4_scratch7 cc4_scratch8 cc4_scratch9) (fun _ => bodyPost V c) := by
  rw [body_eq]
  simp only [Prog.lift, Prog.bind_op, Prog.bind_ret, wp_deviceId]
  unfold bodyPre bodyPost Φ₀ Φ₁ Dat.owesAt Pipeline.owesWithin
  simp only [before_in]
  iintro ⟨⟨⟨⟨%K, HK⟩, Hl, Hk, Hc⟩, Hrest⟩, ⟨%W, %hW, HO⟩, ⟨%d0, ⟨%f0, %h0, H0⟩⟩, ⟨%d1, ⟨%f1, %h1, H1⟩⟩⟩
  subst h0
  iapply (body_wp (inp V) K c f1)
  isplitl [HK]; · iexact HK
  isplitl [Hl]; · iexact Hl
  isplitl [Hk]; · iexact Hk
  isplitl [HO]
  · unfold owesE; iexists W; iexact HO
  isplitl [H0]; · unfold insAt; iexact H0
  isplitl [Hc]; · iexact Hc
  isplitl [H1]; · unfold oAt; iexact H1
  iintro ⟨Hz, HO, Hin, Hc, Ho⟩
  isplitl [Hz Hc Hrest]
  · isplitl [Hz Hc]
    · isplitl [Hz] <;> iassumption
    · iexact Hrest
  isplitl [HO]
  · unfold owesE
    icases HO with ⟨%W', HO⟩
    iexists W'
    isplitr
    · ipureintro; exact fun _ _ => Or.inl trivial
    · iexact HO
  unfold insAt oAt
  isplitl [Hin]; · iexists _; isplitr; swap; · iexact Hin
                   ipureintro; rfl
  iexists _; isplitr; swap; · iexact Ho
  ipureintro; rfl

set_option maxRecDepth 16384 in
theorem body_obligation (c : Dev nD) : BodyObligation (dat (F := F) V c) (defs₀ (F := F)) 𝒱₀ () Set.univ := fun t => by
  rw [fin_N4 t]
  rw [bigSep_W, bigSep_W]
  simp only [owns_whole_eq]
  exact body_sound V c

/-! ## Into the call and out of it -/

theorem ownSemFacts : Pipeline.OwnSemFacts cfg4.spec osem := by decide +kernel

theorem share_eq (c : Dev nD) (w : Fin cfg4.W) : (dat V c).share w = fullShare := by unfold Dat.share; split <;> rfl

theorem phi0_intro (W : Valuation τ sig (Elt F)) (c : Dev nD) :
    iprop(Pipeline.scopedRest cfg4.spec c ∗ (∃ r, prngReg c r) ∗ StableHlo.held (c.tc : Thread nD τ) ∅ W
        ∗ (∃ K, greet (inp V) K c) ∗ levAts L lv ∗ deal c) ⊢ (dat V c).Φ 0 := by
  rw [show (dat V c).Φ 0 = Φ₀ V c from rfl, show (Pipeline.scopedRest cfg4.spec c : sProp 𝕄) = Pipeline.scopedRest spec4 c from rfl, scopedRest4_split]
  unfold Φ₀ aside both cAny
  iintro ⟨⟨⟨Ha, Hc⟩, Hr⟩, Hp, -, HK, Hl, Hk⟩
  isplitl [HK Hl Hk Ha Hc]
  · isplitl [HK]; · iexact HK
    isplitl [Hl]; · iexact Hl
    isplitl [Hk]; · iexact Hk
    isplitl [Ha]; · iexact Ha
    iexact Hc
  isplitl [Hp] <;> iassumption

theorem phi1_exit (W : Valuation τ sig (Elt F)) (c : Dev nD) :
    (dat V c).Φ (Fin.last cfg4.N) ⊢ iprop(Pipeline.scopedRest cfg4.spec c ∗ (∃ r, prngReg c r) ∗ StableHlo.held (c.tc : Thread nD τ) ∅ W
        ∗ scratch c ∗ semVal (bar c) 0) := by
  rw [show (dat V c).Φ (Fin.last cfg4.N) = Φ₁ c from rfl, show (Pipeline.scopedRest cfg4.spec c : sProp 𝕄) = Pipeline.scopedRest spec4 c from rfl, scopedRest4_split]
  unfold Φ₁ aside both cAny StableHlo.held
  rw [bigSep_empty]
  iintro ⟨⟨Hz, Ha, Hc⟩, Hp, Hr⟩
  ihave Hz' := (zeros_eq (F := F) c) $$ Hz
  icases Hz' with ⟨HB, HS⟩
  isplitl [Ha Hc Hr]
  · isplitl [Ha Hc]
    · isplitl [Ha]; · iexact Ha
      iexact Hc
    · iexact Hr
  isplitl [Hp]; · iexact Hp
  isplitr; · iempintro
  isplitl [HS] <;> iassumption

/-- All that is owed here lies above the staging semaphores. -/
theorem owed_above (c : Dev nD) (t : Fin (cfg4.N + 1)) : Above 1 ((dat V c).owed t) := by
  rcases t with ⟨_ | _, ht⟩
  · exact Above.O₀ c
  · exact Above.zero 1

end Cert.SumProof

end
-- ==== Proof.Stages.lean ====
/-
  What the buffers of every device hold after each item of the kernel: its five calls and the host lines between them.
-/
module

public import proofs.«01_k».proof.Proof.Launch
public import proofs.«01_k».proof.Proof.SumLaunch
public import proofs.«01_k».proof.Proof.Gen.Own.KernelIdeal.K0.Frame
public import proofs.«01_k».proof.Proof.Gen.Own.KernelIdeal.K2.Frame
public import proofs.«01_k».proof.Proof.Gen.Own.KernelIdeal.K3.Frame

@[expose] public section

noncomputable section

namespace Cert.Whole

open Cert.KernelIdeal Cert.KernelIdeal.Gen Cert.KernelIdeal.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What the buffers of a device hold after each item -/

def st1 (c : Dev nD) : Valuation τ sig (Elt F) := V1 m c
def dat0 (c : Dev nD) : Dat τ (Elt F) Unit ℕ UU ℕ cfg0 c := K0.dat 𝒱₀ (fun c b => st1 m c b) RingProof.O₀ c
def st2 (c : Dev nD) : Valuation τ sig (Elt F) :=
  Function.update (Function.update (Function.update (st1 m c) main_v14_0 ((dat0 m c).arrAt 6 cfg0.N)) main_v14_1 ((dat0 m c).arrAt 7 cfg0.N))
    main_v14_2 ((dat0 m c).arrAt 8 cfg0.N)
def st3 (c : Dev nD) : Valuation τ sig (Elt F) := StableHlo.after hostOps1 (st2 m c)
def dat1 (c : Dev nD) : Dat τ (Elt F) Unit ℕ UU ℕ cfg1 c := RingProof.dat (fun c b => st3 m c b) c
def st4 (c : Dev nD) : Valuation τ sig (Elt F) := Function.update (st3 m c) main_v16 ((dat1 m c).arrAt 4 cfg1.N)
def st5 (c : Dev nD) : Valuation τ sig (Elt F) := StableHlo.after hostOps2 (st4 m c)
def dat2 (c : Dev nD) : Dat τ (Elt F) Unit ℕ UU ℕ cfg2 c := K2.dat 𝒱₀ (fun c b => st5 m c b) SumProof.O₀ c
def st6 (c : Dev nD) : Valuation τ sig (Elt F) := Function.update (st5 m c) main_v18 ((dat2 m c).arrAt 3 cfg2.N)
def st7 (c : Dev nD) : Valuation τ sig (Elt F) := StableHlo.after hostOps3 (st6 m c)
def dat3 (c : Dev nD) : Dat τ (Elt F) Unit ℕ UU ℕ cfg3 c := K3.dat 𝒱₀ (fun c b => st7 m c b) SumProof.O₀ c
def st8 (c : Dev nD) : Valuation τ sig (Elt F) := Function.update (st7 m c) main_v23 ((dat3 m c).arrAt 5 cfg3.N)
def dat4 (c : Dev nD) : Dat τ (Elt F) Unit ℕ UU ℕ cfg4 c := SumProof.dat (fun c b => st8 m c b) c
def st9 (c : Dev nD) : Valuation τ sig (Elt F) := Function.update (st8 m c) main_v24 ((dat4 m c).arrAt 1 cfg4.N)
def st10 (c : Dev nD) : Valuation τ sig (Elt F) := StableHlo.after hostOps5 (st9 m c)

/-- What the calls leave, read off these. -/
def outs : Outs (F := F) := fun J r c => match J with
  | 2 => st2 m c r
  | 4 => st4 m c r
  | 6 => st6 m c r
  | 8 => st8 m c r
  | _ => st9 m c r

/-- Reading three changed places back and changing them again changes nothing. -/
theorem again₃ {ι : Type} [DecidableEq ι] {β : ι → Type} (A : (i : ι) → β i) {a b d : ι} (x : β a) (y : β b) (z : β d)
    (hab : a ≠ b) (had : a ≠ d) (hbd : b ≠ d) (B : (i : ι) → β i)
    (hB : B = Function.update (Function.update (Function.update A a x) b y) d z) :
    Function.update (Function.update (Function.update A a (B a)) b (B b)) d (B d) = B := by
  have ha : B a = x := by rw [hB, Function.update_of_ne had, Function.update_of_ne hab, Function.update_self]
  have hb : B b = y := by rw [hB, Function.update_of_ne hbd, Function.update_self]
  have hd : B d = z := by rw [hB, Function.update_self]
  rw [ha, hb, hd, hB]
theorem again {ι : Type} [DecidableEq ι] {β : ι → Type} (A : (i : ι) → β i) {a : ι} (x : β a) (B : (i : ι) → β i)
    (hB : B = Function.update A a x) : Function.update A a (B a) = B := by
  have ha : B a = x := by rw [hB, Function.update_self]
  rw [ha, hB]

theorem st1_eq (c : Dev nD) : V1 m c = st1 m c := rfl
theorem outs_two (r : Ref sig .tc) (c : Dev nD) : outs m 2 r c = st2 m c r := rfl
theorem st2_again (c : Dev nD) :
    Function.update (Function.update (Function.update (st1 m c) (Proc.devRef .tc main_v14_0 : DevRef τ sig) (st2 m c main_v14_0))
      (Proc.devRef .tc main_v14_1 : DevRef τ sig) (st2 m c main_v14_1)) (Proc.devRef .tc main_v14_2 : DevRef τ sig) (st2 m c main_v14_2) = st2 m c :=
  again₃ (st1 m c) _ _ _ (by decide) (by decide) (by decide) (st2 m c) (by unfold st2; rfl)
theorem st2_eq (c : Dev nD) : V2 m (outs m) c = st2 m c := by
  unfold V2
  rw [outs_two, outs_two, outs_two, st1_eq]
  exact st2_again m c
theorem st3_eq (c : Dev nD) : V3 m (outs m) c = st3 m c := congrArg (StableHlo.after hostOps1) (st2_eq m c)
theorem st4_eq (c : Dev nD) : V4 m (outs m) c = st4 m c :=
  (congrArg (fun A => Function.update A (Proc.devRef .tc main_v16 : DevRef τ sig) (st4 m c main_v16)) (st3_eq m c)).trans
    (again (a := (Proc.devRef .tc main_v16 : DevRef τ sig)) (st3 m c) ((dat1 m c).arrAt 4 cfg1.N) (st4 m c) rfl)
theorem st5_eq (c : Dev nD) : V5 m (outs m) c = st5 m c := congrArg (StableHlo.after hostOps2) (st4_eq m c)
theorem st6_eq (c : Dev nD) : V6 m (outs m) c = st6 m c :=
  (congrArg (fun A => Function.update A (Proc.devRef .tc main_v18 : DevRef τ sig) (st6 m c main_v18)) (st5_eq m c)).trans
    (again (a := (Proc.devRef .tc main_v18 : DevRef τ sig)) (st5 m c) ((dat2 m c).arrAt 3 cfg2.N) (st6 m c) rfl)
theorem st7_eq (c : Dev nD) : V7 m (outs m) c = st7 m c := congrArg (StableHlo.after hostOps3) (st6_eq m c)
theorem st8_eq (c : Dev nD) : V8 m (outs m) c = st8 m c :=
  (congrArg (fun A => Function.update A (Proc.devRef .tc main_v23 : DevRef τ sig) (st8 m c main_v23)) (st7_eq m c)).trans
    (again (a := (Proc.devRef .tc main_v23 : DevRef τ sig)) (st7 m c) ((dat3 m c).arrAt 5 cfg3.N) (st8 m c) rfl)
theorem st9_eq (c : Dev nD) : V9 m (outs m) c = st9 m c :=
  (congrArg (fun A => Function.update A (Proc.devRef .tc main_v24 : DevRef τ sig) (st9 m c main_v24)) (st8_eq m c)).trans
    (again (a := (Proc.devRef .tc main_v24 : DevRef τ sig)) (st8 m c) ((dat4 m c).arrAt 1 cfg4.N) (st9 m c) rfl)
theorem st10_eq (c : Dev nD) : V10 m (outs m) c = st10 m c := congrArg (StableHlo.after hostOps5) (st9_eq m c)

/-! ## What each call leaves in its arrays -/

/-- What a call leaves, said of all its arrays at once: its inputs as they were, its result as given. -/
theorem left_in {gr W : Nat} (win : Fin W → Pipeline.WinSpec sig gr) (A : Valuation τ sig (Elt F)) (o w : Fin W) (r : Ref sig .tc)
    (hr : r = Pipeline.arrRef win o) (x : (Proc.devRef .tc r : DevRef τ sig).ty.Contents (Elt F))
    (hinj : Function.Injective (Pipeline.arrRef win)) (h : w ≠ o) :
    A (Proc.devRef .tc (Pipeline.arrRef win w)) = Function.update A (Proc.devRef .tc r : DevRef τ sig) x (Proc.devRef .tc (Pipeline.arrRef win w)) :=
  (Function.update_of_ne (StableHlo.devRef_ne_of_ne fun e => h (hinj (e.trans hr))) _ _).symm

theorem st2_0 (c : Dev nD) : st2 m c main_v14_0 = (dat0 m c).arrAt 6 cfg0.N :=
  (Function.update_of_ne (by decide) _ _).trans ((Function.update_of_ne (by decide) _ _).trans (Function.update_self _ _ _))
theorem st2_1 (c : Dev nD) : st2 m c main_v14_1 = (dat0 m c).arrAt 7 cfg0.N :=
  (Function.update_of_ne (by decide) _ _).trans (Function.update_self _ _ _)
theorem st2_2 (c : Dev nD) : st2 m c main_v14_2 = (dat0 m c).arrAt 8 cfg0.N := Function.update_self _ _ _
theorem st2_of (c : Dev nD) (b : DevRef τ sig) (h0 : b ≠ Proc.devRef .tc main_v14_0) (h1 : b ≠ Proc.devRef .tc main_v14_1)
    (h2 : b ≠ Proc.devRef .tc main_v14_2) : st2 m c b = st1 m c b :=
  (Function.update_of_ne h2 _ _).trans ((Function.update_of_ne h1 _ _).trans (Function.update_of_ne h0 _ _))
theorem st4_16 (c : Dev nD) : st4 m c main_v16 = (dat1 m c).arrAt 4 cfg1.N := Function.update_self _ _ _
theorem st6_18 (c : Dev nD) : st6 m c main_v18 = (dat2 m c).arrAt 3 cfg2.N := Function.update_self _ _ _
theorem st8_23 (c : Dev nD) : st8 m c main_v23 = (dat3 m c).arrAt 5 cfg3.N := Function.update_self _ _ _
theorem st9_24 (c : Dev nD) : st9 m c main_v24 = (dat4 m c).arrAt 1 cfg4.N := Function.update_self _ _ _

end Cert.Whole

end
-- ==== Proof.Between.lean ====
/-
  What a device holds BETWEEN the items of the kernel besides its buffers, and what every call leaves of its buffers.
-/
module

public import proofs.«01_k».proof.Proof.Stages
public import Idealize.ShloMosaic.Lib.Pipeline.RegionArrays
public import Idealize.ShloMosaic.Lib.Pipeline.RegionTalk
public import Idealize.ShloMosaic.Lib.Quiescent

@[expose] public section

noncomputable section

namespace Cert.Whole

open Cert.KernelIdeal Cert.KernelIdeal.Gen Cert.KernelIdeal.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg arrRefs ucRefs)

variable {F : FTy → Type} [FloatOps F]

local notation "𝕄" => MT nD τ sig Unit (Elt F) ℕ UU ℕ

variable (m : (ℓ : Loc nD τ sig) → Buf (Elt F) ℓ)

/-- Every call's proof data. -/
def pdats : (p : Fin 5) → (c : Dev nD) → Dat τ (Elt F) Unit ℕ UU ℕ (cfgs p) c
  | 0 => dat0 m
  | 1 => dat1 m
  | 2 => dat2 m
  | 3 => dat3 m
  | 4 => dat4 m

/-! ## What a device keeps between the items, its buffers apart -/

abbrev I₁ : RingProof.Inp F := RingProof.inp fun c b => st3 m c b
abbrev I₂ : SumProof.Inp F := SumProof.inp fun c b => st8 m c b

abbrev reg (c : Dev nD) : sProp 𝕄 := iprop(∃ r, prngReg c r)
abbrev owing (O : Dev nD → CellTallies nD τ sig Unit) (c : Dev nD) : sProp 𝕄 := iprop(∃ W, owes (c : Thread nD τ) (O c) W)

/-- Before the first ring, between the rings, and after the second. -/
def before (c : Dev nD) : sProp 𝕄 := iprop(reg c ∗ (RingProof.Tk (I₁ m) c ∗ SumProof.Tk (I₂ m) c) ∗ owing RingProof.O₀ c)
def between (c : Dev nD) : sProp 𝕄 := iprop(reg c ∗ (semVal (RingProof.bar c) 0 ∗ SumProof.Tk (I₂ m) c) ∗ owing SumProof.O₀ c)
def done (c : Dev nD) : sProp 𝕄 := iprop(reg c ∗ (semVal (SumProof.bar c) 0 ∗ semVal (RingProof.bar c) 0) ∗ owing (F := F) (fun _ => 0) c)

def E : Fin 6 → Dev nD → sProp 𝕄
  | 0 => before m
  | 1 => before m
  | 2 => between m
  | 3 => between m
  | 4 => between m
  | 5 => done

/-! ## The calls that stay on their device -/

/-- A call's arrays out of a device's buffers. -/
abbrev rest {gr W : Nat} (win : Fin W → Pipeline.WinSpec sig gr) : Finset (DevRef τ sig) := ucRefs τ sig \ arrRefs win

/-- The buffers a call is not given hold after it what they held before it. -/
theorem rest_keep {gr W : Nat} (win : Fin W → Pipeline.WinSpec sig gr) {A B : Valuation τ sig (Elt F)}
    (h : ∀ b : DevRef τ sig, b ∉ arrRefs win → B b = A b) : ∀ b ∈ rest win, B b = A b := fun b hb => h b (Finset.mem_sdiff.mp hb).2

theorem mem_arr {gr W : Nat} (win : Fin W → Pipeline.WinSpec sig gr) (w : Fin W) :
    (Proc.devRef .tc (Pipeline.arrRef win w) : DevRef τ sig) ∈ arrRefs win :=
  Finset.mem_map_of_mem _ (Finset.mem_image_of_mem _ (Finset.mem_univ w))

/-- The staging semaphores lie below all that is owed. -/
theorem cut {p : Fin 5} (D : Dev nD → CellTallies nD τ sig Unit)
    (h0 : ∀ (w : Fin (Pipeline.pin (pcfgs (F := F)) adm p).W) (s : Fin ((Pipeline.pin (pcfgs (F := F)) adm p).win w).nbuf),
      lvl (.dma (((Pipeline.pin (pcfgs (F := F)) adm p).win w).sem s)) = 0)
    (hD : ∀ c g i, 0 < D c g i → g.1.2 = .tc ∧ 0 < lv g i) :
    Pipeline.LevelCut (pcfgs (F := F)) adm () L lv p D (fun _ => 0) where
  hι c w s := by rw [L_tc]; exact Finset.mem_singleton_self _
  hιb c w s := le_of_eq (h0 w s)
  hD c g i h := ⟨by rw [L, if_pos (hD c g i h).1]; exact Finset.mem_singleton_self _, (hD c g i h).2⟩

theorem ring_above (c : Dev nD) (g : GSem nD τ sig) (i : Unit) (h : 0 < RingProof.O₀ c g i) : g.1.2 = .tc ∧ 0 < lv g i :=
  have := RingProof.Above.O₀ c g i h
  ⟨this.1, lt_of_lt_of_le Nat.zero_lt_one this.2⟩
theorem sum_above (c : Dev nD) (g : GSem nD τ sig) (i : Unit) (h : 0 < SumProof.O₀ c g i) : g.1.2 = .tc ∧ 0 < lv g i :=
  have := RingProof.Above.later c 1 (by decide) g i h
  ⟨this.1, lt_of_lt_of_le Nat.zero_lt_one this.2⟩

theorem share0 (c : Dev nD) (w : Fin cfg0.W) : (dat0 m c).share w = fullShare := by unfold Dat.share; split <;> rfl
theorem share2 (c : Dev nD) (w : Fin cfg2.W) : (dat2 m c).share w = fullShare := by unfold Dat.share; split <;> rfl
theorem share3 (c : Dev nD) (w : Fin cfg3.W) : (dat3 m c).share w = fullShare := by unfold Dat.share; split <;> rfl

/-- What a call leaves in its arrays, its inputs being unchanged and its result updated. -/
theorem left_one {gr W : Nat} (win : Fin W → Pipeline.WinSpec sig gr) (hinj : Function.Injective (Pipeline.arrRef win)) (A B : Valuation τ sig (Elt F))
    (o : Fin W) (X : (w : Fin W) → (Proc.devRef .tc (Pipeline.arrRef win w) : DevRef τ sig).ty.Contents (Elt F))
    (hX : ∀ w, w ≠ o → X w = A (Proc.devRef .tc (Pipeline.arrRef win w)))
    (hB : B = Function.update A (Proc.devRef .tc (Pipeline.arrRef win o) : DevRef τ sig) (X o)) (w : Fin W) :
    X w = B (Proc.devRef .tc (Pipeline.arrRef win w)) := by
  rw [hB]
  by_cases h : w = o
  · subst h; rw [Function.update_self]
  · rw [Function.update_of_ne (StableHlo.devRef_ne_of_ne fun e => h (hinj e))]; exact hX w h

/-- The same of a call with three results. -/
theorem left_three {gr W : Nat} (win : Fin W → Pipeline.WinSpec sig gr) (hinj : Function.Injective (Pipeline.arrRef win)) (A B : Valuation τ sig (Elt F))
    (o p q : Fin W) (X : (w : Fin W) → (Proc.devRef .tc (Pipeline.arrRef win w) : DevRef τ sig).ty.Contents (Elt F))
    (hX : ∀ w, w ≠ o → w ≠ p → w ≠ q → X w = A (Proc.devRef .tc (Pipeline.arrRef win w)))
    (hB : B = Function.update (Function.update (Function.update A (Proc.devRef .tc (Pipeline.arrRef win o) : DevRef τ sig) (X o))
      (Proc.devRef .tc (Pipeline.arrRef win p) : DevRef τ sig) (X p)) (Proc.devRef .tc (Pipeline.arrRef win q) : DevRef τ sig) (X q)) (w : Fin W) :
    X w = B (Proc.devRef .tc (Pipeline.arrRef win w)) :=
  left_one win hinj _ B q X (fun w hq => by
    by_cases hp : w = p
    · subst hp; rw [Function.update_self]
    · rw [Function.update_of_ne (StableHlo.devRef_ne_of_ne fun e => hp (hinj e))]
      by_cases ho : w = o
      · subst ho; rw [Function.update_self]
      · rw [Function.update_of_ne (StableHlo.devRef_ne_of_ne fun e => ho (hinj e))]; exact hX w ho hp hq) hB w

theorem isIn0 : ∀ w : Fin 9, w ≠ 6 → w ≠ 7 → w ≠ 8 → (spec0 w).isOut = false := by decide
theorem left0 (c : Dev nD) (w : Fin cfg0.W) : (dat0 m c).arrAt w cfg0.N = st2 m c (Proc.devRef .tc (Pipeline.arrRef spec0 w)) :=
  left_three spec0 winFacts0.arr_inj (st1 m c) (st2 m c) 6 7 8 (fun w => (dat0 m c).arrAt w cfg0.N)
    (fun w h0 h1 h2 => (dat0 m c).arrAt_in w (isIn0 w h0 h1 h2) _) (by unfold st2; rfl) w
theorem isIn1 : ∀ w : Fin 5, w ≠ 4 → (spec1 w).isOut = false := by decide
theorem left1 (c : Dev nD) (w : Fin cfg1.W) : (dat1 m c).arrAt w cfg1.N = st4 m c (Proc.devRef .tc (Pipeline.arrRef spec1 w)) :=
  left_one spec1 winFacts1.arr_inj (st3 m c) (st4 m c) 4 (fun w => (dat1 m c).arrAt w cfg1.N)
    (fun w h => (dat1 m c).arrAt_in w (isIn1 w h) _) (by unfold st4; rfl) w
theorem isIn2 : ∀ w : Fin 4, w ≠ 3 → (spec2 w).isOut = false := by decide
theorem left2 (c : Dev nD) (w : Fin cfg2.W) : (dat2 m c).arrAt w cfg2.N = st6 m c (Proc.devRef .tc (Pipeline.arrRef spec2 w)) :=
  left_one spec2 winFacts2.arr_inj (st5 m c) (st6 m c) 3 (fun w => (dat2 m c).arrAt w cfg2.N)
    (fun w h => (dat2 m c).arrAt_in w (isIn2 w h) _) (by unfold st6; rfl) w
theorem isIn3 : ∀ w : Fin 6, w ≠ 5 → (spec3 w).isOut = false := by decide
theorem left3 (c : Dev nD) (w : Fin cfg3.W) : (dat3 m c).arrAt w cfg3.N = st8 m c (Proc.devRef .tc (Pipeline.arrRef spec3 w)) :=
  left_one spec3 winFacts3.arr_inj (st7 m c) (st8 m c) 5 (fun w => (dat3 m c).arrAt w cfg3.N)
    (fun w h => (dat3 m c).arrAt_in w (isIn3 w h) _) (by unfold st8; rfl) w
theorem isIn4 : ∀ w : Fin 2, w ≠ 1 → (spec4 w).isOut = false := by decide
theorem left4 (c : Dev nD) (w : Fin cfg4.W) : (dat4 m c).arrAt w cfg4.N = st9 m c (Proc.devRef .tc (Pipeline.arrRef spec4 w)) :=
  left_one spec4 winFacts4.arr_inj (st8 m c) (st9 m c) 1 (fun w => (dat4 m c).arrAt w cfg4.N)
    (fun w h => (dat4 m c).arrAt_in w (isIn4 w h) _) (by unfold st9; rfl) w

/-! What a call is not given stays as it was. -/

theorem keep0 (c : Dev nD) : ∀ b ∈ rest spec0, st2 m c b = st1 m c b :=
  rest_keep spec0 fun b hb => st2_of m c b (fun e => hb (by rw [e]; exact mem_arr spec0 6)) (fun e => hb (by rw [e]; exact mem_arr spec0 7))
    (fun e => hb (by rw [e]; exact mem_arr spec0 8))
theorem keep1 (c : Dev nD) : ∀ b ∈ rest spec1, st4 m c b = st3 m c b :=
  rest_keep spec1 fun b hb => Function.update_of_ne (fun e => hb (by rw [e]; exact mem_arr spec1 4)) _ _
theorem keep2 (c : Dev nD) : ∀ b ∈ rest spec2, st6 m c b = st5 m c b :=
  rest_keep spec2 fun b hb => Function.update_of_ne (fun e => hb (by rw [e]; exact mem_arr spec2 3)) _ _
theorem keep3 (c : Dev nD) : ∀ b ∈ rest spec3, st8 m c b = st7 m c b :=
  rest_keep spec3 fun b hb => Function.update_of_ne (fun e => hb (by rw [e]; exact mem_arr spec3 5)) _ _
theorem keep4 (c : Dev nD) : ∀ b ∈ rest spec4, st9 m c b = st8 m c b :=
  rest_keep spec4 fun b hb => Function.update_of_ne (fun e => hb (by rw [e]; exact mem_arr spec4 1)) _ _

/-! The staging semaphores have level 0. -/

theorem stage0 : ∀ (w : Fin 9) (s : Fin (spec0 w).nbuf), lvl (.dma ((spec0 w).sem s)) = 0 := by decide +kernel
theorem stage1 : ∀ (w : Fin 5) (s : Fin (spec1 w).nbuf), lvl (.dma ((spec1 w).sem s)) = 0 := by decide +kernel
theorem stage2 : ∀ (w : Fin 4) (s : Fin (spec2 w).nbuf), lvl (.dma ((spec2 w).sem s)) = 0 := by decide +kernel
theorem stage3 : ∀ (w : Fin 6) (s : Fin (spec3 w).nbuf), lvl (.dma ((spec3 w).sem s)) = 0 := by decide +kernel
theorem stage4 : ∀ (w : Fin 2) (s : Fin (spec4 w).nbuf), lvl (.dma ((spec4 w).sem s)) = 0 := by decide +kernel

/-! ## The calls as segments -/

end Cert.Whole

end
-- ==== Proof.Calls.lean ====
/-
  The five calls of the kernel as SEGMENTS of its run: what each is entered with and what it leaves.
-/
module

public import proofs.«01_k».proof.Proof.Between
public import Idealize.ShloMosaic.Lib.Pipeline.RegionArrays
public import Idealize.ShloMosaic.Lib.Pipeline.RegionTalk
public import Idealize.ShloMosaic.Lib.Quiescent

@[expose] public section

noncomputable section

namespace Cert.Whole

open Cert.KernelIdeal Cert.KernelIdeal.Gen Cert.KernelIdeal.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg arrRefs ucRefs)

variable {F : FTy → Type} [FloatOps F]

local notation "𝕄" => MT nD τ sig Unit (Elt F) ℕ UU ℕ

variable (m : (ℓ : Loc nD τ sig) → Buf (Elt F) ℓ)

theorem body0 (c : Dev nD) : Pipeline.BodyObligationLoose (dat0 m c) (defs₀ (F := F)) 𝒱₀ () Set.univ :=
  (K0.body_obligation 𝒱₀ (fun c b => st1 m c b) RingProof.O₀ () c).loose
theorem body1 (c : Dev nD) : Pipeline.BodyObligationLoose (dat1 m c) (defs₀ (F := F)) 𝒱₀ () Set.univ :=
  (RingProof.body_obligation (fun c b => st3 m c b) c).loose
theorem body2 (c : Dev nD) : Pipeline.BodyObligationLoose (dat2 m c) (defs₀ (F := F)) 𝒱₀ () Set.univ :=
  (K2.body_obligation 𝒱₀ (fun c b => st5 m c b) SumProof.O₀ () c).loose
theorem body3 (c : Dev nD) : Pipeline.BodyObligationLoose (dat3 m c) (defs₀ (F := F)) 𝒱₀ () Set.univ :=
  (K3.body_obligation 𝒱₀ (fun c b => st7 m c b) SumProof.O₀ () c).loose
theorem body4 (c : Dev nD) : Pipeline.BodyObligationLoose (dat4 m c) (defs₀ (F := F)) 𝒱₀ () Set.univ :=
  (SumProof.body_obligation (fun c b => st8 m c b) c).loose
theorem share1 (c : Dev nD) (w : Fin cfg1.W) : (dat1 m c).share w = fullShare := RingProof.share_eq (fun c b => st3 m c b) c w
theorem share4 (c : Dev nD) (w : Fin cfg4.W) : (dat4 m c).share w = fullShare := SumProof.share_eq (fun c b => st8 m c b) c w

def R0 : RegionSeg (pcfgs (F := F)) adm (pdats m) () defs₀ 𝒱₀ L lv 0 :=
  RegionSeg.ofHeld (pcfgs (F := F)) adm (pdats m) () defs₀ 𝒱₀ L lv 0 RingProof.O₀ reg reg launch0.toP rfl
    (body0 m) (fun _ _ => rfl) (fun _ => rfl) (share0 m)
    (fun _ => .rfl) (fun _ => .rfl) (fun _ => 0) (cut RingProof.O₀ stage0 ring_above)
    (fun c => iprop(StableHlo.held (c : Thread nD τ) (rest spec0) (st1 m c) ∗ RingProof.Tk (I₁ m) c ∗ SumProof.Tk (I₂ m) c))
    (st1 m) (st2 m) (fun _ _ => rfl) (left0 m)

def R1 : RegionSeg (pcfgs (F := F)) adm (pdats m) () defs₀ 𝒱₀ L lv 1 :=
  RegionSeg.ofTalk (pcfgs (F := F)) adm (pdats m) () defs₀ 𝒱₀ L lv 1 RingProof.osem RingProof.ownSemFacts ∅ (rest spec1) (Finset.empty_subset _)
    launch1.toP rfl (body1 m) SumProof.O₀ RingProof.own₀
    (fun c => (RingProof.own₀_eq c).symm) (fun _ => rfl) (fun _ => rfl) (share1 m) (st3 m) (st4 m)
    (fun c b hb => keep1 m c b (Finset.mem_sdiff.mp hb).1)
    (RingProof.Tk (I₁ m)) (fun c => semVal (RingProof.bar c) 0)
    (fun c => iprop((∃ K, RingProof.greet (I₁ m) K c) ∗ levAts L lv ∗ RingProof.kit c)) (fun c => semVal (RingProof.bar c) 0)
    (RingProof.enter (I₁ m)) (fun c => RingProof.phi0_intro (fun c b => st3 m c b) (st3 m c) c) (fun c => RingProof.phi1_exit (fun c b => st3 m c b) (st4 m c) c) (fun c => fupd_intro)
    (fun _ => 0)
    ⟨fun c w s => by rw [L_tc]; exact Finset.mem_singleton_self _, fun c w s => le_of_eq (stage1 w s),
      fun c t g i h => have := RingProof.owed_above (fun c b => st3 m c b) c t g i h
        ⟨by rw [L, if_pos this.1]; exact Finset.mem_singleton_self _, lt_of_lt_of_le Nat.zero_lt_one this.2⟩⟩
    (SumProof.Tk (I₂ m)) (fun _ _ => rfl) (left1 m)

def R2 : RegionSeg (pcfgs (F := F)) adm (pdats m) () defs₀ 𝒱₀ L lv 2 :=
  RegionSeg.ofHeld (pcfgs (F := F)) adm (pdats m) () defs₀ 𝒱₀ L lv 2 SumProof.O₀ reg reg launch2.toP rfl
    (body2 m) (fun _ _ => rfl) (fun _ => rfl) (share2 m)
    (fun _ => .rfl) (fun _ => .rfl) (fun _ => 0) (cut SumProof.O₀ stage2 sum_above)
    (fun c => iprop(StableHlo.held (c : Thread nD τ) (rest spec2) (st5 m c) ∗ semVal (RingProof.bar c) 0 ∗ SumProof.Tk (I₂ m) c))
    (st5 m) (st6 m) (fun _ _ => rfl) (left2 m)

def R3 : RegionSeg (pcfgs (F := F)) adm (pdats m) () defs₀ 𝒱₀ L lv 3 :=
  RegionSeg.ofHeld (pcfgs (F := F)) adm (pdats m) () defs₀ 𝒱₀ L lv 3 SumProof.O₀ reg reg launch3.toP rfl
    (body3 m) (fun _ _ => rfl) (fun _ => rfl) (share3 m)
    (fun _ => .rfl) (fun _ => .rfl) (fun _ => 0) (cut SumProof.O₀ stage3 sum_above)
    (fun c => iprop(StableHlo.held (c : Thread nD τ) (rest spec3) (st7 m c) ∗ semVal (RingProof.bar c) 0 ∗ SumProof.Tk (I₂ m) c))
    (st7 m) (st8 m) (fun _ _ => rfl) (left3 m)

def R4 : RegionSeg (pcfgs (F := F)) adm (pdats m) () defs₀ 𝒱₀ L lv 4 :=
  RegionSeg.ofTalk (pcfgs (F := F)) adm (pdats m) () defs₀ 𝒱₀ L lv 4 SumProof.osem SumProof.ownSemFacts ∅ (rest spec4) (Finset.empty_subset _)
    launch4.toP rfl (body4 m) (fun _ => 0) SumProof.O₀
    (fun c => (zero_add (SumProof.O₀ c)).symm) (fun _ => rfl) (fun _ => rfl) (share4 m) (st8 m) (st9 m)
    (fun c b hb => keep4 m c b (Finset.mem_sdiff.mp hb).1)
    (SumProof.Tk (I₂ m)) (fun c => semVal (SumProof.bar c) 0)
    (fun c => iprop((∃ K, SumProof.greet (I₂ m) K c) ∗ levAts L lv ∗ SumProof.deal c)) (fun c => semVal (SumProof.bar c) 0)
    (SumProof.enter (I₂ m)) (fun c => SumProof.phi0_intro (fun c b => st8 m c b) (st8 m c) c) (fun c => SumProof.phi1_exit (fun c b => st8 m c b) (st9 m c) c) (fun c => fupd_intro)
    (fun _ => 0)
    ⟨fun c w s => by rw [L_tc]; exact Finset.mem_singleton_self _, fun c w s => le_of_eq (stage4 w s),
      fun c t g i h => by
        rcases t with ⟨_ | _, ht⟩
        · exact ⟨by rw [L, if_pos (sum_above c g i h).1]; exact Finset.mem_singleton_self _, (sum_above c g i h).2⟩
        · exact absurd h (lt_irrefl 0)⟩
    (fun c => semVal (RingProof.bar c) 0) (fun _ _ => rfl) (left4 m)

end Cert.Whole

end
-- ==== Proof.Run.lean ====
/-
  The RUN of the whole kernel: its five calls and the host lines between them, one after another on every device, from
  any memory with all counters at zero. The two rings share nothing but their order, so each brings its own tickets to
  its own call; between the calls a device holds its buffers and owes what it still has to send. At the end every buffer
  holds what the last item leaves there and every counter is at zero.
-/
module

public import proofs.«01_k».proof.Proof.Calls
public import Idealize.ShloMosaic.Lib.Pipeline.RegionArrays
public import Idealize.ShloMosaic.Lib.Pipeline.RegionTalk
public import Idealize.ShloMosaic.Lib.Quiescent

@[expose] public section

noncomputable section

namespace Cert.Whole

open Cert.KernelIdeal Cert.KernelIdeal.Gen Cert.KernelIdeal.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg arrRefs ucRefs)

variable {F : FTy → Type} [FloatOps F]

local notation "𝕄" => MT nD τ sig Unit (Elt F) ℕ UU ℕ

variable (m : (ℓ : Loc nD τ sig) → Buf (Elt F) ℓ)

/-! ## From item to item -/

/-- A device's buffers are a call's arrays and the rest. -/
theorem take {gr W : Nat} (win : Fin W → Pipeline.WinSpec sig gr) (hw : ∀ w, (Pipeline.arrRef win w).isScoped = false)
    (A : Valuation τ sig (Elt F)) (R K O : sProp 𝕄) (c : Dev nD) :
    iprop(StableHlo.held (c : Thread nD τ) (ucRefs τ sig) A ∗ R ∗ K ∗ O)
      ⊢ iprop(StableHlo.held (c : Thread nD τ) (arrRefs win) A ∗ R ∗ (StableHlo.held (c : Thread nD τ) (rest win) A ∗ K) ∗ O) := by
  rw [StableHlo.held_sub_split (c : Thread nD τ) (Pipeline.arrRefs_sub_ucRefs win hw) A]
  iintro ⟨⟨Ha, Hr⟩, HR, HK, HO⟩
  isplitl [Ha]; · iexact Ha
  isplitl [HR]; · iexact HR
  isplitr [HO]
  · isplitl [Hr] <;> iassumption
  iexact HO
theorem give {gr W : Nat} (win : Fin W → Pipeline.WinSpec sig gr) (hw : ∀ w, (Pipeline.arrRef win w).isScoped = false)
    (A B : Valuation τ sig (Elt F)) (hk : ∀ b ∈ rest win, B b = A b) (R K O : sProp 𝕄) (c : Dev nD) :
    iprop(StableHlo.held (c : Thread nD τ) (arrRefs win) B ∗ R ∗ (StableHlo.held (c : Thread nD τ) (rest win) A ∗ K) ∗ O)
      ⊢ iprop(StableHlo.held (c : Thread nD τ) (ucRefs τ sig) B ∗ R ∗ K ∗ O) := by
  rw [StableHlo.held_sub_split (c : Thread nD τ) (Pipeline.arrRefs_sub_ucRefs win hw) B, StableHlo.held_congr (c : Thread nD τ) hk]
  iintro ⟨Ha, HR, ⟨Hr, HK⟩, HO⟩
  isplitl [Ha Hr]
  · isplitl [Ha] <;> iassumption
  isplitl [HR]; · iexact HR
  isplitl [HK] <;> iassumption

theorem un0 : ∀ w : Fin 9, (Pipeline.arrRef spec0 w).isScoped = false := by decide
theorem un1 : ∀ w : Fin 5, (Pipeline.arrRef spec1 w).isScoped = false := by decide
theorem un2 : ∀ w : Fin 4, (Pipeline.arrRef spec2 w).isScoped = false := by decide
theorem un3 : ∀ w : Fin 6, (Pipeline.arrRef spec3 w).isScoped = false := by decide
theorem un4 : ∀ w : Fin 2, (Pipeline.arrRef spec4 w).isScoped = false := by decide

abbrev bufs (A : Valuation τ sig (Elt F)) (c : Dev nD) : sProp 𝕄 := StableHlo.held (c : Thread nD τ) (ucRefs τ sig) A

theorem pre0 (c : Dev nD) : iprop(bufs (st1 m c) c ∗ before m c) ⊢ (R0 m).pre c := take spec0 un0 (st1 m c) _ _ _ c
theorem post0 (c : Dev nD) : (R0 m).post c ⊢ iprop(bufs (st2 m c) c ∗ before m c) := give spec0 un0 (st1 m c) (st2 m c) (keep0 m c) _ _ _ c
theorem pre2 (c : Dev nD) : iprop(bufs (st5 m c) c ∗ between m c) ⊢ (R2 m).pre c := take spec2 un2 (st5 m c) _ _ _ c
theorem post2 (c : Dev nD) : (R2 m).post c ⊢ iprop(bufs (st6 m c) c ∗ between m c) := give spec2 un2 (st5 m c) (st6 m c) (keep2 m c) _ _ _ c
theorem pre3 (c : Dev nD) : iprop(bufs (st7 m c) c ∗ between m c) ⊢ (R3 m).pre c := take spec3 un3 (st7 m c) _ _ _ c
theorem post3 (c : Dev nD) : (R3 m).post c ⊢ iprop(bufs (st8 m c) c ∗ between m c) := give spec3 un3 (st7 m c) (st8 m c) (keep3 m c) _ _ _ c

/-- A talking call's own share is set apart from what it only carries. -/
theorem apart (P R H T X O : sProp 𝕄) : iprop(P ∗ R ∗ (H ∗ T ∗ X) ∗ O) ⊢ iprop(P ∗ R ∗ (H ∗ X) ∗ T ∗ O) := by
  iintro ⟨HP, HR, ⟨HH, HT, HX⟩, HO⟩
  isplitl [HP]; · iexact HP
  isplitl [HR]; · iexact HR
  isplitl [HH HX]
  · isplitl [HH] <;> iassumption
  isplitl [HT] <;> iassumption
theorem apart' (P R H T X O : sProp 𝕄) : iprop(P ∗ R ∗ (H ∗ X ∗ T) ∗ O) ⊢ iprop(P ∗ R ∗ (H ∗ X) ∗ T ∗ O) := by
  iintro ⟨HP, HR, ⟨HH, HX, HT⟩, HO⟩
  isplitl [HP]; · iexact HP
  isplitl [HR]; · iexact HR
  isplitl [HH HX]
  · isplitl [HH] <;> iassumption
  isplitl [HT] <;> iassumption
theorem again_one (P R H T X O : sProp 𝕄) : iprop(P ∗ R ∗ (H ∗ X) ∗ T ∗ O) ⊢ iprop(P ∗ R ∗ (H ∗ T ∗ X) ∗ O) := by
  iintro ⟨HP, HR, ⟨HH, HX⟩, HT, HO⟩
  isplitl [HP]; · iexact HP
  isplitl [HR]; · iexact HR
  isplitr [HO]
  · isplitl [HH]; · iexact HH
    isplitl [HT] <;> iassumption
  iexact HO

theorem pre1 (c : Dev nD) : iprop(bufs (st3 m c) c ∗ before m c) ⊢ (R1 m).pre c := by
  have h : iprop(bufs (st3 m c) c ∗ before m c) ⊢ iprop(StableHlo.held (c : Thread nD τ) (arrRefs spec1) (st3 m c) ∗ reg c
      ∗ (StableHlo.held (c : Thread nD τ) (rest spec1) (st3 m c) ∗ SumProof.Tk (I₂ m) c) ∗ RingProof.Tk (I₁ m) c
      ∗ owing (fun c => SumProof.O₀ c + RingProof.own₀ c) c) := by
    rw [show (fun c => SumProof.O₀ c + RingProof.own₀ c) = RingProof.O₀ from funext RingProof.own₀_eq]
    exact (take spec1 un1 (st3 m c) _ _ _ c).trans (apart _ _ _ _ _ _)
  exact h
theorem post1 (c : Dev nD) : (R1 m).post c ⊢ iprop(bufs (st4 m c) c ∗ between m c) := by
  have h : iprop(StableHlo.held (c : Thread nD τ) (arrRefs spec1) (st4 m c) ∗ reg c
      ∗ (StableHlo.held (c : Thread nD τ) (rest spec1) (st4 m c) ∗ SumProof.Tk (I₂ m) c) ∗ semVal (RingProof.bar c) 0 ∗ owing SumProof.O₀ c)
      ⊢ iprop(bufs (st4 m c) c ∗ between m c) :=
    (again_one _ _ _ _ _ _).trans (give spec1 un1 (st4 m c) (st4 m c) (fun _ _ => rfl) _ _ _ c)
  exact h
theorem pre4 (c : Dev nD) : iprop(bufs (st8 m c) c ∗ between m c) ⊢ (R4 m).pre c := by
  have h : iprop(bufs (st8 m c) c ∗ between m c) ⊢ iprop(StableHlo.held (c : Thread nD τ) (arrRefs spec4) (st8 m c) ∗ reg c
      ∗ (StableHlo.held (c : Thread nD τ) (rest spec4) (st8 m c) ∗ semVal (RingProof.bar c) 0) ∗ SumProof.Tk (I₂ m) c
      ∗ owing (fun c => 0 + SumProof.O₀ c) c) := by
    rw [show (fun c => 0 + SumProof.O₀ c) = SumProof.O₀ from funext fun c => zero_add _]
    exact (take spec4 un4 (st8 m c) _ _ _ c).trans (apart' _ _ _ _ _ _)
  exact h
theorem post4 (c : Dev nD) : (R4 m).post c ⊢ iprop(bufs (st9 m c) c ∗ done c) := by
  have h : iprop(StableHlo.held (c : Thread nD τ) (arrRefs spec4) (st9 m c) ∗ reg c
      ∗ (StableHlo.held (c : Thread nD τ) (rest spec4) (st9 m c) ∗ semVal (RingProof.bar c) 0) ∗ semVal (SumProof.bar c) 0 ∗ owing (fun _ => 0) c)
      ⊢ iprop(bufs (st9 m c) c ∗ done c) :=
    (again_one _ _ _ _ _ _).trans (give spec4 un4 (st9 m c) (st9 m c) (fun _ _ => rfl) _ _ _ c)
  exact h

/-! ## The launch -/

/-- The two barriers are a device's only counters that are not a call's own. -/
theorem unscoped : (Finset.univ.filter fun sm : SemLoc sig => ¬ sm.isScoped .tc) = {RingProof.csem none, SumProof.csem none} := by decide +kernel

theorem barriers (c : Dev nD) : (unscopedSems0 c : sProp 𝕄) = iprop(semVal (RingProof.bar c) 0 ∗ semVal (SumProof.bar c) 0) := by
  unfold unscopedSems0
  rw [unscoped, bigSep_insert (by decide), bigSep_singleton]
  rfl

/-- What only one of the devices holds at the launch. -/
def parked (X : sProp 𝕄) (c : Dev nD) : sProp 𝕄 := if c = 0 then X else iprop(emp)
theorem parked_all (X : sProp 𝕄) : bigSep Finset.univ (parked X) = X := by
  have h : bigSep (Finset.univ.erase (0 : Dev nD)) (parked X) = iprop(emp) :=
    (bigSep_congr fun c hc => (if_neg (Finset.mem_erase.mp hc).1 : parked X c = iprop(emp))).trans (bigSep_emp_const _)
  rw [bigSep_univ_split (0 : Dev nD), h, show parked X 0 = X from if_pos rfl]
  exact Idealize.SL.BI.equiv_iff.mp Idealize.SL.BI.sep_emp

/-- The ghost state of the rings at the launch. -/
def fund : sProp 𝕄 :=
  iprop(BI.own (RingProof.ER (launchOf RingProof.fam.bars RingProof.fam.dmas RingProof.ringToks))
    ∗ BI.own (SumProof.ER (launchOf SumProof.fam.bars SumProof.fam.dmas SumProof.ringToks)))

def u₀ : UU :=
  (initOf (Pipeline.cells cfgs cellOf_inj) (Pipeline.launchToks cfgs cellOf_inj),
    (launchOf RingProof.fam.bars RingProof.fam.dmas RingProof.ringToks, launchOf SumProof.fam.bars SumProof.fam.dmas SumProof.ringToks))

theorem funded : (ownU u₀ : sProp 𝕄) ⊢ |={Set.univ}=> iprop(BI.own (EP (initOf (Pipeline.cells cfgs cellOf_inj) (Pipeline.launchToks cfgs cellOf_inj)))
    ∗ bigSep Finset.univ (parked fund)) := by
  rw [parked_all]
  unfold u₀ fund
  iintro Hu
  ihave H := (ownU_pair _ _) $$ Hu
  icases H with ⟨HP, HX⟩
  ihave H := (own_pair_emb embR _ _) $$ HX
  icases H with ⟨H1, H2⟩
  imodintro
  isplitl [HP]; · iexact HP
  isplitl [H1] <;> iassumption

/-- A device's part of what the launch deals, its buffers apart. -/
abbrev dealt (ρ : Dev nD → PrngReg) (c : Dev nD) : sProp 𝕄 :=
  iprop(unscopedSems0 c ∗ owes (c : Thread nD τ) (RingProof.O₀ c) ∅ ∗ Pipeline.launchCred RingProof.O₀ c ∗ prngReg c (ρ c) ∗ parked fund c)

theorem dealt_sort (ρ : Dev nD → PrngReg) : (bigSep Finset.univ fun c : Dev nD => dealt (F := F) ρ c)
    ⊢ iprop(((bigSep Finset.univ fun c : Dev nD => (semVal (RingProof.bar c) 0 : sProp 𝕄)) ∗ (bigSep Finset.univ fun c : Dev nD => (semVal (SumProof.bar c) 0 : sProp 𝕄)))
      ∗ (bigSep Finset.univ fun c : Dev nD => (owes (c : Thread nD τ) (RingProof.O₀ c) ∅ : sProp 𝕄))
      ∗ (bigSep Finset.univ fun c : Dev nD => (Pipeline.launchCred RingProof.O₀ c : sProp 𝕄))
      ∗ (bigSep Finset.univ fun c : Dev nD => (prngReg c (ρ c) : sProp 𝕄)) ∗ fund) := by
  unfold dealt
  rw [bigSep_sep', bigSep_sep', bigSep_sep', bigSep_sep', parked_all, bigSep_congr (fun c _ => barriers c), bigSep_sep']

theorem ready (c : Dev nD) (ρ : Dev nD → PrngReg) :
    iprop(RingProof.ticket (I₁ m) c ∗ SumProof.ticket (I₂ m) c ∗ owes (c : Thread nD τ) (RingProof.O₀ c) ∅ ∗ Pipeline.launchCred RingProof.O₀ c ∗ prngReg c (ρ c))
      ⊢ before m c := by
  unfold before RingProof.Tk SumProof.Tk
  iintro ⟨H1, H2, HO, HC, HP⟩
  ihave HC := (RingProof.creds (F := F) c) $$ HC
  icases HC with ⟨HC1, HC⟩
  ihave HC2 := (SumProof.creds (F := F) c) $$ HC
  isplitl [HP]; · iexists _; iexact HP
  isplitr [HO]
  · isplitl [H1 HC1]
    · isplitl [H1] <;> iassumption
    · isplitl [H2] <;> iassumption
  iexists _; iexact HO

theorem start (ρ : Dev nD → PrngReg) :
    iprop((bigSep Finset.univ fun c : Dev nD => dealt (F := F) ρ c) ∗ levAts L lv) ⊢ |={Set.univ}=> bigSep Finset.univ (before m) := by
  iintro ⟨H, -⟩
  ihave H := (dealt_sort (F := F) ρ) $$ H
  unfold fund
  icases H with ⟨⟨HB1, HB2⟩, HO, HC, HP, HF1, HF2⟩
  imod (RingProof.glob (I₁ m)) $$ [HB1 HF1] with H1
  · isplitl [HB1] <;> iassumption
  imod (SumProof.glob (I₂ m)) $$ [HB2 HF2] with H2
  · isplitl [HB2] <;> iassumption
  imodintro
  have h : iprop((bigSep Finset.univ (RingProof.ticket (I₁ m))) ∗ (bigSep Finset.univ (SumProof.ticket (I₂ m)))
      ∗ (bigSep Finset.univ fun c : Dev nD => (owes (c : Thread nD τ) (RingProof.O₀ c) ∅ : sProp 𝕄))
      ∗ (bigSep Finset.univ fun c : Dev nD => (Pipeline.launchCred RingProof.O₀ c : sProp 𝕄))
      ∗ (bigSep Finset.univ fun c : Dev nD => (prngReg c (ρ c) : sProp 𝕄))) ⊢ bigSep Finset.univ (before m) := by
    rw [← bigSep_sep', ← bigSep_sep', ← bigSep_sep', ← bigSep_sep']
    exact bigSep_mono fun c _ => ready m c ρ
  iapply h
  isplitl [H1]; · iexact H1
  isplitl [H2]; · iexact H2
  isplitl [HO]; · iexact HO
  isplitl [HC] <;> iassumption

/-! ## The run -/

abbrev items (c : Dev nD) : List (Seg (pcfgs (F := F)) adm (pdats m) () defs₀ 𝒱₀ L lv) :=
  segs m (outs m) 𝒱₀ L lv (E m) () (pdats m) (R0 m) (R1 m) (R2 m) (R3 m) (R4 m) c

set_option backward.isDefEq.respectTransparency.types false in
theorem run (ρ : Dev nD → PrngReg) : θ_run defs (onTc (τ := τ) (main (F := F))) ⟨m, fun _ => 0, ρ⟩
    (fun r => (∀ c : Dev nD, ∀ b ∈ ucRefs τ sig, r.2.mem (c, b) = st10 m c b) ∧ r.2.sem = fun _ => 0) := by
  refine Pipeline.θ_run_regions_kit_dev_sems (pcfgs (F := F)) adm (pdats m) () cellOf_inj EP defs₀ 𝒱₀ L lv m ρ main (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5 ] from rfl]
      dsimp (config := { failIfUnchanged := false }) only
      exact .rfl)
    (fun c => by simp only [items, segs, Seg.pipes_host, Seg.pipes_region, Seg.pipes_nil]; decide) RingProof.O₀ L_of_ne (parked fund) u₀ funded
    (T₀ := fun c => iprop(bufs (V0 m c) c ∗ before m c))
    (Tₙ := fun c => iprop(bufs (st10 m c) c ∗ semVal (RingProof.bar c) 0 ∗ semVal (SumProof.bar c) 0))
    (hch := fun c => ⟨.rfl, pre0 m c, (post0 m c).trans (Entails.of_eq (by rw [← st2_eq]; rfl)),
      (Entails.of_eq (by rw [← st3_eq]; rfl)).trans (pre1 m c), (post1 m c).trans (Entails.of_eq (by rw [← st4_eq]; rfl)),
      (Entails.of_eq (by rw [← st5_eq]; rfl)).trans (pre2 m c), (post2 m c).trans (Entails.of_eq (by rw [← st6_eq]; rfl)),
      (Entails.of_eq (by rw [← st7_eq]; rfl)).trans (pre3 m c), (post3 m c).trans (pre4 m c), (post4 m c).trans (Entails.of_eq (by rw [← st9_eq]; rfl)), ?_⟩)
    (hinit := ?_)
    (QY := fun c s => (∀ b ∈ ucRefs τ sig, s.mem (c, b) = st10 m c b) ∧ s.sem (RingProof.bar c) = 0 ∧ s.sem (SumProof.bar c) = 0)
    (hfin := fun c s' => ?_)
    (hQ := fun s h hs => ⟨fun c => (h c).1, sem_eq_zero hs fun c sm hsm => by
      have hm : sm ∈ (Finset.univ.filter fun sm : SemLoc sig => ¬ sm.isScoped .tc) := Finset.mem_filter.mpr ⟨Finset.mem_univ _, by rw [hsm]; decide⟩
      rw [unscoped] at hm
      rcases Finset.mem_insert.mp hm with rfl | hm
      · exact (h c).2.1
      · rw [Finset.mem_singleton.mp hm]; exact (h c).2.2⟩)
  · -- the end of the last item
    have h : iprop(bufs (V10 m (outs m) c) c ∗ done c) ⊢ iprop((bufs (st10 m c) c ∗ semVal (RingProof.bar c) 0 ∗ semVal (SumProof.bar c) 0)
        ∗ ∃ W, owes (c : Thread nD τ) (0 : CellTallies nD τ sig Unit) W) := by
      rw [st10_eq]
      unfold done
      iintro ⟨Hh, -, ⟨HS, HR⟩, HO⟩
      isplitr [HO]
      · isplitl [Hh]; · iexact Hh
        isplitl [HR] <;> iassumption
      iexact HO
    exact h
  · -- the launch
    have hsplit : (bigSep Finset.univ fun c : Dev nD => iprop(unscopedBufs c (fun b => m ((c.tc : Thread nD τ).loc b)) ∗ dealt (F := F) ρ c))
        ⊢ (iprop((bigSep Finset.univ fun c : Dev nD => bufs (V0 m c) c) ∗ bigSep Finset.univ fun c : Dev nD => dealt (F := F) ρ c) : sProp 𝕄) := by
      rw [← bigSep_sep']
      exact bigSep_mono fun c _ => by
        unfold bufs
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (start m ρ) $$ [Hr Hla] with HE
    · isplitl [Hr]; · iexact Hr
      iexact Hla
    imodintro
    rw [bigSep_sep']
    isplitl [Hh]; · iexact Hh
    iexact HE
  · -- the end
    unfold bufs StableHlo.held
    iintro ⟨⟨Hh, HB1, HB2⟩, HSI⟩
    icombine HSI HB1 gives %h1
    icombine HSI HB2 gives %h2
    ihave Hr := (pointsTo_read_all (ucRefs τ sig) (fun b => ((c : Thread nD τ).1, b)) (st10 m c) s') $$ [Hh HSI]
    · isplitl [Hh] <;> iassumption
    icases Hr with ⟨%h, HSI⟩
    imodintro
    isplitr
    · ipureintro
      exact ⟨h, by simpa using h1, by simpa using h2⟩
    · iexact HSI

end Cert.Whole

end
-- ==== Proof.Frames.lean ====
/-
  THE FRAMES of the whole kernel: every run ends with the arguments unchanged and every semaphore at zero, read over the
  extended reals and over machine floats. The same of the reference, which has no semaphores.
-/
module

public import proofs.«01_k».proof.Defs
public import proofs.«01_k».proof.Proof.Run
public import proofs.«01_k».proof.Proof.Gen.Kernel
public import proofs.«01_k».proof.Proof.Gen.ReferenceIdeal.Run

@[expose] public section

set_option maxRecDepth 16384

noncomputable section

namespace Cert.Whole

open Cert.KernelIdeal Cert.KernelIdeal.Gen
open Idealize.ShloMosaic
open Idealize.ShloMosaic.TcCoe
open Idealize.SL.Sem

section

variable {F : FTy → Type} [FloatOps F]
variable (m : (ℓ : Loc nD τ sig) → Buf (Elt F) ℓ) (ρ : Dev nD → PrngReg)

theorem out_v29 : (Proc.devRef .tc main_v29 : DevRef τ sig) ∈ Pipeline.ucRefs τ sig := Finset.mem_filter.mpr ⟨StableHlo.devRef_mem_tcRefs main_v29, by decide⟩
theorem out_arg0 : (Proc.devRef .tc main_arg0 : DevRef τ sig) ∈ Pipeline.ucRefs τ sig := Finset.mem_filter.mpr ⟨StableHlo.devRef_mem_tcRefs main_arg0, by decide⟩
theorem out_arg1 : (Proc.devRef .tc main_arg1 : DevRef τ sig) ∈ Pipeline.ucRefs τ sig := Finset.mem_filter.mpr ⟨StableHlo.devRef_mem_tcRefs main_arg1, by decide⟩
theorem out_arg2 : (Proc.devRef .tc main_arg2 : DevRef τ sig) ∈ Pipeline.ucRefs τ sig := Finset.mem_filter.mpr ⟨StableHlo.devRef_mem_tcRefs main_arg2, by decide⟩
theorem out_arg3 : (Proc.devRef .tc main_arg3 : DevRef τ sig) ∈ Pipeline.ucRefs τ sig := Finset.mem_filter.mpr ⟨StableHlo.devRef_mem_tcRefs main_arg3, by decide⟩
theorem out_arg4 : (Proc.devRef .tc main_arg4 : DevRef τ sig) ∈ Pipeline.ucRefs τ sig := Finset.mem_filter.mpr ⟨StableHlo.devRef_mem_tcRefs main_arg4, by decide⟩
theorem out_arg5 : (Proc.devRef .tc main_arg5 : DevRef τ sig) ∈ Pipeline.ucRefs τ sig := Finset.mem_filter.mpr ⟨StableHlo.devRef_mem_tcRefs main_arg5, by decide⟩
theorem out_arg6 : (Proc.devRef .tc main_arg6 : DevRef τ sig) ∈ Pipeline.ucRefs τ sig := Finset.mem_filter.mpr ⟨StableHlo.devRef_mem_tcRefs main_arg6, by decide⟩
theorem out_arg7 : (Proc.devRef .tc main_arg7 : DevRef τ sig) ∈ Pipeline.ucRefs τ sig := Finset.mem_filter.mpr ⟨StableHlo.devRef_mem_tcRefs main_arg7, by decide⟩
theorem out_arg8 : (Proc.devRef .tc main_arg8 : DevRef τ sig) ∈ Pipeline.ucRefs τ sig := Finset.mem_filter.mpr ⟨StableHlo.devRef_mem_tcRefs main_arg8, by decide⟩

theorem kept0 (c : Dev nD) : st10 m c main_arg0 = m ((c : Thread nD τ).loc main_arg0) := st10_eq m c ▸ V10_main_arg0 m (outs m) c
theorem kept1 (c : Dev nD) : st10 m c main_arg1 = m ((c : Thread nD τ).loc main_arg1) := st10_eq m c ▸ V10_main_arg1 m (outs m) c
theorem kept2 (c : Dev nD) : st10 m c main_arg2 = m ((c : Thread nD τ).loc main_arg2) := st10_eq m c ▸ V10_main_arg2 m (outs m) c
theorem kept3 (c : Dev nD) : st10 m c main_arg3 = m ((c : Thread nD τ).loc main_arg3) := st10_eq m c ▸ V10_main_arg3 m (outs m) c
theorem kept4 (c : Dev nD) : st10 m c main_arg4 = m ((c : Thread nD τ).loc main_arg4) := st10_eq m c ▸ V10_main_arg4 m (outs m) c
theorem kept5 (c : Dev nD) : st10 m c main_arg5 = m ((c : Thread nD τ).loc main_arg5) := st10_eq m c ▸ V10_main_arg5 m (outs m) c
theorem kept6 (c : Dev nD) : st10 m c main_arg6 = m ((c : Thread nD τ).loc main_arg6) := st10_eq m c ▸ V10_main_arg6 m (outs m) c
theorem kept7 (c : Dev nD) : st10 m c main_arg7 = m ((c : Thread nD τ).loc main_arg7) := st10_eq m c ▸ V10_main_arg7 m (outs m) c
theorem kept8 (c : Dev nD) : st10 m c main_arg8 = m ((c : Thread nD τ).loc main_arg8) := st10_eq m c ▸ V10_main_arg8 m (outs m) c

/-- The run read at the result and at the arguments. -/
theorem run_main : θ_run defs (onTc (τ := τ) (main (F := F))) ⟨m, fun _ => 0, ρ⟩ (fun r => (∀ c : Dev nD,
      r.2.mem ((c : Thread nD τ).loc main_v29) = st10 m c main_v29
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
      ∧ r.2.sem = fun _ => 0) :=
  (θ_run defs _ _).mono (fun r h => ⟨fun c =>
      ⟨h.1 c _ out_v29,
       (h.1 c _ out_arg0).trans (kept0 m c),
       (h.1 c _ out_arg1).trans (kept1 m c),
       (h.1 c _ out_arg2).trans (kept2 m c),
       (h.1 c _ out_arg3).trans (kept3 m c),
       (h.1 c _ out_arg4).trans (kept4 m c),
       (h.1 c _ out_arg5).trans (kept5 m c),
       (h.1 c _ out_arg6).trans (kept6 m c),
       (h.1 c _ out_arg7).trans (kept7 m c),
       (h.1 c _ out_arg8).trans (kept8 m c)⟩, h.2⟩)
    (run m ρ)

end

theorem frame_kernelIdeal : Cert.quiescent_KernelIdeal := fun m ρ _ =>
  (θ_run defs _ _).mono (fun _ h => ⟨fun c => (h.1 c).2, h.2⟩) (run_main (F := Ideal) m ρ)

section
attribute [local instance] Cert.Kernel.Gen.facts
variable {F : FTy → Type} [FloatOps F]

set_option maxHeartbeats 4000000 in
/-- The two body tables are the same text: at each label, the same body. -/
theorem bodies_eq : Cert.Kernel.defs₀ (F := F) = defs₀ (F := F) := by
  unfold Cert.Kernel.defs₀ defs₀
  refine congrArg Defs.onTc (funext fun l => funext fun a => ?_)
  match l, a with
  | ⟨0, _⟩, (t, s) =>
    show Cert.Kernel.cc0_body _ _ _ _ _ _ _ _ _ _ _ _ _ _ _ _ _ _ _ = cc0_body _ _ _ _ _ _ _ _ _ _ _ _ _ _ _ _ _ _ _
    rfl
  | ⟨1, _⟩, (t, s) =>
    show Cert.Kernel.cc1_body _ _ _ _ _ _ _ _ _ _ _ _ _ _ _ _ _ _ _ _ = cc1_body _ _ _ _ _ _ _ _ _ _ _ _ _ _ _ _ _ _ _ _
    rfl
  | ⟨2, _⟩, (t, s) =>
    show Cert.Kernel.cc2__residual_body _ _ _ _ _ _ _ _ _ = cc2__residual_body _ _ _ _ _ _ _ _ _
    rfl
  | ⟨3, _⟩, (t, s) =>
    show Cert.Kernel.cc3_body _ _ _ _ _ _ _ _ _ _ _ _ _ = cc3_body _ _ _ _ _ _ _ _ _ _ _ _ _
    rfl
  | ⟨4, _⟩, (t, s) =>
    show Cert.Kernel.cc4_body _ _ _ _ _ _ _ _ _ _ _ _ _ _ _ _ = cc4_body _ _ _ _ _ _ _ _ _ _ _ _ _ _ _ _
    rfl

set_option maxHeartbeats 4000000 in
theorem table_eq : Cert.Kernel.defs (F := F) = defs (F := F) := congrArg (Pipeline.defs pcfgs) bodies_eq

set_option maxHeartbeats 4000000 in
theorem main_eq : Cert.Kernel.main (F := F) = main (F := F) := rfl

end

set_option maxHeartbeats 4000000 in
/-- The program over machine floats is the same text. -/
theorem frame_kernel : Cert.quiescent_Kernel (hKernel := Cert.Kernel.Gen.facts) := fun m ρ _ => by
  rw [table_eq (F := Bits), main_eq (F := Bits)]
  exact (θ_run defs _ _).mono (fun _ h => ⟨fun c => (h.1 c).2, h.2⟩) (run_main (F := Bits) m ρ)

/-- The reference has no semaphore. -/
theorem no_sem (s : SemLoc Cert.ReferenceIdeal.sig) : False := by
  rcases s with s | s <;> exact s.elim0

theorem frame_reference : Cert.quiescent_ReferenceIdeal := fun m ρ _ =>
  (θ_run Cert.ReferenceIdeal.defs _ _).mono (fun r h => ⟨fun c => (h c).2, funext fun g => (no_sem g.2).elim⟩)
    (Cert.ReferenceIdeal.Value.run m ρ)

end Cert.Whole

end
-- ==== Proof.Softmax.lean ====
/-
  THE MATHEMATICS: a softmax average does not change when one number is taken off every score, and a sum of real
  products is real. The averaged values may be infinite, the scores not.
-/
module

public import Idealize.ShloMosaic.PureOps.Ideal

@[expose] public section

noncomputable section

namespace Cert.Softmax

open Idealize.ShloMosaic

/-- A number that is neither infinity. -/
def IsReal (x : EReal) : Prop := ∃ r : ℝ, x = (r : EReal)

theorem fin_of_abs_lt {x : EReal} (h : max x (-x) < ⊤) : IsReal x := by
  induction x with
  | bot => simp at h
  | top => simp at h
  | coe r => exact ⟨r, rfl⟩

theorem fin_mul {x y : EReal} (hx : IsReal x) (hy : IsReal y) : IsReal (x * y) := by
  obtain ⟨a, rfl⟩ := hx
  obtain ⟨b, rfl⟩ := hy
  exact ⟨a * b, (EReal.coe_mul a b).symm⟩

theorem fin_sum {ι : Type} (S : Finset ι) (f : ι → EReal) (h : ∀ i, IsReal (f i)) : IsReal (∑ i ∈ S, f i) := by
  classical
  choose g hg using h
  refine ⟨∑ i ∈ S, g i, ?_⟩
  induction S using Finset.induction_on with
  | empty => simp
  | insert a S ha ih => rw [Finset.sum_insert ha, Finset.sum_insert ha, ih, hg a, EReal.coe_add]

/-- The largest of finitely many reals, at least one, is real. -/
theorem fin_max {ι : Type} [Fintype ι] (i₀ : ι) (f : ι → EReal) (h : ∀ i, IsReal (f i)) :
    IsReal (Finset.univ.fold max ⊥ f) := by
  have h1 : Finset.univ.fold max ⊥ f < ⊤ := (Finset.fold_max_lt _).2 ⟨bot_lt_top, fun i _ => by
    obtain ⟨r, hr⟩ := h i
    rw [hr]
    exact EReal.coe_lt_top r⟩
  have h2 : ⊥ < Finset.univ.fold max ⊥ f := (Finset.lt_fold_max _).2 (.inr ⟨i₀, Finset.mem_univ _, by
    obtain ⟨r, hr⟩ := h i₀
    rw [hr]
    exact EReal.bot_lt_coe r⟩)
  exact ⟨_, (EReal.coe_toReal h1.ne h2.ne').symm⟩

/-- A real factor that is positive moves out of a sum, whatever is summed. -/
theorem pos_mul_sum {ι : Type} (S : Finset ι) (c : ℝ) (hc : 0 < c) (f : ι → EReal) :
    ∑ i ∈ S, (c : EReal) * f i = (c : EReal) * ∑ i ∈ S, f i := by
  classical
  induction S using Finset.induction_on with
  | empty => simp
  | insert a S ha ih =>
    rw [Finset.sum_insert ha, Finset.sum_insert ha, ih,
      EReal.left_distrib_of_nonneg_of_ne_top (EReal.coe_nonneg.2 hc.le) (EReal.coe_ne_top c)]

/-- A quotient by a nonzero real is unchanged when both parts are multiplied by a nonzero real. -/
theorem div_scale (n : EReal) (l c : ℝ) (hl : l ≠ 0) (hc : c ≠ 0) :
    Ideal.div ((c : EReal) * n) ((c : EReal) * (l : EReal)) = Ideal.div n (l : EReal) := by
  rw [← EReal.coe_mul, Ideal.div_coe (mul_ne_zero hc hl), Ideal.div_coe hl, mul_comm (c : EReal) n, mul_assoc,
    ← EReal.coe_mul]
  congr 2
  field_simp

/-- The average of `v` with weights the exponentials of `s`. -/
def avg {ι : Type} [Fintype ι] (s v : ι → EReal) : EReal :=
  Ideal.div (∑ j, Ideal.exp (s j) * v j) (∑ j, Ideal.exp (s j))

/-- Taking one real off every score changes no average. -/
theorem avg_shift {ι : Type} [Fintype ι] (i₀ : ι) (s v : ι → EReal) (M : EReal) (hs : ∀ j, IsReal (s j)) (hM : IsReal M) :
    Ideal.div (∑ j, v j * Ideal.exp (s j - M)) (∑ j, Ideal.exp (s j - M)) = avg s v := by
  obtain ⟨M, rfl⟩ := hM
  choose t ht using hs
  have e : ∀ j, Ideal.exp (s j - (M : EReal)) = ((Real.exp (-M) : ℝ) : EReal) * ((Real.exp (t j) : ℝ) : EReal) := fun j => by
    rw [ht j, ← EReal.coe_sub, Ideal.exp_coe, ← EReal.coe_mul, ← Real.exp_add]
    congr 2
    ring
  have e' : ∀ j, Ideal.exp (s j) = ((Real.exp (t j) : ℝ) : EReal) := fun j => by rw [ht j, Ideal.exp_coe]
  have hsum : ∑ j, ((Real.exp (t j) : ℝ) : EReal) = ((∑ j, Real.exp (t j) : ℝ) : EReal) := by
    classical
    induction (Finset.univ : Finset ι) using Finset.induction_on with
    | empty => simp
    | insert a S ha ih => rw [Finset.sum_insert ha, Finset.sum_insert ha, ih, EReal.coe_add]
  have hpos : 0 < ∑ j, Real.exp (t j) := Finset.sum_pos (fun j _ => Real.exp_pos _) ⟨i₀, Finset.mem_univ _⟩
  unfold avg
  simp only [e, e']
  have n : ∀ j, v j * (((Real.exp (-M) : ℝ) : EReal) * ((Real.exp (t j) : ℝ) : EReal))
      = ((Real.exp (-M) : ℝ) : EReal) * (((Real.exp (t j) : ℝ) : EReal) * v j) := fun j => by
    rw [mul_comm (v j), mul_assoc]
  simp only [n]
  rw [pos_mul_sum _ _ (Real.exp_pos _), pos_mul_sum _ _ (Real.exp_pos _), hsum,
    div_scale _ _ _ hpos.ne' (Real.exp_pos _).ne']

end Cert.Softmax

end
-- ==== Proof.Norm.lean ====
/-
  LAYER NORM OF A ROW over the extended reals: with the reciprocal of a square root, and with a quotient by a square
  root. They are equal for every row, with infinite entries too, because a variance is never negative; and they are reals
  for every row. Likewise `h` times its logistic function is `h` divided by `1 + e⁻ʰ`.
-/
module

public import proofs.«01_k».proof.Proof.Softmax
public import Idealize.ShloMosaic.Lib.Pipeline.ValueKit

@[expose] public section

noncomputable section

namespace Cert.Norm

open Idealize.ShloMosaic

/-- The length of a row, and the small number added to the variance, as the programs spell them. -/
abbrev len : EReal := Ideal.ofBits FTy.f32 0x44800000#32
abbrev small : EReal := Ideal.ofBits FTy.f32 0x3727C5AC#32

theorem len_eq : len = ((1024 : ℝ) : EReal) := by
  simp [len, Ideal.ofBits, Ideal.ieee, -EReal.coe_mul]; norm_num

theorem small_eq : small = ((10995116 / 2 ^ 40 : ℝ) : EReal) := by
  simp [small, Ideal.ofBits, Ideal.ieee, -EReal.coe_mul]; norm_num

theorem small_pos : 0 < small := by
  rw [small_eq]
  exact EReal.coe_pos.mpr (by norm_num)

/-- The mean of a row. -/
def mean (x : Fin 1024 → EReal) : EReal := Ideal.div (∑ k, x k) len

/-- The variance of a row. -/
def var (x : Fin 1024 → EReal) : EReal := Ideal.div (∑ k, (x k - mean x) * (x k - mean x)) len

/-- A row's entry less the mean, divided by the root of the variance. -/
def norm (x : Fin 1024 → EReal) (k : Fin 1024) : EReal := Ideal.div (x k - mean x) (Ideal.sqrt (var x + small))

theorem sq_nonneg (a : EReal) : 0 ≤ a * a :=
   EReal.mul_nonneg_iff.mpr ((le_total 0 a).imp (fun h => ⟨h, h⟩) fun h => ⟨h, h⟩)

theorem var_nonneg (x : Fin 1024 → EReal) : 0 ≤ var x := by
  unfold var Ideal.div
  rw [len_eq, if_neg (by norm_num)]
  refine mul_nonneg (Finset.sum_nonneg fun k _ => sq_nonneg _) ?_
  rw [← EReal.coe_inv]
  exact EReal.coe_nonneg.mpr (by norm_num)

/-- The reciprocal root of a positive number is the reciprocal of its root. -/
theorem mul_rsqrt (a y : EReal) (h : 0 < y) : a * Ideal.rsqrt y = Ideal.div a (Ideal.sqrt y) := by
  induction y with
  | bot => exact absurd h (by decide)
  | top => rw [Ideal.rsqrt_top, Ideal.sqrt_top, Ideal.div, if_neg (by decide), EReal.inv_top]
  | coe r =>
    have hr : 0 < r := EReal.coe_pos.mp h
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div,
      if_neg (by exact_mod_cast hs), EReal.coe_inv]

/-- Layer norm with the reciprocal root. -/
theorem norm_rsqrt (x : Fin 1024 → EReal) (k : Fin 1024) :
    (x k - mean x) * Ideal.rsqrt (var x + small) = norm x k :=
  mul_rsqrt _ _ (lt_of_lt_of_le small_pos (le_add_of_nonneg_left (var_nonneg x)))

/-- A modulated row: its layer norm times one factor, plus one summand, column by column. -/
def modulated (x s t : Fin 1024 → EReal) (k : Fin 1024) : EReal := norm x k * s k + t k

/-- One element of a projection: the row normed and modulated, times a column of the weights. -/
def project (x s t w : Fin 1024 → EReal) : EReal := ∑ k, modulated x s t k * w k

open Softmax

theorem fin_add {a b : EReal} (ha : IsReal a) (hb : IsReal b) : IsReal (a + b) := by
  obtain ⟨a, rfl⟩ := ha
  obtain ⟨b, rfl⟩ := hb
  exact ⟨a + b, (EReal.coe_add a b).symm⟩
theorem fin_div {a : EReal} {r : ℝ} (ha : IsReal a) (hr : r ≠ 0) : IsReal (Ideal.div a (r : EReal)) := by
  obtain ⟨a, rfl⟩ := ha
  rw [Ideal.div_coe hr]
  exact ⟨a * (1 / r), (EReal.coe_mul a (1 / r)).symm⟩
/-- An entry infinitely far from the mean makes the variance infinite. -/
theorem var_top (x : Fin 1024 → EReal) (k : Fin 1024) (h : (x k - mean x) * (x k - mean x) = ⊤) : var x = ⊤ := by
  have hs : ∑ k, (x k - mean x) * (x k - mean x) = ⊤ :=
    top_le_iff.mp (h ▸ Finset.single_le_sum (f := fun k => (x k - mean x) * (x k - mean x)) (fun j _ => sq_nonneg _) (Finset.mem_univ k))
  unfold var
  rw [hs, len_eq, Ideal.div_coe (by norm_num)]
  exact EReal.top_mul_coe_of_pos (by norm_num)

/-- With an infinite variance the quotient is zero. -/
theorem norm_zero (x : Fin 1024 → EReal) (k : Fin 1024) (h : var x = ⊤) : norm x k = 0 := by
  unfold norm
  rw [h, small_eq, EReal.top_add_coe, Ideal.sqrt_top, Ideal.div, if_neg (by decide), EReal.inv_top, mul_zero]

/-- The layer norm of any row is a row of reals: an infinite entry makes the variance infinite, and then all are zero. -/
theorem norm_real (x : Fin 1024 → EReal) (k : Fin 1024) : IsReal (norm x k) := by
  by_cases hv : var x = ⊤
  · exact ⟨0, (norm_zero x k hv).trans EReal.coe_zero.symm⟩
  · have hd : IsReal (x k - mean x) := by
      generalize hd : x k - mean x = d
      induction d with
      | bot => exact absurd (var_top x k (by rw [hd]; rfl)) hv
      | top => exact absurd (var_top x k (by rw [hd]; rfl)) hv
      | coe r => exact ⟨r, rfl⟩
    have hr : IsReal (var x) := by
      have h0 := var_nonneg x
      generalize var x = v at hv h0
      induction v with
      | bot => exact absurd h0 (by decide)
      | top => exact absurd rfl hv
      | coe r => exact ⟨r, rfl⟩
    unfold norm
    obtain ⟨v, hv⟩ := fin_add hr ⟨_, small_eq⟩
    have hp : (0 : EReal) < (v : EReal) := hv ▸ lt_of_lt_of_le small_pos (le_add_of_nonneg_left (var_nonneg x))
    have hr : 0 < v := EReal.coe_pos.mp hp
    rw [hv, Ideal.sqrt_coe, if_neg (not_lt.mpr hr.le)]
    exact fin_div hd (Real.sqrt_pos.mpr hr).ne'
theorem project_real {x s t w : Fin 1024 → EReal} (hs : ∀ k, IsReal (s k)) (ht : ∀ k, IsReal (t k))
    (hw : ∀ k, IsReal (w k)) : IsReal (project x s t w) :=
  fin_sum _ _ fun k => fin_mul (fin_add (fin_mul (norm_real x k) (hs k)) (ht k)) (hw k)

theorem exp_nonneg (a : EReal) : 0 ≤ Ideal.exp a := by
  induction a with
  | bot => exact le_of_eq rfl
  | top => exact le_top
  | coe r => exact EReal.coe_nonneg.mpr (Real.exp_pos r).le

/-- `h / (1 + e⁻ʰ)`. -/
def silu (h : EReal) : EReal := Ideal.div h (1 + Ideal.exp (-h))

/-- One element of the feed-forward part, of as many columns as are given: the row normed and modulated, times the first
    weights, the activation, times a column of the second weights. -/
def feed {n : ℕ} (x s t : Fin 1024 → EReal) (w : Fin 1024 → Fin n → EReal) (u : Fin n → EReal) : EReal :=
  ∑ f, silu (∑ k, modulated x s t k * w k f) * u f

theorem mul_logistic (h : EReal) : h * Ideal.logistic h = silu h := by
  have hp : (1 + Ideal.exp (-h) : EReal) ≠ 0 :=
    (lt_of_lt_of_le zero_lt_one (le_add_of_nonneg_right (exp_nonneg _))).ne'
  rw [Ideal.logistic, silu, Ideal.div, Ideal.div, if_neg hp, if_neg hp, one_mul]

end Cert.Norm

end
-- ==== Proof.Spec.lean ====
/-
  THE RESULT AS FORMULAS over the extended reals, from the whole arrays: the modulation, the projections, the attention
  of all 64 heads side by side, the rows after attention, and the rows after the feed-forward part.
-/
module

public import proofs.«01_k».proof.Proof.Norm
public import proofs.«01_k».proof.Proof.Softmax

@[expose] public section

set_option maxRecDepth 16384

noncomputable section

namespace Cert.Spec

open Idealize.ShloMosaic
open Cert.Norm Cert.Softmax

/-- The factor of the scores. -/
def factor : EReal := Ideal.ofBits .f32 0x3DB504F3#32

/-- The factor as a real. -/
def factorR : ℝ := 11863283 * (2 ^ 27)⁻¹

/-- The whole arrays: the rows, the time embedding and its weights, and the weights of the two parts. -/
structure Args where
  x : Fin 4096 → Fin 1024 → EReal
  t : Fin 128 → EReal
  M : Fin 128 → Fin 6144 → EReal
  Wq : Fin 1024 → Fin 8192 → EReal
  Wk : Fin 1024 → Fin 8192 → EReal
  Wv : Fin 1024 → Fin 8192 → EReal
  Wo : Fin 8192 → Fin 1024 → EReal
  W1 : Fin 1024 → Fin 4096 → EReal
  W2 : Fin 4096 → Fin 1024 → EReal

theorem hcol_lt (y : Fin 8192) (e : Fin 128) : y.val / 128 * 128 + e.val < 8192 := by have := y.isLt; have := e.isLt; omega
theorem part_lt (j : Fin 6) (k : Fin 1024) : 1024 * j.val + k.val < 6144 := by have := j.isLt; have := k.isLt; omega

/-- A column of the head that column `y` belongs to. -/
def hcol (y : Fin 8192) (e : Fin 128) : Fin 8192 := ⟨y.val / 128 * 128 + e.val, hcol_lt y e⟩

namespace Args

variable (A : Args)

/-- The modulation: six rows. -/
def g (j : Fin 6) (k : Fin 1024) : EReal := ∑ e, A.t e * A.M e ⟨1024 * j.val + k.val, part_lt j k⟩

/-- A projection of row `i`, at column `y`. -/
def proj (W : Fin 1024 → Fin 8192 → EReal) (i : Fin 4096) (y : Fin 8192) : EReal :=
  project (A.x i) (fun k => 1 + A.g 0 k) (A.g 1) fun k => W k y

/-- The score of row `i` against row `j`, in the head of column `y`. -/
def score (i : Fin 4096) (y : Fin 8192) (j : Fin 4096) : EReal :=
  ∑ e, (A.proj A.Wq i (hcol y e) * factor) * A.proj A.Wk j (hcol y e)

/-- Attention at row `i`, column `y`. -/
def att (i : Fin 4096) (y : Fin 8192) : EReal := avg (A.score i y) fun j => A.proj A.Wv j y

/-- The rows after attention. -/
def mid (i : Fin 4096) (n : Fin 1024) : EReal := A.x i n + A.g 2 n * ∑ y, A.att i y * A.Wo y n

/-- The rows after the feed-forward part. -/
def res (i : Fin 4096) (n : Fin 1024) : EReal :=
  A.mid i n + A.g 5 n * feed (A.mid i) (fun k => 1 + A.g 3 k) (A.g 4) A.W1 fun y => A.W2 y n

/-- What the claim asks of the arrays: no infinity in the time embedding, in the columns of its weights that modulate
    the rows before attention, and in the weights of the queries and of the keys. -/
structure Real : Prop where
  t : ∀ e, IsReal (A.t e)
  M : ∀ e (k : Fin 6144), k.val < 2048 → IsReal (A.M e k)
  Wq : ∀ k y, IsReal (A.Wq k y)
  Wk : ∀ k y, IsReal (A.Wk k y)

variable {A}

theorem one_real : IsReal 1 := ⟨1, EReal.coe_one.symm⟩

theorem g_real (h : A.Real) (j : Fin 6) (hj : j.val < 2) (k : Fin 1024) : IsReal (A.g j k) :=
  fin_sum _ _ fun e => fin_mul (h.t e) (h.M e _ (by have := k.isLt; show 1024 * j.val + k.val < 2048; omega))

theorem proj_real (h : A.Real) {W : Fin 1024 → Fin 8192 → EReal} (hW : ∀ k y, IsReal (W k y)) (i : Fin 4096) (y : Fin 8192) :
    IsReal (A.proj W i y) :=
  project_real (fun k => fin_add one_real (g_real h 0 (by decide) k)) (g_real h 1 (by decide)) fun k => hW k y

theorem factor_eq : factor = (factorR : EReal) := by
  simp [factor, factorR, Ideal.ofBits, Ideal.ieee, -EReal.coe_mul]

theorem factor_pos : 0 < factorR := by unfold factorR; norm_num

theorem score_real (h : A.Real) (i : Fin 4096) (y : Fin 8192) (j : Fin 4096) : IsReal (A.score i y j) :=
  fin_sum _ _ fun e => fin_mul (fin_mul (proj_real h h.Wq i _) ⟨_, factor_eq⟩) (proj_real h h.Wk j _)

/-- The factor may be taken on the score instead of on the queries. -/
theorem score_eq (i : Fin 4096) (y : Fin 8192) (j : Fin 4096) :
    A.score i y j = (∑ e, A.proj A.Wq i (hcol y e) * A.proj A.Wk j (hcol y e)) * factor := by
  unfold score
  rw [factor_eq, mul_comm (∑ e, _), ← pos_mul_sum _ _ factor_pos]
  exact Finset.sum_congr rfl fun e _ => by rw [mul_comm _ (factorR : EReal), mul_assoc]

end Args

end Cert.Spec

end
-- ==== Proof.Split.lean ====
/-
  THE COLUMNS OF THE WHOLE ARRAYS, device by device: 8 times 1024 columns of the heads, 8 times 512 of the feed-forward
  part.
-/
module

public import proofs.«01_k».proof.Proof.Spec

@[expose] public section

set_option maxRecDepth 16384

noncomputable section

namespace Cert.Spec

open Idealize.ShloMosaic
open Cert.Norm

theorem col_lt (c : Fin 8) (x : Fin 1024) : c.val * 1024 + x.val < 8192 := by have := c.isLt; have := x.isLt; omega
theorem fcol_lt (c : Fin 8) (x : Fin 512) : c.val * 512 + x.val < 4096 := by have := c.isLt; have := x.isLt; omega

/-- Column `x` of device `c`, among the columns of all heads. -/
def col (c : Fin 8) (x : Fin 1024) : Fin 8192 := ⟨c.val * 1024 + x.val, col_lt c x⟩
/-- Column `x` of device `c`, among the columns of the feed-forward part. -/
def fcol (c : Fin 8) (x : Fin 512) : Fin 4096 := ⟨c.val * 512 + x.val, fcol_lt c x⟩

/-- The column of the device's 1024 that shares a head with column `x` and is the `e`-th there. -/
theorem head_lt (x : Fin 1024) (e : Fin 128) : 128 * (x.val / 128) + e.val < 1024 := by have := x.isLt; have := e.isLt; omega

theorem hcol_col (c : Fin 8) (x : Fin 1024) (e : Fin 128) : hcol (col c x) e = col c ⟨128 * (x.val / 128) + e.val, head_lt x e⟩ :=
  Fin.ext (by show (c.val * 1024 + x.val) / 128 * 128 + e.val = c.val * 1024 + (128 * (x.val / 128) + e.val); omega)

theorem col_surj (y : Fin 8192) : ∃ (c : Fin 8) (x : Fin 1024), y = col c x := by
  have hy := y.isLt
  exact ⟨⟨y.val / 1024, by omega⟩, ⟨y.val % 1024, by omega⟩, Fin.ext (by show y.val = y.val / 1024 * 1024 + y.val % 1024; omega)⟩

theorem sum_cols (f : Fin 8192 → EReal) : ∑ y : Fin 8192, f y = ∑ c : Fin 8, ∑ x : Fin 1024, f (col c x) := by
  rw [← Fintype.sum_prod_type']
  refine (Fintype.sum_bijective (fun p : Fin 8 × Fin 1024 => col p.1 p.2) ?_ _ _ fun p => rfl).symm
  refine ⟨fun p q h => ?_, fun y => ?_⟩
  · have h' : p.1.val * 1024 + p.2.val = q.1.val * 1024 + q.2.val := congrArg Fin.val h
    have h1 := p.2.isLt
    have h2 := q.2.isLt
    exact Prod.ext (Fin.ext (by omega)) (Fin.ext (by omega))
  · obtain ⟨c, x, h⟩ := col_surj y
    exact ⟨(c, x), h.symm⟩

theorem sum_fcols (f : Fin 4096 → EReal) : ∑ y : Fin 4096, f y = ∑ c : Fin 8, ∑ x : Fin 512, f (fcol c x) := by
  rw [← Fintype.sum_prod_type']
  refine (Fintype.sum_bijective (fun p : Fin 8 × Fin 512 => fcol p.1 p.2) ?_ _ _ fun p => rfl).symm
  refine ⟨fun p q h => ?_, fun y => ?_⟩
  · have h' : p.1.val * 512 + p.2.val = q.1.val * 512 + q.2.val := congrArg Fin.val h
    have h1 := p.2.isLt
    have h2 := q.2.isLt
    exact Prod.ext (Fin.ext (by omega)) (Fin.ext (by omega))
  · have hy := y.isLt
    exact ⟨(⟨y.val / 512, by omega⟩, ⟨y.val % 512, by omega⟩), Fin.ext (by show y.val / 512 * 512 + y.val % 512 = y.val; omega)⟩

/-- The feed-forward part is the sum of the devices' parts. -/
theorem feed_split (x s t : Fin 1024 → EReal) (w : Fin 1024 → Fin 4096 → EReal) (u : Fin 4096 → EReal) :
    feed x s t w u = ∑ c : Fin 8, feed x s t (fun k f => w k (fcol c f)) fun f => u (fcol c f) := by
  unfold feed
  exact sum_fcols _

end Cert.Spec

end
-- ==== Proof.Entry.lean ====
/-
  WHAT THE HOST LINES HOLD between the five calls, read at an index, and what passes through them unchanged.
-/
module

public import proofs.«01_k».proof.Proof.Stages
public import proofs.«01_k».proof.Proof.Split
public import Idealize.ShloMosaic.Lib.Pipeline.ValueKit

@[expose] public section

set_option maxRecDepth 16384

noncomputable section

namespace Cert.Whole

open Cert.KernelIdeal Cert.KernelIdeal.Gen Cert.KernelIdeal.Own
open Idealize.ShloMosaic
open Idealize.ShloMosaic.TcCoe
open Cert.Spec

variable (m : (ℓ : Loc nD τ sig) → Buf (Elt Ideal) ℓ) (c : Dev nD)

/-! ## What passes through -/

theorem same1 (r : Ref sig .tc) (h : r ∉ hostOps0_W) : st1 m c r = m ((c : Thread nD τ).loc r) := V1_of m c r h
theorem same2 (r : Ref sig .tc) (h : r ∉ ([main_v14_0, main_v14_1, main_v14_2] : List (Ref sig .tc))) : st2 m c r = st1 m c r := by
  rw [← st2_eq, V2_of m (outs m) c r h, st1_eq]
theorem same3 (r : Ref sig .tc) (h : r ∉ hostOps1_W) : st3 m c r = st2 m c r := by rw [← st3_eq, V3_of m (outs m) c r h, st2_eq]
theorem same4 (r : Ref sig .tc) (h : r ∉ ([main_v16] : List (Ref sig .tc))) : st4 m c r = st3 m c r := by rw [← st4_eq, V4_of m (outs m) c r h, st3_eq]
theorem same5 (r : Ref sig .tc) (h : r ∉ hostOps2_W) : st5 m c r = st4 m c r := by rw [← st5_eq, V5_of m (outs m) c r h, st4_eq]
theorem same6 (r : Ref sig .tc) (h : r ∉ ([main_v18] : List (Ref sig .tc))) : st6 m c r = st5 m c r := by rw [← st6_eq, V6_of m (outs m) c r h, st5_eq]
theorem same7 (r : Ref sig .tc) (h : r ∉ hostOps3_W) : st7 m c r = st6 m c r := by rw [← st7_eq, V7_of m (outs m) c r h, st6_eq]
theorem same8 (r : Ref sig .tc) (h : r ∉ ([main_v23] : List (Ref sig .tc))) : st8 m c r = st7 m c r := by rw [← st8_eq, V8_of m (outs m) c r h, st7_eq]
theorem same9 (r : Ref sig .tc) (h : r ∉ ([main_v24] : List (Ref sig .tc))) : st9 m c r = st8 m c r := by rw [← st9_eq, V9_of m (outs m) c r h, st8_eq]

theorem same_2_4 (r : Ref sig .tc) (h2 : r ∉ ([main_v14_0, main_v14_1, main_v14_2] : List (Ref sig .tc))) (h3 : r ∉ hostOps1_W)
    (h4 : r ∉ ([main_v16] : List (Ref sig .tc))) : st4 m c r = st1 m c r := by rw [same4 m c r h4, same3 m c r h3, same2 m c r h2]
theorem same_5_6 (r : Ref sig .tc) (h5 : r ∉ hostOps2_W) (h6 : r ∉ ([main_v18] : List (Ref sig .tc))) : st6 m c r = st4 m c r := by
  rw [same6 m c r h6, same5 m c r h5]

theorem pass_v1 : st5 m c main_v1 = st1 m c main_v1 := (same5 m c _ (by decide)).trans (same_2_4 m c _ (by decide) (by decide) (by decide))
theorem pass_v5 : st5 m c main_v5 = st1 m c main_v5 := (same5 m c _ (by decide)).trans (same_2_4 m c _ (by decide) (by decide) (by decide))
theorem pass_v6 : st6 m c main_v6 = st1 m c main_v6 := (same_5_6 m c _ (by decide) (by decide)).trans (same_2_4 m c _ (by decide) (by decide) (by decide))
theorem pass_v7 : st7 m c main_v7 = st1 m c main_v7 :=
  (same7 m c _ (by decide)).trans ((same_5_6 m c _ (by decide) (by decide)).trans (same_2_4 m c _ (by decide) (by decide) (by decide)))
theorem pass_v8 : st9 m c main_v8 = st1 m c main_v8 :=
  (same9 m c _ (by decide)).trans ((same8 m c _ (by decide)).trans ((same7 m c _ (by decide)).trans
    ((same_5_6 m c _ (by decide) (by decide)).trans (same_2_4 m c _ (by decide) (by decide) (by decide)))))
theorem pass_v18 : st9 m c main_v18 = st6 m c main_v18 :=
  (same9 m c _ (by decide)).trans ((same8 m c _ (by decide)).trans (same7 m c _ (by decide)))
theorem pass_arg4 : st2 m c main_arg4 = m ((c : Thread nD τ).loc main_arg4) := (same2 m c _ (by decide)).trans (same1 m c _ (by decide))
theorem pass_arg7 : st6 m c main_arg7 = m ((c : Thread nD τ).loc main_arg7) :=
  (same_5_6 m c _ (by decide) (by decide)).trans ((same_2_4 m c _ (by decide) (by decide) (by decide)).trans (same1 m c _ (by decide)))
theorem pass_arg8 : st6 m c main_arg8 = m ((c : Thread nD τ).loc main_arg8) :=
  (same_5_6 m c _ (by decide) (by decide)).trans ((same_2_4 m c _ (by decide) (by decide) (by decide)).trans (same1 m c _ (by decide)))

/-! ## The host lines -/

/-- The six rows of the modulation side by side. -/
def SIXK (t : FVec Ideal S1x128 .f32) (M : FVec Ideal S128x6144 .f32) : FVec Ideal S1x6144 .f32 :=
  Host.dotGeneral dot_S1x128_S128x6144_S1x6144_1_0_0_1_n_n none t M
/-- A row of ones. -/
def ONES : FVec Ideal S1x1024 .f32 := broadcastInDim S1x1024 ![] bcast_S_S1x1024 (constant (F := Ideal) S_ .f32 0x3F800000#32)

theorem sixk_at (t : FVec Ideal S1x128 .f32) (M : FVec Ideal S128x6144 .f32) (y : Fin 6144) :
    SIXK t M (ix2 0 y) = ∑ e : Fin 128, (t (ix2 0 e) : EReal) * M (ix2 e y) := by
  pointwise [SIXK]
theorem ones_at (k : Fin 1024) : ONES (ix2 0 k) = (1 : EReal) := by
  pointwise [ONES]

abbrev arg0 : FVec Ideal S1x4096x1024 .f32 := m ((c : Thread nD τ).loc main_arg0)
abbrev arg1 : FVec Ideal S1024x1024 .f32 := m ((c : Thread nD τ).loc main_arg1)
abbrev arg2 : FVec Ideal S1024x1024 .f32 := m ((c : Thread nD τ).loc main_arg2)
abbrev arg3 : FVec Ideal S1024x1024 .f32 := m ((c : Thread nD τ).loc main_arg3)
abbrev arg4 : FVec Ideal S1024x1024 .f32 := m ((c : Thread nD τ).loc main_arg4)
abbrev arg5 : FVec Ideal S1x128 .f32 := m ((c : Thread nD τ).loc main_arg5)
abbrev arg6 : FVec Ideal S128x6144 .f32 := m ((c : Thread nD τ).loc main_arg6)
abbrev arg7 : FVec Ideal S1024x512 .f32 := m ((c : Thread nD τ).loc main_arg7)
abbrev arg8 : FVec Ideal S512x1024 .f32 := m ((c : Thread nD τ).loc main_arg8)

theorem v1_eq : st1 m c main_v1 = shapeCast S4096x1024 (arg0 m c) shapeCasts_S1x4096x1024_S4096x1024 := by
  show StableHlo.after hostOps0 _ _ = _
  unfold hostOps0
  after_results_simp
  rfl
theorem v4_eq : st1 m c main_v4 = extractStridedSlice S1x1024 ![0, 1024] (SIXK (arg5 m c) (arg6 m c)) slices_S1x6144_S1x1024_0_1024 := by
  show StableHlo.after hostOps0 _ _ = _
  unfold hostOps0
  after_results_simp
  rfl
theorem v5_eq : st1 m c main_v5 = extractStridedSlice S1x1024 ![0, 2048] (SIXK (arg5 m c) (arg6 m c)) slices_S1x6144_S1x1024_0_2048 := by
  show StableHlo.after hostOps0 _ _ = _
  unfold hostOps0
  after_results_simp
  rfl
theorem v6_eq : st1 m c main_v6 = extractStridedSlice S1x1024 ![0, 3072] (SIXK (arg5 m c) (arg6 m c)) slices_S1x6144_S1x1024_0_3072 := by
  show StableHlo.after hostOps0 _ _ = _
  unfold hostOps0
  after_results_simp
  rfl
theorem v7_eq : st1 m c main_v7 = extractStridedSlice S1x1024 ![0, 4096] (SIXK (arg5 m c) (arg6 m c)) slices_S1x6144_S1x1024_0_4096 := by
  show StableHlo.after hostOps0 _ _ = _
  unfold hostOps0
  after_results_simp
  rfl
theorem v8_eq : st1 m c main_v8 = extractStridedSlice S1x1024 ![0, 5120] (SIXK (arg5 m c) (arg6 m c)) slices_S1x6144_S1x1024_0_5120 := by
  show StableHlo.after hostOps0 _ _ = _
  unfold hostOps0
  after_results_simp
  rfl
theorem v10_eq : st1 m c main_v10
    = addf (F := Ideal) (φ := .f32) ONES (extractStridedSlice S1x1024 ![0, 0] (SIXK (arg5 m c) (arg6 m c)) slices_S1x6144_S1x1024_0_0) := by
  show StableHlo.after hostOps0 _ _ = _
  unfold hostOps0
  after_results_simp
  rfl
theorem v11_eq : (st1 m c main_v11 : S1024x1024.Idx → EReal) = (arg1 m c : S1024x1024.Idx → EReal) := by
  show StableHlo.after hostOps0 _ _ = _
  unfold hostOps0
  after_results_simp
  rfl
theorem v12_eq : (st1 m c main_v12 : S1024x1024.Idx → EReal) = (arg2 m c : S1024x1024.Idx → EReal) := by
  show StableHlo.after hostOps0 _ _ = _
  unfold hostOps0
  after_results_simp
  rfl
theorem v13_eq : (st1 m c main_v13 : S1024x1024.Idx → EReal) = (arg3 m c : S1024x1024.Idx → EReal) := by
  show StableHlo.after hostOps0 _ _ = _
  unfold hostOps0
  after_results_simp
  rfl
theorem v15_eq : (st3 m c main_v15 : S1024x1024.Idx → EReal) = (arg4 m c : S1024x1024.Idx → EReal) := by
  refine Eq.trans ?_ (pass_arg4 m c)
  show StableHlo.after hostOps1 _ _ = _
  unfold hostOps1
  after_results_simp
  rfl
theorem v17_eq : (st5 m c main_v17 : S4096x1024.Idx → EReal) = (st4 m c main_v16 : S4096x1024.Idx → EReal) := by
  show StableHlo.after hostOps2 _ _ = _
  unfold hostOps2
  after_results_simp
  rfl
theorem v20_eq : st7 m c main_v20 = addf (F := Ideal) (φ := .f32) ONES (st1 m c main_v6) := by
  rw [← pass_v6]
  show StableHlo.after hostOps3 _ _ = _
  unfold hostOps3
  after_results_simp
  rfl
theorem v21_eq : (st7 m c main_v21 : S1024x512.Idx → EReal) = (arg7 m c : S1024x512.Idx → EReal) := by
  refine Eq.trans ?_ (pass_arg7 m c)
  show StableHlo.after hostOps3 _ _ = _
  unfold hostOps3
  after_results_simp
  rfl
theorem v22_eq : (st7 m c main_v22 : S512x1024.Idx → EReal) = (arg8 m c : S512x1024.Idx → EReal) := by
  refine Eq.trans ?_ (pass_arg8 m c)
  show StableHlo.after hostOps3 _ _ = _
  unfold hostOps3
  after_results_simp
  rfl

/-- The result's rows: the rows after attention and the modulated feed-forward part. -/
def LAST (X : FVec Ideal S4096x1024 .f32) (g : FVec Ideal S1x1024 .f32) (Y : FVec Ideal S4096x1024 .bf16) : FVec Ideal S1x4096x1024 .f32 :=
  broadcastInDim S1x4096x1024 ![1, 2] bcast_S4096x1024_S1x4096x1024_1_2
    (addf X (mulf (broadcastInDim S4096x1024 ![0, 1] bcast_S1x1024_S4096x1024_0_1 g) (extf .f32 Y bitsLt_bf16_f32)))

theorem last_at (X : FVec Ideal S4096x1024 .f32) (g : FVec Ideal S1x1024 .f32) (Y : FVec Ideal S4096x1024 .bf16) (i : Fin 4096) (n : Fin 1024) :
    LAST X g Y (ix3 0 i n) = (X (ix2 i n) + g (ix2 0 n) * Y (ix2 i n) : EReal) := by
  pointwise [LAST]

theorem v29_eq : st10 m c main_v29 = LAST (st9 m c main_v18) (st9 m c main_v8) (st9 m c main_v24) := by
  show StableHlo.after hostOps5 _ _ = _
  unfold hostOps5
  after_results_simp
  rfl

end Cert.Whole

end
-- ==== Proof.Pay.lean ====
/-
  THE KERNEL'S ARITHMETIC READ AT AN INDEX over the extended reals: the rows after layer norm and modulation, the three
  projections, one head's attention of a chunk of rows, the chunk's product with a device's rows of `Wo`, the residual
  sum and the feed-forward part.
-/
module

public import proofs.«01_k».proof.Proof.Spec
public import proofs.«01_k».proof.Proof.Proto
public import Idealize.ShloMosaic.Lib.Pipeline.ValueKit

@[expose] public section

set_option maxRecDepth 16384

noncomputable section

namespace Cert.Pay

open Cert.KernelIdeal Cert.KernelIdeal.Gen
open Idealize.ShloMosaic
open Cert.Norm Cert.Spec

/-- The rows of a block after layer norm and modulation. -/
theorem rows_at (x : FVec Ideal S512x1024 .f32) (s t : FVec Ideal S1x1024 .f32) (i : Fin 512) (k : Fin 1024) :
    k0_pay3 (F := Ideal) x s t (ix2 i k) = modulated (fun k => x (ix2 i k)) (fun k => s (ix2 0 k)) (fun k => t (ix2 0 k)) k := by
  unfold modulated
  rw [← norm_rsqrt]
  unfold mean var mean
  pointwise [k0_pay3]

section Projections

variable (x : FVec Ideal S512x1024 .f32) (s t : FVec Ideal S1x1024 .f32) (w : FVec Ideal S1024x1024 .bf16) (i : Fin 512) (n : Fin 1024)

theorem query_at : k0_pay4 (F := Ideal) x s t w (ix2 i n)
    = project (fun k => x (ix2 i k)) (fun k => s (ix2 0 k)) (fun k => t (ix2 0 k)) (fun k => w (ix2 k n)) * factor := by
  unfold project factor
  simp only [← rows_at]
  pointwise [k0_pay4]
theorem key_at : k0_pay1 (F := Ideal) (k0_pay3 x s t) (k0_pay5 w) (constant S512x1024 .f32 0x00000000#32) (ix2 i n)
    = project (fun k => x (ix2 i k)) (fun k => s (ix2 0 k)) (fun k => t (ix2 0 k)) fun k => w (ix2 k n) := by
  unfold project
  simp only [← rows_at]
  pointwise [k0_pay1, k0_pay5]
theorem val_at : k0_pay2 (F := Ideal) (k0_pay3 x s t) w (ix2 i n)
    = project (fun k => x (ix2 i k)) (fun k => s (ix2 0 k)) (fun k => t (ix2 0 k)) fun k => w (ix2 k n) := by
  unfold project
  simp only [← rows_at]
  pointwise [k0_pay2]

end Projections

theorem attend_at (q : FVec Ideal S512x128 .bf16) (k v : FVec Ideal S4096x128 .bf16) (i : Fin 512) (d : Fin 128) :
    k1_pay1 (F := Ideal) q k v (ix2 i d)
      = Softmax.avg (fun j : Fin 4096 => ∑ e : Fin 128, (q (ix2 i e) : EReal) * k (ix2 j e)) (fun j => v (ix2 j d)) := by
  unfold Softmax.avg
  pointwise [k1_pay1]

theorem prod_at (a : FVec Ideal S512x1024 .bf16) (w : FVec Ideal S1024x1024 .bf16) (i : Fin 512) (n : Fin 1024) :
    k1_pay2 (F := Ideal) a w (ix2 i n) = ∑ x : Fin 1024, (a (ix2 i x) : EReal) * w (ix2 x n) := by
  pointwise [k1_pay2]

theorem add_at (a X : FVec Ideal S512x1024 .bf16) (x : S512x1024.Idx) :
    RingProof.addP (F := Ideal) a X x = (a x : EReal) + X x := by
  pointwise [RingProof.addP]

theorem residual_at (x : FVec Ideal S512x1024 .f32) (g : FVec Ideal S1x1024 .f32) (v : FVec Ideal S512x1024 .f32) (i : Fin 512) (n : Fin 1024) :
    k2_pay1 (F := Ideal) x g v (ix2 i n) = (x (ix2 i n) + g (ix2 0 n) * v (ix2 i n) : EReal) := by
  pointwise [k2_pay1]

/-- The product of a block's normed rows with the first weights of the feed-forward part. -/
def HID (x : FVec Ideal S512x1024 .f32) (s t : FVec Ideal S1x1024 .f32) (w : FVec Ideal S1024x512 .bf16) : FVec Ideal S512x512 .f32 :=
  matmul dot_S512x1024_S1024x512_S512x512_1_0_0_1_n_n none (k0_pay3 x s t)
    (shapeCast S1024x512 w shapeCasts_S1024x512_S1024x512) (constant S512x512 .f32 0x00000000#32)

theorem hid_at (x : FVec Ideal S512x1024 .f32) (s t : FVec Ideal S1x1024 .f32) (w : FVec Ideal S1024x512 .bf16) (i : Fin 512) (f : Fin 512) :
    HID x s t w (ix2 i f) = ∑ k, modulated (fun k => x (ix2 i k)) (fun k => s (ix2 0 k)) (fun k => t (ix2 0 k)) k * w (ix2 k f) := by
  simp only [← rows_at]
  pointwise [HID]

theorem feed_eq (x : FVec Ideal S512x1024 .f32) (s t : FVec Ideal S1x1024 .f32) (w : FVec Ideal S1024x512 .bf16) (u : FVec Ideal S512x1024 .bf16) :
    k3_pay1 (F := Ideal) x s t w u = truncf .bf16 (matmul dot_S512x512_S512x1024_S512x1024_1_0_0_1_n_n none
      (truncf .bf16 (mulf (HID x s t w) (logistic (HID x s t w))) bitsLt_bf16_f32)
      (shapeCast S512x1024 u shapeCasts_S512x1024_S512x1024) (constant S512x1024 .f32 0x00000000#32)) bitsLt_bf16_f32 := rfl

/-- The block of the feed-forward part that a grid point computes, at a row and a column. -/
theorem feed_at (x : FVec Ideal S512x1024 .f32) (s t : FVec Ideal S1x1024 .f32) (w : FVec Ideal S1024x512 .bf16) (u : FVec Ideal S512x1024 .bf16)
    (i : Fin 512) (n : Fin 1024) : k3_pay1 (F := Ideal) x s t w u (ix2 i n)
      = feed (fun k => x (ix2 i k)) (fun k => s (ix2 0 k)) (fun k => t (ix2 0 k)) (fun k f => w (ix2 k f)) fun f => u (ix2 f n) := by
  unfold feed
  simp only [← hid_at, ← mul_logistic]
  rw [feed_eq]
  pointwise

end Cert.Pay

end
-- ==== Proof.Left.lean ====
/-
  WHAT A GRID POINT LEAVES in the result blocks of the three local calls: the payload of the blocks it reads.
-/
module

public import proofs.«01_k».proof.Proof.Pay
public import proofs.«01_k».proof.Proof.Stages
public import Idealize.ShloMosaic.Lib.VecWindow

@[expose] public section

set_option maxRecDepth 16384

noncomputable section

namespace Cert.Whole

open Cert.KernelIdeal Cert.KernelIdeal.Gen Cert.KernelIdeal.Own
open Idealize.ShloMosaic
open Idealize.ShloMosaic.TcCoe

/-- A load of a whole block reads what the block holds. -/
theorem load {s : Shape} {e : EltTy} {a : Memref sig .tc .vmem s e} (h : a.IsWhole) (x : Vec Ideal s e) {off : Fin s.rank → ℕ}
    (inb : ∀ d, off d + s.size d ≤ s.size d) : a.view.readAt (Elt Ideal) (Rect.unit off s.size inb).toLoadRect (h.unread x) = x :=
  (View.readAt_full _ _ _).trans (h.read_unread x)

section
variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S1024x1024 .bf16) (harg5 : arg5.IsWhole)
  (arg6 : Memref sig .tc .vmem S1024x1024 .bf16) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S512x1024 .bf16) (harg9 : arg9.IsWhole)
  (x0 : Vec Ideal S512x1024 .f32) (x1 : Vec Ideal S1x1024 .f32) (x2 : Vec Ideal S1x1024 .f32) (x3 : Vec Ideal S1024x1024 .bf16) (x4 : Vec Ideal S1024x1024 .bf16) (x5 : Vec Ideal S1024x1024 .bf16)

theorem at_q : K0.out0_A_6 (F := Ideal) (Ix := Unit) (U := UU) (Lvl := ℕ) 𝒱₀ c i arg1 harg1 arg2 harg2 arg3 harg3 arg4 harg4 arg5 harg5 arg6 harg6 arg7 harg7 arg8 harg8 arg9 harg9 x0 x1 x2 x3 x4 x5
    = k0_pay4 x0 x1 x2 x3 := by
  unfold K0.out0_A_6 K0.kernelRun0_A
  refine (View.read_writes_full _ _ _ _ _).trans ?_
  rw [load harg1 x0, load harg2 x1, load harg3 x2, load harg4 x3]
theorem at_k : K0.out0_A_7 (F := Ideal) (Ix := Unit) (U := UU) (Lvl := ℕ) 𝒱₀ c i arg1 harg1 arg2 harg2 arg3 harg3 arg4 harg4 arg5 harg5 arg6 harg6 arg7 harg7 arg8 harg8 arg9 harg9 x0 x1 x2 x3 x4 x5
    = k0_pay1 (k0_pay3 x0 x1 x2) (k0_pay5 x4) (constant S512x1024 .f32 0x00000000#32) := by
  unfold K0.out0_A_7 K0.kernelRun0_A
  refine (View.read_writes_full _ _ _ _ _).trans ?_
  unfold K0.kernelRun0_A.sl.r K0.kernelRun0_A.sl.r_1 K0.kernelRun0_A.sl.cst_17
  rw [load harg1 x0, load harg2 x1, load harg3 x2, load harg5 x4]
theorem at_v : K0.out0_A_8 (F := Ideal) (Ix := Unit) (U := UU) (Lvl := ℕ) 𝒱₀ c i arg1 harg1 arg2 harg2 arg3 harg3 arg4 harg4 arg5 harg5 arg6 harg6 arg7 harg7 arg8 harg8 arg9 harg9 x0 x1 x2 x3 x4 x5
    = k0_pay2 (k0_pay3 x0 x1 x2) x5 := by
  unfold K0.out0_A_8 K0.kernelRun0_A
  refine (View.read_writes_full _ _ _ _ _).trans ?_
  unfold K0.kernelRun0_A.sl.r
  rw [load harg1 x0, load harg2 x1, load harg3 x2, load harg6 x5]

end

section
variable (c : Dev nD) (i : grid2.Coords)
  (arg1 : Memref sig .tc .vmem S512x1024 .f32) (harg1 : arg1.IsWhole)
  (arg2 : Memref sig .tc .vmem S1x1024 .f32) (harg2 : arg2.IsWhole)
  (arg3 : Memref sig .tc .vmem S512x1024 .f32) (harg3 : arg3.IsWhole)
  (arg4 : Memref sig .tc .vmem S512x1024 .f32) (harg4 : arg4.IsWhole)
  (x0 : Vec Ideal S512x1024 .f32) (x1 : Vec Ideal S1x1024 .f32) (x2 : Vec Ideal S512x1024 .f32)

theorem at_x : K2.out2_A_3 (F := Ideal) (Ix := Unit) (U := UU) (Lvl := ℕ) 𝒱₀ c i arg1 harg1 arg2 harg2 arg3 harg3 arg4 harg4 x0 x1 x2
    = k2_pay1 x0 x1 x2 := by
  unfold K2.out2_A_3 K2.kernelRun2_A
  refine (View.read_writes_full _ _ _ _ _).trans ?_
  rw [load harg1 x0, load harg2 x1, load harg3 x2]

end

section
variable (c : Dev nD) (i : grid3.Coords)
  (arg1 : Memref sig .tc .vmem S512x1024 .f32) (harg1 : arg1.IsWhole)
  (arg2 : Memref sig .tc .vmem S1x1024 .f32) (harg2 : arg2.IsWhole)
  (arg3 : Memref sig .tc .vmem S1x1024 .f32) (harg3 : arg3.IsWhole)
  (arg4 : Memref sig .tc .vmem S1024x512 .bf16) (harg4 : arg4.IsWhole)
  (arg5 : Memref sig .tc .vmem S512x1024 .bf16) (harg5 : arg5.IsWhole)
  (arg6 : Memref sig .tc .vmem S512x1024 .bf16) (harg6 : arg6.IsWhole)
  (x0 : Vec Ideal S512x1024 .f32) (x1 : Vec Ideal S1x1024 .f32) (x2 : Vec Ideal S1x1024 .f32) (x3 : Vec Ideal S1024x512 .bf16) (x4 : Vec Ideal S512x1024 .bf16)

theorem at_f : K3.out3_A_5 (F := Ideal) (Ix := Unit) (U := UU) (Lvl := ℕ) 𝒱₀ c i arg1 harg1 arg2 harg2 arg3 harg3 arg4 harg4 arg5 harg5 arg6 harg6 x0 x1 x2 x3 x4
    = k3_pay1 x0 x1 x2 x3 x4 := by
  unfold K3.out3_A_5 K3.kernelRun3_A
  refine (View.read_writes_full _ _ _ _ _).trans ?_
  unfold K3.kernelRun3_A.sl.r
  rw [load harg1 x0, load harg2 x1, load harg3 x2, load harg4 x3, load harg5 x4]

end

section
variable (V : (c : Dev nD) → (r : Ref sig .tc) → Buf (Elt Ideal) ((c : Thread nD τ).loc r)) (c : Dev nD)

theorem left_q (t : Fin cfg0.N) : (K0.outsAt0 (F := Ideal) (Ix := Unit) (U := UU) (Lvl := ℕ) 𝒱₀ V c t).1
    = k0_pay4 (K0.iblk V c 0 t) (K0.iblk V c 1 t) (K0.iblk V c 2 t) (K0.iblk V c 3 t) := by
  unfold K0.outsAt0; dsimp only; exact at_q _ _ _ _ _ _ _ _ _ _ _ _ _ _ _ _ _ _ _ _ _ _ _ _ _ _
theorem left_k (t : Fin cfg0.N) : (K0.outsAt0 (F := Ideal) (Ix := Unit) (U := UU) (Lvl := ℕ) 𝒱₀ V c t).2.1
    = k0_pay1 (k0_pay3 (K0.iblk V c 0 t) (K0.iblk V c 1 t) (K0.iblk V c 2 t)) (k0_pay5 (K0.iblk V c 4 t)) (constant S512x1024 .f32 0x00000000#32) := by
  unfold K0.outsAt0; dsimp only; exact at_k _ _ _ _ _ _ _ _ _ _ _ _ _ _ _ _ _ _ _ _ _ _ _ _ _ _
theorem left_v (t : Fin cfg0.N) : (K0.outsAt0 (F := Ideal) (Ix := Unit) (U := UU) (Lvl := ℕ) 𝒱₀ V c t).2.2
    = k0_pay2 (k0_pay3 (K0.iblk V c 0 t) (K0.iblk V c 1 t) (K0.iblk V c 2 t)) (K0.iblk V c 5 t) := by
  unfold K0.outsAt0; dsimp only; exact at_v _ _ _ _ _ _ _ _ _ _ _ _ _ _ _ _ _ _ _ _ _ _ _ _ _ _
theorem left_x (t : Fin cfg2.N) : K2.outsAt2 (F := Ideal) (Ix := Unit) (U := UU) (Lvl := ℕ) 𝒱₀ V c t
    = k2_pay1 (K2.iblk V c 0 t) (K2.iblk V c 1 t) (K2.iblk V c 2 t) := at_x _ _ _ _ _ _ _ _ _ _ _ _ _
theorem left_f (t : Fin cfg3.N) : K3.outsAt3 (F := Ideal) (Ix := Unit) (U := UU) (Lvl := ℕ) 𝒱₀ V c t
    = k3_pay1 (K3.iblk V c 0 t) (K3.iblk V c 1 t) (K3.iblk V c 2 t) (K3.iblk V c 3 t) (K3.iblk V c 4 t) := at_f _ _ _ _ _ _ _ _ _ _ _ _ _ _ _ _ _ _ _

end

end Cert.Whole

end
-- ==== Proof.Arrays.lean ====
/-
  WHAT THE THREE LOCAL CALLS LEAVE in their result arrays: the projections at every row, the rows after attention, and
  the feed-forward part.
-/
module

public import proofs.«01_k».proof.Proof.Left

@[expose] public section

set_option maxRecDepth 16384

noncomputable section

namespace Cert.Whole

open Cert.KernelIdeal Cert.KernelIdeal.Gen Cert.KernelIdeal.Own
open Idealize.ShloMosaic
open Idealize.ShloMosaic.TcCoe
open Cert.Norm Cert.Spec

/-- What the arrays of a device hold as a call finds them. -/
abbrev Found : Type := (c : Dev nD) → (r : Ref sig .tc) → Buf (Elt Ideal) ((c : Thread nD τ).loc r)

theorem pair (y : S512x1024.Idx) : ∃ (i : Fin 512) (n : Fin 1024), y = ix2 i n :=
  ⟨y 0, y 1, by funext a; match a with | ⟨0, _⟩ => rfl | ⟨1, _⟩ => rfl⟩

variable (V : Found) (c : Dev nD)

abbrev d0 : Pipeline.Dat τ (Elt Ideal) Unit ℕ UU ℕ cfg0 c := K0.dat 𝒱₀ V RingProof.O₀ c
abbrev d2 : Pipeline.Dat τ (Elt Ideal) Unit ℕ UU ℕ cfg2 c := K2.dat 𝒱₀ V SumProof.O₀ c
abbrev d3 : Pipeline.Dat τ (Elt Ideal) Unit ℕ UU ℕ cfg3 c := K3.dat 𝒱₀ V SumProof.O₀ c

section
variable (X : FVec Ideal S4096x1024 .f32) (s t : FVec Ideal S1x1024 .f32) (w : FVec Ideal S1024x1024 .bf16)

/-- The projection of all rows. -/
def ALL : FVec Ideal S4096x1024 .bf16 := fun y =>
  project (fun k => X (ix2 (y 0) k)) (fun k => s (ix2 0 k)) (fun k => t (ix2 0 k)) fun k => w (ix2 k (y 1))
/-- The same with the factor of the queries. -/
def ALLQ : FVec Ideal S4096x1024 .bf16 := fun y => (ALL X s t w y : EReal) * factor

end

/-! ## The projections -/

/-- The row of the arrays that a row of a grid point's block is. -/
def row0 (t : Fin cfg0.N) (i : Fin 512) : Fin 4096 := ⟨t.val * 512 + i.val, by have ht : t.val < 8 := t.isLt; have := i.isLt; omega⟩

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)
theorem idx0_8 : ∀ t : Fin cfg0.N, win0_8.index t = ![t.val, 0] := (by decide +kernel : ∀ t : Fin grid0.N, _)

theorem pos0_0 (t : Fin cfg0.N) (i : Fin 512) (k : Fin 1024) : (win0_0.blk t).view.emb (ix2 i k) = ix2 (row0 t i) k := by
  unfold row0; blk_ext [idx0_0 t]
theorem pos0_1 (t : Fin cfg0.N) (k : Fin 1024) : (win0_1.blk t).view.emb (ix2 0 k) = ix2 0 k := by
  blk_ext [idx0_1 t]
theorem pos0_2 (t : Fin cfg0.N) (k : Fin 1024) : (win0_2.blk t).view.emb (ix2 0 k) = ix2 0 k := by
  blk_ext [idx0_2 t]
theorem pos0_3 (t : Fin cfg0.N) (k n : Fin 1024) : (win0_3.blk t).view.emb (ix2 k n) = ix2 k n := by
  blk_ext [idx0_3 t]
theorem pos0_4 (t : Fin cfg0.N) (k n : Fin 1024) : (win0_4.blk t).view.emb (ix2 k n) = ix2 k n := by
  blk_ext [idx0_4 t]
theorem pos0_5 (t : Fin cfg0.N) (k n : Fin 1024) : (win0_5.blk t).view.emb (ix2 k n) = ix2 k n := by
  blk_ext [idx0_5 t]
theorem pos0_6 (t : Fin cfg0.N) (i : Fin 512) (k : Fin 1024) : (win0_6.blk t).view.emb (ix2 i k) = ix2 (row0 t i) k := by
  unfold row0; blk_ext [idx0_6 t]
theorem pos0_7 (t : Fin cfg0.N) (i : Fin 512) (k : Fin 1024) : (win0_7.blk t).view.emb (ix2 i k) = ix2 (row0 t i) k := by
  unfold row0; blk_ext [idx0_7 t]
theorem pos0_8 (t : Fin cfg0.N) (i : Fin 512) (k : Fin 1024) : (win0_8.blk t).view.emb (ix2 i k) = ix2 (row0 t i) k := by
  unfold row0; blk_ext [idx0_8 t]

theorem read0_0 (t : Fin cfg0.N) (i : Fin 512) : (fun k => V c main_v1 ((win0_0.blk t).view.emb (ix2 i k)) : Fin 1024 → EReal) = fun k => V c main_v1 (ix2 (row0 t i) k) :=
  funext fun k => by rw [pos0_0]
theorem read0_1 (t : Fin cfg0.N) : (fun k => V c main_v10 ((win0_1.blk t).view.emb (ix2 0 k)) : Fin 1024 → EReal) = fun k => V c main_v10 (ix2 0 k) :=
  funext fun k => by rw [pos0_1]
theorem read0_2 (t : Fin cfg0.N) : (fun k => V c main_v4 ((win0_2.blk t).view.emb (ix2 0 k)) : Fin 1024 → EReal) = fun k => V c main_v4 (ix2 0 k) :=
  funext fun k => by rw [pos0_2]
theorem read0_3 (t : Fin cfg0.N) (n : Fin 1024) : (fun k => V c main_v11 ((win0_3.blk t).view.emb (ix2 k n)) : Fin 1024 → EReal) = fun k => V c main_v11 (ix2 k n) :=
  funext fun k => by rw [pos0_3]
theorem read0_4 (t : Fin cfg0.N) (n : Fin 1024) : (fun k => V c main_v12 ((win0_4.blk t).view.emb (ix2 k n)) : Fin 1024 → EReal) = fun k => V c main_v12 (ix2 k n) :=
  funext fun k => by rw [pos0_4]
theorem read0_5 (t : Fin cfg0.N) (n : Fin 1024) : (fun k => V c main_v13 ((win0_5.blk t).view.emb (ix2 k n)) : Fin 1024 → EReal) = fun k => V c main_v13 (ix2 k n) :=
  funext fun k => by rw [pos0_5]

theorem all_q : (d0 V c).arrAt 6 cfg0.N = ALLQ (V c main_v1) (V c main_v10) (V c main_v4) (V c main_v11) := by
  refine (d0 V c).arrAt_eq_of_covers 6 _ (by decide +kernel) fun t hf y => ?_
  blk_simp
  rw [K0.after0_6, left_q]
  obtain ⟨i, n, rfl⟩ := pair y
  rw [Pay.query_at, pos0_6]
  blk_simp [K0.iblk]
  exact congrArg (· * factor) (congr (congr (congr (congrArg project (read0_0 V c t i)) (read0_1 V c t)) (read0_2 V c t)) (read0_3 V c t n))
theorem all_k : (d0 V c).arrAt 7 cfg0.N = ALL (V c main_v1) (V c main_v10) (V c main_v4) (V c main_v12) := by
  refine (d0 V c).arrAt_eq_of_covers 7 _ (by decide +kernel) fun t hf y => ?_
  blk_simp
  rw [K0.after0_7, left_k]
  obtain ⟨i, n, rfl⟩ := pair y
  rw [Pay.key_at, pos0_7]
  blk_simp [K0.iblk]
  exact congr (congr (congr (congrArg project (read0_0 V c t i)) (read0_1 V c t)) (read0_2 V c t)) (read0_4 V c t n)
theorem all_v : (d0 V c).arrAt 8 cfg0.N = ALL (V c main_v1) (V c main_v10) (V c main_v4) (V c main_v13) := by
  refine (d0 V c).arrAt_eq_of_covers 8 _ (by decide +kernel) fun t hf y => ?_
  blk_simp
  rw [K0.after0_8, left_v]
  obtain ⟨i, n, rfl⟩ := pair y
  rw [Pay.val_at, pos0_8]
  blk_simp [K0.iblk]
  exact congr (congr (congr (congrArg project (read0_0 V c t i)) (read0_1 V c t)) (read0_2 V c t)) (read0_5 V c t n)

/-! ## The rows after attention -/

/-- The row of the arrays that a row of a grid point's block is. -/
def row2 (t : Fin cfg2.N) (i : Fin 512) : Fin 4096 := ⟨t.val * 512 + i.val, by have ht : t.val < 8 := t.isLt; have := i.isLt; omega⟩

theorem idx2_0 : ∀ t : Fin cfg2.N, win2_0.index t = ![t.val, 0] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![t.val, 0] := (by decide +kernel : ∀ t : Fin grid2.N, _)
theorem idx2_3 : ∀ t : Fin cfg2.N, win2_3.index t = ![t.val, 0] := (by decide +kernel : ∀ t : Fin grid2.N, _)

theorem pos2_0 (t : Fin cfg2.N) (i : Fin 512) (k : Fin 1024) : (win2_0.blk t).view.emb (ix2 i k) = ix2 (row2 t i) k := by
  unfold row2; blk_ext [idx2_0 t]
theorem pos2_2 (t : Fin cfg2.N) (i : Fin 512) (k : Fin 1024) : (win2_2.blk t).view.emb (ix2 i k) = ix2 (row2 t i) k := by
  unfold row2; blk_ext [idx2_2 t]
theorem pos2_3 (t : Fin cfg2.N) (i : Fin 512) (k : Fin 1024) : (win2_3.blk t).view.emb (ix2 i k) = ix2 (row2 t i) k := by
  unfold row2; blk_ext [idx2_3 t]
theorem pos2_1 (t : Fin cfg2.N) (k : Fin 1024) : (win2_1.blk t).view.emb (ix2 0 k) = ix2 0 k := by
  blk_ext [idx2_1 t]

theorem read2_0 (t : Fin cfg2.N) (i : Fin 512) (n : Fin 1024) : (V c main_v1 ((win2_0.blk t).view.emb (ix2 i n)) : EReal) = V c main_v1 (ix2 (row2 t i) n) := by
  rw [pos2_0]
theorem read2_1 (t : Fin cfg2.N) (n : Fin 1024) : (V c main_v5 ((win2_1.blk t).view.emb (ix2 0 n)) : EReal) = V c main_v5 (ix2 0 n) := by
  rw [pos2_1]
theorem read2_2 (t : Fin cfg2.N) (i : Fin 512) (n : Fin 1024) : (V c main_v17 ((win2_2.blk t).view.emb (ix2 i n)) : EReal) = V c main_v17 (ix2 (row2 t i) n) := by
  rw [pos2_2]

/-- The residual sum at all rows. -/
def MID (X : FVec Ideal S4096x1024 .f32) (g : FVec Ideal S1x1024 .f32) (Y : FVec Ideal S4096x1024 .f32) : FVec Ideal S4096x1024 .f32 := fun y =>
  (X y + g (ix2 0 (y 1)) * Y y : EReal)

theorem all_x : (d2 V c).arrAt 3 cfg2.N = MID (V c main_v1) (V c main_v5) (V c main_v17) := by
  refine (d2 V c).arrAt_eq_of_covers 3 _ (by decide +kernel) fun t hf y => ?_
  blk_simp
  rw [K2.after2_3, left_x]
  obtain ⟨i, n, rfl⟩ := pair y
  rw [Pay.residual_at, pos2_3]
  blk_simp [K2.iblk]
  exact congrArg₂ (· + · : EReal → EReal → EReal) (read2_0 V c t i n) (congrArg₂ (· * · : EReal → EReal → EReal) (read2_1 V c t n) (read2_2 V c t i n))

/-! ## The feed-forward part -/

/-- The row of the arrays that a row of a grid point's block is. -/
def row3 (t : Fin cfg3.N) (i : Fin 512) : Fin 4096 := ⟨t.val * 512 + i.val, by have ht : t.val < 8 := t.isLt; have := i.isLt; omega⟩

theorem idx3_0 : ∀ t : Fin cfg3.N, win3_0.index t = ![t.val, 0] := (by decide +kernel : ∀ t : Fin grid3.N, _)
theorem idx3_1 : ∀ t : Fin cfg3.N, win3_1.index t = ![0, 0] := (by decide +kernel : ∀ t : Fin grid3.N, _)
theorem idx3_2 : ∀ t : Fin cfg3.N, win3_2.index t = ![0, 0] := (by decide +kernel : ∀ t : Fin grid3.N, _)
theorem idx3_3 : ∀ t : Fin cfg3.N, win3_3.index t = ![0, 0] := (by decide +kernel : ∀ t : Fin grid3.N, _)
theorem idx3_4 : ∀ t : Fin cfg3.N, win3_4.index t = ![0, 0] := (by decide +kernel : ∀ t : Fin grid3.N, _)
theorem idx3_5 : ∀ t : Fin cfg3.N, win3_5.index t = ![t.val, 0] := (by decide +kernel : ∀ t : Fin grid3.N, _)

theorem pos3_0 (t : Fin cfg3.N) (i : Fin 512) (k : Fin 1024) : (win3_0.blk t).view.emb (ix2 i k) = ix2 (row3 t i) k := by
  unfold row3; blk_ext [idx3_0 t]
theorem pos3_5 (t : Fin cfg3.N) (i : Fin 512) (k : Fin 1024) : (win3_5.blk t).view.emb (ix2 i k) = ix2 (row3 t i) k := by
  unfold row3; blk_ext [idx3_5 t]
theorem pos3_1 (t : Fin cfg3.N) (k : Fin 1024) : (win3_1.blk t).view.emb (ix2 0 k) = ix2 0 k := by
  blk_ext [idx3_1 t]
theorem pos3_2 (t : Fin cfg3.N) (k : Fin 1024) : (win3_2.blk t).view.emb (ix2 0 k) = ix2 0 k := by
  blk_ext [idx3_2 t]
theorem pos3_3 (t : Fin cfg3.N) (k : Fin 1024) (f : Fin 512) : (win3_3.blk t).view.emb (ix2 k f) = ix2 k f := by
  blk_ext [idx3_3 t]
theorem pos3_4 (t : Fin cfg3.N) (f : Fin 512) (n : Fin 1024) : (win3_4.blk t).view.emb (ix2 f n) = ix2 f n := by
  blk_ext [idx3_4 t]

theorem read3_0 (t : Fin cfg3.N) (i : Fin 512) : (fun k => V c main_v18 ((win3_0.blk t).view.emb (ix2 i k)) : Fin 1024 → EReal) = fun k => V c main_v18 (ix2 (row3 t i) k) :=
  funext fun k => by rw [pos3_0]
theorem read3_1 (t : Fin cfg3.N) : (fun k => V c main_v20 ((win3_1.blk t).view.emb (ix2 0 k)) : Fin 1024 → EReal) = fun k => V c main_v20 (ix2 0 k) :=
  funext fun k => by rw [pos3_1]
theorem read3_2 (t : Fin cfg3.N) : (fun k => V c main_v7 ((win3_2.blk t).view.emb (ix2 0 k)) : Fin 1024 → EReal) = fun k => V c main_v7 (ix2 0 k) :=
  funext fun k => by rw [pos3_2]
theorem read3_3 (t : Fin cfg3.N) : (fun k f => V c main_v21 ((win3_3.blk t).view.emb (ix2 k f)) : Fin 1024 → Fin 512 → EReal) = fun k f => V c main_v21 (ix2 k f) :=
  funext fun k => funext fun f => by rw [pos3_3]
theorem read3_4 (t : Fin cfg3.N) (n : Fin 1024) : (fun k => V c main_v22 ((win3_4.blk t).view.emb (ix2 k n)) : Fin 512 → EReal) = fun k => V c main_v22 (ix2 k n) :=
  funext fun k => by rw [pos3_4]

/-- The feed-forward part at all rows. -/
def FEED (X : FVec Ideal S4096x1024 .f32) (s t : FVec Ideal S1x1024 .f32) (w : FVec Ideal S1024x512 .bf16) (u : FVec Ideal S512x1024 .bf16) :
    FVec Ideal S4096x1024 .bf16 := fun y =>
  feed (fun k => X (ix2 (y 0) k)) (fun k => s (ix2 0 k)) (fun k => t (ix2 0 k)) (fun k f => w (ix2 k f)) fun f => u (ix2 f (y 1))

theorem all_f : (d3 V c).arrAt 5 cfg3.N
    = FEED (V c main_v18) (V c main_v20) (V c main_v7) (V c main_v21) (V c main_v22) := by
  refine (d3 V c).arrAt_eq_of_covers 5 _ (by decide +kernel) fun t hf y => ?_
  blk_simp
  rw [K3.after3_5, left_f]
  obtain ⟨i, n, rfl⟩ := pair y
  rw [Pay.feed_at, pos3_5]
  blk_simp [K3.iblk]
  exact congr (congr (congr (congr (congrArg feed (read3_0 V c t i)) (read3_1 V c t)) (read3_2 V c t)) (read3_3 V c t)) (read3_4 V c t n)

end Cert.Whole

end
-- ==== Proof.RingValue.lean ====
/-
  THE VALUE OF THE RING: at row `r` and column `n` the sum over all 8192 columns `y` of the heads of the attention at
  `(r, y)` times `Wo` at `(y, n)`. Each device has the sum over its 1024 columns, and the eight sums are added along the
  ring, in another order for each chunk of rows.
-/
module

public import proofs.«01_k».proof.Proof.Pay
public import proofs.«01_k».proof.Proof.Split

@[expose] public section

set_option maxRecDepth 16384

noncomputable section

namespace Cert.RingProof

open Cert.KernelIdeal Cert.KernelIdeal.Gen
open Idealize.ShloMosaic
open Cert.Softmax Cert.Spec

/-! ## One device -/

/-- What the devices bring is, device by device, its columns of the queries, keys and values, and its rows of `Wo`. -/
structure Brings (I : Inp Ideal) (A : Args) : Prop where
  q : ∀ (c : Fin 8) (r : Fin 4096) (x : Fin 1024), (I.q c (ix2 r x) : EReal) = A.proj A.Wq r (col c x) * factor
  k : ∀ (c : Fin 8) (r : Fin 4096) (x : Fin 1024), (I.k c (ix2 r x) : EReal) = A.proj A.Wk r (col c x)
  v : ∀ (c : Fin 8) (r : Fin 4096) (x : Fin 1024), (I.v c (ix2 r x) : EReal) = A.proj A.Wv r (col c x)
  w : ∀ (c : Fin 8) (x n : Fin 1024), (I.w c (ix2 x n) : EReal) = A.Wo (col c x) n

theorem row_lt (k : Fin 8) (r : Fin 512) : 512 * k.val + r.val < 4096 := by have := k.isLt; have := r.isLt; omega

variable {I : Inp Ideal} {A : Args}

/-- A device's attention is the whole attention at its columns. -/
theorem attn_at (B : Brings I A) (c k : Fin 8) (r : Fin 512) (x : Fin 1024) :
    attn (F := Ideal) (I.q c) (I.k c) (I.v c) k (ix2 r x) = A.att ⟨512 * k.val + r.val, row_lt k r⟩ (col c x) := by
  have hx := x.isLt
  refine (Pay.attend_at _ _ _ _ _).trans ?_
  unfold Args.att
  congr 1
  · funext j
    unfold Args.score
    refine Finset.sum_congr rfl fun e _ => ?_
    rw [hcol_col, ← B.q, ← B.k]
    refine congrArg₂ (· * · : EReal → EReal → EReal) (congrArg (I.q c) ?_) (congrArg (I.k c) ?_)
    · funext a
      match a with
      | ⟨0, _⟩ => rfl
      | ⟨1, _⟩ => rfl
    · funext a
      match a with
      | ⟨0, _⟩ => rfl
      | ⟨1, _⟩ => rfl
  · funext j
    rw [← B.v]
    refine congrArg (I.v c) ?_
    funext a
    match a with
    | ⟨0, _⟩ => rfl
    | ⟨1, _⟩ => exact Fin.ext (by show 128 * (x.val / 128) + x.val % 128 = x.val; omega)

/-- A device's chunk of the product with its rows of `Wo`. -/
theorem chunk_at (B : Brings I A) (c k : Fin 8) (r : Fin 512) (n : Fin 1024) :
    (I.A c k (ix2 r n) : EReal) = ∑ x : Fin 1024, A.att ⟨512 * k.val + r.val, row_lt k r⟩ (col c x) * A.Wo (col c x) n := by
  refine (Pay.prod_at _ _ r n).trans (Finset.sum_congr rfl fun x _ => ?_)
  rw [attn_at B, B.w]

/-! ## The ring -/

/-- After `t` steps the running sum of a chunk has the products of `t + 1` devices. -/
theorem ring_at (t : ℕ) (c : Fin 8) (i : S512x1024.Idx) :
    (I.R t c i : EReal) = ∑ s ∈ Finset.range (t + 1), (I.A (bk c s) (bk c t) i : EReal) := by
  induction t generalizing c with
  | zero => rw [Finset.sum_range_one, bk_zero]; exact congrFun (congrArg (I.A c) (bk_zero c)) i
  | succ t ih =>
    refine (Pay.add_at _ _ i).trans ?_
    rw [Finset.sum_range_succ', add_comm, bk_zero, ih]
    refine congrArg (· + (I.A c (bk c (t + 1)) i : EReal)) (Finset.sum_congr rfl fun s _ => ?_)
    rw [bk_bk, bk_bk, Nat.add_comm 1 s, Nat.add_comm 1 t]

/-- Chunk `k` of the result has every device's product once. -/
theorem sum_at (k : Fin 8) (i : S512x1024.Idx) : (I.V k i : EReal) = ∑ c : Fin 8, (I.A c k i : EReal) := by
  refine (ring_at 7 (bk k 1) i).trans ?_
  have hk : bk (bk k 1) 7 = k := by revert k; decide
  rw [hk, Finset.sum_range (fun s => (I.A (bk (bk k 1) s) k i : EReal))]
  exact Fintype.sum_bijective (fun s : Fin 8 => bk (bk k 1) s.val) (by revert k; decide) _ _ fun s => rfl

/-! ## Together -/

theorem out_at (B : Brings I A) (r : Fin 4096) (n : Fin 1024) :
    (I.out (ix2 r n) : EReal) = ∑ y : Fin 8192, A.att r y * A.Wo y n := by
  have hr := r.isLt
  refine (sum_at ⟨r.val / 512, by omega⟩ (ix2 ⟨r.val % 512, by omega⟩ n)).trans ?_
  rw [sum_cols]
  refine Finset.sum_congr rfl fun c _ => (chunk_at B c _ _ n).trans (Finset.sum_congr rfl fun x _ => ?_)
  have e : (⟨512 * (r.val / 512) + r.val % 512, row_lt ⟨r.val / 512, by omega⟩ ⟨r.val % 512, by omega⟩⟩ : Fin 4096) = r :=
    Fin.ext (by show 512 * (r.val / 512) + r.val % 512 = r.val; omega)
  exact congrArg (fun z => A.att z (col c x) * A.Wo (col c x) n) e

end Cert.RingProof

end
-- ==== Proof.SumValue.lean ====
/-
  The value of the all-reduce: over the extended reals every element of the result is the sum of the eight devices'
  elements.
-/
module

public import proofs.«01_k».proof.Proof.SumProto
public import Idealize.ShloMosaic.Lib.Pipeline.ValueKit

@[expose] public section

set_option maxRecDepth 16384

noncomputable section

namespace Cert.SumProof

open Cert.KernelIdeal Cert.KernelIdeal.Gen
open Idealize.ShloMosaic
open Idealize.ShloMosaic.TcCoe

variable {I : Inp Ideal}

/-- After `t` additions the running sum of a tile has the tiles of `t + 1` devices. -/
theorem ring_at (δ : Fin 2) (t : ℕ) (c : Fin 8) (x : S512x512.Idx) :
    (I.R δ t c x : EReal) = ∑ s ∈ Finset.range (t + 1), (I.H δ (ch δ c s) (ch δ c t) x : EReal) := by
  induction t generalizing c with
  | zero => rw [Finset.sum_range_one]; exact congrFun (congrArg (fun d => I.H δ d (ch δ c 0)) (ch_zero δ c).symm) x
  | succ t ih =>
    have e : (I.R δ (t + 1) c x : EReal) = (I.H δ c (ch δ c (t + 1)) x : EReal) + (I.R δ t (pr δ c) x : EReal) := by
      show (addP (I.H δ c (ch δ c (t + 1))) (I.R δ t (pr δ c)) x : EReal) = _
      pointwise [addP]
    rw [e, Finset.sum_range_succ', add_comm, ch_zero, ih]
    refine congrArg (· + (I.H δ c (ch δ c (t + 1)) x : EReal)) (Finset.sum_congr rfl fun s _ => ?_)
    rw [show ch δ (pr δ c) s = ch δ c (s + 1) from (ch_ch δ c 1 s).trans (congrArg _ (Nat.add_comm 1 s)),
      show ch δ (pr δ c) t = ch δ c (t + 1) from (ch_ch δ c 1 t).trans (congrArg _ (Nat.add_comm 1 t))]

/-- A finished tile has every device's tile once. -/
theorem tile_at (δ : Fin 2) (k : Fin 8) (x : S512x512.Idx) : (I.V δ k x : EReal) = ∑ c : Fin 8, (I.H δ c k x : EReal) := by
  refine (ring_at δ 7 (ch δ k 1) x).trans ?_
  rw [show ch δ (ch δ k 1) 7 = k from nx_pr δ k, Finset.sum_range (fun s => (I.H δ (ch δ (ch δ k 1) s) k x : EReal))]
  exact Fintype.sum_bijective (fun s : Fin 8 => ch δ (ch δ k 1) s.val) (by revert δ k; decide) _ _ fun s => rfl

/-- Every element of the result is the sum of the devices' elements. -/
theorem out_at (i : S4096x1024.Idx) : (I.out i : EReal) = ∑ c : Fin 8, (I c i : EReal) := by
  obtain ⟨δ, -, hδ⟩ := Finset.mem_biUnion.mp (sides_cover ▸ Finset.mem_univ i)
  obtain ⟨k, -, hk⟩ := Finset.mem_biUnion.mp ((halves_cover δ).symm ▸ hδ)
  rw [← halfM_set] at hk
  obtain ⟨x, -, rfl⟩ := Finset.mem_map.mp hk
  exact (congrFun (read_gather I.V δ k) x).trans (tile_at δ k x)

end Cert.SumProof

end
-- ==== Proof.Compose.lean ====
/-
  THE RESULT OF THE KERNEL at a row and a column, from the whole arrays of which the devices hold their blocks: through
  the projections, the ring, the residual sum, the feed-forward part and the all-reduce.
-/
module

public import proofs.«01_k».proof.Proof.Entry
public import proofs.«01_k».proof.Proof.Arrays
public import proofs.«01_k».proof.Proof.RingValue
public import proofs.«01_k».proof.Proof.SumValue

@[expose] public section

set_option maxRecDepth 16384

noncomputable section

namespace Cert.Whole

open Cert.KernelIdeal Cert.KernelIdeal.Gen Cert.KernelIdeal.Own
open Idealize.ShloMosaic
open Idealize.ShloMosaic.TcCoe
open Cert.Norm Cert.Spec

/-- Every device holds the rows, the time embedding and its weights, and its blocks of the other weights. -/
structure Held (m : (ℓ : Loc nD τ sig) → Buf (Elt Ideal) ℓ) (A : Args) : Prop where
  x : ∀ (c : Fin 8) (i : Fin 4096) (k : Fin 1024), (arg0 m c (ix3 0 i k) : EReal) = A.x i k
  q : ∀ (c : Fin 8) (k n : Fin 1024), (arg1 m c (ix2 k n) : EReal) = A.Wq k (col c n)
  k : ∀ (c : Fin 8) (k n : Fin 1024), (arg2 m c (ix2 k n) : EReal) = A.Wk k (col c n)
  v : ∀ (c : Fin 8) (k n : Fin 1024), (arg3 m c (ix2 k n) : EReal) = A.Wv k (col c n)
  o : ∀ (c : Fin 8) (y n : Fin 1024), (arg4 m c (ix2 y n) : EReal) = A.Wo (col c y) n
  t : ∀ (c : Fin 8) (e : Fin 128), (arg5 m c (ix2 0 e) : EReal) = A.t e
  M : ∀ (c : Fin 8) (e : Fin 128) (y : Fin 6144), (arg6 m c (ix2 e y) : EReal) = A.M e y
  u : ∀ (c : Fin 8) (k : Fin 1024) (f : Fin 512), (arg7 m c (ix2 k f) : EReal) = A.W1 k (fcol c f)
  d : ∀ (c : Fin 8) (f : Fin 512) (n : Fin 1024), (arg8 m c (ix2 f n) : EReal) = A.W2 (fcol c f) n

variable {m : (ℓ : Loc nD τ sig) → Buf (Elt Ideal) ℓ} {A : Args} (H : Held m A) (c : Dev nD)

/-! ## The modulation -/

section
variable (G : FVec Ideal S1x6144 .f32) (k : Fin 1024)
theorem slice0 : extractStridedSlice S1x1024 ![0, 0] G slices_S1x6144_S1x1024_0_0 (ix2 0 k) = G (ix2 0 ⟨1024 * (0 : Fin 6).val + k.val, part_lt 0 k⟩) := by
  pointwise
theorem slice1 : extractStridedSlice S1x1024 ![0, 1024] G slices_S1x6144_S1x1024_0_1024 (ix2 0 k) = G (ix2 0 ⟨1024 * (1 : Fin 6).val + k.val, part_lt 1 k⟩) := by
  pointwise
theorem slice2 : extractStridedSlice S1x1024 ![0, 2048] G slices_S1x6144_S1x1024_0_2048 (ix2 0 k) = G (ix2 0 ⟨1024 * (2 : Fin 6).val + k.val, part_lt 2 k⟩) := by
  pointwise
theorem slice3 : extractStridedSlice S1x1024 ![0, 3072] G slices_S1x6144_S1x1024_0_3072 (ix2 0 k) = G (ix2 0 ⟨1024 * (3 : Fin 6).val + k.val, part_lt 3 k⟩) := by
  pointwise
theorem slice4 : extractStridedSlice S1x1024 ![0, 4096] G slices_S1x6144_S1x1024_0_4096 (ix2 0 k) = G (ix2 0 ⟨1024 * (4 : Fin 6).val + k.val, part_lt 4 k⟩) := by
  pointwise
theorem slice5 : extractStridedSlice S1x1024 ![0, 5120] G slices_S1x6144_S1x1024_0_5120 (ix2 0 k) = G (ix2 0 ⟨1024 * (5 : Fin 6).val + k.val, part_lt 5 k⟩) := by
  pointwise
end

include H in
theorem six_at (j : Fin 6) (k : Fin 1024) : (SIXK (arg5 m c) (arg6 m c) (ix2 0 ⟨1024 * j.val + k.val, part_lt j k⟩) : EReal) = A.g j k := by
  refine (sixk_at _ _ _).trans (Finset.sum_congr rfl fun e _ => ?_)
  rw [H.t c e, H.M c e]

theorem row_of (X : FVec Ideal S1x4096x1024 .f32) (i : Fin 4096) (k : Fin 1024) :
    shapeCast S4096x1024 X shapeCasts_S1x4096x1024_S4096x1024 (ix2 i k) = X (ix3 0 i k) := by
  pointwise
theorem one_plus (G : FVec Ideal S1x1024 .f32) (k : Fin 1024) : addf (F := Ideal) (φ := .f32) ONES G (ix2 0 k) = (1 + G (ix2 0 k) : EReal) := by
  rw [← ones_at k]
  pointwise

include H in
theorem v1_at (i : Fin 4096) (k : Fin 1024) : (st1 m c main_v1 (ix2 i k) : EReal) = A.x i k :=
  (congrFun (v1_eq m c) (ix2 i k)).trans ((row_of _ i k).trans (H.x c i k))
include H in
theorem v4_at (k : Fin 1024) : (st1 m c main_v4 (ix2 0 k) : EReal) = A.g 1 k :=
  (congrFun (v4_eq m c) (ix2 0 k)).trans ((slice1 _ k).trans (six_at H c 1 k))
include H in
theorem v5_at (k : Fin 1024) : (st1 m c main_v5 (ix2 0 k) : EReal) = A.g 2 k :=
  (congrFun (v5_eq m c) (ix2 0 k)).trans ((slice2 _ k).trans (six_at H c 2 k))
include H in
theorem v6_at (k : Fin 1024) : (st1 m c main_v6 (ix2 0 k) : EReal) = A.g 3 k :=
  (congrFun (v6_eq m c) (ix2 0 k)).trans ((slice3 _ k).trans (six_at H c 3 k))
include H in
theorem v7_at (k : Fin 1024) : (st1 m c main_v7 (ix2 0 k) : EReal) = A.g 4 k :=
  (congrFun (v7_eq m c) (ix2 0 k)).trans ((slice4 _ k).trans (six_at H c 4 k))
include H in
theorem v8_at (k : Fin 1024) : (st1 m c main_v8 (ix2 0 k) : EReal) = A.g 5 k :=
  (congrFun (v8_eq m c) (ix2 0 k)).trans ((slice5 _ k).trans (six_at H c 5 k))
include H in
theorem v10_at (k : Fin 1024) : (st1 m c main_v10 (ix2 0 k) : EReal) = 1 + A.g 0 k :=
  (congrFun (v10_eq m c) (ix2 0 k)).trans ((one_plus _ k).trans (congrArg (1 + ·) ((slice0 _ k).trans (six_at H c 0 k))))
include H in
theorem v20_at (k : Fin 1024) : (st7 m c main_v20 (ix2 0 k) : EReal) = 1 + A.g 3 k :=
  (congrFun (v20_eq m c) (ix2 0 k)).trans ((one_plus _ k).trans (congrArg (1 + ·) (v6_at H c k)))

/-! ## The projections -/

include H in
theorem proj_at (W : Fin 1024 → Fin 8192 → EReal) (w : FVec Ideal S1024x1024 .bf16) (hw : ∀ k n, (w (ix2 k n) : EReal) = W k (col c n))
    (r : Fin 4096) (n : Fin 1024) :
    (ALL (st1 m c main_v1) (st1 m c main_v10) (st1 m c main_v4) w (ix2 r n) : EReal) = A.proj W r (col c n) :=
  congr (congr (congr (congrArg project (funext fun k => v1_at H c r k)) (funext fun k => v10_at H c k)) (funext fun k => v4_at H c k))
    (funext fun k => hw k n)

include H in
theorem q_at (r : Fin 4096) (n : Fin 1024) : (st3 m c main_v14_0 (ix2 r n) : EReal) = A.proj A.Wq r (col c n) * factor := by
  have e : st3 m c main_v14_0 = _ := (same3 m c _ (by decide)).trans ((st2_0 m c).trans (all_q (fun c b => st1 m c b) c))
  exact (congrFun e (ix2 r n)).trans (congrArg (· * factor) (proj_at H c A.Wq _ (fun k n => (congrFun (v11_eq m c) (ix2 k n)).trans (H.q c k n)) r n))
include H in
theorem k_at (r : Fin 4096) (n : Fin 1024) : (st3 m c main_v14_1 (ix2 r n) : EReal) = A.proj A.Wk r (col c n) := by
  have e : st3 m c main_v14_1 = _ := (same3 m c _ (by decide)).trans ((st2_1 m c).trans (all_k (fun c b => st1 m c b) c))
  exact (congrFun e (ix2 r n)).trans (proj_at H c A.Wk _ (fun k n => (congrFun (v12_eq m c) (ix2 k n)).trans (H.k c k n)) r n)
include H in
theorem v_at (r : Fin 4096) (n : Fin 1024) : (st3 m c main_v14_2 (ix2 r n) : EReal) = A.proj A.Wv r (col c n) := by
  have e : st3 m c main_v14_2 = _ := (same3 m c _ (by decide)).trans ((st2_2 m c).trans (all_v (fun c b => st1 m c b) c))
  exact (congrFun e (ix2 r n)).trans (proj_at H c A.Wv _ (fun k n => (congrFun (v13_eq m c) (ix2 k n)).trans (H.v c k n)) r n)
include H in
theorem o_at (y n : Fin 1024) : (st3 m c main_v15 (ix2 y n) : EReal) = A.Wo (col c y) n :=
  (congrFun (v15_eq m c) (ix2 y n)).trans (H.o c y n)

/-! ## The ring -/

section
variable (V : (c : Dev nD) → (r : Ref sig .tc) → Buf (Elt Ideal) ((c : Thread nD τ).loc r))

theorem at0 : ∀ a, win1_0.index t1_0 a = 0 := by decide +kernel
theorem at1 : ∀ a, win1_1.index t1_0 a = 0 := by decide +kernel
theorem at2 : ∀ a, win1_2.index t1_0 a = 0 := by decide +kernel
theorem at3 : ∀ a, win1_3.index t1_0 a = 0 := by decide +kernel
theorem at4 : ∀ a, win4_0.index t4_0 a = 0 := by decide +kernel

/-- Each window's one block is its whole array. -/
theorem found_q (i : S4096x1024.Idx) : ((RingProof.inp (F := Ideal) V).q c i : EReal) = V c main_v14_0 i := by
  show (RingProof.found V c (0 : Fin 5) i : EReal) = _; blk_ext [RingProof.found, at0]
theorem found_k (i : S4096x1024.Idx) : ((RingProof.inp (F := Ideal) V).k c i : EReal) = V c main_v14_1 i := by
  show (RingProof.found V c (1 : Fin 5) i : EReal) = _; blk_ext [RingProof.found, at1]
theorem found_v (i : S4096x1024.Idx) : ((RingProof.inp (F := Ideal) V).v c i : EReal) = V c main_v14_2 i := by
  show (RingProof.found V c (2 : Fin 5) i : EReal) = _; blk_ext [RingProof.found, at2]
theorem found_w (i : S1024x1024.Idx) : ((RingProof.inp (F := Ideal) V).w c i : EReal) = V c main_v15 i := by
  show (RingProof.found V c (3 : Fin 5) i : EReal) = _; blk_ext [RingProof.found, at3]
theorem found_s (i : S4096x1024.Idx) : (SumProof.inp (F := Ideal) V c i : EReal) = V c main_v23 i := by
  unfold SumProof.inp; blk_ext [SumProof.found, at4]

/-- The result's one block is the whole result. -/
theorem ring_out : (RingProof.dat (F := Ideal) V c).arrAt 4 cfg1.N = (RingProof.inp V).out := by
  refine (RingProof.dat V c).arrAt_eq_of_after_last (4 : Fin 5) t1_0 (by decide +kernel) _ fun j => ?_
  blk_simp
  rfl
theorem sum_out : (SumProof.dat (F := Ideal) V c).arrAt 1 cfg4.N = (SumProof.inp V).out := by
  refine (SumProof.dat V c).arrAt_eq_of_after_last (1 : Fin 2) t4_0 (by decide +kernel) _ fun j => ?_
  blk_simp
  rfl
end

include H in
theorem brings : RingProof.Brings (RingProof.inp fun c b => st3 m c b) A where
  q c r x := (found_q c (fun c b => st3 m c b) _).trans (q_at H c r x)
  k c r x := (found_k c (fun c b => st3 m c b) _).trans (k_at H c r x)
  v c r x := (found_v c (fun c b => st3 m c b) _).trans (v_at H c r x)
  w c x n := (found_w c (fun c b => st3 m c b) _).trans (o_at H c x n)

include H in
theorem v16_at (r : Fin 4096) (n : Fin 1024) : (st4 m c main_v16 (ix2 r n) : EReal) = ∑ y, A.att r y * A.Wo y n := by
  have e : st4 m c main_v16 = _ := (st4_16 m c).trans (ring_out c fun c b => st3 m c b)
  exact (congrFun e (ix2 r n)).trans (RingProof.out_at (brings H) r n)

/-! ## The rows after attention -/

include H in
theorem v18_at (r : Fin 4096) (n : Fin 1024) : (st6 m c main_v18 (ix2 r n) : EReal) = A.mid r n := by
  have e : st6 m c main_v18 = _ := (st6_18 m c).trans (all_x (fun c b => st5 m c b) c)
  have h1 : (st5 m c main_v1 (ix2 r n) : EReal) = A.x r n := (congrFun (pass_v1 m c) _).trans (v1_at H c r n)
  have h2 : (st5 m c main_v5 (ix2 0 n) : EReal) = A.g 2 n := (congrFun (pass_v5 m c) _).trans (v5_at H c n)
  have h3 : (st5 m c main_v17 (ix2 r n) : EReal) = ∑ y, A.att r y * A.Wo y n := (congrFun (v17_eq m c) _).trans (v16_at H c r n)
  exact (congrFun e (ix2 r n)).trans (congrArg₂ (· + · : EReal → EReal → EReal) h1 (congrArg₂ (· * · : EReal → EReal → EReal) h2 h3))

/-! ## The feed-forward part -/

/-- A device's part. -/
def mine (A : Args) (c : Fin 8) (r : Fin 4096) (n : Fin 1024) : EReal :=
  feed (A.mid r) (fun k => 1 + A.g 3 k) (A.g 4) (fun k f => A.W1 k (fcol c f)) fun f => A.W2 (fcol c f) n

include H in
theorem v23_at (r : Fin 4096) (n : Fin 1024) : (st8 m c main_v23 (ix2 r n) : EReal) = mine A c r n := by
  have e : st8 m c main_v23 = _ := (st8_23 m c).trans (all_f (fun c b => st7 m c b) c)
  have h0 : (fun k => st7 m c main_v18 (ix2 r k) : Fin 1024 → EReal) = A.mid r :=
    funext fun k => (congrFun (same7 m c main_v18 (by decide)) _).trans (v18_at H c r k)
  have h1 : (fun k => st7 m c main_v20 (ix2 0 k) : Fin 1024 → EReal) = fun k => 1 + A.g 3 k := funext fun k => v20_at H c k
  have h2 : (fun k => st7 m c main_v7 (ix2 0 k) : Fin 1024 → EReal) = A.g 4 :=
    funext fun k => (congrFun (pass_v7 m c) _).trans (v7_at H c k)
  have h3 : (fun k f => st7 m c main_v21 (ix2 k f) : Fin 1024 → Fin 512 → EReal) = fun k f => A.W1 k (fcol c f) :=
    funext fun k => funext fun f => (congrFun (v21_eq m c) _).trans (H.u c k f)
  have h4 : (fun f => st7 m c main_v22 (ix2 f n) : Fin 512 → EReal) = fun f => A.W2 (fcol c f) n :=
    funext fun f => (congrFun (v22_eq m c) _).trans (H.d c f n)
  exact (congrFun e (ix2 r n)).trans (congr (congr (congr (congr (congrArg feed h0) h1) h2) h3) h4)

/-! ## The all-reduce -/

include H in
theorem v24_at (r : Fin 4096) (n : Fin 1024) : (st9 m c main_v24 (ix2 r n) : EReal)
    = feed (A.mid r) (fun k => 1 + A.g 3 k) (A.g 4) A.W1 fun y => A.W2 y n := by
  have e : st9 m c main_v24 = _ := (st9_24 m c).trans (sum_out c fun c b => st8 m c b)
  rw [feed_split]
  refine (congrFun e (ix2 r n)).trans ((SumProof.out_at _).trans (Finset.sum_congr rfl fun d _ => ?_))
  exact (found_s d (fun c b => st8 m c b) _).trans (v23_at H d r n)

/-! ## The result -/

include H in
theorem v29_at (r : Fin 4096) (n : Fin 1024) : (st10 m c main_v29 (ix3 0 r n) : EReal) = A.res r n := by
  have h1 : (st9 m c main_v18 (ix2 r n) : EReal) = A.mid r n := (congrFun (pass_v18 m c) _).trans (v18_at H c r n)
  have h2 : (st9 m c main_v8 (ix2 0 n) : EReal) = A.g 5 n := (congrFun (pass_v8 m c) _).trans (v8_at H c n)
  exact ((congrFun (v29_eq m c) (ix3 0 r n)).trans (last_at _ _ _ r n)).trans
    (congrArg₂ (· + · : EReal → EReal → EReal) h1 (congrArg₂ (· * · : EReal → EReal → EReal) h2 (v24_at H c r n)))

end Cert.Whole

end
-- ==== Proof.RefRead.lean ====
/-
  THE REFERENCE READ AT AN INDEX over the extended reals: its layer norm, projections, scores, row maxima, exponentials,
  attention, the rows after attention and the result, each as the formula of `Spec`.
-/
module

public import proofs.«01_k».proof.Proof.Spec
public import proofs.«01_k».proof.Proof.Gen.ReferenceIdeal.Run
public import Idealize.ShloMosaic.Lib.Pipeline.ValueKit

@[expose] public section

set_option maxRecDepth 16384

noncomputable section

namespace Cert.RefRead

open Cert.ReferenceIdeal Cert.ReferenceIdeal.Gen
open Idealize.ShloMosaic Idealize.ShloMosaic.TcCoe
open Cert.Norm Cert.Softmax Cert.Spec

/-! ## The layer norm -/

/-- The mean of every row, as a column. -/
def MEAN (x : FVec Ideal S4096x1024 .f32) : FVec Ideal S4096x1 .f32 :=
  Host.divf (broadcastInDim S4096x1 ![0] bcast_S4096_S4096x1_0 (Host.reduceAdd x (constant S_ .f32 0x00000000#32) reducesTo_S4096x1024_S4096_d1 h_S_))
    (broadcastInDim S4096x1 ![] bcast_S_S4096x1 (constant S_ .f32 0x44800000#32))
/-- Every entry less its row's mean. -/
def CENT (x : FVec Ideal S4096x1024 .f32) : FVec Ideal S4096x1024 .f32 :=
  subf x (broadcastInDim S4096x1024 ![0, 1] bcast_S4096x1_S4096x1024_0_1 (MEAN x))
/-- The number of entries that the variance is divided by. -/
def CNT : FVec Ideal S_ .f32 := subf (constant S_ .f32 0x44800000#32) (sitofp .f32 (constantI S_ 32 0#32))
/-- The variance of every row, as a column. -/
def VAR (x : FVec Ideal S4096x1024 .f32) : FVec Ideal S4096x1 .f32 :=
  select (broadcastInDim S4096x1 ![] bcast_S_S4096x1 (cmpf .ogt CNT (constant S_ .f32 0x00000000#32)))
    (Host.divf (broadcastInDim S4096x1 ![0] bcast_S4096_S4096x1_0 (Host.reduceAdd (mulf (CENT x) (CENT x)) (constant S_ .f32 0x00000000#32) reducesTo_S4096x1024_S4096_d1 h_S_))
      (broadcastInDim S4096x1 ![] bcast_S_S4096x1 CNT))
    (broadcastInDim S4096x1 ![] bcast_S_S4096x1 (id (constant S_ .f32 0x7FC00000#32)))
/-- The rows after layer norm and modulation. -/
def LNM (x : FVec Ideal S4096x1024 .f32) (s t : FVec Ideal S1x1024 .f32) : FVec Ideal S4096x1024 .f32 :=
  addf (mulf (Host.divf (CENT x) (broadcastInDim S4096x1024 ![0, 1] bcast_S4096x1_S4096x1024_0_1
        (Host.sqrt (addf (VAR x) (broadcastInDim S4096x1 ![] bcast_S_S4096x1 (constant S_ .f32 0x3727C5AC#32))))))
      (broadcastInDim S4096x1024 ![0, 1] bcast_S1x1024_S4096x1024_0_1 (addf (broadcastInDim S1x1024 ![] bcast_S_S1x1024 (constant S_ .f32 0x3F800000#32)) s)))
    (broadcastInDim S4096x1024 ![0, 1] bcast_S1x1024_S4096x1024_0_1 t)

theorem mean_at (x : FVec Ideal S4096x1024 .f32) (i : Fin 4096) : MEAN x (ix2 i 0) = mean (fun k => x (ix2 i k)) := by
  unfold mean
  pointwise [MEAN]
theorem cent_at (x : FVec Ideal S4096x1024 .f32) (i : Fin 4096) (k : Fin 1024) :
    CENT x (ix2 i k) = (x (ix2 i k) : EReal) - mean (fun k => x (ix2 i k)) := by
  rw [← mean_at]
  pointwise [CENT]
theorem cnt_at (j) : CNT j = len := by
  show len - (((0#32 : BitVec 32).toInt : ℝ) : EReal) = len
  rw [show (0#32 : BitVec 32).toInt = 0 from by decide, Int.cast_zero, EReal.coe_zero, sub_zero]
theorem var_at (x : FVec Ideal S4096x1024 .f32) (i : Fin 4096) : VAR x (ix2 i 0) = var (fun k => x (ix2 i k)) := by
  unfold var
  simp only [← cent_at]
  have hl : (0 : EReal) < len := by rw [len_eq]; exact EReal.coe_pos.mpr (by norm_num)
  pointwise [VAR]
  rw [cnt_at, if_pos hl]
theorem lnm_at (x : FVec Ideal S4096x1024 .f32) (s t : FVec Ideal S1x1024 .f32) (i : Fin 4096) (k : Fin 1024) :
    LNM x s t (ix2 i k) = modulated (fun k => x (ix2 i k)) (fun k => 1 + s (ix2 0 k)) (fun k => t (ix2 0 k)) k := by
  unfold modulated Cert.Norm.norm
  rw [← var_at]
  have h := cent_at x i k
  dsimp only at h ⊢
  rw [← h]
  pointwise [LNM]

/-! ## Attention -/

/-- A projection of all rows. -/
def PRJ (y : FVec Ideal S4096x1024 .f32) (W : FVec Ideal S1024x8192 .f32) : FVec Ideal S4096x8192 .f32 :=
  Host.dotGeneral dot_S4096x1024_S1024x8192_S4096x8192_1_0_0_1_n_n none y W
/-- The scores. -/
def SC (Q K : FVec Ideal S4096x8192 .f32) : FVec Ideal S64x4096x4096 .f32 :=
  mulf (Host.dotGeneral dot_S4096x64x128_S4096x64x128_S64x4096x4096_2_2_0_0_1_1 none
    (shapeCast _ Q shapeCasts_S4096x8192_S4096x64x128) (shapeCast _ K shapeCasts_S4096x8192_S4096x64x128))
    (broadcastInDim S64x4096x4096 ![] bcast_S_S64x4096x4096 (constant S_ .f32 0x3DB504F3#32))
/-- The largest score of a row. -/
def MX (s : FVec Ideal S64x4096x4096 .f32) : FVec Ideal S64x4096 .f32 :=
  Host.reduce FloatOps.maximumf s (constant S_ .f32 0xFF800000#32) reducesTo_S64x4096x4096_S64x4096_d2 h_S_
/-- The exponentials of the scores less the largest. -/
def PX (s : FVec Ideal S64x4096x4096 .f32) (x : FVec Ideal S64x4096 .f32) : FVec Ideal S64x4096x4096 .f32 :=
  Host.exp (subf s (broadcastInDim S64x4096x4096 ![0, 1, 2] bcast_S64x4096x1_S64x4096x4096_0_1_2
    (broadcastInDim S64x4096x1 ![0, 1] bcast_S64x4096_S64x4096x1_0_1 x)))
/-- The attention of all heads, side by side. -/
def AT (p : FVec Ideal S64x4096x4096 .f32) (V : FVec Ideal S4096x8192 .f32) : FVec Ideal S4096x8192 .f32 :=
  shapeCast _ (Host.divf (transpose S4096x64x128 [2, 0, 1]
      (Host.dotGeneral dot_S4096x64x128_S64x4096x4096_S64x128x4096_0_2_2_1_1_0 none
        (shapeCast _ V shapeCasts_S4096x8192_S4096x64x128) p)
      transposes_S64x128x4096_S4096x64x128_2_0_1)
    (broadcastInDim S4096x64x128 ![0, 1, 2] bcast_S4096x64x1_S4096x64x128_0_1_2
      (transpose S4096x64x1 [1, 0, 2] (broadcastInDim S64x4096x1 ![0, 1] bcast_S64x4096_S64x4096x1_0_1
        (Host.reduceAdd p (constant S_ .f32 0x00000000#32) reducesTo_S64x4096x4096_S64x4096_d2 h_S_))
        transposes_S64x4096x1_S4096x64x1_1_0_2))) shapeCasts_S4096x64x128_S4096x8192
/-- The rows after attention. -/
def MID (x : FVec Ideal S4096x1024 .f32) (g : FVec Ideal S1x1024 .f32) (a : FVec Ideal S4096x8192 .f32) (W : FVec Ideal S8192x1024 .f32) :
    FVec Ideal S4096x1024 .f32 :=
  addf x (mulf (broadcastInDim S4096x1024 ![0, 1] bcast_S1x1024_S4096x1024_0_1 g)
    (Host.dotGeneral dot_S4096x8192_S8192x1024_S4096x1024_1_0_0_1_n_n none a W))

theorem col_lt (h : Fin 64) (e : Fin 128) : h.val * 128 + e.val < 8192 := by have := h.isLt; have := e.isLt; omega
theorem head_lt (x : Fin 8192) : x.val / 128 < 64 := by have := x.isLt; omega

theorem prj_at (y : FVec Ideal S4096x1024 .f32) (W : FVec Ideal S1024x8192 .f32) (i : Fin 4096) (n : Fin 8192) :
    PRJ y W (ix2 i n) = ∑ k : Fin 1024, (y (ix2 i k) : EReal) * W (ix2 k n) := by
  pointwise [PRJ]
theorem sc_at (Q K : FVec Ideal S4096x8192 .f32) (h : Fin 64) (i j : Fin 4096) :
    SC Q K (ix3 h i j) = (∑ e : Fin 128, (Q (ix2 i ⟨h.val * 128 + e.val, col_lt h e⟩) : EReal) * K (ix2 j ⟨h.val * 128 + e.val, col_lt h e⟩)) * factor := by
  unfold factor
  pointwise [SC]
theorem mx_at (s : FVec Ideal S64x4096x4096 .f32) (h : Fin 64) (i : Fin 4096) :
    MX s (ix2 h i) = Finset.fold max (Ideal.ofBits FTy.f32 0xFF800000#32 : EReal) (fun j : Fin 4096 => (s (ix3 h i j) : EReal)) Finset.univ := by
  pointwise [MX]
theorem px_at (s : FVec Ideal S64x4096x4096 .f32) (x : FVec Ideal S64x4096 .f32) (h : Fin 64) (i j : Fin 4096) :
    PX s x (ix3 h i j) = Ideal.exp ((s (ix3 h i j) : EReal) - x (ix2 h i)) := by
  pointwise [PX]
theorem at_at (p : FVec Ideal S64x4096x4096 .f32) (V : FVec Ideal S4096x8192 .f32) (i : Fin 4096) (x : Fin 8192) :
    AT p V (ix2 i x) = Ideal.div (∑ j : Fin 4096, (V (ix2 j x) : EReal) * p (ix3 ⟨x.val / 128, head_lt x⟩ i j))
      (∑ j : Fin 4096, (p (ix3 ⟨x.val / 128, head_lt x⟩ i j) : EReal)) := by
  pointwise [AT]
theorem mid_at (x : FVec Ideal S4096x1024 .f32) (g : FVec Ideal S1x1024 .f32) (a : FVec Ideal S4096x8192 .f32) (W : FVec Ideal S8192x1024 .f32)
    (i : Fin 4096) (n : Fin 1024) :
    MID x g a W (ix2 i n) = (x (ix2 i n) : EReal) + g (ix2 0 n) * ∑ y : Fin 8192, (a (ix2 i y) : EReal) * W (ix2 y n) := by
  pointwise [MID]

theorem max_start : (Ideal.ofBits FTy.f32 0xFF800000#32 : EReal) = ⊥ := by
  show Ideal.ieee 8 23 0xFF800000#32 = ⊥
  unfold Ideal.ieee
  rw [if_pos (by decide), if_pos (by decide), if_pos (by decide)]

/-! ## The feed-forward part -/

/-- The product with the first weights. -/
def RHID (y : FVec Ideal S4096x1024 .f32) (W : FVec Ideal S1024x4096 .f32) : FVec Ideal S4096x4096 .f32 :=
  Host.dotGeneral dot_S4096x1024_S1024x4096_S4096x4096_1_0_0_1_n_n none y W
/-- The rows after the feed-forward part. -/
def END (x : FVec Ideal S4096x1024 .f32) (g : FVec Ideal S1x1024 .f32) (h : FVec Ideal S4096x4096 .f32) (W : FVec Ideal S4096x1024 .f32) :
    FVec Ideal S1x4096x1024 .f32 :=
  broadcastInDim S1x4096x1024 ![1, 2] bcast_S4096x1024_S1x4096x1024_1_2 (addf x
    (mulf (broadcastInDim S4096x1024 ![0, 1] bcast_S1x1024_S4096x1024_0_1 g)
      (Host.dotGeneral dot_S4096x4096_S4096x1024_S4096x1024_1_0_0_1_n_n none
        (Host.divf h (addf (broadcastInDim S4096x4096 ![] bcast_S_S4096x4096 (constant S_ .f32 0x3F800000#32)) (Host.exp (Host.negf h)))) W)))

theorem rhid_at (y : FVec Ideal S4096x1024 .f32) (W : FVec Ideal S1024x4096 .f32) (i : Fin 4096) (f : Fin 4096) :
    RHID y W (ix2 i f) = ∑ k : Fin 1024, (y (ix2 i k) : EReal) * W (ix2 k f) := by
  pointwise [RHID]
theorem end_at (x : FVec Ideal S4096x1024 .f32) (g : FVec Ideal S1x1024 .f32) (h : FVec Ideal S4096x4096 .f32) (W : FVec Ideal S4096x1024 .f32)
    (i : Fin 4096) (n : Fin 1024) : END x g h W (ix3 0 i n)
      = (x (ix2 i n) : EReal) + g (ix2 0 n) * ∑ f : Fin 4096, silu (h (ix2 i f)) * W (ix2 f n) := by
  unfold silu
  pointwise [END]

/-! ## The whole -/

/-- The modulation row. -/
def SIX (t : FVec Ideal S1x128 .f32) (M : FVec Ideal S128x6144 .f32) : FVec Ideal S1x6144 .f32 :=
  Host.dotGeneral dot_S1x128_S128x6144_S1x6144_1_0_0_1_n_n none t M
theorem mod_at (t : FVec Ideal S1x128 .f32) (M : FVec Ideal S128x6144 .f32) (y : Fin 6144) :
    SIX t M (ix2 0 y) = ∑ e : Fin 128, (t (ix2 0 e) : EReal) * M (ix2 e y) := by
  pointwise [SIX]

section
variable (G : FVec Ideal S1x6144 .f32) (k : Fin 1024)
theorem part0 : extractStridedSlice S1x1024 ![0, 0] G slices_S1x6144_S1x1024_0_0 (ix2 0 k) = G (ix2 0 ⟨1024 * (0 : Fin 6).val + k.val, part_lt 0 k⟩) := by
  pointwise
theorem part1 : extractStridedSlice S1x1024 ![0, 1024] G slices_S1x6144_S1x1024_0_1024 (ix2 0 k) = G (ix2 0 ⟨1024 * (1 : Fin 6).val + k.val, part_lt 1 k⟩) := by
  pointwise
theorem part2 : extractStridedSlice S1x1024 ![0, 2048] G slices_S1x6144_S1x1024_0_2048 (ix2 0 k) = G (ix2 0 ⟨1024 * (2 : Fin 6).val + k.val, part_lt 2 k⟩) := by
  pointwise
theorem part3 : extractStridedSlice S1x1024 ![0, 3072] G slices_S1x6144_S1x1024_0_3072 (ix2 0 k) = G (ix2 0 ⟨1024 * (3 : Fin 6).val + k.val, part_lt 3 k⟩) := by
  pointwise
theorem part4 : extractStridedSlice S1x1024 ![0, 4096] G slices_S1x6144_S1x1024_0_4096 (ix2 0 k) = G (ix2 0 ⟨1024 * (4 : Fin 6).val + k.val, part_lt 4 k⟩) := by
  pointwise
theorem part5 : extractStridedSlice S1x1024 ![0, 5120] G slices_S1x6144_S1x1024_0_5120 (ix2 0 k) = G (ix2 0 ⟨1024 * (5 : Fin 6).val + k.val, part_lt 5 k⟩) := by
  pointwise
end

/-- The rows without their leading axis. -/
def ROWS (X : FVec Ideal S1x4096x1024 .f32) : FVec Ideal S4096x1024 .f32 := shapeCast _ X shapeCasts_S1x4096x1024_S4096x1024
theorem rows_at (X : FVec Ideal S1x4096x1024 .f32) (i : Fin 4096) (k : Fin 1024) : ROWS X (ix2 i k) = X (ix3 0 i k) := by
  pointwise [ROWS]

end Cert.RefRead

end
-- ==== Proof.RefValue.lean ====
/-
  THE REFERENCE'S RESULT: at every row and column the formula of `Spec`, from reals where the claim asks for them.
-/
module

public import proofs.«01_k».proof.Proof.RefRead

@[expose] public section

set_option maxRecDepth 16384

noncomputable section

namespace Cert.RefRead

open Cert.ReferenceIdeal Cert.ReferenceIdeal.Gen
open Idealize.ShloMosaic Idealize.ShloMosaic.TcCoe
open Cert.Norm Cert.Softmax Cert.Spec

/-- The arguments: the rows, the weights of attention, the time embedding with its weights, and the weights of the
    feed-forward part. -/
structure Arrays where
  X : FVec Ideal S1x4096x1024 .f32
  Wq : FVec Ideal S1024x8192 .f32
  Wk : FVec Ideal S1024x8192 .f32
  Wv : FVec Ideal S1024x8192 .f32
  Wo : FVec Ideal S8192x1024 .f32
  t : FVec Ideal S1x128 .f32
  M : FVec Ideal S128x6144 .f32
  W1 : FVec Ideal S1024x4096 .f32
  W2 : FVec Ideal S4096x1024 .f32

variable (R : Arrays)

/-- The arguments as functions of row and column. -/
def args : Args where
  x i k := R.X (ix3 0 i k)
  t e := R.t (ix2 0 e)
  M e y := R.M (ix2 e y)
  Wq k y := R.Wq (ix2 k y)
  Wk k y := R.Wk (ix2 k y)
  Wv k y := R.Wv (ix2 k y)
  Wo y n := R.Wo (ix2 y n)
  W1 k f := R.W1 (ix2 k f)
  W2 f n := R.W2 (ix2 f n)

/-- The rows after the first layer norm. -/
def Y1 : FVec Ideal S4096x1024 .f32 :=
  LNM (ROWS R.X) (extractStridedSlice S1x1024 ![0, 0] (SIX R.t R.M) slices_S1x6144_S1x1024_0_0)
    (extractStridedSlice S1x1024 ![0, 1024] (SIX R.t R.M) slices_S1x6144_S1x1024_0_1024)
/-- The scores. -/
def S0 : FVec Ideal S64x4096x4096 .f32 := SC (PRJ (Y1 R) R.Wq) (PRJ (Y1 R) R.Wk)
/-- The exponentials. -/
def P0 : FVec Ideal S64x4096x4096 .f32 := PX (S0 R) (MX (S0 R))
/-- The attention. -/
def A0 : FVec Ideal S4096x8192 .f32 := AT (P0 R) (PRJ (Y1 R) R.Wv)
/-- The rows after attention. -/
def X1 : FVec Ideal S4096x1024 .f32 :=
  MID (ROWS R.X) (extractStridedSlice S1x1024 ![0, 2048] (SIX R.t R.M) slices_S1x6144_S1x1024_0_2048) (A0 R) R.Wo
/-- The product with the first weights of the feed-forward part. -/
def H1 : FVec Ideal S4096x4096 .f32 :=
  RHID (LNM (X1 R) (extractStridedSlice S1x1024 ![0, 3072] (SIX R.t R.M) slices_S1x6144_S1x1024_0_3072)
    (extractStridedSlice S1x1024 ![0, 4096] (SIX R.t R.M) slices_S1x6144_S1x1024_0_4096)) R.W1
/-- The result. -/
def RES : FVec Ideal S1x4096x1024 .f32 :=
  END (X1 R) (extractStridedSlice S1x1024 ![0, 5120] (SIX R.t R.M) slices_S1x6144_S1x1024_0_5120) (H1 R) R.W2

theorem y1_at (i : Fin 4096) (k : Fin 1024) :
    Y1 R (ix2 i k) = modulated ((args R).x i) (fun k => 1 + (args R).g 0 k) ((args R).g 1) k := by
  refine (lnm_at _ _ _ i k).trans ?_
  simp only [rows_at, part0, part1, mod_at]
  rfl

theorem p_at (W : FVec Ideal S1024x8192 .f32) (i : Fin 4096) (y : Fin 8192) :
    PRJ (Y1 R) W (ix2 i y) = (args R).proj (fun k y => W (ix2 k y)) i y := by
  unfold Args.proj project
  refine (prj_at _ W i y).trans (Finset.sum_congr rfl fun k _ => ?_)
  rw [y1_at R]

theorem s0_at (i j : Fin 4096) (y : Fin 8192) :
    S0 R (ix3 ⟨y.val / 128, head_lt y⟩ i j) = (args R).score i y j := by
  rw [Args.score_eq]
  refine (sc_at _ _ _ i j).trans ?_
  simp only [p_at R]
  rfl

theorem a0_at (h : (args R).Real) (i : Fin 4096) (y : Fin 8192) : A0 R (ix2 i y) = (args R).att i y := by
  refine (at_at _ _ i y).trans ?_
  have p : ∀ j, P0 R (ix3 ⟨y.val / 128, head_lt y⟩ i j)
      = Ideal.exp ((args R).score i y j - Finset.fold max ⊥ ((args R).score i y) Finset.univ) := fun j => by
    refine (px_at _ _ _ _ _).trans ?_
    rw [s0_at R, mx_at, max_start]
    simp only [s0_at R]
  have v : ∀ j, PRJ (Y1 R) R.Wv (ix2 j y) = (args R).proj (args R).Wv j y := fun j => p_at R R.Wv j y
  simp only [p, v]
  exact avg_shift 0 _ _ _ (Args.score_real h i y) (fin_max 0 _ (Args.score_real h i y))

theorem x1_at (h : (args R).Real) (i : Fin 4096) (n : Fin 1024) : X1 R (ix2 i n) = (args R).mid i n := by
  refine (mid_at _ _ _ _ i n).trans ?_
  simp only [a0_at R h, rows_at, part2, mod_at]
  rfl

theorem h1_at (h : (args R).Real) (i : Fin 4096) (f : Fin 4096) : H1 R (ix2 i f)
    = ∑ k, modulated ((args R).mid i) (fun k => 1 + (args R).g 3 k) ((args R).g 4) k * (args R).W1 k f := by
  refine (rhid_at _ _ i f).trans (Finset.sum_congr rfl fun k _ => ?_)
  have e : LNM (X1 R) (extractStridedSlice S1x1024 ![0, 3072] (SIX R.t R.M) slices_S1x6144_S1x1024_0_3072)
      (extractStridedSlice S1x1024 ![0, 4096] (SIX R.t R.M) slices_S1x6144_S1x1024_0_4096) (ix2 i k)
      = modulated ((args R).mid i) (fun k => 1 + (args R).g 3 k) ((args R).g 4) k := by
    refine (lnm_at _ _ _ i k).trans ?_
    simp only [x1_at R h, part3, part4, mod_at]
    rfl
  rw [e]
  rfl

/-- The reference's result at row `i` and column `n`. -/
theorem res_at (h : (args R).Real) (i : Fin 4096) (n : Fin 1024) : RES R (ix3 0 i n) = (args R).res i n := by
  refine (end_at _ _ _ _ i n).trans ?_
  simp only [x1_at R h, h1_at R h, part5, mod_at]
  rfl

section
variable (m : (ℓ : Loc nD τ sig) → Buf (Elt Ideal) ℓ) (ρ : Dev nD → PrngReg)

open Idealize.SL.Sem

/-- The arguments in memory. -/
def arrays (c : Dev nD) : Arrays :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩

/-- What a run of the reference leaves. -/
theorem run_ref : θ_run defs (onTc (τ := τ) (main (F := Ideal))) ⟨m, fun _ => 0, ρ⟩ fun r => ∀ c : Dev nD,
      r.2.mem ((c.tc : Thread nD τ).loc main_v80)
        = RES (arrays m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Value.run m ρ

end

end Cert.RefRead

end
-- ==== Proof.Algebraic.lean ====
/-
  THE VALUE CLAIM: from a time embedding and weights of the queries and keys without infinities, every device's result of the kernel is the
  reference's result.
-/
module

public import proofs.«01_k».proof.Defs
public import proofs.«01_k».proof.Proof.Compose
public import proofs.«01_k».proof.Proof.Frames
public import proofs.«01_k».proof.Proof.RefValue
public import Idealize.ShloMosaic.Lib.ReduceAll

@[expose] public section

set_option maxRecDepth 16384

noncomputable section

namespace Cert.Whole

open Cert.KernelIdeal Cert.KernelIdeal.Gen
open Idealize.ShloMosaic
open Idealize.ShloMosaic.TcCoe
open Idealize.SL.Sem
open Cert.Softmax Cert.Spec

theorem pre_facts : Cert.Pre_scores_finite_KernelIdeal.Facts :=
  ⟨by decide, by decide, by decide, by decide, by decide, by decide, by decide, by decide⟩

theorem pre_facts_ref : Cert.Pre_scores_finite_ReferenceIdeal.Facts :=
  ⟨by decide, by decide, by decide, by decide, by decide, by decide, by decide, by decide⟩

theorem largest : (Ideal.ofBits FTy.f32 0x7F800000#32 : EReal) = ⊤ := by
  show Ideal.ieee 8 23 0x7F800000#32 = ⊤
  unfold Ideal.ieee
  rw [if_pos (by decide), if_pos (by decide), if_neg (by decide)]

/-- The precondition's comparison at an element: the element is no infinity. -/
theorem real_of_cmp {x : EReal} (h : Ideal.cmp .olt (max x (-x)) (Ideal.ofBits FTy.f32 0x7F800000#32) = 1#1) : IsReal x := by
  rw [largest] at h
  apply fin_of_abs_lt
  by_contra hn
  have h' : BitVec.ofBool (decide (max x (-x) < ⊤)) = 1#1 := h
  rw [decide_eq_false hn] at h'
  exact absurd h' (by decide)

instance : Subsingleton Cert.Pre_scores_finite_KernelIdeal.S_.Idx := ⟨fun a b => funext fun x => x.elim0⟩

attribute [local instance] pre_facts

/-- The first columns of the modulation's weights. -/
theorem first_cols (M : FVec Ideal S128x6144 .f32) (h) (e : Fin 128) (y : Fin 6144) (hy : y.val < 2048) :
    extractStridedSlice Cert.Pre_scores_finite_KernelIdeal.S128x2048 ![0, 0] M h (ix2 e ⟨y.val, hy⟩) = M (ix2 e y) := by
  show M _ = M _
  congr 1
  funext a
  match a with
  | ⟨0, _⟩ => exact Fin.ext (Nat.zero_add _)
  | ⟨1, _⟩ => exact Fin.ext (Nat.zero_add _)

/-- What the precondition says of a device's arguments. -/
theorem pre_real (x : FVec Ideal S1x4096x1024 .f32) (q k v o : FVec Ideal S1024x1024 .f32) (t : FVec Ideal S1x128 .f32) (M : FVec Ideal S128x6144 .f32)
    (u : FVec Ideal S1024x512 .f32) (d : FVec Ideal S512x1024 .f32)
    (h : Cert.Pre_scores_finite_KernelIdeal.fn (F := Ideal) x q k v o t M u d = fun _ => 1#1) :
    (∀ i, IsReal (q i)) ∧ (∀ i, IsReal (k i)) ∧ (∀ i, IsReal (t i)) ∧ ∀ e (y : Fin 6144), y.val < 2048 → IsReal (M (ix2 e y)) := by
  have e := congrFun h (fun x => x.elim0)
  dsimp only [Cert.Pre_scores_finite_KernelIdeal.fn, Cert.Pre_scores_finite_KernelIdeal.fn_part1] at e
  obtain ⟨e, e4⟩ := IntOp.andi_eq_one.1 e
  obtain ⟨e, e3⟩ := IntOp.andi_eq_one.1 e
  obtain ⟨e1, e2⟩ := IntOp.andi_eq_one.1 e
  refine ⟨fun i => real_of_cmp (Host.reduce_andi_all _ _ _ _ _ e1 i), fun i => real_of_cmp (Host.reduce_andi_all _ _ _ _ _ e2 i),
    fun i => real_of_cmp (Host.reduce_andi_all _ _ _ _ _ e3 i), fun e y hy => ?_⟩
  have r := real_of_cmp (Host.reduce_andi_all _ _ _ _ _ e4 (ix2 e ⟨y.val, hy⟩))
  rwa [first_cols M _ e y hy] at r

/-! ## A device's blocks -/

theorem cols_at (c : Fin 8) (X : FVec Ideal ⟨2, ![1024, 8192]⟩ .f32) (k n : Fin 1024) :
    Layout.block ⟨2, ![1024, 1024]⟩ ⟨2, ![1024, 8192]⟩ 1 8 c X (by decide) (ix2 k n) = X (ix2 k (col c n)) := by
  rw [Layout.block_apply]
  congr 1
  funext a
  match a with
  | ⟨0, _⟩ => rfl
  | ⟨1, _⟩ => rfl
theorem rows_at (c : Fin 8) (X : FVec Ideal ⟨2, ![8192, 1024]⟩ .f32) (y n : Fin 1024) :
    Layout.block ⟨2, ![1024, 1024]⟩ ⟨2, ![8192, 1024]⟩ 0 8 c X (by decide) (ix2 y n) = X (ix2 (col c y) n) := by
  rw [Layout.block_apply]
  congr 1
  funext a
  match a with
  | ⟨0, _⟩ => rfl
  | ⟨1, _⟩ => rfl
theorem fcols_at (c : Fin 8) (X : FVec Ideal ⟨2, ![1024, 4096]⟩ .f32) (k : Fin 1024) (f : Fin 512) :
    Layout.block ⟨2, ![1024, 512]⟩ ⟨2, ![1024, 4096]⟩ 1 8 c X (by decide) (ix2 k f) = X (ix2 k (fcol c f)) := by
  rw [Layout.block_apply]
  congr 1
  funext a
  match a with
  | ⟨0, _⟩ => rfl
  | ⟨1, _⟩ => rfl
theorem frows_at (c : Fin 8) (X : FVec Ideal ⟨2, ![4096, 1024]⟩ .f32) (f : Fin 512) (n : Fin 1024) :
    Layout.block ⟨2, ![512, 1024]⟩ ⟨2, ![4096, 1024]⟩ 0 8 c X (by decide) (ix2 f n) = X (ix2 (fcol c f) n) := by
  rw [Layout.block_apply]
  congr 1
  funext a
  match a with
  | ⟨0, _⟩ => rfl
  | ⟨1, _⟩ => rfl

/-- Every row of the result is one of its 4096 rows. -/
theorem triple (y : S1x4096x1024.Idx) : ∃ (i : Fin 4096) (n : Fin 1024), y = ix3 0 i n :=
  ⟨y 1, y 2, by
    funext a
    match a with
    | ⟨0, _⟩ => exact Fin.ext (by have h : (y 0).val < 1 := (y 0).isLt; show (y 0).val = 0; omega)
    | ⟨1, _⟩ => rfl
    | ⟨2, _⟩ => rfl⟩

theorem value : Cert.algebraic_KernelIdeal_ReferenceIdeal_pre_scores_finite_KernelIdeal := by
  intro m g m' g' hpre hb
  have H : Held m (RefRead.args (RefRead.arrays m' 0)) :=
    { x := fun c i k => congrFun (hb c).1 _
      q := fun c k n => (congrFun (hb c).2.1 _).trans (cols_at c _ k n)
      k := fun c k n => (congrFun (hb c).2.2.1 _).trans (cols_at c _ k n)
      v := fun c k n => (congrFun (hb c).2.2.2.1 _).trans (cols_at c _ k n)
      o := fun c y n => (congrFun (hb c).2.2.2.2.1 _).trans (rows_at c _ y n)
      t := fun c e => congrFun (hb c).2.2.2.2.2.1 _
      M := fun c e y => congrFun (hb c).2.2.2.2.2.2.1 _
      u := fun c k f => (congrFun (hb c).2.2.2.2.2.2.2.1 _).trans (fcols_at c _ k f)
      d := fun c f n => (congrFun (hb c).2.2.2.2.2.2.2.2 _).trans (frows_at c _ f n) }
  have hr := fun c => pre_real (arg0 m c) (arg1 m c) (arg2 m c) (arg3 m c) (arg4 m c) (arg5 m c) (arg6 m c) (arg7 m c) (arg8 m c) (hpre c)
  have R : (RefRead.args (RefRead.arrays m' 0)).Real :=
    { t := fun e => H.t 0 e ▸ (hr 0).2.2.1 _
      M := fun e y hy => H.M 0 e y ▸ (hr 0).2.2.2 e y hy
      Wq := fun k y => by
        obtain ⟨c, n, rfl⟩ := col_surj y
        exact H.q c k n ▸ (hr c).1 _
      Wk := fun k y => by
        obtain ⟨c, n, rfl⟩ := col_surj y
        exact H.k c k n ▸ (hr c).2.1 _ }
  have E : ∀ c, st10 m c main_v29 = RefRead.RES (RefRead.arrays m' 0) := fun c => funext fun y => by
    obtain ⟨i, n, rfl⟩ := triple y
    exact (v29_at H c i n).trans (RefRead.res_at _ R i n).symm
  refine ⟨_, ?_, (θ_run Cert.ReferenceIdeal.defs _ _).mono (fun _ h => h 0) (RefRead.run_ref m' g')⟩
  exact (θ_run defs _ _).mono (fun _ h c => ⟨(h.1 c).1.trans (E c), (h.1 c).2⟩) (run_main m g)

end Cert.Whole

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelIdeal.Regions
public import proofs.«01_k».proof.Proof.Gen.Own.KernelIdeal.K0.Frame
public import proofs.«01_k».proof.Proof.Gen.Own.KernelIdeal.K2.Frame
public import proofs.«01_k».proof.Proof.Gen.Own.KernelIdeal.K3.Frame
public import proofs.«01_k».proof.Proof.Gen.ReferenceIdeal.Run
public import proofs.«01_k».proof.Proof.Frames
public import proofs.«01_k».proof.Proof.Algebraic

@[expose] public section

noncomputable section

-- The claims about Kernel, KernelIdeal and ReferenceIdeal also say that every semaphore counter ends at zero; the proof shows that too.

namespace Cert.Proof

open Idealize.ShloMosaic Idealize.SL.Sem

theorem claim : Cert.Claim :=
  ⟨Cert.Kernel.Gen.facts, Cert.KernelIdeal.Gen.facts, Cert.ReferenceIdeal.Gen.facts, Cert.Whole.pre_facts, Cert.Whole.pre_facts_ref,
    Cert.Whole.frame_kernel,
    Cert.Whole.frame_kernelIdeal,
    fun m ρ _ => Cert.Whole.frame_kernelIdeal m ρ trivial,
    Cert.Whole.frame_reference,
    fun m ρ _ => Cert.Whole.frame_reference m ρ trivial,
    trivial,
    Cert.Whole.value⟩

end Cert.Proof

end
